-- ==== Defs.lean ====
def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnDx (m : (ℓ : Loc Cert.AttnDx.nD Cert.AttnDx.τ Cert.AttnDx.sig) → Buf (Elt Bits) ℓ) : Prop :=
  True

def Pre_AttnDxIdeal (m : (ℓ : Loc Cert.AttnDxIdeal.nD Cert.AttnDxIdeal.τ Cert.AttnDxIdeal.sig) → Buf (Elt Ideal) ℓ) : Prop :=
  True

def Pre_AttnDxRefIdeal (m : (ℓ : Loc Cert.AttnDxRefIdeal.nD Cert.AttnDxRefIdeal.τ Cert.AttnDxRefIdeal.sig) → Buf (Elt Ideal) ℓ) : Prop :=
  True

def Pre_RecProj (m : (ℓ : Loc Cert.RecProj.nD Cert.RecProj.τ Cert.RecProj.sig) → Buf (Elt Bits) ℓ) : Prop :=
  True

def Pre_RecProjIdeal (m : (ℓ : Loc Cert.RecProjIdeal.nD Cert.RecProjIdeal.τ Cert.RecProjIdeal.sig) → Buf (Elt Ideal) ℓ) : Prop :=
  True

def Pre_RecProjRefIdeal (m : (ℓ : Loc Cert.RecProjRefIdeal.nD Cert.RecProjRefIdeal.τ Cert.RecProjRefIdeal.sig) → Buf (Elt Ideal) ℓ) : Prop :=
  True

def Pre_RecDw (m : (ℓ : Loc Cert.RecDw.nD Cert.RecDw.τ Cert.RecDw.sig) → Buf (Elt Bits) ℓ) : Prop :=
  True

def Pre_RecDwIdeal (m : (ℓ : Loc Cert.RecDwIdeal.nD Cert.RecDwIdeal.τ Cert.RecDwIdeal.sig) → Buf (Elt Ideal) ℓ) : Prop :=
  True

def Pre_RecDwRefIdeal (m : (ℓ : Loc Cert.RecDwRefIdeal.nD Cert.RecDwRefIdeal.τ Cert.RecDwRefIdeal.sig) → Buf (Elt Ideal) ℓ) : Prop :=
  True

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_AttnDw (m : (ℓ : Loc Cert.AttnDw.nD Cert.AttnDw.τ Cert.AttnDw.sig) → Buf (Elt Bits) ℓ) : Prop :=
  True

def Pre_AttnDwIdeal (m : (ℓ : Loc Cert.AttnDwIdeal.nD Cert.AttnDwIdeal.τ Cert.AttnDwIdeal.sig) → Buf (Elt Ideal) ℓ) : Prop :=
  True

def Pre_AttnDwRefIdeal (m : (ℓ : Loc Cert.AttnDwRefIdeal.nD Cert.AttnDwRefIdeal.τ Cert.AttnDwRefIdeal.sig) → Buf (Elt Ideal) ℓ) : Prop :=
  True

def Pre_SmallAdamW (m : (ℓ : Loc Cert.SmallAdamW.nD Cert.SmallAdamW.τ Cert.SmallAdamW.sig) → Buf (Elt Bits) ℓ) : Prop :=
  True

def Pre_SmallAdamWIdeal (m : (ℓ : Loc Cert.SmallAdamWIdeal.nD Cert.SmallAdamWIdeal.τ Cert.SmallAdamWIdeal.sig) → Buf (Elt Ideal) ℓ) : Prop :=
  True

def Pre_SmallAdamWRefIdeal (m : (ℓ : Loc Cert.SmallAdamWRefIdeal.nD Cert.SmallAdamWRefIdeal.τ Cert.SmallAdamWRefIdeal.sig) → Buf (Elt Ideal) ℓ) : Prop :=
  True

def Pre_AttnInAdamW (m : (ℓ : Loc Cert.AttnInAdamW.nD Cert.AttnInAdamW.τ Cert.AttnInAdamW.sig) → Buf (Elt Bits) ℓ) : Prop :=
  True

def Pre_AttnInAdamWIdeal (m : (ℓ : Loc Cert.AttnInAdamWIdeal.nD Cert.AttnInAdamWIdeal.τ Cert.AttnInAdamWIdeal.sig) → Buf (Elt Ideal) ℓ) : Prop :=
  True

def Pre_AttnInAdamWRefIdeal (m : (ℓ : Loc Cert.AttnInAdamWRefIdeal.nD Cert.AttnInAdamWRefIdeal.τ Cert.AttnInAdamWRefIdeal.sig) → Buf (Elt Ideal) ℓ) : Prop :=
  True

def Pre_RecInAdamW (m : (ℓ : Loc Cert.RecInAdamW.nD Cert.RecInAdamW.τ Cert.RecInAdamW.sig) → Buf (Elt Bits) ℓ) : Prop :=
  True

def Pre_RecInAdamWIdeal (m : (ℓ : Loc Cert.RecInAdamWIdeal.nD Cert.RecInAdamWIdeal.τ Cert.RecInAdamWIdeal.sig) → Buf (Elt Ideal) ℓ) : Prop :=
  True

def Pre_RecInAdamWRefIdeal (m : (ℓ : Loc Cert.RecInAdamWRefIdeal.nD Cert.RecInAdamWRefIdeal.τ Cert.RecInAdamWRefIdeal.sig) → Buf (Elt Ideal) ℓ) : Prop :=
  True

def Pre_OutAdamW (m : (ℓ : Loc Cert.OutAdamW.nD Cert.OutAdamW.τ Cert.OutAdamW.sig) → Buf (Elt Bits) ℓ) : Prop :=
  True

def Pre_OutAdamWIdeal (m : (ℓ : Loc Cert.OutAdamWIdeal.nD Cert.OutAdamWIdeal.τ Cert.OutAdamWIdeal.sig) → Buf (Elt Ideal) ℓ) : Prop :=
  True

def Pre_OutAdamWRefIdeal (m : (ℓ : Loc Cert.OutAdamWRefIdeal.nD Cert.OutAdamWRefIdeal.τ Cert.OutAdamWRefIdeal.sig) → Buf (Elt Ideal) ℓ) : Prop :=
  True

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnDx [hAttnDx : Cert.AttnDx.Facts] : Prop :=
  ∀ (m : (ℓ : Loc Cert.AttnDx.nD Cert.AttnDx.τ Cert.AttnDx.sig) → Buf (Elt Bits) ℓ) (g : Dev Cert.AttnDx.nD → PrngReg), Pre_AttnDx m →
    θ_run (Cert.AttnDx.defs (F := Bits)) (onTc (τ := Cert.AttnDx.τ) (Cert.AttnDx.main (F := Bits))) ⟨m, fun _ => 0, g⟩ (fun r => (∀ c : Dev Cert.AttnDx.nD,
      r.2.mem ((c.tc : Thread Cert.AttnDx.nD Cert.AttnDx.τ).loc Cert.AttnDx.main_arg0) = m ((c.tc : Thread Cert.AttnDx.nD Cert.AttnDx.τ).loc Cert.AttnDx.main_arg0)
      ∧ r.2.mem ((c.tc : Thread Cert.AttnDx.nD Cert.AttnDx.τ).loc Cert.AttnDx.main_arg1) = m ((c.tc : Thread Cert.AttnDx.nD Cert.AttnDx.τ).loc Cert.AttnDx.main_arg1)
      ∧ r.2.mem ((c.tc : Thread Cert.AttnDx.nD Cert.AttnDx.τ).loc Cert.AttnDx.main_arg2) = m ((c.tc : Thread Cert.AttnDx.nD Cert.AttnDx.τ).loc Cert.AttnDx.main_arg2)
      ∧ r.2.mem ((c.tc : Thread Cert.AttnDx.nD Cert.AttnDx.τ).loc Cert.AttnDx.main_arg3) = m ((c.tc : Thread Cert.AttnDx.nD Cert.AttnDx.τ).loc Cert.AttnDx.main_arg3)
      ∧ r.2.mem ((c.tc : Thread Cert.AttnDx.nD Cert.AttnDx.τ).loc Cert.AttnDx.main_arg4) = m ((c.tc : Thread Cert.AttnDx.nD Cert.AttnDx.τ).loc Cert.AttnDx.main_arg4))
      ∧ r.2.sem = fun _ => 0)

def quiescent_AttnDxIdeal [hAttnDxIdeal : Cert.AttnDxIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg), Pre_AttnDxIdeal m →
    θ_run (Cert.AttnDxIdeal.defs (F := Ideal)) (onTc (τ := Cert.AttnDxIdeal.τ) (Cert.AttnDxIdeal.main (F := Ideal))) ⟨m, fun _ => 0, g⟩ (fun r => (∀ c : Dev Cert.AttnDxIdeal.nD,
      r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
      ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1)
      ∧ r.2.mem ((c.tc : Thread Cert.AttnDxIdeal.nD Cert.AttnDxIdeal.τ).loc Cert.AttnDxIdeal.main_arg2) = m ((c.tc : Thread Cert.AttnDxIdeal.nD Cert.AttnDxIdeal.τ).loc Cert.AttnDxIdeal.main_arg2)
      ∧ r.2.mem ((c.tc : Thread Cert.AttnDxIdeal.nD Cert.AttnDxIdeal.τ).loc Cert.AttnDxIdeal.main_arg3) = m ((c.tc : Thread Cert.AttnDxIdeal.nD Cert.AttnDxIdeal.τ).loc Cert.AttnDxIdeal.main_arg3)
      ∧ r.2.mem ((c.tc : Thread Cert.AttnDxIdeal.nD Cert.AttnDxIdeal.τ).loc Cert.AttnDxIdeal.main_arg4) = m ((c.tc : Thread Cert.AttnDxIdeal.nD Cert.AttnDxIdeal.τ).loc Cert.AttnDxIdeal.main_arg4))
      ∧ r.2.sem = fun _ => 0)

def quiescent_AttnDxRefIdeal [hAttnDxRefIdeal : Cert.AttnDxRefIdeal.Facts] : Prop :=
  ∀ (m : (ℓ : Loc Cert.AttnDxRefIdeal.nD Cert.AttnDxRefIdeal.τ Cert.AttnDxRefIdeal.sig) → Buf (Elt Ideal) ℓ) (g : Dev Cert.AttnDxRefIdeal.nD → PrngReg), Pre_AttnDxRefIdeal m →
    θ_run (Cert.AttnDxRefIdeal.defs (F := Ideal)) (onTc (τ := Cert.AttnDxRefIdeal.τ) (Cert.AttnDxRefIdeal.main (F := Ideal))) ⟨m, fun _ => 0, g⟩ (fun r => (∀ c : Dev Cert.AttnDxRefIdeal.nD,
      r.2.mem ((c.tc : Thread Cert.AttnDxRefIdeal.nD Cert.AttnDxRefIdeal.τ).loc Cert.AttnDxRefIdeal.main_arg0) = m ((c.tc : Thread Cert.AttnDxRefIdeal.nD Cert.AttnDxRefIdeal.τ).loc Cert.AttnDxRefIdeal.main_arg0)
      ∧ r.2.mem ((c.tc : Thread Cert.AttnDxRefIdeal.nD Cert.AttnDxRefIdeal.τ).loc Cert.AttnDxRefIdeal.main_arg1) = m ((c.tc : Thread Cert.AttnDxRefIdeal.nD Cert.AttnDxRefIdeal.τ).loc Cert.AttnDxRefIdeal.main_arg1)
      ∧ r.2.mem ((c.tc : Thread Cert.AttnDxRefIdeal.nD Cert.AttnDxRefIdeal.τ).loc Cert.AttnDxRefIdeal.main_arg2) = m ((c.tc : Thread Cert.AttnDxRefIdeal.nD Cert.AttnDxRefIdeal.τ).loc Cert.AttnDxRefIdeal.main_arg2)
      ∧ r.2.mem ((c.tc : Thread Cert.AttnDxRefIdeal.nD Cert.AttnDxRefIdeal.τ).loc Cert.AttnDxRefIdeal.main_arg3) = m ((c.tc : Thread Cert.AttnDxRefIdeal.nD Cert.AttnDxRefIdeal.τ).loc Cert.AttnDxRefIdeal.main_arg3)
      ∧ r.2.mem ((c.tc : Thread Cert.AttnDxRefIdeal.nD Cert.AttnDxRefIdeal.τ).loc Cert.AttnDxRefIdeal.main_arg4) = m ((c.tc : Thread Cert.AttnDxRefIdeal.nD Cert.AttnDxRefIdeal.τ).loc Cert.AttnDxRefIdeal.main_arg4))
      ∧ r.2.sem = fun _ => 0)

def quiescent_RecProj [hRecProj : Cert.RecProj.Facts] : Prop :=
  ∀ (m : (ℓ : Loc Cert.RecProj.nD Cert.RecProj.τ Cert.RecProj.sig) → Buf (Elt Bits) ℓ) (g : Dev Cert.RecProj.nD → PrngReg), Pre_RecProj m →
    θ_run (Cert.RecProj.defs (F := Bits)) (onTc (τ := Cert.RecProj.τ) (Cert.RecProj.main (F := Bits))) ⟨m, fun _ => 0, g⟩ (fun r => (∀ c : Dev Cert.RecProj.nD,
      r.2.mem ((c.tc : Thread Cert.RecProj.nD Cert.RecProj.τ).loc Cert.RecProj.main_arg0) = m ((c.tc : Thread Cert.RecProj.nD Cert.RecProj.τ).loc Cert.RecProj.main_arg0)
      ∧ r.2.mem ((c.tc : Thread Cert.RecProj.nD Cert.RecProj.τ).loc Cert.RecProj.main_arg1) = m ((c.tc : Thread Cert.RecProj.nD Cert.RecProj.τ).loc Cert.RecProj.main_arg1)
      ∧ r.2.mem ((c.tc : Thread Cert.RecProj.nD Cert.RecProj.τ).loc Cert.RecProj.main_arg2) = m ((c.tc : Thread Cert.RecProj.nD Cert.RecProj.τ).loc Cert.RecProj.main_arg2))
      ∧ r.2.sem = fun _ => 0)

def quiescent_RecProjIdeal [hRecProjIdeal : Cert.RecProjIdeal.Facts] : Prop :=
  ∀ (m : (ℓ : Loc Cert.RecProjIdeal.nD Cert.RecProjIdeal.τ Cert.RecProjIdeal.sig) → Buf (Elt Ideal) ℓ) (g : Dev Cert.RecProjIdeal.nD → PrngReg), Pre_RecProjIdeal m →
    θ_run (Cert.RecProjIdeal.defs (F := Ideal)) (onTc (τ := Cert.RecProjIdeal.τ) (Cert.RecProjIdeal.main (F := Ideal))) ⟨m, fun _ => 0, g⟩ (fun r => (∀ c : Dev Cert.RecProjIdeal.nD,
      r.2.mem ((c.tc : Thread Cert.RecProjIdeal.nD Cert.RecProjIdeal.τ).loc Cert.RecProjIdeal.main_arg0) = m ((c.tc : Thread Cert.RecProjIdeal.nD Cert.RecProjIdeal.τ).loc Cert.RecProjIdeal.main_arg0)
      ∧ r.2.mem ((c.tc : Thread Cert.RecProjIdeal.nD Cert.RecProjIdeal.τ).loc Cert.RecProjIdeal.main_arg1) = m ((c.tc : Thread Cert.RecProjIdeal.nD Cert.RecProjIdeal.τ).loc Cert.RecProjIdeal.main_arg1)
      ∧ r.2.mem ((c.tc : Thread Cert.RecProjIdeal.nD Cert.RecProjIdeal.τ).loc Cert.RecProjIdeal.main_arg2) = m ((c.tc : Thread Cert.RecProjIdeal.nD Cert.RecProjIdeal.τ).loc Cert.RecProjIdeal.main_arg2))
      ∧ r.2.sem = fun _ => 0)

def quiescent_RecProjRefIdeal [hRecProjRefIdeal : Cert.RecProjRefIdeal.Facts] : Prop :=
  ∀ (m : (ℓ : Loc Cert.RecProjRefIdeal.nD Cert.RecProjRefIdeal.τ Cert.RecProjRefIdeal.sig) → Buf (Elt Ideal) ℓ) (g : Dev Cert.RecProjRefIdeal.nD → PrngReg), Pre_RecProjRefIdeal m →
    θ_run (Cert.RecProjRefIdeal.defs (F := Ideal)) (onTc (τ := Cert.RecProjRefIdeal.τ) (Cert.RecProjRefIdeal.main (F := Ideal))) ⟨m, fun _ => 0, g⟩ (fun r => (∀ c : Dev Cert.RecProjRefIdeal.nD,
      r.2.mem ((c.tc : Thread Cert.RecProjRefIdeal.nD Cert.RecProjRefIdeal.τ).loc Cert.RecProjRefIdeal.main_arg0) = m ((c.tc : Thread Cert.RecProjRefIdeal.nD Cert.RecProjRefIdeal.τ).loc Cert.RecProjRefIdeal.main_arg0)
      ∧ r.2.mem ((c.tc : Thread Cert.RecProjRefIdeal.nD Cert.RecProjRefIdeal.τ).loc Cert.RecProjRefIdeal.main_arg1) = m ((c.tc : Thread Cert.RecProjRefIdeal.nD Cert.RecProjRefIdeal.τ).loc Cert.RecProjRefIdeal.main_arg1)
      ∧ r.2.mem ((c.tc : Thread Cert.RecProjRefIdeal.nD Cert.RecProjRefIdeal.τ).loc Cert.RecProjRefIdeal.main_arg2) = m ((c.tc : Thread Cert.RecProjRefIdeal.nD Cert.RecProjRefIdeal.τ).loc Cert.RecProjRefIdeal.main_arg2))
      ∧ r.2.sem = fun _ => 0)

def quiescent_RecDw [hRecDw : Cert.RecDw.Facts] : Prop :=
  ∀ (m : (ℓ : Loc Cert.RecDw.nD Cert.RecDw.τ Cert.RecDw.sig) → Buf (Elt Bits) ℓ) (g : Dev Cert.RecDw.nD → PrngReg), Pre_RecDw m →
    θ_run (Cert.RecDw.defs (F := Bits)) (onTc (τ := Cert.RecDw.τ) (Cert.RecDw.main (F := Bits))) ⟨m, fun _ => 0, g⟩ (fun r => (∀ c : Dev Cert.RecDw.nD,
      r.2.mem ((c.tc : Thread Cert.RecDw.nD Cert.RecDw.τ).loc Cert.RecDw.main_arg0) = m ((c.tc : Thread Cert.RecDw.nD Cert.RecDw.τ).loc Cert.RecDw.main_arg0)
      ∧ r.2.mem ((c.tc : Thread Cert.RecDw.nD Cert.RecDw.τ).loc Cert.RecDw.main_arg1) = m ((c.tc : Thread Cert.RecDw.nD Cert.RecDw.τ).loc Cert.RecDw.main_arg1)
      ∧ r.2.mem ((c.tc : Thread Cert.RecDw.nD Cert.RecDw.τ).loc Cert.RecDw.main_arg2) = m ((c.tc : Thread Cert.RecDw.nD Cert.RecDw.τ).loc Cert.RecDw.main_arg2))
      ∧ r.2.sem = fun _ => 0)

def quiescent_RecDwIdeal [hRecDwIdeal : Cert.RecDwIdeal.Facts] : Prop :=
  ∀ (m : (ℓ : Loc Cert.RecDwIdeal.nD Cert.RecDwIdeal.τ Cert.RecDwIdeal.sig) → Buf (Elt Ideal) ℓ) (g : Dev Cert.RecDwIdeal.nD → PrngReg), Pre_RecDwIdeal m →
    θ_run (Cert.RecDwIdeal.defs (F := Ideal)) (onTc (τ := Cert.RecDwIdeal.τ) (Cert.RecDwIdeal.main (F := Ideal))) ⟨m, fun _ => 0, g⟩ (fun r => (∀ c : Dev Cert.RecDwIdeal.nD,
      r.2.mem ((c.tc : Thread Cert.RecDwIdeal.nD Cert.RecDwIdeal.τ).loc Cert.RecDwIdeal.main_arg0) = m ((c.tc : Thread Cert.RecDwIdeal.nD Cert.RecDwIdeal.τ).loc Cert.RecDwIdeal.main_arg0)
      ∧ r.2.mem ((c.tc : Thread Cert.RecDwIdeal.nD Cert.RecDwIdeal.τ).loc Cert.RecDwIdeal.main_arg1) = m ((c.tc : Thread Cert.RecDwIdeal.nD Cert.RecDwIdeal.τ).loc Cert.RecDwIdeal.main_arg1)
      ∧ r.2.mem ((c.tc : Thread Cert.RecDwIdeal.nD Cert.RecDwIdeal.τ).loc Cert.RecDwIdeal.main_arg2) = m ((c.tc : Thread Cert.RecDwIdeal.nD Cert.RecDwIdeal.τ).loc Cert.RecDwIdeal.main_arg2))
      ∧ r.2.sem = fun _ => 0)

def quiescent_RecDwRefIdeal [hRecDwRefIdeal : Cert.RecDwRefIdeal.Facts] : Prop :=
  ∀ (m : (ℓ : Loc Cert.RecDwRefIdeal.nD Cert.RecDwRefIdeal.τ Cert.RecDwRefIdeal.sig) → Buf (Elt Ideal) ℓ) (g : Dev Cert.RecDwRefIdeal.nD → PrngReg), Pre_RecDwRefIdeal m →
    θ_run (Cert.RecDwRefIdeal.defs (F := Ideal)) (onTc (τ := Cert.RecDwRefIdeal.τ) (Cert.RecDwRefIdeal.main (F := Ideal))) ⟨m, fun _ => 0, g⟩ (fun r => (∀ c : Dev Cert.RecDwRefIdeal.nD,
      r.2.mem ((c.tc : Thread Cert.RecDwRefIdeal.nD Cert.RecDwRefIdeal.τ).loc Cert.RecDwRefIdeal.main_arg0) = m ((c.tc : Thread Cert.RecDwRefIdeal.nD Cert.RecDwRefIdeal.τ).loc Cert.RecDwRefIdeal.main_arg0)
      ∧ r.2.mem ((c.tc : Thread Cert.RecDwRefIdeal.nD Cert.RecDwRefIdeal.τ).loc Cert.RecDwRefIdeal.main_arg1) = m ((c.tc : Thread Cert.RecDwRefIdeal.nD Cert.RecDwRefIdeal.τ).loc Cert.RecDwRefIdeal.main_arg1)
      ∧ r.2.mem ((c.tc : Thread Cert.RecDwRefIdeal.nD Cert.RecDwRefIdeal.τ).loc Cert.RecDwRefIdeal.main_arg2) = m ((c.tc : Thread Cert.RecDwRefIdeal.nD Cert.RecDwRefIdeal.τ).loc Cert.RecDwRefIdeal.main_arg2))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3)
      ∧ r.2.mem ((c.tc : Thread Cert.AttnProj.nD Cert.AttnProj.τ).loc Cert.AttnProj.main_arg4) = m ((c.tc : Thread Cert.AttnProj.nD Cert.AttnProj.τ).loc Cert.AttnProj.main_arg4))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
      ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1)
      ∧ r.2.mem ((c.tc : Thread Cert.AttnProjRefIdeal.nD Cert.AttnProjRefIdeal.τ).loc Cert.AttnProjRefIdeal.main_arg2) = m ((c.tc : Thread Cert.AttnProjRefIdeal.nD Cert.AttnProjRefIdeal.τ).loc Cert.AttnProjRefIdeal.main_arg2)
      ∧ r.2.mem ((c.tc : Thread Cert.AttnProjRefIdeal.nD Cert.AttnProjRefIdeal.τ).loc Cert.AttnProjRefIdeal.main_arg3) = m ((c.tc : Thread Cert.AttnProjRefIdeal.nD Cert.AttnProjRefIdeal.τ).loc Cert.AttnProjRefIdeal.main_arg3)
      ∧ r.2.mem ((c.tc : Thread Cert.AttnProjRefIdeal.nD Cert.AttnProjRefIdeal.τ).loc Cert.AttnProjRefIdeal.main_arg4) = m ((c.tc : Thread Cert.AttnProjRefIdeal.nD Cert.AttnProjRefIdeal.τ).loc Cert.AttnProjRefIdeal.main_arg4))
      ∧ r.2.sem = fun _ => 0)

def quiescent_AttnDw [hAttnDw : Cert.AttnDw.Facts] : Prop :=
  ∀ (m : (ℓ : Loc Cert.AttnDw.nD Cert.AttnDw.τ Cert.AttnDw.sig) → Buf (Elt Bits) ℓ) (g : Dev Cert.AttnDw.nD → PrngReg), Pre_AttnDw m →
    θ_run (Cert.AttnDw.defs (F := Bits)) (onTc (τ := Cert.AttnDw.τ) (Cert.AttnDw.main (F := Bits))) ⟨m, fun _ => 0, g⟩ (fun r => (∀ c : Dev Cert.AttnDw.nD,
      r.2.mem ((c.tc : Thread Cert.AttnDw.nD Cert.AttnDw.τ).loc Cert.AttnDw.main_arg0) = m ((c.tc : Thread Cert.AttnDw.nD Cert.AttnDw.τ).loc Cert.AttnDw.main_arg0)
      ∧ r.2.mem ((c.tc : Thread Cert.AttnDw.nD Cert.AttnDw.τ).loc Cert.AttnDw.main_arg1) = m ((c.tc : Thread Cert.AttnDw.nD Cert.AttnDw.τ).loc Cert.AttnDw.main_arg1)
      ∧ r.2.mem ((c.tc : Thread Cert.AttnDw.nD Cert.AttnDw.τ).loc Cert.AttnDw.main_arg2) = m ((c.tc : Thread Cert.AttnDw.nD Cert.AttnDw.τ).loc Cert.AttnDw.main_arg2)
      ∧ r.2.mem ((c.tc : Thread Cert.AttnDw.nD Cert.AttnDw.τ).loc Cert.AttnDw.main_arg3) = m ((c.tc : Thread Cert.AttnDw.nD Cert.AttnDw.τ).loc Cert.AttnDw.main_arg3)
      ∧ r.2.mem ((c.tc : Thread Cert.AttnDw.nD Cert.AttnDw.τ).loc Cert.AttnDw.main_arg4) = m ((c.tc : Thread Cert.AttnDw.nD Cert.AttnDw.τ).loc Cert.AttnDw.main_arg4)
      ∧ r.2.mem ((c.tc : Thread Cert.AttnDw.nD Cert.AttnDw.τ).loc Cert.AttnDw.main_arg5) = m ((c.tc : Thread Cert.AttnDw.nD Cert.AttnDw.τ).loc Cert.AttnDw.main_arg5))
      ∧ r.2.sem = fun _ => 0)

def quiescent_AttnDwIdeal [hAttnDwIdeal : Cert.AttnDwIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg), Pre_AttnDwIdeal m →
    θ_run (Cert.AttnDwIdeal.defs (F := Ideal)) (onTc (τ := Cert.AttnDwIdeal.τ) (Cert.AttnDwIdeal.main (F := Ideal))) ⟨m, fun _ => 0, g⟩ (fun r => (∀ c : Dev Cert.AttnDwIdeal.nD,
      r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
      ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1)
      ∧ r.2.mem ((c.tc : Thread Cert.AttnDwIdeal.nD Cert.AttnDwIdeal.τ).loc Cert.AttnDwIdeal.main_arg2) = m ((c.tc : Thread Cert.AttnDwIdeal.nD Cert.AttnDwIdeal.τ).loc Cert.AttnDwIdeal.main_arg2)
      ∧ r.2.mem ((c.tc : Thread Cert.AttnDwIdeal.nD Cert.AttnDwIdeal.τ).loc Cert.AttnDwIdeal.main_arg3) = m ((c.tc : Thread Cert.AttnDwIdeal.nD Cert.AttnDwIdeal.τ).loc Cert.AttnDwIdeal.main_arg3)
      ∧ r.2.mem ((c.tc : Thread Cert.AttnDwIdeal.nD Cert.AttnDwIdeal.τ).loc Cert.AttnDwIdeal.main_arg4) = m ((c.tc : Thread Cert.AttnDwIdeal.nD Cert.AttnDwIdeal.τ).loc Cert.AttnDwIdeal.main_arg4)
      ∧ r.2.mem ((c.tc : Thread Cert.AttnDwIdeal.nD Cert.AttnDwIdeal.τ).loc Cert.AttnDwIdeal.main_arg5) = m ((c.tc : Thread Cert.AttnDwIdeal.nD Cert.AttnDwIdeal.τ).loc Cert.AttnDwIdeal.main_arg5))
      ∧ r.2.sem = fun _ => 0)

def quiescent_AttnDwRefIdeal [hAttnDwRefIdeal : Cert.AttnDwRefIdeal.Facts] : Prop :=
  ∀ (m : (ℓ : Loc Cert.AttnDwRefIdeal.nD Cert.AttnDwRefIdeal.τ Cert.AttnDwRefIdeal.sig) → Buf (Elt Ideal) ℓ) (g : Dev Cert.AttnDwRefIdeal.nD → PrngReg), Pre_AttnDwRefIdeal m →
    θ_run (Cert.AttnDwRefIdeal.defs (F := Ideal)) (onTc (τ := Cert.AttnDwRefIdeal.τ) (Cert.AttnDwRefIdeal.main (F := Ideal))) ⟨m, fun _ => 0, g⟩ (fun r => (∀ c : Dev Cert.AttnDwRefIdeal.nD,
      r.2.mem ((c.tc : Thread Cert.AttnDwRefIdeal.nD Cert.AttnDwRefIdeal.τ).loc Cert.AttnDwRefIdeal.main_arg0) = m ((c.tc : Thread Cert.AttnDwRefIdeal.nD Cert.AttnDwRefIdeal.τ).loc Cert.AttnDwRefIdeal.main_arg0)
      ∧ r.2.mem ((c.tc : Thread Cert.AttnDwRefIdeal.nD Cert.AttnDwRefIdeal.τ).loc Cert.AttnDwRefIdeal.main_arg1) = m ((c.tc : Thread Cert.AttnDwRefIdeal.nD Cert.AttnDwRefIdeal.τ).loc Cert.AttnDwRefIdeal.main_arg1)
      ∧ r.2.mem ((c.tc : Thread Cert.AttnDwRefIdeal.nD Cert.AttnDwRefIdeal.τ).loc Cert.AttnDwRefIdeal.main_arg2) = m ((c.tc : Thread Cert.AttnDwRefIdeal.nD Cert.AttnDwRefIdeal.τ).loc Cert.AttnDwRefIdeal.main_arg2)
      ∧ r.2.mem ((c.tc : Thread Cert.AttnDwRefIdeal.nD Cert.AttnDwRefIdeal.τ).loc Cert.AttnDwRefIdeal.main_arg3) = m ((c.tc : Thread Cert.AttnDwRefIdeal.nD Cert.AttnDwRefIdeal.τ).loc Cert.AttnDwRefIdeal.main_arg3)
      ∧ r.2.mem ((c.tc : Thread Cert.AttnDwRefIdeal.nD Cert.AttnDwRefIdeal.τ).loc Cert.AttnDwRefIdeal.main_arg4) = m ((c.tc : Thread Cert.AttnDwRefIdeal.nD Cert.AttnDwRefIdeal.τ).loc Cert.AttnDwRefIdeal.main_arg4)
      ∧ r.2.mem ((c.tc : Thread Cert.AttnDwRefIdeal.nD Cert.AttnDwRefIdeal.τ).loc Cert.AttnDwRefIdeal.main_arg5) = m ((c.tc : Thread Cert.AttnDwRefIdeal.nD Cert.AttnDwRefIdeal.τ).loc Cert.AttnDwRefIdeal.main_arg5))
      ∧ r.2.sem = fun _ => 0)

def quiescent_SmallAdamW [hSmallAdamW : Cert.SmallAdamW.Facts] : Prop :=
  ∀ (m : (ℓ : Loc Cert.SmallAdamW.nD Cert.SmallAdamW.τ Cert.SmallAdamW.sig) → Buf (Elt Bits) ℓ) (g : Dev Cert.SmallAdamW.nD → PrngReg), Pre_SmallAdamW m →
    θ_run (Cert.SmallAdamW.defs (F := Bits)) (onTc (τ := Cert.SmallAdamW.τ) (Cert.SmallAdamW.main (F := Bits))) ⟨m, fun _ => 0, g⟩ (fun r => (∀ c : Dev Cert.SmallAdamW.nD,
      r.2.mem ((c.tc : Thread Cert.SmallAdamW.nD Cert.SmallAdamW.τ).loc Cert.SmallAdamW.main_arg0) = m ((c.tc : Thread Cert.SmallAdamW.nD Cert.SmallAdamW.τ).loc Cert.SmallAdamW.main_arg0)
      ∧ r.2.mem ((c.tc : Thread Cert.SmallAdamW.nD Cert.SmallAdamW.τ).loc Cert.SmallAdamW.main_arg1) = m ((c.tc : Thread Cert.SmallAdamW.nD Cert.SmallAdamW.τ).loc Cert.SmallAdamW.main_arg1)
      ∧ r.2.mem ((c.tc : Thread Cert.SmallAdamW.nD Cert.SmallAdamW.τ).loc Cert.SmallAdamW.main_arg2) = m ((c.tc : Thread Cert.SmallAdamW.nD Cert.SmallAdamW.τ).loc Cert.SmallAdamW.main_arg2)
      ∧ r.2.mem ((c.tc : Thread Cert.SmallAdamW.nD Cert.SmallAdamW.τ).loc Cert.SmallAdamW.main_arg3) = m ((c.tc : Thread Cert.SmallAdamW.nD Cert.SmallAdamW.τ).loc Cert.SmallAdamW.main_arg3))
      ∧ r.2.sem = fun _ => 0)

def quiescent_SmallAdamWIdeal [hSmallAdamWIdeal : Cert.SmallAdamWIdeal.Facts] : Prop :=
  ∀ (m : (ℓ : Loc Cert.SmallAdamWIdeal.nD Cert.SmallAdamWIdeal.τ Cert.SmallAdamWIdeal.sig) → Buf (Elt Ideal) ℓ) (g : Dev Cert.SmallAdamWIdeal.nD → PrngReg), Pre_SmallAdamWIdeal m →
    θ_run (Cert.SmallAdamWIdeal.defs (F := Ideal)) (onTc (τ := Cert.SmallAdamWIdeal.τ) (Cert.SmallAdamWIdeal.main (F := Ideal))) ⟨m, fun _ => 0, g⟩ (fun r => (∀ c : Dev Cert.SmallAdamWIdeal.nD,
      r.2.mem ((c.tc : Thread Cert.SmallAdamWIdeal.nD Cert.SmallAdamWIdeal.τ).loc Cert.SmallAdamWIdeal.main_arg0) = m ((c.tc : Thread Cert.SmallAdamWIdeal.nD Cert.SmallAdamWIdeal.τ).loc Cert.SmallAdamWIdeal.main_arg0)
      ∧ r.2.mem ((c.tc : Thread Cert.SmallAdamWIdeal.nD Cert.SmallAdamWIdeal.τ).loc Cert.SmallAdamWIdeal.main_arg1) = m ((c.tc : Thread Cert.SmallAdamWIdeal.nD Cert.SmallAdamWIdeal.τ).loc Cert.SmallAdamWIdeal.main_arg1)
      ∧ r.2.mem ((c.tc : Thread Cert.SmallAdamWIdeal.nD Cert.SmallAdamWIdeal.τ).loc Cert.SmallAdamWIdeal.main_arg2) = m ((c.tc : Thread Cert.SmallAdamWIdeal.nD Cert.SmallAdamWIdeal.τ).loc Cert.SmallAdamWIdeal.main_arg2)
      ∧ r.2.mem ((c.tc : Thread Cert.SmallAdamWIdeal.nD Cert.SmallAdamWIdeal.τ).loc Cert.SmallAdamWIdeal.main_arg3) = m ((c.tc : Thread Cert.SmallAdamWIdeal.nD Cert.SmallAdamWIdeal.τ).loc Cert.SmallAdamWIdeal.main_arg3))
      ∧ r.2.sem = fun _ => 0)

def quiescent_SmallAdamWRefIdeal [hSmallAdamWRefIdeal : Cert.SmallAdamWRefIdeal.Facts] : Prop :=
  ∀ (m : (ℓ : Loc Cert.SmallAdamWRefIdeal.nD Cert.SmallAdamWRefIdeal.τ Cert.SmallAdamWRefIdeal.sig) → Buf (Elt Ideal) ℓ) (g : Dev Cert.SmallAdamWRefIdeal.nD → PrngReg), Pre_SmallAdamWRefIdeal m →
    θ_run (Cert.SmallAdamWRefIdeal.defs (F := Ideal)) (onTc (τ := Cert.SmallAdamWRefIdeal.τ) (Cert.SmallAdamWRefIdeal.main (F := Ideal))) ⟨m, fun _ => 0, g⟩ (fun r => (∀ c : Dev Cert.SmallAdamWRefIdeal.nD,
      r.2.mem ((c.tc : Thread Cert.SmallAdamWRefIdeal.nD Cert.SmallAdamWRefIdeal.τ).loc Cert.SmallAdamWRefIdeal.main_arg0) = m ((c.tc : Thread Cert.SmallAdamWRefIdeal.nD Cert.SmallAdamWRefIdeal.τ).loc Cert.SmallAdamWRefIdeal.main_arg0)
      ∧ r.2.mem ((c.tc : Thread Cert.SmallAdamWRefIdeal.nD Cert.SmallAdamWRefIdeal.τ).loc Cert.SmallAdamWRefIdeal.main_arg1) = m ((c.tc : Thread Cert.SmallAdamWRefIdeal.nD Cert.SmallAdamWRefIdeal.τ).loc Cert.SmallAdamWRefIdeal.main_arg1)
      ∧ r.2.mem ((c.tc : Thread Cert.SmallAdamWRefIdeal.nD Cert.SmallAdamWRefIdeal.τ).loc Cert.SmallAdamWRefIdeal.main_arg2) = m ((c.tc : Thread Cert.SmallAdamWRefIdeal.nD Cert.SmallAdamWRefIdeal.τ).loc Cert.SmallAdamWRefIdeal.main_arg2)
      ∧ r.2.mem ((c.tc : Thread Cert.SmallAdamWRefIdeal.nD Cert.SmallAdamWRefIdeal.τ).loc Cert.SmallAdamWRefIdeal.main_arg3) = m ((c.tc : Thread Cert.SmallAdamWRefIdeal.nD Cert.SmallAdamWRefIdeal.τ).loc Cert.SmallAdamWRefIdeal.main_arg3))
      ∧ r.2.sem = fun _ => 0)

def quiescent_AttnInAdamW [hAttnInAdamW : Cert.AttnInAdamW.Facts] : Prop :=
  ∀ (m : (ℓ : Loc Cert.AttnInAdamW.nD Cert.AttnInAdamW.τ Cert.AttnInAdamW.sig) → Buf (Elt Bits) ℓ) (g : Dev Cert.AttnInAdamW.nD → PrngReg), Pre_AttnInAdamW m →
    θ_run (Cert.AttnInAdamW.defs (F := Bits)) (onTc (τ := Cert.AttnInAdamW.τ) (Cert.AttnInAdamW.main (F := Bits))) ⟨m, fun _ => 0, g⟩ (fun r => (∀ c : Dev Cert.AttnInAdamW.nD,
      r.2.mem ((c.tc : Thread Cert.AttnInAdamW.nD Cert.AttnInAdamW.τ).loc Cert.AttnInAdamW.main_arg0) = m ((c.tc : Thread Cert.AttnInAdamW.nD Cert.AttnInAdamW.τ).loc Cert.AttnInAdamW.main_arg0)
      ∧ r.2.mem ((c.tc : Thread Cert.AttnInAdamW.nD Cert.AttnInAdamW.τ).loc Cert.AttnInAdamW.main_arg1) = m ((c.tc : Thread Cert.AttnInAdamW.nD Cert.AttnInAdamW.τ).loc Cert.AttnInAdamW.main_arg1)
      ∧ r.2.mem ((c.tc : Thread Cert.AttnInAdamW.nD Cert.AttnInAdamW.τ).loc Cert.AttnInAdamW.main_arg2) = m ((c.tc : Thread Cert.AttnInAdamW.nD Cert.AttnInAdamW.τ).loc Cert.AttnInAdamW.main_arg2)
      ∧ r.2.mem ((c.tc : Thread Cert.AttnInAdamW.nD Cert.AttnInAdamW.τ).loc Cert.AttnInAdamW.main_arg3) = m ((c.tc : Thread Cert.AttnInAdamW.nD Cert.AttnInAdamW.τ).loc Cert.AttnInAdamW.main_arg3)
      ∧ r.2.mem ((c.tc : Thread Cert.AttnInAdamW.nD Cert.AttnInAdamW.τ).loc Cert.AttnInAdamW.main_arg4) = m ((c.tc : Thread Cert.AttnInAdamW.nD Cert.AttnInAdamW.τ).loc Cert.AttnInAdamW.main_arg4))
      ∧ r.2.sem = fun _ => 0)

def quiescent_AttnInAdamWIdeal [hAttnInAdamWIdeal : Cert.AttnInAdamWIdeal.Facts] : Prop :=
  ∀ (m : (ℓ : Loc Cert.AttnInAdamWIdeal.nD Cert.AttnInAdamWIdeal.τ Cert.AttnInAdamWIdeal.sig) → Buf (Elt Ideal) ℓ) (g : Dev Cert.AttnInAdamWIdeal.nD → PrngReg), Pre_AttnInAdamWIdeal m →
    θ_run (Cert.AttnInAdamWIdeal.defs (F := Ideal)) (onTc (τ := Cert.AttnInAdamWIdeal.τ) (Cert.AttnInAdamWIdeal.main (F := Ideal))) ⟨m, fun _ => 0, g⟩ (fun r => (∀ c : Dev Cert.AttnInAdamWIdeal.nD,
      r.2.mem ((c.tc : Thread Cert.AttnInAdamWIdeal.nD Cert.AttnInAdamWIdeal.τ).loc Cert.AttnInAdamWIdeal.main_arg0) = m ((c.tc : Thread Cert.AttnInAdamWIdeal.nD Cert.AttnInAdamWIdeal.τ).loc Cert.AttnInAdamWIdeal.main_arg0)
      ∧ r.2.mem ((c.tc : Thread Cert.AttnInAdamWIdeal.nD Cert.AttnInAdamWIdeal.τ).loc Cert.AttnInAdamWIdeal.main_arg1) = m ((c.tc : Thread Cert.AttnInAdamWIdeal.nD Cert.AttnInAdamWIdeal.τ).loc Cert.AttnInAdamWIdeal.main_arg1)
      ∧ r.2.mem ((c.tc : Thread Cert.AttnInAdamWIdeal.nD Cert.AttnInAdamWIdeal.τ).loc Cert.AttnInAdamWIdeal.main_arg2) = m ((c.tc : Thread Cert.AttnInAdamWIdeal.nD Cert.AttnInAdamWIdeal.τ).loc Cert.AttnInAdamWIdeal.main_arg2)
      ∧ r.2.mem ((c.tc : Thread Cert.AttnInAdamWIdeal.nD Cert.AttnInAdamWIdeal.τ).loc Cert.AttnInAdamWIdeal.main_arg3) = m ((c.tc : Thread Cert.AttnInAdamWIdeal.nD Cert.AttnInAdamWIdeal.τ).loc Cert.AttnInAdamWIdeal.main_arg3)
      ∧ r.2.mem ((c.tc : Thread Cert.AttnInAdamWIdeal.nD Cert.AttnInAdamWIdeal.τ).loc Cert.AttnInAdamWIdeal.main_arg4) = m ((c.tc : Thread Cert.AttnInAdamWIdeal.nD Cert.AttnInAdamWIdeal.τ).loc Cert.AttnInAdamWIdeal.main_arg4))
      ∧ r.2.sem = fun _ => 0)

def quiescent_AttnInAdamWRefIdeal [hAttnInAdamWRefIdeal : Cert.AttnInAdamWRefIdeal.Facts] : Prop :=
  ∀ (m : (ℓ : Loc Cert.AttnInAdamWRefIdeal.nD Cert.AttnInAdamWRefIdeal.τ Cert.AttnInAdamWRefIdeal.sig) → Buf (Elt Ideal) ℓ) (g : Dev Cert.AttnInAdamWRefIdeal.nD → PrngReg), Pre_AttnInAdamWRefIdeal m →
    θ_run (Cert.AttnInAdamWRefIdeal.defs (F := Ideal)) (onTc (τ := Cert.AttnInAdamWRefIdeal.τ) (Cert.AttnInAdamWRefIdeal.main (F := Ideal))) ⟨m, fun _ => 0, g⟩ (fun r => (∀ c : Dev Cert.AttnInAdamWRefIdeal.nD,
      r.2.mem ((c.tc : Thread Cert.AttnInAdamWRefIdeal.nD Cert.AttnInAdamWRefIdeal.τ).loc Cert.AttnInAdamWRefIdeal.main_arg0) = m ((c.tc : Thread Cert.AttnInAdamWRefIdeal.nD Cert.AttnInAdamWRefIdeal.τ).loc Cert.AttnInAdamWRefIdeal.main_arg0)
      ∧ r.2.mem ((c.tc : Thread Cert.AttnInAdamWRefIdeal.nD Cert.AttnInAdamWRefIdeal.τ).loc Cert.AttnInAdamWRefIdeal.main_arg1) = m ((c.tc : Thread Cert.AttnInAdamWRefIdeal.nD Cert.AttnInAdamWRefIdeal.τ).loc Cert.AttnInAdamWRefIdeal.main_arg1)
      ∧ r.2.mem ((c.tc : Thread Cert.AttnInAdamWRefIdeal.nD Cert.AttnInAdamWRefIdeal.τ).loc Cert.AttnInAdamWRefIdeal.main_arg2) = m ((c.tc : Thread Cert.AttnInAdamWRefIdeal.nD Cert.AttnInAdamWRefIdeal.τ).loc Cert.AttnInAdamWRefIdeal.main_arg2)
      ∧ r.2.mem ((c.tc : Thread Cert.AttnInAdamWRefIdeal.nD Cert.AttnInAdamWRefIdeal.τ).loc Cert.AttnInAdamWRefIdeal.main_arg3) = m ((c.tc : Thread Cert.AttnInAdamWRefIdeal.nD Cert.AttnInAdamWRefIdeal.τ).loc Cert.AttnInAdamWRefIdeal.main_arg3)
      ∧ r.2.mem ((c.tc : Thread Cert.AttnInAdamWRefIdeal.nD Cert.AttnInAdamWRefIdeal.τ).loc Cert.AttnInAdamWRefIdeal.main_arg4) = m ((c.tc : Thread Cert.AttnInAdamWRefIdeal.nD Cert.AttnInAdamWRefIdeal.τ).loc Cert.AttnInAdamWRefIdeal.main_arg4))
      ∧ r.2.sem = fun _ => 0)

def quiescent_RecInAdamW [hRecInAdamW : Cert.RecInAdamW.Facts] : Prop :=
  ∀ (m : (ℓ : Loc Cert.RecInAdamW.nD Cert.RecInAdamW.τ Cert.RecInAdamW.sig) → Buf (Elt Bits) ℓ) (g : Dev Cert.RecInAdamW.nD → PrngReg), Pre_RecInAdamW m →
    θ_run (Cert.RecInAdamW.defs (F := Bits)) (onTc (τ := Cert.RecInAdamW.τ) (Cert.RecInAdamW.main (F := Bits))) ⟨m, fun _ => 0, g⟩ (fun r => (∀ c : Dev Cert.RecInAdamW.nD,
      r.2.mem ((c.tc : Thread Cert.RecInAdamW.nD Cert.RecInAdamW.τ).loc Cert.RecInAdamW.main_arg0) = m ((c.tc : Thread Cert.RecInAdamW.nD Cert.RecInAdamW.τ).loc Cert.RecInAdamW.main_arg0)
      ∧ r.2.mem ((c.tc : Thread Cert.RecInAdamW.nD Cert.RecInAdamW.τ).loc Cert.RecInAdamW.main_arg1) = m ((c.tc : Thread Cert.RecInAdamW.nD Cert.RecInAdamW.τ).loc Cert.RecInAdamW.main_arg1)
      ∧ r.2.mem ((c.tc : Thread Cert.RecInAdamW.nD Cert.RecInAdamW.τ).loc Cert.RecInAdamW.main_arg2) = m ((c.tc : Thread Cert.RecInAdamW.nD Cert.RecInAdamW.τ).loc Cert.RecInAdamW.main_arg2)
      ∧ r.2.mem ((c.tc : Thread Cert.RecInAdamW.nD Cert.RecInAdamW.τ).loc Cert.RecInAdamW.main_arg3) = m ((c.tc : Thread Cert.RecInAdamW.nD Cert.RecInAdamW.τ).loc Cert.RecInAdamW.main_arg3)
      ∧ r.2.mem ((c.tc : Thread Cert.RecInAdamW.nD Cert.RecInAdamW.τ).loc Cert.RecInAdamW.main_arg4) = m ((c.tc : Thread Cert.RecInAdamW.nD Cert.RecInAdamW.τ).loc Cert.RecInAdamW.main_arg4))
      ∧ r.2.sem = fun _ => 0)

def quiescent_RecInAdamWIdeal [hRecInAdamWIdeal : Cert.RecInAdamWIdeal.Facts] : Prop :=
  ∀ (m : (ℓ : Loc Cert.RecInAdamWIdeal.nD Cert.RecInAdamWIdeal.τ Cert.RecInAdamWIdeal.sig) → Buf (Elt Ideal) ℓ) (g : Dev Cert.RecInAdamWIdeal.nD → PrngReg), Pre_RecInAdamWIdeal m →
    θ_run (Cert.RecInAdamWIdeal.defs (F := Ideal)) (onTc (τ := Cert.RecInAdamWIdeal.τ) (Cert.RecInAdamWIdeal.main (F := Ideal))) ⟨m, fun _ => 0, g⟩ (fun r => (∀ c : Dev Cert.RecInAdamWIdeal.nD,
      r.2.mem ((c.tc : Thread Cert.RecInAdamWIdeal.nD Cert.RecInAdamWIdeal.τ).loc Cert.RecInAdamWIdeal.main_arg0) = m ((c.tc : Thread Cert.RecInAdamWIdeal.nD Cert.RecInAdamWIdeal.τ).loc Cert.RecInAdamWIdeal.main_arg0)
      ∧ r.2.mem ((c.tc : Thread Cert.RecInAdamWIdeal.nD Cert.RecInAdamWIdeal.τ).loc Cert.RecInAdamWIdeal.main_arg1) = m ((c.tc : Thread Cert.RecInAdamWIdeal.nD Cert.RecInAdamWIdeal.τ).loc Cert.RecInAdamWIdeal.main_arg1)
      ∧ r.2.mem ((c.tc : Thread Cert.RecInAdamWIdeal.nD Cert.RecInAdamWIdeal.τ).loc Cert.RecInAdamWIdeal.main_arg2) = m ((c.tc : Thread Cert.RecInAdamWIdeal.nD Cert.RecInAdamWIdeal.τ).loc Cert.RecInAdamWIdeal.main_arg2)
      ∧ r.2.mem ((c.tc : Thread Cert.RecInAdamWIdeal.nD Cert.RecInAdamWIdeal.τ).loc Cert.RecInAdamWIdeal.main_arg3) = m ((c.tc : Thread Cert.RecInAdamWIdeal.nD Cert.RecInAdamWIdeal.τ).loc Cert.RecInAdamWIdeal.main_arg3)
      ∧ r.2.mem ((c.tc : Thread Cert.RecInAdamWIdeal.nD Cert.RecInAdamWIdeal.τ).loc Cert.RecInAdamWIdeal.main_arg4) = m ((c.tc : Thread Cert.RecInAdamWIdeal.nD Cert.RecInAdamWIdeal.τ).loc Cert.RecInAdamWIdeal.main_arg4))
      ∧ r.2.sem = fun _ => 0)

def quiescent_RecInAdamWRefIdeal [hRecInAdamWRefIdeal : Cert.RecInAdamWRefIdeal.Facts] : Prop :=
  ∀ (m : (ℓ : Loc Cert.RecInAdamWRefIdeal.nD Cert.RecInAdamWRefIdeal.τ Cert.RecInAdamWRefIdeal.sig) → Buf (Elt Ideal) ℓ) (g : Dev Cert.RecInAdamWRefIdeal.nD → PrngReg), Pre_RecInAdamWRefIdeal m →
    θ_run (Cert.RecInAdamWRefIdeal.defs (F := Ideal)) (onTc (τ := Cert.RecInAdamWRefIdeal.τ) (Cert.RecInAdamWRefIdeal.main (F := Ideal))) ⟨m, fun _ => 0, g⟩ (fun r => (∀ c : Dev Cert.RecInAdamWRefIdeal.nD,
      r.2.mem ((c.tc : Thread Cert.RecInAdamWRefIdeal.nD Cert.RecInAdamWRefIdeal.τ).loc Cert.RecInAdamWRefIdeal.main_arg0) = m ((c.tc : Thread Cert.RecInAdamWRefIdeal.nD Cert.RecInAdamWRefIdeal.τ).loc Cert.RecInAdamWRefIdeal.main_arg0)
      ∧ r.2.mem ((c.tc : Thread Cert.RecInAdamWRefIdeal.nD Cert.RecInAdamWRefIdeal.τ).loc Cert.RecInAdamWRefIdeal.main_arg1) = m ((c.tc : Thread Cert.RecInAdamWRefIdeal.nD Cert.RecInAdamWRefIdeal.τ).loc Cert.RecInAdamWRefIdeal.main_arg1)
      ∧ r.2.mem ((c.tc : Thread Cert.RecInAdamWRefIdeal.nD Cert.RecInAdamWRefIdeal.τ).loc Cert.RecInAdamWRefIdeal.main_arg2) = m ((c.tc : Thread Cert.RecInAdamWRefIdeal.nD Cert.RecInAdamWRefIdeal.τ).loc Cert.RecInAdamWRefIdeal.main_arg2)
      ∧ r.2.mem ((c.tc : Thread Cert.RecInAdamWRefIdeal.nD Cert.RecInAdamWRefIdeal.τ).loc Cert.RecInAdamWRefIdeal.main_arg3) = m ((c.tc : Thread Cert.RecInAdamWRefIdeal.nD Cert.RecInAdamWRefIdeal.τ).loc Cert.RecInAdamWRefIdeal.main_arg3)
      ∧ r.2.mem ((c.tc : Thread Cert.RecInAdamWRefIdeal.nD Cert.RecInAdamWRefIdeal.τ).loc Cert.RecInAdamWRefIdeal.main_arg4) = m ((c.tc : Thread Cert.RecInAdamWRefIdeal.nD Cert.RecInAdamWRefIdeal.τ).loc Cert.RecInAdamWRefIdeal.main_arg4))
      ∧ r.2.sem = fun _ => 0)

def quiescent_OutAdamW [hOutAdamW : Cert.OutAdamW.Facts] : Prop :=
  ∀ (m : (ℓ : Loc Cert.OutAdamW.nD Cert.OutAdamW.τ Cert.OutAdamW.sig) → Buf (Elt Bits) ℓ) (g : Dev Cert.OutAdamW.nD → PrngReg), Pre_OutAdamW m →
    θ_run (Cert.OutAdamW.defs (F := Bits)) (onTc (τ := Cert.OutAdamW.τ) (Cert.OutAdamW.main (F := Bits))) ⟨m, fun _ => 0, g⟩ (fun r => (∀ c : Dev Cert.OutAdamW.nD,
      r.2.mem ((c.tc : Thread Cert.OutAdamW.nD Cert.OutAdamW.τ).loc Cert.OutAdamW.main_arg0) = m ((c.tc : Thread Cert.OutAdamW.nD Cert.OutAdamW.τ).loc Cert.OutAdamW.main_arg0)
      ∧ r.2.mem ((c.tc : Thread Cert.OutAdamW.nD Cert.OutAdamW.τ).loc Cert.OutAdamW.main_arg1) = m ((c.tc : Thread Cert.OutAdamW.nD Cert.OutAdamW.τ).loc Cert.OutAdamW.main_arg1)
      ∧ r.2.mem ((c.tc : Thread Cert.OutAdamW.nD Cert.OutAdamW.τ).loc Cert.OutAdamW.main_arg2) = m ((c.tc : Thread Cert.OutAdamW.nD Cert.OutAdamW.τ).loc Cert.OutAdamW.main_arg2)
      ∧ r.2.mem ((c.tc : Thread Cert.OutAdamW.nD Cert.OutAdamW.τ).loc Cert.OutAdamW.main_arg3) = m ((c.tc : Thread Cert.OutAdamW.nD Cert.OutAdamW.τ).loc Cert.OutAdamW.main_arg3)
      ∧ r.2.mem ((c.tc : Thread Cert.OutAdamW.nD Cert.OutAdamW.τ).loc Cert.OutAdamW.main_arg4) = m ((c.tc : Thread Cert.OutAdamW.nD Cert.OutAdamW.τ).loc Cert.OutAdamW.main_arg4))
      ∧ r.2.sem = fun _ => 0)

def quiescent_OutAdamWIdeal [hOutAdamWIdeal : Cert.OutAdamWIdeal.Facts] : Prop :=
  ∀ (m : (ℓ : Loc Cert.OutAdamWIdeal.nD Cert.OutAdamWIdeal.τ Cert.OutAdamWIdeal.sig) → Buf (Elt Ideal) ℓ) (g : Dev Cert.OutAdamWIdeal.nD → PrngReg), Pre_OutAdamWIdeal m →
    θ_run (Cert.OutAdamWIdeal.defs (F := Ideal)) (onTc (τ := Cert.OutAdamWIdeal.τ) (Cert.OutAdamWIdeal.main (F := Ideal))) ⟨m, fun _ => 0, g⟩ (fun r => (∀ c : Dev Cert.OutAdamWIdeal.nD,
      r.2.mem ((c.tc : Thread Cert.OutAdamWIdeal.nD Cert.OutAdamWIdeal.τ).loc Cert.OutAdamWIdeal.main_arg0) = m ((c.tc : Thread Cert.OutAdamWIdeal.nD Cert.OutAdamWIdeal.τ).loc Cert.OutAdamWIdeal.main_arg0)
      ∧ r.2.mem ((c.tc : Thread Cert.OutAdamWIdeal.nD Cert.OutAdamWIdeal.τ).loc Cert.OutAdamWIdeal.main_arg1) = m ((c.tc : Thread Cert.OutAdamWIdeal.nD Cert.OutAdamWIdeal.τ).loc Cert.OutAdamWIdeal.main_arg1)
      ∧ r.2.mem ((c.tc : Thread Cert.OutAdamWIdeal.nD Cert.OutAdamWIdeal.τ).loc Cert.OutAdamWIdeal.main_arg2) = m ((c.tc : Thread Cert.OutAdamWIdeal.nD Cert.OutAdamWIdeal.τ).loc Cert.OutAdamWIdeal.main_arg2)
      ∧ r.2.mem ((c.tc : Thread Cert.OutAdamWIdeal.nD Cert.OutAdamWIdeal.τ).loc Cert.OutAdamWIdeal.main_arg3) = m ((c.tc : Thread Cert.OutAdamWIdeal.nD Cert.OutAdamWIdeal.τ).loc Cert.OutAdamWIdeal.main_arg3)
      ∧ r.2.mem ((c.tc : Thread Cert.OutAdamWIdeal.nD Cert.OutAdamWIdeal.τ).loc Cert.OutAdamWIdeal.main_arg4) = m ((c.tc : Thread Cert.OutAdamWIdeal.nD Cert.OutAdamWIdeal.τ).loc Cert.OutAdamWIdeal.main_arg4))
      ∧ r.2.sem = fun _ => 0)

def quiescent_OutAdamWRefIdeal [hOutAdamWRefIdeal : Cert.OutAdamWRefIdeal.Facts] : Prop :=
  ∀ (m : (ℓ : Loc Cert.OutAdamWRefIdeal.nD Cert.OutAdamWRefIdeal.τ Cert.OutAdamWRefIdeal.sig) → Buf (Elt Ideal) ℓ) (g : Dev Cert.OutAdamWRefIdeal.nD → PrngReg), Pre_OutAdamWRefIdeal m →
    θ_run (Cert.OutAdamWRefIdeal.defs (F := Ideal)) (onTc (τ := Cert.OutAdamWRefIdeal.τ) (Cert.OutAdamWRefIdeal.main (F := Ideal))) ⟨m, fun _ => 0, g⟩ (fun r => (∀ c : Dev Cert.OutAdamWRefIdeal.nD,
      r.2.mem ((c.tc : Thread Cert.OutAdamWRefIdeal.nD Cert.OutAdamWRefIdeal.τ).loc Cert.OutAdamWRefIdeal.main_arg0) = m ((c.tc : Thread Cert.OutAdamWRefIdeal.nD Cert.OutAdamWRefIdeal.τ).loc Cert.OutAdamWRefIdeal.main_arg0)
      ∧ r.2.mem ((c.tc : Thread Cert.OutAdamWRefIdeal.nD Cert.OutAdamWRefIdeal.τ).loc Cert.OutAdamWRefIdeal.main_arg1) = m ((c.tc : Thread Cert.OutAdamWRefIdeal.nD Cert.OutAdamWRefIdeal.τ).loc Cert.OutAdamWRefIdeal.main_arg1)
      ∧ r.2.mem ((c.tc : Thread Cert.OutAdamWRefIdeal.nD Cert.OutAdamWRefIdeal.τ).loc Cert.OutAdamWRefIdeal.main_arg2) = m ((c.tc : Thread Cert.OutAdamWRefIdeal.nD Cert.OutAdamWRefIdeal.τ).loc Cert.OutAdamWRefIdeal.main_arg2)
      ∧ r.2.mem ((c.tc : Thread Cert.OutAdamWRefIdeal.nD Cert.OutAdamWRefIdeal.τ).loc Cert.OutAdamWRefIdeal.main_arg3) = m ((c.tc : Thread Cert.OutAdamWRefIdeal.nD Cert.OutAdamWRefIdeal.τ).loc Cert.OutAdamWRefIdeal.main_arg3)
      ∧ r.2.mem ((c.tc : Thread Cert.OutAdamWRefIdeal.nD Cert.OutAdamWRefIdeal.τ).loc Cert.OutAdamWRefIdeal.main_arg4) = m ((c.tc : Thread Cert.OutAdamWRefIdeal.nD Cert.OutAdamWRefIdeal.τ).loc Cert.OutAdamWRefIdeal.main_arg4))
      ∧ r.2.sem = fun _ => 0)

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v3_0)) (v1 : (c : Dev Cert.InDxIdeal.nD) → Buf (Elt Ideal) ((c.tc : Thread Cert.InDxIdeal.nD Cert.InDxIdeal.τ).loc Cert.InDxIdeal.main_v3_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3_0) = v0 c
          ∧ r.2.mem ((c.tc : Thread Cert.InDxIdeal.nD Cert.InDxIdeal.τ).loc Cert.InDxIdeal.main_v3_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v40) = v0 c
          ∧ r.2.mem ((c.tc : Thread Cert.InDxRefIdeal.nD Cert.InDxRefIdeal.τ).loc Cert.InDxRefIdeal.main_v41) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_AttnBwd_AttnBwdIdeal : Prop :=
  True

def preserves_AttnDx_AttnDxIdeal : Prop :=
  True

def algebraic_AttnDxIdeal_AttnDxRefIdeal [hAttnDxIdeal : Cert.AttnDxIdeal.Facts] [hAttnDxRefIdeal : Cert.AttnDxRefIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg)
    (m' : (ℓ : Loc Cert.AttnDxRefIdeal.nD Cert.AttnDxRefIdeal.τ Cert.AttnDxRefIdeal.sig) → Buf (Elt Ideal) ℓ) (g' : Dev Cert.AttnDxRefIdeal.nD → PrngReg), Pre_AttnDxIdeal m →
    (∀ c : Dev Cert.AttnDxIdeal.nD,
      m' ((c.tc : Thread Cert.AttnDxRefIdeal.nD Cert.AttnDxRefIdeal.τ).loc Cert.AttnDxRefIdeal.main_arg0) = m ((c.tc : Thread Cert.AttnDxIdeal.nD Cert.AttnDxIdeal.τ).loc Cert.AttnDxIdeal.main_arg0)
      ∧ m' ((c.tc : Thread Cert.AttnDxRefIdeal.nD Cert.AttnDxRefIdeal.τ).loc Cert.AttnDxRefIdeal.main_arg1) = m ((c.tc : Thread Cert.AttnDxIdeal.nD Cert.AttnDxIdeal.τ).loc Cert.AttnDxIdeal.main_arg1)
      ∧ m' ((c.tc : Thread Cert.AttnDxRefIdeal.nD Cert.AttnDxRefIdeal.τ).loc Cert.AttnDxRefIdeal.main_arg2) = m ((c.tc : Thread Cert.AttnDxIdeal.nD Cert.AttnDxIdeal.τ).loc Cert.AttnDxIdeal.main_arg2)
      ∧ m' ((c.tc : Thread Cert.AttnDxRefIdeal.nD Cert.AttnDxRefIdeal.τ).loc Cert.AttnDxRefIdeal.main_arg3) = m ((c.tc : Thread Cert.AttnDxIdeal.nD Cert.AttnDxIdeal.τ).loc Cert.AttnDxIdeal.main_arg3)
      ∧ m' ((c.tc : Thread Cert.AttnDxRefIdeal.nD Cert.AttnDxRefIdeal.τ).loc Cert.AttnDxRefIdeal.main_arg4) = m ((c.tc : Thread Cert.AttnDxIdeal.nD Cert.AttnDxIdeal.τ).loc Cert.AttnDxIdeal.main_arg4)) →
    ∃ (v0 : (c : Dev Cert.AttnDxIdeal.nD) → Buf (Elt Ideal) ((c.tc : Thread Cert.AttnDxIdeal.nD Cert.AttnDxIdeal.τ).loc Cert.AttnDxIdeal.main_v1_0)) (v1 : (c : Dev Cert.AttnDxIdeal.nD) → Buf (Elt Ideal) ((c.tc : Thread Cert.AttnDxIdeal.nD Cert.AttnDxIdeal.τ).loc Cert.AttnDxIdeal.main_v1_1)),
      θ_run (Cert.AttnDxIdeal.defs (F := Ideal)) (onTc (τ := Cert.AttnDxIdeal.τ) (Cert.AttnDxIdeal.main (F := Ideal))) ⟨m, fun _ => 0, g⟩ (fun r => ∀ c : Dev Cert.AttnDxIdeal.nD,
          r.2.mem ((c.tc : Thread Cert.AttnDxIdeal.nD Cert.AttnDxIdeal.τ).loc Cert.AttnDxIdeal.main_v1_0) = v0 c
          ∧ r.2.mem ((c.tc : Thread Cert.AttnDxIdeal.nD Cert.AttnDxIdeal.τ).loc Cert.AttnDxIdeal.main_v1_1) = v1 c
          ∧ r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
          ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1)
          ∧ r.2.mem ((c.tc : Thread Cert.AttnDxIdeal.nD Cert.AttnDxIdeal.τ).loc Cert.AttnDxIdeal.main_arg2) = m ((c.tc : Thread Cert.AttnDxIdeal.nD Cert.AttnDxIdeal.τ).loc Cert.AttnDxIdeal.main_arg2)
          ∧ r.2.mem ((c.tc : Thread Cert.AttnDxIdeal.nD Cert.AttnDxIdeal.τ).loc Cert.AttnDxIdeal.main_arg3) = m ((c.tc : Thread Cert.AttnDxIdeal.nD Cert.AttnDxIdeal.τ).loc Cert.AttnDxIdeal.main_arg3)
          ∧ r.2.mem ((c.tc : Thread Cert.AttnDxIdeal.nD Cert.AttnDxIdeal.τ).loc Cert.AttnDxIdeal.main_arg4) = m ((c.tc : Thread Cert.AttnDxIdeal.nD Cert.AttnDxIdeal.τ).loc Cert.AttnDxIdeal.main_arg4))
      ∧ θ_run (Cert.AttnDxRefIdeal.defs (F := Ideal)) (onTc (τ := Cert.AttnDxRefIdeal.τ) (Cert.AttnDxRefIdeal.main (F := Ideal))) ⟨m', fun _ => 0, g'⟩ (fun r => ∀ c : Dev Cert.AttnDxRefIdeal.nD,
          r.2.mem ((c.tc : Thread Cert.AttnDxRefIdeal.nD Cert.AttnDxRefIdeal.τ).loc Cert.AttnDxRefIdeal.main_v40) = v0 c
          ∧ r.2.mem ((c.tc : Thread Cert.AttnDxRefIdeal.nD Cert.AttnDxRefIdeal.τ).loc Cert.AttnDxRefIdeal.main_v41) = v1 c
          ∧ r.2.mem ((c.tc : Thread Cert.AttnDxRefIdeal.nD Cert.AttnDxRefIdeal.τ).loc Cert.AttnDxRefIdeal.main_arg0) = m' ((c.tc : Thread Cert.AttnDxRefIdeal.nD Cert.AttnDxRefIdeal.τ).loc Cert.AttnDxRefIdeal.main_arg0)
          ∧ r.2.mem ((c.tc : Thread Cert.AttnDxRefIdeal.nD Cert.AttnDxRefIdeal.τ).loc Cert.AttnDxRefIdeal.main_arg1) = m' ((c.tc : Thread Cert.AttnDxRefIdeal.nD Cert.AttnDxRefIdeal.τ).loc Cert.AttnDxRefIdeal.main_arg1)
          ∧ r.2.mem ((c.tc : Thread Cert.AttnDxRefIdeal.nD Cert.AttnDxRefIdeal.τ).loc Cert.AttnDxRefIdeal.main_arg2) = m' ((c.tc : Thread Cert.AttnDxRefIdeal.nD Cert.AttnDxRefIdeal.τ).loc Cert.AttnDxRefIdeal.main_arg2)
          ∧ r.2.mem ((c.tc : Thread Cert.AttnDxRefIdeal.nD Cert.AttnDxRefIdeal.τ).loc Cert.AttnDxRefIdeal.main_arg3) = m' ((c.tc : Thread Cert.AttnDxRefIdeal.nD Cert.AttnDxRefIdeal.τ).loc Cert.AttnDxRefIdeal.main_arg3)
          ∧ r.2.mem ((c.tc : Thread Cert.AttnDxRefIdeal.nD Cert.AttnDxRefIdeal.τ).loc Cert.AttnDxRefIdeal.main_arg4) = m' ((c.tc : Thread Cert.AttnDxRefIdeal.nD Cert.AttnDxRefIdeal.τ).loc Cert.AttnDxRefIdeal.main_arg4))

def preserves_RecProj_RecProjIdeal : Prop :=
  True

def algebraic_RecProjIdeal_RecProjRefIdeal [hRecProjIdeal : Cert.RecProjIdeal.Facts] [hRecProjRefIdeal : Cert.RecProjRefIdeal.Facts] : Prop :=
  ∀ (m : (ℓ : Loc Cert.RecProjIdeal.nD Cert.RecProjIdeal.τ Cert.RecProjIdeal.sig) → Buf (Elt Ideal) ℓ) (g : Dev Cert.RecProjIdeal.nD → PrngReg)
    (m' : (ℓ : Loc Cert.RecProjRefIdeal.nD Cert.RecProjRefIdeal.τ Cert.RecProjRefIdeal.sig) → Buf (Elt Ideal) ℓ) (g' : Dev Cert.RecProjRefIdeal.nD → PrngReg), Pre_RecProjIdeal m →
    (∀ c : Dev Cert.RecProjIdeal.nD,
      m' ((c.tc : Thread Cert.RecProjRefIdeal.nD Cert.RecProjRefIdeal.τ).loc Cert.RecProjRefIdeal.main_arg0) = m ((c.tc : Thread Cert.RecProjIdeal.nD Cert.RecProjIdeal.τ).loc Cert.RecProjIdeal.main_arg0)
      ∧ m' ((c.tc : Thread Cert.RecProjRefIdeal.nD Cert.RecProjRefIdeal.τ).loc Cert.RecProjRefIdeal.main_arg1) = m ((c.tc : Thread Cert.RecProjIdeal.nD Cert.RecProjIdeal.τ).loc Cert.RecProjIdeal.main_arg1)
      ∧ m' ((c.tc : Thread Cert.RecProjRefIdeal.nD Cert.RecProjRefIdeal.τ).loc Cert.RecProjRefIdeal.main_arg2) = m ((c.tc : Thread Cert.RecProjIdeal.nD Cert.RecProjIdeal.τ).loc Cert.RecProjIdeal.main_arg2)) →
    ∃ (v0 : (c : Dev Cert.RecProjIdeal.nD) → Buf (Elt Ideal) ((c.tc : Thread Cert.RecProjIdeal.nD Cert.RecProjIdeal.τ).loc Cert.RecProjIdeal.main_v3_0)) (v1 : (c : Dev Cert.RecProjIdeal.nD) → Buf (Elt Ideal) ((c.tc : Thread Cert.RecProjIdeal.nD Cert.RecProjIdeal.τ).loc Cert.RecProjIdeal.main_v3_1)),
      θ_run (Cert.RecProjIdeal.defs (F := Ideal)) (onTc (τ := Cert.RecProjIdeal.τ) (Cert.RecProjIdeal.main (F := Ideal))) ⟨m, fun _ => 0, g⟩ (fun r => ∀ c : Dev Cert.RecProjIdeal.nD,
          r.2.mem ((c.tc : Thread Cert.RecProjIdeal.nD Cert.RecProjIdeal.τ).loc Cert.RecProjIdeal.main_v3_0) = v0 c
          ∧ r.2.mem ((c.tc : Thread Cert.RecProjIdeal.nD Cert.RecProjIdeal.τ).loc Cert.RecProjIdeal.main_v3_1) = v1 c
          ∧ r.2.mem ((c.tc : Thread Cert.RecProjIdeal.nD Cert.RecProjIdeal.τ).loc Cert.RecProjIdeal.main_arg0) = m ((c.tc : Thread Cert.RecProjIdeal.nD Cert.RecProjIdeal.τ).loc Cert.RecProjIdeal.main_arg0)
          ∧ r.2.mem ((c.tc : Thread Cert.RecProjIdeal.nD Cert.RecProjIdeal.τ).loc Cert.RecProjIdeal.main_arg1) = m ((c.tc : Thread Cert.RecProjIdeal.nD Cert.RecProjIdeal.τ).loc Cert.RecProjIdeal.main_arg1)
          ∧ r.2.mem ((c.tc : Thread Cert.RecProjIdeal.nD Cert.RecProjIdeal.τ).loc Cert.RecProjIdeal.main_arg2) = m ((c.tc : Thread Cert.RecProjIdeal.nD Cert.RecProjIdeal.τ).loc Cert.RecProjIdeal.main_arg2))
      ∧ θ_run (Cert.RecProjRefIdeal.defs (F := Ideal)) (onTc (τ := Cert.RecProjRefIdeal.τ) (Cert.RecProjRefIdeal.main (F := Ideal))) ⟨m', fun _ => 0, g'⟩ (fun r => ∀ c : Dev Cert.RecProjRefIdeal.nD,
          r.2.mem ((c.tc : Thread Cert.RecProjRefIdeal.nD Cert.RecProjRefIdeal.τ).loc Cert.RecProjRefIdeal.main_v14) = v0 c
          ∧ r.2.mem ((c.tc : Thread Cert.RecProjRefIdeal.nD Cert.RecProjRefIdeal.τ).loc Cert.RecProjRefIdeal.main_v15) = v1 c
          ∧ r.2.mem ((c.tc : Thread Cert.RecProjRefIdeal.nD Cert.RecProjRefIdeal.τ).loc Cert.RecProjRefIdeal.main_arg0) = m' ((c.tc : Thread Cert.RecProjRefIdeal.nD Cert.RecProjRefIdeal.τ).loc Cert.RecProjRefIdeal.main_arg0)
          ∧ r.2.mem ((c.tc : Thread Cert.RecProjRefIdeal.nD Cert.RecProjRefIdeal.τ).loc Cert.RecProjRefIdeal.main_arg1) = m' ((c.tc : Thread Cert.RecProjRefIdeal.nD Cert.RecProjRefIdeal.τ).loc Cert.RecProjRefIdeal.main_arg1)
          ∧ r.2.mem ((c.tc : Thread Cert.RecProjRefIdeal.nD Cert.RecProjRefIdeal.τ).loc Cert.RecProjRefIdeal.main_arg2) = m' ((c.tc : Thread Cert.RecProjRefIdeal.nD Cert.RecProjRefIdeal.τ).loc Cert.RecProjRefIdeal.main_arg2))

def preserves_RecDw_RecDwIdeal : Prop :=
  True

def algebraic_RecDwIdeal_RecDwRefIdeal [hRecDwIdeal : Cert.RecDwIdeal.Facts] [hRecDwRefIdeal : Cert.RecDwRefIdeal.Facts] : Prop :=
  ∀ (m : (ℓ : Loc Cert.RecDwIdeal.nD Cert.RecDwIdeal.τ Cert.RecDwIdeal.sig) → Buf (Elt Ideal) ℓ) (g : Dev Cert.RecDwIdeal.nD → PrngReg)
    (m' : (ℓ : Loc Cert.RecDwRefIdeal.nD Cert.RecDwRefIdeal.τ Cert.RecDwRefIdeal.sig) → Buf (Elt Ideal) ℓ) (g' : Dev Cert.RecDwRefIdeal.nD → PrngReg), Pre_RecDwIdeal m →
    (∀ c : Dev Cert.RecDwIdeal.nD,
      m' ((c.tc : Thread Cert.RecDwRefIdeal.nD Cert.RecDwRefIdeal.τ).loc Cert.RecDwRefIdeal.main_arg0) = m ((c.tc : Thread Cert.RecDwIdeal.nD Cert.RecDwIdeal.τ).loc Cert.RecDwIdeal.main_arg0)
      ∧ m' ((c.tc : Thread Cert.RecDwRefIdeal.nD Cert.RecDwRefIdeal.τ).loc Cert.RecDwRefIdeal.main_arg1) = m ((c.tc : Thread Cert.RecDwIdeal.nD Cert.RecDwIdeal.τ).loc Cert.RecDwIdeal.main_arg1)
      ∧ m' ((c.tc : Thread Cert.RecDwRefIdeal.nD Cert.RecDwRefIdeal.τ).loc Cert.RecDwRefIdeal.main_arg2) = m ((c.tc : Thread Cert.RecDwIdeal.nD Cert.RecDwIdeal.τ).loc Cert.RecDwIdeal.main_arg2)) →
    ∃ (v0 : (c : Dev Cert.RecDwIdeal.nD) → Buf (Elt Ideal) ((c.tc : Thread Cert.RecDwIdeal.nD Cert.RecDwIdeal.τ).loc Cert.RecDwIdeal.main_v15_0)),
      θ_run (Cert.RecDwIdeal.defs (F := Ideal)) (onTc (τ := Cert.RecDwIdeal.τ) (Cert.RecDwIdeal.main (F := Ideal))) ⟨m, fun _ => 0, g⟩ (fun r => ∀ c : Dev Cert.RecDwIdeal.nD,
          r.2.mem ((c.tc : Thread Cert.RecDwIdeal.nD Cert.RecDwIdeal.τ).loc Cert.RecDwIdeal.main_v15_0) = v0 c
          ∧ r.2.mem ((c.tc : Thread Cert.RecDwIdeal.nD Cert.RecDwIdeal.τ).loc Cert.RecDwIdeal.main_arg0) = m ((c.tc : Thread Cert.RecDwIdeal.nD Cert.RecDwIdeal.τ).loc Cert.RecDwIdeal.main_arg0)
          ∧ r.2.mem ((c.tc : Thread Cert.RecDwIdeal.nD Cert.RecDwIdeal.τ).loc Cert.RecDwIdeal.main_arg1) = m ((c.tc : Thread Cert.RecDwIdeal.nD Cert.RecDwIdeal.τ).loc Cert.RecDwIdeal.main_arg1)
          ∧ r.2.mem ((c.tc : Thread Cert.RecDwIdeal.nD Cert.RecDwIdeal.τ).loc Cert.RecDwIdeal.main_arg2) = m ((c.tc : Thread Cert.RecDwIdeal.nD Cert.RecDwIdeal.τ).loc Cert.RecDwIdeal.main_arg2))
      ∧ θ_run (Cert.RecDwRefIdeal.defs (F := Ideal)) (onTc (τ := Cert.RecDwRefIdeal.τ) (Cert.RecDwRefIdeal.main (F := Ideal))) ⟨m', fun _ => 0, g'⟩ (fun r => ∀ c : Dev Cert.RecDwRefIdeal.nD,
          r.2.mem ((c.tc : Thread Cert.RecDwRefIdeal.nD Cert.RecDwRefIdeal.τ).loc Cert.RecDwRefIdeal.main_v18) = v0 c
          ∧ r.2.mem ((c.tc : Thread Cert.RecDwRefIdeal.nD Cert.RecDwRefIdeal.τ).loc Cert.RecDwRefIdeal.main_arg0) = m' ((c.tc : Thread Cert.RecDwRefIdeal.nD Cert.RecDwRefIdeal.τ).loc Cert.RecDwRefIdeal.main_arg0)
          ∧ r.2.mem ((c.tc : Thread Cert.RecDwRefIdeal.nD Cert.RecDwRefIdeal.τ).loc Cert.RecDwRefIdeal.main_arg1) = m' ((c.tc : Thread Cert.RecDwRefIdeal.nD Cert.RecDwRefIdeal.τ).loc Cert.RecDwRefIdeal.main_arg1)
          ∧ r.2.mem ((c.tc : Thread Cert.RecDwRefIdeal.nD Cert.RecDwRefIdeal.τ).loc Cert.RecDwRefIdeal.main_arg2) = m' ((c.tc : Thread Cert.RecDwRefIdeal.nD Cert.RecDwRefIdeal.τ).loc Cert.RecDwRefIdeal.main_arg2))

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)) →
    ∃ (v0 : (c : Dev Cert.OutLossIdeal.nD) → Buf (Elt Ideal) ((c.tc : Thread Cert.OutLossIdeal.nD Cert.OutLossIdeal.τ).loc Cert.OutLossIdeal.main_v1_0)) (v1 : (c : Dev Cert.OutLossIdeal.nD) → Buf (Elt Ideal) ((c.tc : Thread Cert.OutLossIdeal.nD Cert.OutLossIdeal.τ).loc Cert.OutLossIdeal.main_v1_1)) (v2 : (c : Dev Cert.OutLossIdeal.nD) → Buf (Elt Ideal) ((c.tc : Thread Cert.OutLossIdeal.nD Cert.OutLossIdeal.τ).loc Cert.OutLossIdeal.main_v1_2)) (v3 : (c : Dev Cert.OutLossIdeal.nD) → Buf (Elt Ideal) ((c.tc : Thread Cert.OutLossIdeal.nD Cert.OutLossIdeal.τ).loc Cert.OutLossIdeal.main_v1_3)) (v4 : (c : Dev Cert.OutLossIdeal.nD) → Buf (Elt Ideal) ((c.tc : Thread Cert.OutLossIdeal.nD Cert.OutLossIdeal.τ).loc Cert.OutLossIdeal.main_v1_4)) (v5 : (c : Dev Cert.OutLossIdeal.nD) → Buf (Elt Ideal) ((c.tc : Thread Cert.OutLossIdeal.nD Cert.OutLossIdeal.τ).loc Cert.OutLossIdeal.main_v1_5)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v1_0) = v0 c
          ∧ r.2.mem ((c.tc : Thread Cert.OutLossIdeal.nD Cert.OutLossIdeal.τ).loc Cert.OutLossIdeal.main_v1_1) = v1 c
          ∧ r.2.mem ((c.tc : Thread Cert.OutLossIdeal.nD Cert.OutLossIdeal.τ).loc Cert.OutLossIdeal.main_v1_2) = v2 c
          ∧ r.2.mem ((c.tc : Thread Cert.OutLossIdeal.nD Cert.OutLossIdeal.τ).loc Cert.OutLossIdeal.main_v1_3) = v3 c
          ∧ r.2.mem ((c.tc : Thread Cert.OutLossIdeal.nD Cert.OutLossIdeal.τ).loc Cert.OutLossIdeal.main_v1_4) = v4 c
          ∧ r.2.mem ((c.tc : Thread Cert.OutLossIdeal.nD Cert.OutLossIdeal.τ).loc Cert.OutLossIdeal.main_v1_5) = v5 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v34) = v0 c
          ∧ r.2.mem ((c.tc : Thread Cert.OutLossRefIdeal.nD Cert.OutLossRefIdeal.τ).loc Cert.OutLossRefIdeal.main_v60) = v1 c
          ∧ r.2.mem ((c.tc : Thread Cert.OutLossRefIdeal.nD Cert.OutLossRefIdeal.τ).loc Cert.OutLossRefIdeal.main_v61) = v2 c
          ∧ r.2.mem ((c.tc : Thread Cert.OutLossRefIdeal.nD Cert.OutLossRefIdeal.τ).loc Cert.OutLossRefIdeal.main_v57) = v3 c
          ∧ r.2.mem ((c.tc : Thread Cert.OutLossRefIdeal.nD Cert.OutLossRefIdeal.τ).loc Cert.OutLossRefIdeal.main_v55) = v4 c
          ∧ r.2.mem ((c.tc : Thread Cert.OutLossRefIdeal.nD Cert.OutLossRefIdeal.τ).loc Cert.OutLossRefIdeal.main_v62) = v5 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v6_0)) (v1 : (c : Dev Cert.OutBwdIdeal.nD) → Buf (Elt Ideal) ((c.tc : Thread Cert.OutBwdIdeal.nD Cert.OutBwdIdeal.τ).loc Cert.OutBwdIdeal.main_v6_1)) (v2 : (c : Dev Cert.OutBwdIdeal.nD) → Buf (Elt Ideal) ((c.tc : Thread Cert.OutBwdIdeal.nD Cert.OutBwdIdeal.τ).loc Cert.OutBwdIdeal.main_v6_2)) (v3 : (c : Dev Cert.OutBwdIdeal.nD) → Buf (Elt Ideal) ((c.tc : Thread Cert.OutBwdIdeal.nD Cert.OutBwdIdeal.τ).loc Cert.OutBwdIdeal.main_v6_3)) (v4 : (c : Dev Cert.OutBwdIdeal.nD) → Buf (Elt Ideal) ((c.tc : Thread Cert.OutBwdIdeal.nD Cert.OutBwdIdeal.τ).loc Cert.OutBwdIdeal.main_v6_4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v6_0) = v0 c
          ∧ r.2.mem ((c.tc : Thread Cert.OutBwdIdeal.nD Cert.OutBwdIdeal.τ).loc Cert.OutBwdIdeal.main_v6_1) = v1 c
          ∧ r.2.mem ((c.tc : Thread Cert.OutBwdIdeal.nD Cert.OutBwdIdeal.τ).loc Cert.OutBwdIdeal.main_v6_2) = v2 c
          ∧ r.2.mem ((c.tc : Thread Cert.OutBwdIdeal.nD Cert.OutBwdIdeal.τ).loc Cert.OutBwdIdeal.main_v6_3) = v3 c
          ∧ r.2.mem ((c.tc : Thread Cert.OutBwdIdeal.nD Cert.OutBwdIdeal.τ).loc Cert.OutBwdIdeal.main_v6_4) = v4 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v51) = v0 c
          ∧ r.2.mem ((c.tc : Thread Cert.OutBwdRefIdeal.nD Cert.OutBwdRefIdeal.τ).loc Cert.OutBwdRefIdeal.main_v49) = v1 c
          ∧ r.2.mem ((c.tc : Thread Cert.OutBwdRefIdeal.nD Cert.OutBwdRefIdeal.τ).loc Cert.OutBwdRefIdeal.main_v47) = v2 c
          ∧ r.2.mem ((c.tc : Thread Cert.OutBwdRefIdeal.nD Cert.OutBwdRefIdeal.τ).loc Cert.OutBwdRefIdeal.main_v43) = v3 c
          ∧ r.2.mem ((c.tc : Thread Cert.OutBwdRefIdeal.nD Cert.OutBwdRefIdeal.τ).loc Cert.OutBwdRefIdeal.main_v52) = v4 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_v21) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)
      ∧ m' ((c.tc : Thread Cert.AttnProjRefIdeal.nD Cert.AttnProjRefIdeal.τ).loc Cert.AttnProjRefIdeal.main_arg2) = m ((c.tc : Thread Cert.AttnProjIdeal.nD Cert.AttnProjIdeal.τ).loc Cert.AttnProjIdeal.main_arg2)
      ∧ m' ((c.tc : Thread Cert.AttnProjRefIdeal.nD Cert.AttnProjRefIdeal.τ).loc Cert.AttnProjRefIdeal.main_arg3) = m ((c.tc : Thread Cert.AttnProjIdeal.nD Cert.AttnProjIdeal.τ).loc Cert.AttnProjIdeal.main_arg3)
      ∧ m' ((c.tc : Thread Cert.AttnProjRefIdeal.nD Cert.AttnProjRefIdeal.τ).loc Cert.AttnProjRefIdeal.main_arg4) = m ((c.tc : Thread Cert.AttnProjIdeal.nD Cert.AttnProjIdeal.τ).loc Cert.AttnProjIdeal.main_arg4)) →
    ∃ (v0 : (c : Dev Cert.AttnProjIdeal.nD) → Buf (Elt Ideal) ((c.tc : Thread Cert.AttnProjIdeal.nD Cert.AttnProjIdeal.τ).loc Cert.AttnProjIdeal.main_v26_0)) (v1 : (c : Dev Cert.AttnProjIdeal.nD) → Buf (Elt Ideal) ((c.tc : Thread Cert.AttnProjIdeal.nD Cert.AttnProjIdeal.τ).loc Cert.AttnProjIdeal.main_v26_1)) (v2 : (c : Dev Cert.AttnProjIdeal.nD) → Buf (Elt Ideal) ((c.tc : Thread Cert.AttnProjIdeal.nD Cert.AttnProjIdeal.τ).loc Cert.AttnProjIdeal.main_v26_2)) (v3 : (c : Dev Cert.AttnProjIdeal.nD) → Buf (Elt Ideal) ((c.tc : Thread Cert.AttnProjIdeal.nD Cert.AttnProjIdeal.τ).loc Cert.AttnProjIdeal.main_v26_3)) (v4 : (c : Dev Cert.AttnProjIdeal.nD) → Buf (Elt Ideal) ((c.tc : Thread Cert.AttnProjIdeal.nD Cert.AttnProjIdeal.τ).loc Cert.AttnProjIdeal.main_v26_4)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v26_0) = v0 c
          ∧ r.2.mem ((c.tc : Thread Cert.AttnProjIdeal.nD Cert.AttnProjIdeal.τ).loc Cert.AttnProjIdeal.main_v26_1) = v1 c
          ∧ r.2.mem ((c.tc : Thread Cert.AttnProjIdeal.nD Cert.AttnProjIdeal.τ).loc Cert.AttnProjIdeal.main_v26_2) = v2 c
          ∧ r.2.mem ((c.tc : Thread Cert.AttnProjIdeal.nD Cert.AttnProjIdeal.τ).loc Cert.AttnProjIdeal.main_v26_3) = v3 c
          ∧ r.2.mem ((c.tc : Thread Cert.AttnProjIdeal.nD Cert.AttnProjIdeal.τ).loc Cert.AttnProjIdeal.main_v26_4) = v4 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
          ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v93) = v0 c
          ∧ r.2.mem ((c.tc : Thread Cert.AttnProjRefIdeal.nD Cert.AttnProjRefIdeal.τ).loc Cert.AttnProjRefIdeal.main_v94) = v1 c
          ∧ r.2.mem ((c.tc : Thread Cert.AttnProjRefIdeal.nD Cert.AttnProjRefIdeal.τ).loc Cert.AttnProjRefIdeal.main_v95) = v2 c
          ∧ r.2.mem ((c.tc : Thread Cert.AttnProjRefIdeal.nD Cert.AttnProjRefIdeal.τ).loc Cert.AttnProjRefIdeal.main_v96) = v3 c
          ∧ r.2.mem ((c.tc : Thread Cert.AttnProjRefIdeal.nD Cert.AttnProjRefIdeal.τ).loc Cert.AttnProjRefIdeal.main_v22) = v4 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1)
          ∧ r.2.mem ((c.tc : Thread Cert.AttnProjRefIdeal.nD Cert.AttnProjRefIdeal.τ).loc Cert.AttnProjRefIdeal.main_arg2) = m' ((c.tc : Thread Cert.AttnProjRefIdeal.nD Cert.AttnProjRefIdeal.τ).loc Cert.AttnProjRefIdeal.main_arg2)
          ∧ r.2.mem ((c.tc : Thread Cert.AttnProjRefIdeal.nD Cert.AttnProjRefIdeal.τ).loc Cert.AttnProjRefIdeal.main_arg3) = m' ((c.tc : Thread Cert.AttnProjRefIdeal.nD Cert.AttnProjRefIdeal.τ).loc Cert.AttnProjRefIdeal.main_arg3)
          ∧ r.2.mem ((c.tc : Thread Cert.AttnProjRefIdeal.nD Cert.AttnProjRefIdeal.τ).loc Cert.AttnProjRefIdeal.main_arg4) = m' ((c.tc : Thread Cert.AttnProjRefIdeal.nD Cert.AttnProjRefIdeal.τ).loc Cert.AttnProjRefIdeal.main_arg4))

def preserves_AttnDw_AttnDwIdeal : Prop :=
  True

def algebraic_AttnDwIdeal_AttnDwRefIdeal [hAttnDwIdeal : Cert.AttnDwIdeal.Facts] [hAttnDwRefIdeal : Cert.AttnDwRefIdeal.Facts] : Prop :=
  ∀ (m : (ℓ : Loc Cert.AttnDwIdeal.nD Cert.AttnDwIdeal.τ Cert.AttnDwIdeal.sig) → Buf (Elt Ideal) ℓ) (g : Dev Cert.AttnDwIdeal.nD → PrngReg)
    (m' : (ℓ : Loc Cert.AttnDwRefIdeal.nD Cert.AttnDwRefIdeal.τ Cert.AttnDwRefIdeal.sig) → Buf (Elt Ideal) ℓ) (g' : Dev Cert.AttnDwRefIdeal.nD → PrngReg), Pre_AttnDwIdeal m →
    (∀ c : Dev Cert.AttnDwIdeal.nD,
      m' ((c.tc : Thread Cert.AttnDwRefIdeal.nD Cert.AttnDwRefIdeal.τ).loc Cert.AttnDwRefIdeal.main_arg0) = m ((c.tc : Thread Cert.AttnDwIdeal.nD Cert.AttnDwIdeal.τ).loc Cert.AttnDwIdeal.main_arg0)
      ∧ m' ((c.tc : Thread Cert.AttnDwRefIdeal.nD Cert.AttnDwRefIdeal.τ).loc Cert.AttnDwRefIdeal.main_arg1) = m ((c.tc : Thread Cert.AttnDwIdeal.nD Cert.AttnDwIdeal.τ).loc Cert.AttnDwIdeal.main_arg1)
      ∧ m' ((c.tc : Thread Cert.AttnDwRefIdeal.nD Cert.AttnDwRefIdeal.τ).loc Cert.AttnDwRefIdeal.main_arg2) = m ((c.tc : Thread Cert.AttnDwIdeal.nD Cert.AttnDwIdeal.τ).loc Cert.AttnDwIdeal.main_arg2)
      ∧ m' ((c.tc : Thread Cert.AttnDwRefIdeal.nD Cert.AttnDwRefIdeal.τ).loc Cert.AttnDwRefIdeal.main_arg3) = m ((c.tc : Thread Cert.AttnDwIdeal.nD Cert.AttnDwIdeal.τ).loc Cert.AttnDwIdeal.main_arg3)
      ∧ m' ((c.tc : Thread Cert.AttnDwRefIdeal.nD Cert.AttnDwRefIdeal.τ).loc Cert.AttnDwRefIdeal.main_arg4) = m ((c.tc : Thread Cert.AttnDwIdeal.nD Cert.AttnDwIdeal.τ).loc Cert.AttnDwIdeal.main_arg4)
      ∧ m' ((c.tc : Thread Cert.AttnDwRefIdeal.nD Cert.AttnDwRefIdeal.τ).loc Cert.AttnDwRefIdeal.main_arg5) = m ((c.tc : Thread Cert.AttnDwIdeal.nD Cert.AttnDwIdeal.τ).loc Cert.AttnDwIdeal.main_arg5)) →
    ∃ (v0 : (c : Dev Cert.AttnDwIdeal.nD) → Buf (Elt Ideal) ((c.tc : Thread Cert.AttnDwIdeal.nD Cert.AttnDwIdeal.τ).loc Cert.AttnDwIdeal.main_v40_0)) (v1 : (c : Dev Cert.AttnDwIdeal.nD) → Buf (Elt Ideal) ((c.tc : Thread Cert.AttnDwIdeal.nD Cert.AttnDwIdeal.τ).loc Cert.AttnDwIdeal.main_v40_1)) (v2 : (c : Dev Cert.AttnDwIdeal.nD) → Buf (Elt Ideal) ((c.tc : Thread Cert.AttnDwIdeal.nD Cert.AttnDwIdeal.τ).loc Cert.AttnDwIdeal.main_v40_2)),
      θ_run (Cert.AttnDwIdeal.defs (F := Ideal)) (onTc (τ := Cert.AttnDwIdeal.τ) (Cert.AttnDwIdeal.main (F := Ideal))) ⟨m, fun _ => 0, g⟩ (fun r => ∀ c : Dev Cert.AttnDwIdeal.nD,
          r.2.mem ((c.tc : Thread Cert.AttnDwIdeal.nD Cert.AttnDwIdeal.τ).loc Cert.AttnDwIdeal.main_v40_0) = v0 c
          ∧ r.2.mem ((c.tc : Thread Cert.AttnDwIdeal.nD Cert.AttnDwIdeal.τ).loc Cert.AttnDwIdeal.main_v40_1) = v1 c
          ∧ r.2.mem ((c.tc : Thread Cert.AttnDwIdeal.nD Cert.AttnDwIdeal.τ).loc Cert.AttnDwIdeal.main_v40_2) = v2 c
          ∧ r.2.mem ((c.tc : Thread Cert.AttnDwIdeal.nD Cert.AttnDwIdeal.τ).loc Cert.AttnDwIdeal.main_arg0) = m ((c.tc : Thread Cert.AttnDwIdeal.nD Cert.AttnDwIdeal.τ).loc Cert.AttnDwIdeal.main_arg0)
          ∧ r.2.mem ((c.tc : Thread Cert.AttnDwIdeal.nD Cert.AttnDwIdeal.τ).loc Cert.AttnDwIdeal.main_arg1) = m ((c.tc : Thread Cert.AttnDwIdeal.nD Cert.AttnDwIdeal.τ).loc Cert.AttnDwIdeal.main_arg1)
          ∧ r.2.mem ((c.tc : Thread Cert.AttnDwIdeal.nD Cert.AttnDwIdeal.τ).loc Cert.AttnDwIdeal.main_arg2) = m ((c.tc : Thread Cert.AttnDwIdeal.nD Cert.AttnDwIdeal.τ).loc Cert.AttnDwIdeal.main_arg2)
          ∧ r.2.mem ((c.tc : Thread Cert.AttnDwIdeal.nD Cert.AttnDwIdeal.τ).loc Cert.AttnDwIdeal.main_arg3) = m ((c.tc : Thread Cert.AttnDwIdeal.nD Cert.AttnDwIdeal.τ).loc Cert.AttnDwIdeal.main_arg3)
          ∧ r.2.mem ((c.tc : Thread Cert.AttnDwIdeal.nD Cert.AttnDwIdeal.τ).loc Cert.AttnDwIdeal.main_arg4) = m ((c.tc : Thread Cert.AttnDwIdeal.nD Cert.AttnDwIdeal.τ).loc Cert.AttnDwIdeal.main_arg4)
          ∧ r.2.mem ((c.tc : Thread Cert.AttnDwIdeal.nD Cert.AttnDwIdeal.τ).loc Cert.AttnDwIdeal.main_arg5) = m ((c.tc : Thread Cert.AttnDwIdeal.nD Cert.AttnDwIdeal.τ).loc Cert.AttnDwIdeal.main_arg5))
      ∧ θ_run (Cert.AttnDwRefIdeal.defs (F := Ideal)) (onTc (τ := Cert.AttnDwRefIdeal.τ) (Cert.AttnDwRefIdeal.main (F := Ideal))) ⟨m', fun _ => 0, g'⟩ (fun r => ∀ c : Dev Cert.AttnDwRefIdeal.nD,
          r.2.mem ((c.tc : Thread Cert.AttnDwRefIdeal.nD Cert.AttnDwRefIdeal.τ).loc Cert.AttnDwRefIdeal.main_v86) = v0 c
          ∧ r.2.mem ((c.tc : Thread Cert.AttnDwRefIdeal.nD Cert.AttnDwRefIdeal.τ).loc Cert.AttnDwRefIdeal.main_v84) = v1 c
          ∧ r.2.mem ((c.tc : Thread Cert.AttnDwRefIdeal.nD Cert.AttnDwRefIdeal.τ).loc Cert.AttnDwRefIdeal.main_v59) = v2 c
          ∧ r.2.mem ((c.tc : Thread Cert.AttnDwRefIdeal.nD Cert.AttnDwRefIdeal.τ).loc Cert.AttnDwRefIdeal.main_arg0) = m' ((c.tc : Thread Cert.AttnDwRefIdeal.nD Cert.AttnDwRefIdeal.τ).loc Cert.AttnDwRefIdeal.main_arg0)
          ∧ r.2.mem ((c.tc : Thread Cert.AttnDwRefIdeal.nD Cert.AttnDwRefIdeal.τ).loc Cert.AttnDwRefIdeal.main_arg1) = m' ((c.tc : Thread Cert.AttnDwRefIdeal.nD Cert.AttnDwRefIdeal.τ).loc Cert.AttnDwRefIdeal.main_arg1)
          ∧ r.2.mem ((c.tc : Thread Cert.AttnDwRefIdeal.nD Cert.AttnDwRefIdeal.τ).loc Cert.AttnDwRefIdeal.main_arg2) = m' ((c.tc : Thread Cert.AttnDwRefIdeal.nD Cert.AttnDwRefIdeal.τ).loc Cert.AttnDwRefIdeal.main_arg2)
          ∧ r.2.mem ((c.tc : Thread Cert.AttnDwRefIdeal.nD Cert.AttnDwRefIdeal.τ).loc Cert.AttnDwRefIdeal.main_arg3) = m' ((c.tc : Thread Cert.AttnDwRefIdeal.nD Cert.AttnDwRefIdeal.τ).loc Cert.AttnDwRefIdeal.main_arg3)
          ∧ r.2.mem ((c.tc : Thread Cert.AttnDwRefIdeal.nD Cert.AttnDwRefIdeal.τ).loc Cert.AttnDwRefIdeal.main_arg4) = m' ((c.tc : Thread Cert.AttnDwRefIdeal.nD Cert.AttnDwRefIdeal.τ).loc Cert.AttnDwRefIdeal.main_arg4)
          ∧ r.2.mem ((c.tc : Thread Cert.AttnDwRefIdeal.nD Cert.AttnDwRefIdeal.τ).loc Cert.AttnDwRefIdeal.main_arg5) = m' ((c.tc : Thread Cert.AttnDwRefIdeal.nD Cert.AttnDwRefIdeal.τ).loc Cert.AttnDwRefIdeal.main_arg5))

def preserves_SmallAdamW_SmallAdamWIdeal : Prop :=
  True

def algebraic_SmallAdamWIdeal_SmallAdamWRefIdeal [hSmallAdamWIdeal : Cert.SmallAdamWIdeal.Facts] [hSmallAdamWRefIdeal : Cert.SmallAdamWRefIdeal.Facts] : Prop :=
  ∀ (m : (ℓ : Loc Cert.SmallAdamWIdeal.nD Cert.SmallAdamWIdeal.τ Cert.SmallAdamWIdeal.sig) → Buf (Elt Ideal) ℓ) (g : Dev Cert.SmallAdamWIdeal.nD → PrngReg)
    (m' : (ℓ : Loc Cert.SmallAdamWRefIdeal.nD Cert.SmallAdamWRefIdeal.τ Cert.SmallAdamWRefIdeal.sig) → Buf (Elt Ideal) ℓ) (g' : Dev Cert.SmallAdamWRefIdeal.nD → PrngReg), Pre_SmallAdamWIdeal m →
    (∀ c : Dev Cert.SmallAdamWIdeal.nD,
      m' ((c.tc : Thread Cert.SmallAdamWRefIdeal.nD Cert.SmallAdamWRefIdeal.τ).loc Cert.SmallAdamWRefIdeal.main_arg0) = m ((c.tc : Thread Cert.SmallAdamWIdeal.nD Cert.SmallAdamWIdeal.τ).loc Cert.SmallAdamWIdeal.main_arg0)
      ∧ m' ((c.tc : Thread Cert.SmallAdamWRefIdeal.nD Cert.SmallAdamWRefIdeal.τ).loc Cert.SmallAdamWRefIdeal.main_arg1) = m ((c.tc : Thread Cert.SmallAdamWIdeal.nD Cert.SmallAdamWIdeal.τ).loc Cert.SmallAdamWIdeal.main_arg1)
      ∧ m' ((c.tc : Thread Cert.SmallAdamWRefIdeal.nD Cert.SmallAdamWRefIdeal.τ).loc Cert.SmallAdamWRefIdeal.main_arg2) = m ((c.tc : Thread Cert.SmallAdamWIdeal.nD Cert.SmallAdamWIdeal.τ).loc Cert.SmallAdamWIdeal.main_arg2)
      ∧ m' ((c.tc : Thread Cert.SmallAdamWRefIdeal.nD Cert.SmallAdamWRefIdeal.τ).loc Cert.SmallAdamWRefIdeal.main_arg3) = m ((c.tc : Thread Cert.SmallAdamWIdeal.nD Cert.SmallAdamWIdeal.τ).loc Cert.SmallAdamWIdeal.main_arg3)) →
    ∃ (v0 : (c : Dev Cert.SmallAdamWIdeal.nD) → Buf (Elt Ideal) ((c.tc : Thread Cert.SmallAdamWIdeal.nD Cert.SmallAdamWIdeal.τ).loc Cert.SmallAdamWIdeal.main_v0_0)) (v1 : (c : Dev Cert.SmallAdamWIdeal.nD) → Buf (Elt Ideal) ((c.tc : Thread Cert.SmallAdamWIdeal.nD Cert.SmallAdamWIdeal.τ).loc Cert.SmallAdamWIdeal.main_v0_1)) (v2 : (c : Dev Cert.SmallAdamWIdeal.nD) → Buf (Elt Ideal) ((c.tc : Thread Cert.SmallAdamWIdeal.nD Cert.SmallAdamWIdeal.τ).loc Cert.SmallAdamWIdeal.main_v0_2)) (v3 : (c : Dev Cert.SmallAdamWIdeal.nD) → Buf (Elt Ideal) ((c.tc : Thread Cert.SmallAdamWIdeal.nD Cert.SmallAdamWIdeal.τ).loc Cert.SmallAdamWIdeal.main_v0_3)),
      θ_run (Cert.SmallAdamWIdeal.defs (F := Ideal)) (onTc (τ := Cert.SmallAdamWIdeal.τ) (Cert.SmallAdamWIdeal.main (F := Ideal))) ⟨m, fun _ => 0, g⟩ (fun r => ∀ c : Dev Cert.SmallAdamWIdeal.nD,
          r.2.mem ((c.tc : Thread Cert.SmallAdamWIdeal.nD Cert.SmallAdamWIdeal.τ).loc Cert.SmallAdamWIdeal.main_v0_0) = v0 c
          ∧ r.2.mem ((c.tc : Thread Cert.SmallAdamWIdeal.nD Cert.SmallAdamWIdeal.τ).loc Cert.SmallAdamWIdeal.main_v0_1) = v1 c
          ∧ r.2.mem ((c.tc : Thread Cert.SmallAdamWIdeal.nD Cert.SmallAdamWIdeal.τ).loc Cert.SmallAdamWIdeal.main_v0_2) = v2 c
          ∧ r.2.mem ((c.tc : Thread Cert.SmallAdamWIdeal.nD Cert.SmallAdamWIdeal.τ).loc Cert.SmallAdamWIdeal.main_v0_3) = v3 c
          ∧ r.2.mem ((c.tc : Thread Cert.SmallAdamWIdeal.nD Cert.SmallAdamWIdeal.τ).loc Cert.SmallAdamWIdeal.main_arg0) = m ((c.tc : Thread Cert.SmallAdamWIdeal.nD Cert.SmallAdamWIdeal.τ).loc Cert.SmallAdamWIdeal.main_arg0)
          ∧ r.2.mem ((c.tc : Thread Cert.SmallAdamWIdeal.nD Cert.SmallAdamWIdeal.τ).loc Cert.SmallAdamWIdeal.main_arg1) = m ((c.tc : Thread Cert.SmallAdamWIdeal.nD Cert.SmallAdamWIdeal.τ).loc Cert.SmallAdamWIdeal.main_arg1)
          ∧ r.2.mem ((c.tc : Thread Cert.SmallAdamWIdeal.nD Cert.SmallAdamWIdeal.τ).loc Cert.SmallAdamWIdeal.main_arg2) = m ((c.tc : Thread Cert.SmallAdamWIdeal.nD Cert.SmallAdamWIdeal.τ).loc Cert.SmallAdamWIdeal.main_arg2)
          ∧ r.2.mem ((c.tc : Thread Cert.SmallAdamWIdeal.nD Cert.SmallAdamWIdeal.τ).loc Cert.SmallAdamWIdeal.main_arg3) = m ((c.tc : Thread Cert.SmallAdamWIdeal.nD Cert.SmallAdamWIdeal.τ).loc Cert.SmallAdamWIdeal.main_arg3))
      ∧ θ_run (Cert.SmallAdamWRefIdeal.defs (F := Ideal)) (onTc (τ := Cert.SmallAdamWRefIdeal.τ) (Cert.SmallAdamWRefIdeal.main (F := Ideal))) ⟨m', fun _ => 0, g'⟩ (fun r => ∀ c : Dev Cert.SmallAdamWRefIdeal.nD,
          r.2.mem ((c.tc : Thread Cert.SmallAdamWRefIdeal.nD Cert.SmallAdamWRefIdeal.τ).loc Cert.SmallAdamWRefIdeal.main_v0) = v0 c
          ∧ r.2.mem ((c.tc : Thread Cert.SmallAdamWRefIdeal.nD Cert.SmallAdamWRefIdeal.τ).loc Cert.SmallAdamWRefIdeal.main_v24) = v1 c
          ∧ r.2.mem ((c.tc : Thread Cert.SmallAdamWRefIdeal.nD Cert.SmallAdamWRefIdeal.τ).loc Cert.SmallAdamWRefIdeal.main_v5) = v2 c
          ∧ r.2.mem ((c.tc : Thread Cert.SmallAdamWRefIdeal.nD Cert.SmallAdamWRefIdeal.τ).loc Cert.SmallAdamWRefIdeal.main_v11) = v3 c
          ∧ r.2.mem ((c.tc : Thread Cert.SmallAdamWRefIdeal.nD Cert.SmallAdamWRefIdeal.τ).loc Cert.SmallAdamWRefIdeal.main_arg0) = m' ((c.tc : Thread Cert.SmallAdamWRefIdeal.nD Cert.SmallAdamWRefIdeal.τ).loc Cert.SmallAdamWRefIdeal.main_arg0)
          ∧ r.2.mem ((c.tc : Thread Cert.SmallAdamWRefIdeal.nD Cert.SmallAdamWRefIdeal.τ).loc Cert.SmallAdamWRefIdeal.main_arg1) = m' ((c.tc : Thread Cert.SmallAdamWRefIdeal.nD Cert.SmallAdamWRefIdeal.τ).loc Cert.SmallAdamWRefIdeal.main_arg1)
          ∧ r.2.mem ((c.tc : Thread Cert.SmallAdamWRefIdeal.nD Cert.SmallAdamWRefIdeal.τ).loc Cert.SmallAdamWRefIdeal.main_arg2) = m' ((c.tc : Thread Cert.SmallAdamWRefIdeal.nD Cert.SmallAdamWRefIdeal.τ).loc Cert.SmallAdamWRefIdeal.main_arg2)
          ∧ r.2.mem ((c.tc : Thread Cert.SmallAdamWRefIdeal.nD Cert.SmallAdamWRefIdeal.τ).loc Cert.SmallAdamWRefIdeal.main_arg3) = m' ((c.tc : Thread Cert.SmallAdamWRefIdeal.nD Cert.SmallAdamWRefIdeal.τ).loc Cert.SmallAdamWRefIdeal.main_arg3))

def preserves_AttnInAdamW_AttnInAdamWIdeal : Prop :=
  True

def algebraic_AttnInAdamWIdeal_AttnInAdamWRefIdeal [hAttnInAdamWIdeal : Cert.AttnInAdamWIdeal.Facts] [hAttnInAdamWRefIdeal : Cert.AttnInAdamWRefIdeal.Facts] : Prop :=
  ∀ (m : (ℓ : Loc Cert.AttnInAdamWIdeal.nD Cert.AttnInAdamWIdeal.τ Cert.AttnInAdamWIdeal.sig) → Buf (Elt Ideal) ℓ) (g : Dev Cert.AttnInAdamWIdeal.nD → PrngReg)
    (m' : (ℓ : Loc Cert.AttnInAdamWRefIdeal.nD Cert.AttnInAdamWRefIdeal.τ Cert.AttnInAdamWRefIdeal.sig) → Buf (Elt Ideal) ℓ) (g' : Dev Cert.AttnInAdamWRefIdeal.nD → PrngReg), Pre_AttnInAdamWIdeal m →
    (∀ c : Dev Cert.AttnInAdamWIdeal.nD,
      m' ((c.tc : Thread Cert.AttnInAdamWRefIdeal.nD Cert.AttnInAdamWRefIdeal.τ).loc Cert.AttnInAdamWRefIdeal.main_arg0) = m ((c.tc : Thread Cert.AttnInAdamWIdeal.nD Cert.AttnInAdamWIdeal.τ).loc Cert.AttnInAdamWIdeal.main_arg0)
      ∧ m' ((c.tc : Thread Cert.AttnInAdamWRefIdeal.nD Cert.AttnInAdamWRefIdeal.τ).loc Cert.AttnInAdamWRefIdeal.main_arg1) = m ((c.tc : Thread Cert.AttnInAdamWIdeal.nD Cert.AttnInAdamWIdeal.τ).loc Cert.AttnInAdamWIdeal.main_arg1)
      ∧ m' ((c.tc : Thread Cert.AttnInAdamWRefIdeal.nD Cert.AttnInAdamWRefIdeal.τ).loc Cert.AttnInAdamWRefIdeal.main_arg2) = m ((c.tc : Thread Cert.AttnInAdamWIdeal.nD Cert.AttnInAdamWIdeal.τ).loc Cert.AttnInAdamWIdeal.main_arg2)
      ∧ m' ((c.tc : Thread Cert.AttnInAdamWRefIdeal.nD Cert.AttnInAdamWRefIdeal.τ).loc Cert.AttnInAdamWRefIdeal.main_arg3) = m ((c.tc : Thread Cert.AttnInAdamWIdeal.nD Cert.AttnInAdamWIdeal.τ).loc Cert.AttnInAdamWIdeal.main_arg3)
      ∧ m' ((c.tc : Thread Cert.AttnInAdamWRefIdeal.nD Cert.AttnInAdamWRefIdeal.τ).loc Cert.AttnInAdamWRefIdeal.main_arg4) = m ((c.tc : Thread Cert.AttnInAdamWIdeal.nD Cert.AttnInAdamWIdeal.τ).loc Cert.AttnInAdamWIdeal.main_arg4)) →
    ∃ (v0 : (c : Dev Cert.AttnInAdamWIdeal.nD) → Buf (Elt Ideal) ((c.tc : Thread Cert.AttnInAdamWIdeal.nD Cert.AttnInAdamWIdeal.τ).loc Cert.AttnInAdamWIdeal.main_v0_0)) (v1 : (c : Dev Cert.AttnInAdamWIdeal.nD) → Buf (Elt Ideal) ((c.tc : Thread Cert.AttnInAdamWIdeal.nD Cert.AttnInAdamWIdeal.τ).loc Cert.AttnInAdamWIdeal.main_v0_1)) (v2 : (c : Dev Cert.AttnInAdamWIdeal.nD) → Buf (Elt Ideal) ((c.tc : Thread Cert.AttnInAdamWIdeal.nD Cert.AttnInAdamWIdeal.τ).loc Cert.AttnInAdamWIdeal.main_v0_2)) (v3 : (c : Dev Cert.AttnInAdamWIdeal.nD) → Buf (Elt Ideal) ((c.tc : Thread Cert.AttnInAdamWIdeal.nD Cert.AttnInAdamWIdeal.τ).loc Cert.AttnInAdamWIdeal.main_v0_3)),
      θ_run (Cert.AttnInAdamWIdeal.defs (F := Ideal)) (onTc (τ := Cert.AttnInAdamWIdeal.τ) (Cert.AttnInAdamWIdeal.main (F := Ideal))) ⟨m, fun _ => 0, g⟩ (fun r => ∀ c : Dev Cert.AttnInAdamWIdeal.nD,
          r.2.mem ((c.tc : Thread Cert.AttnInAdamWIdeal.nD Cert.AttnInAdamWIdeal.τ).loc Cert.AttnInAdamWIdeal.main_v0_0) = v0 c
          ∧ r.2.mem ((c.tc : Thread Cert.AttnInAdamWIdeal.nD Cert.AttnInAdamWIdeal.τ).loc Cert.AttnInAdamWIdeal.main_v0_1) = v1 c
          ∧ r.2.mem ((c.tc : Thread Cert.AttnInAdamWIdeal.nD Cert.AttnInAdamWIdeal.τ).loc Cert.AttnInAdamWIdeal.main_v0_2) = v2 c
          ∧ r.2.mem ((c.tc : Thread Cert.AttnInAdamWIdeal.nD Cert.AttnInAdamWIdeal.τ).loc Cert.AttnInAdamWIdeal.main_v0_3) = v3 c
          ∧ r.2.mem ((c.tc : Thread Cert.AttnInAdamWIdeal.nD Cert.AttnInAdamWIdeal.τ).loc Cert.AttnInAdamWIdeal.main_arg0) = m ((c.tc : Thread Cert.AttnInAdamWIdeal.nD Cert.AttnInAdamWIdeal.τ).loc Cert.AttnInAdamWIdeal.main_arg0)
          ∧ r.2.mem ((c.tc : Thread Cert.AttnInAdamWIdeal.nD Cert.AttnInAdamWIdeal.τ).loc Cert.AttnInAdamWIdeal.main_arg1) = m ((c.tc : Thread Cert.AttnInAdamWIdeal.nD Cert.AttnInAdamWIdeal.τ).loc Cert.AttnInAdamWIdeal.main_arg1)
          ∧ r.2.mem ((c.tc : Thread Cert.AttnInAdamWIdeal.nD Cert.AttnInAdamWIdeal.τ).loc Cert.AttnInAdamWIdeal.main_arg2) = m ((c.tc : Thread Cert.AttnInAdamWIdeal.nD Cert.AttnInAdamWIdeal.τ).loc Cert.AttnInAdamWIdeal.main_arg2)
          ∧ r.2.mem ((c.tc : Thread Cert.AttnInAdamWIdeal.nD Cert.AttnInAdamWIdeal.τ).loc Cert.AttnInAdamWIdeal.main_arg3) = m ((c.tc : Thread Cert.AttnInAdamWIdeal.nD Cert.AttnInAdamWIdeal.τ).loc Cert.AttnInAdamWIdeal.main_arg3)
          ∧ r.2.mem ((c.tc : Thread Cert.AttnInAdamWIdeal.nD Cert.AttnInAdamWIdeal.τ).loc Cert.AttnInAdamWIdeal.main_arg4) = m ((c.tc : Thread Cert.AttnInAdamWIdeal.nD Cert.AttnInAdamWIdeal.τ).loc Cert.AttnInAdamWIdeal.main_arg4))
      ∧ θ_run (Cert.AttnInAdamWRefIdeal.defs (F := Ideal)) (onTc (τ := Cert.AttnInAdamWRefIdeal.τ) (Cert.AttnInAdamWRefIdeal.main (F := Ideal))) ⟨m', fun _ => 0, g'⟩ (fun r => ∀ c : Dev Cert.AttnInAdamWRefIdeal.nD,
          r.2.mem ((c.tc : Thread Cert.AttnInAdamWRefIdeal.nD Cert.AttnInAdamWRefIdeal.τ).loc Cert.AttnInAdamWRefIdeal.main_v0) = v0 c
          ∧ r.2.mem ((c.tc : Thread Cert.AttnInAdamWRefIdeal.nD Cert.AttnInAdamWRefIdeal.τ).loc Cert.AttnInAdamWRefIdeal.main_v24) = v1 c
          ∧ r.2.mem ((c.tc : Thread Cert.AttnInAdamWRefIdeal.nD Cert.AttnInAdamWRefIdeal.τ).loc Cert.AttnInAdamWRefIdeal.main_v5) = v2 c
          ∧ r.2.mem ((c.tc : Thread Cert.AttnInAdamWRefIdeal.nD Cert.AttnInAdamWRefIdeal.τ).loc Cert.AttnInAdamWRefIdeal.main_v11) = v3 c
          ∧ r.2.mem ((c.tc : Thread Cert.AttnInAdamWRefIdeal.nD Cert.AttnInAdamWRefIdeal.τ).loc Cert.AttnInAdamWRefIdeal.main_arg0) = m' ((c.tc : Thread Cert.AttnInAdamWRefIdeal.nD Cert.AttnInAdamWRefIdeal.τ).loc Cert.AttnInAdamWRefIdeal.main_arg0)
          ∧ r.2.mem ((c.tc : Thread Cert.AttnInAdamWRefIdeal.nD Cert.AttnInAdamWRefIdeal.τ).loc Cert.AttnInAdamWRefIdeal.main_arg1) = m' ((c.tc : Thread Cert.AttnInAdamWRefIdeal.nD Cert.AttnInAdamWRefIdeal.τ).loc Cert.AttnInAdamWRefIdeal.main_arg1)
          ∧ r.2.mem ((c.tc : Thread Cert.AttnInAdamWRefIdeal.nD Cert.AttnInAdamWRefIdeal.τ).loc Cert.AttnInAdamWRefIdeal.main_arg2) = m' ((c.tc : Thread Cert.AttnInAdamWRefIdeal.nD Cert.AttnInAdamWRefIdeal.τ).loc Cert.AttnInAdamWRefIdeal.main_arg2)
          ∧ r.2.mem ((c.tc : Thread Cert.AttnInAdamWRefIdeal.nD Cert.AttnInAdamWRefIdeal.τ).loc Cert.AttnInAdamWRefIdeal.main_arg3) = m' ((c.tc : Thread Cert.AttnInAdamWRefIdeal.nD Cert.AttnInAdamWRefIdeal.τ).loc Cert.AttnInAdamWRefIdeal.main_arg3)
          ∧ r.2.mem ((c.tc : Thread Cert.AttnInAdamWRefIdeal.nD Cert.AttnInAdamWRefIdeal.τ).loc Cert.AttnInAdamWRefIdeal.main_arg4) = m' ((c.tc : Thread Cert.AttnInAdamWRefIdeal.nD Cert.AttnInAdamWRefIdeal.τ).loc Cert.AttnInAdamWRefIdeal.main_arg4))

def preserves_RecInAdamW_RecInAdamWIdeal : Prop :=
  True

def algebraic_RecInAdamWIdeal_RecInAdamWRefIdeal [hRecInAdamWIdeal : Cert.RecInAdamWIdeal.Facts] [hRecInAdamWRefIdeal : Cert.RecInAdamWRefIdeal.Facts] : Prop :=
  ∀ (m : (ℓ : Loc Cert.RecInAdamWIdeal.nD Cert.RecInAdamWIdeal.τ Cert.RecInAdamWIdeal.sig) → Buf (Elt Ideal) ℓ) (g : Dev Cert.RecInAdamWIdeal.nD → PrngReg)
    (m' : (ℓ : Loc Cert.RecInAdamWRefIdeal.nD Cert.RecInAdamWRefIdeal.τ Cert.RecInAdamWRefIdeal.sig) → Buf (Elt Ideal) ℓ) (g' : Dev Cert.RecInAdamWRefIdeal.nD → PrngReg), Pre_RecInAdamWIdeal m →
    (∀ c : Dev Cert.RecInAdamWIdeal.nD,
      m' ((c.tc : Thread Cert.RecInAdamWRefIdeal.nD Cert.RecInAdamWRefIdeal.τ).loc Cert.RecInAdamWRefIdeal.main_arg0) = m ((c.tc : Thread Cert.RecInAdamWIdeal.nD Cert.RecInAdamWIdeal.τ).loc Cert.RecInAdamWIdeal.main_arg0)
      ∧ m' ((c.tc : Thread Cert.RecInAdamWRefIdeal.nD Cert.RecInAdamWRefIdeal.τ).loc Cert.RecInAdamWRefIdeal.main_arg1) = m ((c.tc : Thread Cert.RecInAdamWIdeal.nD Cert.RecInAdamWIdeal.τ).loc Cert.RecInAdamWIdeal.main_arg1)
      ∧ m' ((c.tc : Thread Cert.RecInAdamWRefIdeal.nD Cert.RecInAdamWRefIdeal.τ).loc Cert.RecInAdamWRefIdeal.main_arg2) = m ((c.tc : Thread Cert.RecInAdamWIdeal.nD Cert.RecInAdamWIdeal.τ).loc Cert.RecInAdamWIdeal.main_arg2)
      ∧ m' ((c.tc : Thread Cert.RecInAdamWRefIdeal.nD Cert.RecInAdamWRefIdeal.τ).loc Cert.RecInAdamWRefIdeal.main_arg3) = m ((c.tc : Thread Cert.RecInAdamWIdeal.nD Cert.RecInAdamWIdeal.τ).loc Cert.RecInAdamWIdeal.main_arg3)
      ∧ m' ((c.tc : Thread Cert.RecInAdamWRefIdeal.nD Cert.RecInAdamWRefIdeal.τ).loc Cert.RecInAdamWRefIdeal.main_arg4) = m ((c.tc : Thread Cert.RecInAdamWIdeal.nD Cert.RecInAdamWIdeal.τ).loc Cert.RecInAdamWIdeal.main_arg4)) →
    ∃ (v0 : (c : Dev Cert.RecInAdamWIdeal.nD) → Buf (Elt Ideal) ((c.tc : Thread Cert.RecInAdamWIdeal.nD Cert.RecInAdamWIdeal.τ).loc Cert.RecInAdamWIdeal.main_v0_0)) (v1 : (c : Dev Cert.RecInAdamWIdeal.nD) → Buf (Elt Ideal) ((c.tc : Thread Cert.RecInAdamWIdeal.nD Cert.RecInAdamWIdeal.τ).loc Cert.RecInAdamWIdeal.main_v0_1)) (v2 : (c : Dev Cert.RecInAdamWIdeal.nD) → Buf (Elt Ideal) ((c.tc : Thread Cert.RecInAdamWIdeal.nD Cert.RecInAdamWIdeal.τ).loc Cert.RecInAdamWIdeal.main_v0_2)) (v3 : (c : Dev Cert.RecInAdamWIdeal.nD) → Buf (Elt Ideal) ((c.tc : Thread Cert.RecInAdamWIdeal.nD Cert.RecInAdamWIdeal.τ).loc Cert.RecInAdamWIdeal.main_v0_3)),
      θ_run (Cert.RecInAdamWIdeal.defs (F := Ideal)) (onTc (τ := Cert.RecInAdamWIdeal.τ) (Cert.RecInAdamWIdeal.main (F := Ideal))) ⟨m, fun _ => 0, g⟩ (fun r => ∀ c : Dev Cert.RecInAdamWIdeal.nD,
          r.2.mem ((c.tc : Thread Cert.RecInAdamWIdeal.nD Cert.RecInAdamWIdeal.τ).loc Cert.RecInAdamWIdeal.main_v0_0) = v0 c
          ∧ r.2.mem ((c.tc : Thread Cert.RecInAdamWIdeal.nD Cert.RecInAdamWIdeal.τ).loc Cert.RecInAdamWIdeal.main_v0_1) = v1 c
          ∧ r.2.mem ((c.tc : Thread Cert.RecInAdamWIdeal.nD Cert.RecInAdamWIdeal.τ).loc Cert.RecInAdamWIdeal.main_v0_2) = v2 c
          ∧ r.2.mem ((c.tc : Thread Cert.RecInAdamWIdeal.nD Cert.RecInAdamWIdeal.τ).loc Cert.RecInAdamWIdeal.main_v0_3) = v3 c
          ∧ r.2.mem ((c.tc : Thread Cert.RecInAdamWIdeal.nD Cert.RecInAdamWIdeal.τ).loc Cert.RecInAdamWIdeal.main_arg0) = m ((c.tc : Thread Cert.RecInAdamWIdeal.nD Cert.RecInAdamWIdeal.τ).loc Cert.RecInAdamWIdeal.main_arg0)
          ∧ r.2.mem ((c.tc : Thread Cert.RecInAdamWIdeal.nD Cert.RecInAdamWIdeal.τ).loc Cert.RecInAdamWIdeal.main_arg1) = m ((c.tc : Thread Cert.RecInAdamWIdeal.nD Cert.RecInAdamWIdeal.τ).loc Cert.RecInAdamWIdeal.main_arg1)
          ∧ r.2.mem ((c.tc : Thread Cert.RecInAdamWIdeal.nD Cert.RecInAdamWIdeal.τ).loc Cert.RecInAdamWIdeal.main_arg2) = m ((c.tc : Thread Cert.RecInAdamWIdeal.nD Cert.RecInAdamWIdeal.τ).loc Cert.RecInAdamWIdeal.main_arg2)
          ∧ r.2.mem ((c.tc : Thread Cert.RecInAdamWIdeal.nD Cert.RecInAdamWIdeal.τ).loc Cert.RecInAdamWIdeal.main_arg3) = m ((c.tc : Thread Cert.RecInAdamWIdeal.nD Cert.RecInAdamWIdeal.τ).loc Cert.RecInAdamWIdeal.main_arg3)
          ∧ r.2.mem ((c.tc : Thread Cert.RecInAdamWIdeal.nD Cert.RecInAdamWIdeal.τ).loc Cert.RecInAdamWIdeal.main_arg4) = m ((c.tc : Thread Cert.RecInAdamWIdeal.nD Cert.RecInAdamWIdeal.τ).loc Cert.RecInAdamWIdeal.main_arg4))
      ∧ θ_run (Cert.RecInAdamWRefIdeal.defs (F := Ideal)) (onTc (τ := Cert.RecInAdamWRefIdeal.τ) (Cert.RecInAdamWRefIdeal.main (F := Ideal))) ⟨m', fun _ => 0, g'⟩ (fun r => ∀ c : Dev Cert.RecInAdamWRefIdeal.nD,
          r.2.mem ((c.tc : Thread Cert.RecInAdamWRefIdeal.nD Cert.RecInAdamWRefIdeal.τ).loc Cert.RecInAdamWRefIdeal.main_v0) = v0 c
          ∧ r.2.mem ((c.tc : Thread Cert.RecInAdamWRefIdeal.nD Cert.RecInAdamWRefIdeal.τ).loc Cert.RecInAdamWRefIdeal.main_v24) = v1 c
          ∧ r.2.mem ((c.tc : Thread Cert.RecInAdamWRefIdeal.nD Cert.RecInAdamWRefIdeal.τ).loc Cert.RecInAdamWRefIdeal.main_v5) = v2 c
          ∧ r.2.mem ((c.tc : Thread Cert.RecInAdamWRefIdeal.nD Cert.RecInAdamWRefIdeal.τ).loc Cert.RecInAdamWRefIdeal.main_v11) = v3 c
          ∧ r.2.mem ((c.tc : Thread Cert.RecInAdamWRefIdeal.nD Cert.RecInAdamWRefIdeal.τ).loc Cert.RecInAdamWRefIdeal.main_arg0) = m' ((c.tc : Thread Cert.RecInAdamWRefIdeal.nD Cert.RecInAdamWRefIdeal.τ).loc Cert.RecInAdamWRefIdeal.main_arg0)
          ∧ r.2.mem ((c.tc : Thread Cert.RecInAdamWRefIdeal.nD Cert.RecInAdamWRefIdeal.τ).loc Cert.RecInAdamWRefIdeal.main_arg1) = m' ((c.tc : Thread Cert.RecInAdamWRefIdeal.nD Cert.RecInAdamWRefIdeal.τ).loc Cert.RecInAdamWRefIdeal.main_arg1)
          ∧ r.2.mem ((c.tc : Thread Cert.RecInAdamWRefIdeal.nD Cert.RecInAdamWRefIdeal.τ).loc Cert.RecInAdamWRefIdeal.main_arg2) = m' ((c.tc : Thread Cert.RecInAdamWRefIdeal.nD Cert.RecInAdamWRefIdeal.τ).loc Cert.RecInAdamWRefIdeal.main_arg2)
          ∧ r.2.mem ((c.tc : Thread Cert.RecInAdamWRefIdeal.nD Cert.RecInAdamWRefIdeal.τ).loc Cert.RecInAdamWRefIdeal.main_arg3) = m' ((c.tc : Thread Cert.RecInAdamWRefIdeal.nD Cert.RecInAdamWRefIdeal.τ).loc Cert.RecInAdamWRefIdeal.main_arg3)
          ∧ r.2.mem ((c.tc : Thread Cert.RecInAdamWRefIdeal.nD Cert.RecInAdamWRefIdeal.τ).loc Cert.RecInAdamWRefIdeal.main_arg4) = m' ((c.tc : Thread Cert.RecInAdamWRefIdeal.nD Cert.RecInAdamWRefIdeal.τ).loc Cert.RecInAdamWRefIdeal.main_arg4))

def preserves_OutAdamW_OutAdamWIdeal : Prop :=
  True

def algebraic_OutAdamWIdeal_OutAdamWRefIdeal [hOutAdamWIdeal : Cert.OutAdamWIdeal.Facts] [hOutAdamWRefIdeal : Cert.OutAdamWRefIdeal.Facts] : Prop :=
  ∀ (m : (ℓ : Loc Cert.OutAdamWIdeal.nD Cert.OutAdamWIdeal.τ Cert.OutAdamWIdeal.sig) → Buf (Elt Ideal) ℓ) (g : Dev Cert.OutAdamWIdeal.nD → PrngReg)
    (m' : (ℓ : Loc Cert.OutAdamWRefIdeal.nD Cert.OutAdamWRefIdeal.τ Cert.OutAdamWRefIdeal.sig) → Buf (Elt Ideal) ℓ) (g' : Dev Cert.OutAdamWRefIdeal.nD → PrngReg), Pre_OutAdamWIdeal m →
    (∀ c : Dev Cert.OutAdamWIdeal.nD,
      m' ((c.tc : Thread Cert.OutAdamWRefIdeal.nD Cert.OutAdamWRefIdeal.τ).loc Cert.OutAdamWRefIdeal.main_arg0) = m ((c.tc : Thread Cert.OutAdamWIdeal.nD Cert.OutAdamWIdeal.τ).loc Cert.OutAdamWIdeal.main_arg0)
      ∧ m' ((c.tc : Thread Cert.OutAdamWRefIdeal.nD Cert.OutAdamWRefIdeal.τ).loc Cert.OutAdamWRefIdeal.main_arg1) = m ((c.tc : Thread Cert.OutAdamWIdeal.nD Cert.OutAdamWIdeal.τ).loc Cert.OutAdamWIdeal.main_arg1)
      ∧ m' ((c.tc : Thread Cert.OutAdamWRefIdeal.nD Cert.OutAdamWRefIdeal.τ).loc Cert.OutAdamWRefIdeal.main_arg2) = m ((c.tc : Thread Cert.OutAdamWIdeal.nD Cert.OutAdamWIdeal.τ).loc Cert.OutAdamWIdeal.main_arg2)
      ∧ m' ((c.tc : Thread Cert.OutAdamWRefIdeal.nD Cert.OutAdamWRefIdeal.τ).loc Cert.OutAdamWRefIdeal.main_arg3) = m ((c.tc : Thread Cert.OutAdamWIdeal.nD Cert.OutAdamWIdeal.τ).loc Cert.OutAdamWIdeal.main_arg3)
      ∧ m' ((c.tc : Thread Cert.OutAdamWRefIdeal.nD Cert.OutAdamWRefIdeal.τ).loc Cert.OutAdamWRefIdeal.main_arg4) = m ((c.tc : Thread Cert.OutAdamWIdeal.nD Cert.OutAdamWIdeal.τ).loc Cert.OutAdamWIdeal.main_arg4)) →
    ∃ (v0 : (c : Dev Cert.OutAdamWIdeal.nD) → Buf (Elt Ideal) ((c.tc : Thread Cert.OutAdamWIdeal.nD Cert.OutAdamWIdeal.τ).loc Cert.OutAdamWIdeal.main_v0_0)) (v1 : (c : Dev Cert.OutAdamWIdeal.nD) → Buf (Elt Ideal) ((c.tc : Thread Cert.OutAdamWIdeal.nD Cert.OutAdamWIdeal.τ).loc Cert.OutAdamWIdeal.main_v0_1)) (v2 : (c : Dev Cert.OutAdamWIdeal.nD) → Buf (Elt Ideal) ((c.tc : Thread Cert.OutAdamWIdeal.nD Cert.OutAdamWIdeal.τ).loc Cert.OutAdamWIdeal.main_v0_2)) (v3 : (c : Dev Cert.OutAdamWIdeal.nD) → Buf (Elt Ideal) ((c.tc : Thread Cert.OutAdamWIdeal.nD Cert.OutAdamWIdeal.τ).loc Cert.OutAdamWIdeal.main_v0_3)),
      θ_run (Cert.OutAdamWIdeal.defs (F := Ideal)) (onTc (τ := Cert.OutAdamWIdeal.τ) (Cert.OutAdamWIdeal.main (F := Ideal))) ⟨m, fun _ => 0, g⟩ (fun r => ∀ c : Dev Cert.OutAdamWIdeal.nD,
          r.2.mem ((c.tc : Thread Cert.OutAdamWIdeal.nD Cert.OutAdamWIdeal.τ).loc Cert.OutAdamWIdeal.main_v0_0) = v0 c
          ∧ r.2.mem ((c.tc : Thread Cert.OutAdamWIdeal.nD Cert.OutAdamWIdeal.τ).loc Cert.OutAdamWIdeal.main_v0_1) = v1 c
          ∧ r.2.mem ((c.tc : Thread Cert.OutAdamWIdeal.nD Cert.OutAdamWIdeal.τ).loc Cert.OutAdamWIdeal.main_v0_2) = v2 c
          ∧ r.2.mem ((c.tc : Thread Cert.OutAdamWIdeal.nD Cert.OutAdamWIdeal.τ).loc Cert.OutAdamWIdeal.main_v0_3) = v3 c
          ∧ r.2.mem ((c.tc : Thread Cert.OutAdamWIdeal.nD Cert.OutAdamWIdeal.τ).loc Cert.OutAdamWIdeal.main_arg0) = m ((c.tc : Thread Cert.OutAdamWIdeal.nD Cert.OutAdamWIdeal.τ).loc Cert.OutAdamWIdeal.main_arg0)
          ∧ r.2.mem ((c.tc : Thread Cert.OutAdamWIdeal.nD Cert.OutAdamWIdeal.τ).loc Cert.OutAdamWIdeal.main_arg1) = m ((c.tc : Thread Cert.OutAdamWIdeal.nD Cert.OutAdamWIdeal.τ).loc Cert.OutAdamWIdeal.main_arg1)
          ∧ r.2.mem ((c.tc : Thread Cert.OutAdamWIdeal.nD Cert.OutAdamWIdeal.τ).loc Cert.OutAdamWIdeal.main_arg2) = m ((c.tc : Thread Cert.OutAdamWIdeal.nD Cert.OutAdamWIdeal.τ).loc Cert.OutAdamWIdeal.main_arg2)
          ∧ r.2.mem ((c.tc : Thread Cert.OutAdamWIdeal.nD Cert.OutAdamWIdeal.τ).loc Cert.OutAdamWIdeal.main_arg3) = m ((c.tc : Thread Cert.OutAdamWIdeal.nD Cert.OutAdamWIdeal.τ).loc Cert.OutAdamWIdeal.main_arg3)
          ∧ r.2.mem ((c.tc : Thread Cert.OutAdamWIdeal.nD Cert.OutAdamWIdeal.τ).loc Cert.OutAdamWIdeal.main_arg4) = m ((c.tc : Thread Cert.OutAdamWIdeal.nD Cert.OutAdamWIdeal.τ).loc Cert.OutAdamWIdeal.main_arg4))
      ∧ θ_run (Cert.OutAdamWRefIdeal.defs (F := Ideal)) (onTc (τ := Cert.OutAdamWRefIdeal.τ) (Cert.OutAdamWRefIdeal.main (F := Ideal))) ⟨m', fun _ => 0, g'⟩ (fun r => ∀ c : Dev Cert.OutAdamWRefIdeal.nD,
          r.2.mem ((c.tc : Thread Cert.OutAdamWRefIdeal.nD Cert.OutAdamWRefIdeal.τ).loc Cert.OutAdamWRefIdeal.main_v0) = v0 c
          ∧ r.2.mem ((c.tc : Thread Cert.OutAdamWRefIdeal.nD Cert.OutAdamWRefIdeal.τ).loc Cert.OutAdamWRefIdeal.main_v24) = v1 c
          ∧ r.2.mem ((c.tc : Thread Cert.OutAdamWRefIdeal.nD Cert.OutAdamWRefIdeal.τ).loc Cert.OutAdamWRefIdeal.main_v5) = v2 c
          ∧ r.2.mem ((c.tc : Thread Cert.OutAdamWRefIdeal.nD Cert.OutAdamWRefIdeal.τ).loc Cert.OutAdamWRefIdeal.main_v11) = v3 c
          ∧ r.2.mem ((c.tc : Thread Cert.OutAdamWRefIdeal.nD Cert.OutAdamWRefIdeal.τ).loc Cert.OutAdamWRefIdeal.main_arg0) = m' ((c.tc : Thread Cert.OutAdamWRefIdeal.nD Cert.OutAdamWRefIdeal.τ).loc Cert.OutAdamWRefIdeal.main_arg0)
          ∧ r.2.mem ((c.tc : Thread Cert.OutAdamWRefIdeal.nD Cert.OutAdamWRefIdeal.τ).loc Cert.OutAdamWRefIdeal.main_arg1) = m' ((c.tc : Thread Cert.OutAdamWRefIdeal.nD Cert.OutAdamWRefIdeal.τ).loc Cert.OutAdamWRefIdeal.main_arg1)
          ∧ r.2.mem ((c.tc : Thread Cert.OutAdamWRefIdeal.nD Cert.OutAdamWRefIdeal.τ).loc Cert.OutAdamWRefIdeal.main_arg2) = m' ((c.tc : Thread Cert.OutAdamWRefIdeal.nD Cert.OutAdamWRefIdeal.τ).loc Cert.OutAdamWRefIdeal.main_arg2)
          ∧ r.2.mem ((c.tc : Thread Cert.OutAdamWRefIdeal.nD Cert.OutAdamWRefIdeal.τ).loc Cert.OutAdamWRefIdeal.main_arg3) = m' ((c.tc : Thread Cert.OutAdamWRefIdeal.nD Cert.OutAdamWRefIdeal.τ).loc Cert.OutAdamWRefIdeal.main_arg3)
          ∧ r.2.mem ((c.tc : Thread Cert.OutAdamWRefIdeal.nD Cert.OutAdamWRefIdeal.τ).loc Cert.OutAdamWRefIdeal.main_arg4) = m' ((c.tc : Thread Cert.OutAdamWRefIdeal.nD Cert.OutAdamWRefIdeal.τ).loc Cert.OutAdamWRefIdeal.main_arg4))

def Claim : Prop :=
  ∃ (hInDx : Cert.InDx.Facts) (hInDxIdeal : Cert.InDxIdeal.Facts) (hInDxRefIdeal : Cert.InDxRefIdeal.Facts) (hAttnBwd : Cert.AttnBwd.Facts) (hAttnBwdIdeal : Cert.AttnBwdIdeal.Facts) (hAttnDx : Cert.AttnDx.Facts) (hAttnDxIdeal : Cert.AttnDxIdeal.Facts) (hAttnDxRefIdeal : Cert.AttnDxRefIdeal.Facts) (hRecProj : Cert.RecProj.Facts) (hRecProjIdeal : Cert.RecProjIdeal.Facts) (hRecProjRefIdeal : Cert.RecProjRefIdeal.Facts) (hRecDw : Cert.RecDw.Facts) (hRecDwIdeal : Cert.RecDwIdeal.Facts) (hRecDwRefIdeal : Cert.RecDwRefIdeal.Facts) (hOutLoss : Cert.OutLoss.Facts) (hOutLossIdeal : Cert.OutLossIdeal.Facts) (hOutLossRefIdeal : Cert.OutLossRefIdeal.Facts) (hOutBwd : Cert.OutBwd.Facts) (hOutBwdIdeal : Cert.OutBwdIdeal.Facts) (hOutBwdRefIdeal : Cert.OutBwdRefIdeal.Facts) (hOutProj : Cert.OutProj.Facts) (hOutProjIdeal : Cert.OutProjIdeal.Facts) (hOutProjRefIdeal : Cert.OutProjRefIdeal.Facts) (hAttnProj : Cert.AttnProj.Facts) (hAttnProjIdeal : Cert.AttnProjIdeal.Facts) (hAttnProjRefIdeal : Cert.AttnProjRefIdeal.Facts) (hAttnDw : Cert.AttnDw.Facts) (hAttnDwIdeal : Cert.AttnDwIdeal.Facts) (hAttnDwRefIdeal : Cert.AttnDwRefIdeal.Facts) (hSmallAdamW : Cert.SmallAdamW.Facts) (hSmallAdamWIdeal : Cert.SmallAdamWIdeal.Facts) (hSmallAdamWRefIdeal : Cert.SmallAdamWRefIdeal.Facts) (hAttnInAdamW : Cert.AttnInAdamW.Facts) (hAttnInAdamWIdeal : Cert.AttnInAdamWIdeal.Facts) (hAttnInAdamWRefIdeal : Cert.AttnInAdamWRefIdeal.Facts) (hRecInAdamW : Cert.RecInAdamW.Facts) (hRecInAdamWIdeal : Cert.RecInAdamWIdeal.Facts) (hRecInAdamWRefIdeal : Cert.RecInAdamWRefIdeal.Facts) (hOutAdamW : Cert.OutAdamW.Facts) (hOutAdamWIdeal : Cert.OutAdamWIdeal.Facts) (hOutAdamWRefIdeal : Cert.OutAdamWRefIdeal.Facts),
    quiescent_InDx (hInDx := hInDx)
    ∧ quiescent_InDxIdeal (hInDxIdeal := hInDxIdeal)
    ∧ quiescent_InDxRefIdeal (hInDxRefIdeal := hInDxRefIdeal)
    ∧ quiescent_AttnBwd (hAttnBwd := hAttnBwd)
    ∧ quiescent_AttnBwdIdeal (hAttnBwdIdeal := hAttnBwdIdeal)
    ∧ quiescent_AttnDx (hAttnDx := hAttnDx)
    ∧ quiescent_AttnDxIdeal (hAttnDxIdeal := hAttnDxIdeal)
    ∧ quiescent_AttnDxRefIdeal (hAttnDxRefIdeal := hAttnDxRefIdeal)
    ∧ quiescent_RecProj (hRecProj := hRecProj)
    ∧ quiescent_RecProjIdeal (hRecProjIdeal := hRecProjIdeal)
    ∧ quiescent_RecProjRefIdeal (hRecProjRefIdeal := hRecProjRefIdeal)
    ∧ quiescent_RecDw (hRecDw := hRecDw)
    ∧ quiescent_RecDwIdeal (hRecDwIdeal := hRecDwIdeal)
    ∧ quiescent_RecDwRefIdeal (hRecDwRefIdeal := hRecDwRefIdeal)
    ∧ quiescent_OutLoss (hOutLoss := hOutLoss)
    ∧ quiescent_OutLossIdeal (hOutLossIdeal := hOutLossIdeal)
    ∧ quiescent_OutLossRefIdeal (hOutLossRefIdeal := hOutLossRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_AttnDw (hAttnDw := hAttnDw)
    ∧ quiescent_AttnDwIdeal (hAttnDwIdeal := hAttnDwIdeal)
    ∧ quiescent_AttnDwRefIdeal (hAttnDwRefIdeal := hAttnDwRefIdeal)
    ∧ quiescent_SmallAdamW (hSmallAdamW := hSmallAdamW)
    ∧ quiescent_SmallAdamWIdeal (hSmallAdamWIdeal := hSmallAdamWIdeal)
    ∧ quiescent_SmallAdamWRefIdeal (hSmallAdamWRefIdeal := hSmallAdamWRefIdeal)
    ∧ quiescent_AttnInAdamW (hAttnInAdamW := hAttnInAdamW)
    ∧ quiescent_AttnInAdamWIdeal (hAttnInAdamWIdeal := hAttnInAdamWIdeal)
    ∧ quiescent_AttnInAdamWRefIdeal (hAttnInAdamWRefIdeal := hAttnInAdamWRefIdeal)
    ∧ quiescent_RecInAdamW (hRecInAdamW := hRecInAdamW)
    ∧ quiescent_RecInAdamWIdeal (hRecInAdamWIdeal := hRecInAdamWIdeal)
    ∧ quiescent_RecInAdamWRefIdeal (hRecInAdamWRefIdeal := hRecInAdamWRefIdeal)
    ∧ quiescent_OutAdamW (hOutAdamW := hOutAdamW)
    ∧ quiescent_OutAdamWIdeal (hOutAdamWIdeal := hOutAdamWIdeal)
    ∧ quiescent_OutAdamWRefIdeal (hOutAdamWRefIdeal := hOutAdamWRefIdeal)
    ∧ preserves_InDx_InDxIdeal
    ∧ algebraic_InDxIdeal_InDxRefIdeal (hInDxIdeal := hInDxIdeal) (hInDxRefIdeal := hInDxRefIdeal)
    ∧ preserves_AttnBwd_AttnBwdIdeal
    ∧ preserves_AttnDx_AttnDxIdeal
    ∧ algebraic_AttnDxIdeal_AttnDxRefIdeal (hAttnDxIdeal := hAttnDxIdeal) (hAttnDxRefIdeal := hAttnDxRefIdeal)
    ∧ preserves_RecProj_RecProjIdeal
    ∧ algebraic_RecProjIdeal_RecProjRefIdeal (hRecProjIdeal := hRecProjIdeal) (hRecProjRefIdeal := hRecProjRefIdeal)
    ∧ preserves_RecDw_RecDwIdeal
    ∧ algebraic_RecDwIdeal_RecDwRefIdeal (hRecDwIdeal := hRecDwIdeal) (hRecDwRefIdeal := hRecDwRefIdeal)
    ∧ preserves_OutLoss_OutLossIdeal
    ∧ algebraic_OutLossIdeal_OutLossRefIdeal (hOutLossIdeal := hOutLossIdeal) (hOutLossRefIdeal := hOutLossRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutProj_OutProjIdeal
    ∧ algebraic_OutProjIdeal_OutProjRefIdeal (hOutProjIdeal := hOutProjIdeal) (hOutProjRefIdeal := hOutProjRefIdeal)
    ∧ preserves_AttnProj_AttnProjIdeal
    ∧ algebraic_AttnProjIdeal_AttnProjRefIdeal (hAttnProjIdeal := hAttnProjIdeal) (hAttnProjRefIdeal := hAttnProjRefIdeal)
    ∧ preserves_AttnDw_AttnDwIdeal
    ∧ algebraic_AttnDwIdeal_AttnDwRefIdeal (hAttnDwIdeal := hAttnDwIdeal) (hAttnDwRefIdeal := hAttnDwRefIdeal)
    ∧ preserves_SmallAdamW_SmallAdamWIdeal
    ∧ algebraic_SmallAdamWIdeal_SmallAdamWRefIdeal (hSmallAdamWIdeal := hSmallAdamWIdeal) (hSmallAdamWRefIdeal := hSmallAdamWRefIdeal)
    ∧ preserves_AttnInAdamW_AttnInAdamWIdeal
    ∧ algebraic_AttnInAdamWIdeal_AttnInAdamWRefIdeal (hAttnInAdamWIdeal := hAttnInAdamWIdeal) (hAttnInAdamWRefIdeal := hAttnInAdamWRefIdeal)
    ∧ preserves_RecInAdamW_RecInAdamWIdeal
    ∧ algebraic_RecInAdamWIdeal_RecInAdamWRefIdeal (hRecInAdamWIdeal := hRecInAdamWIdeal) (hRecInAdamWRefIdeal := hRecInAdamWRefIdeal)
    ∧ preserves_OutAdamW_OutAdamWIdeal
    ∧ algebraic_OutAdamWIdeal_OutAdamWRefIdeal (hOutAdamWIdeal := hOutAdamWIdeal) (hOutAdamWRefIdeal := hOutAdamWRefIdeal)
-- ==== InDx.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S8192x1024, .f32⟩
  | .hbm, ⟨9, _⟩ => ⟨S1x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDxRefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== AttnBwd.lean ====
abbrev S8192x1024 : Shape := ⟨2, ![8192, 1024]⟩
abbrev S8192x128 : Shape := ⟨2, ![8192, 128]⟩
abbrev S2x2x512x128 : Shape := ⟨4, ![2, 2, 512, 128]⟩
abbrev S8192x48 : Shape := ⟨2, ![8192, 48]⟩
abbrev S8192x2304 : Shape := ⟨2, ![8192, 2304]⟩
abbrev S128x8192 : Shape := ⟨2, ![128, 8192]⟩
abbrev S2x2x4x128 : Shape := ⟨4, ![2, 2, 4, 128]⟩
abbrev S128x1024 : Shape := ⟨2, ![128, 1024]⟩
abbrev S2048x128 : Shape := ⟨2, ![2048, 128]⟩
abbrev S128x48 : Shape := ⟨2, ![128, 48]⟩
abbrev S128x2304 : Shape := ⟨2, ![128, 2304]⟩
abbrev S128x2048 : Shape := ⟨2, ![128, 2048]⟩
abbrev S3x512x256 : Shape := ⟨3, ![3, 512, 256]⟩
abbrev S512x256 : Shape := ⟨2, ![512, 256]⟩
abbrev S1x512x256 : Shape := ⟨3, ![1, 512, 256]⟩
abbrev S128x128 : Shape := ⟨2, ![128, 128]⟩
abbrev S256x128 : Shape := ⟨2, ![256, 128]⟩
abbrev S128x256 : Shape := ⟨2, ![128, 256]⟩
abbrev S48x384 : Shape := ⟨2, ![48, 384]⟩
abbrev S128x384 : Shape := ⟨2, ![128, 384]⟩
abbrev S1x128 : Shape := ⟨2, ![1, 128]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S1x1x4x128 : Shape := ⟨4, ![1, 1, 4, 128]⟩
abbrev S4x128 : Shape := ⟨2, ![4, 128]⟩
abbrev S4x128x128 : Shape := ⟨3, ![4, 128, 128]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x128, .bf16⟩
  | .hbm, ⟨3, _⟩ => ⟨S8192x1024, .f32⟩
  | .hbm, ⟨4, _⟩ => ⟨S2x2x512x128, .f32⟩
  | .hbm, ⟨5, _⟩ => ⟨S8192x1024, .bf16⟩
  | .hbm, ⟨6, _⟩ => ⟨S8192x48, .bf16⟩
  | .hbm, ⟨7, _⟩ => ⟨S8192x2304, .bf16⟩
  | .hbm, ⟨8, _⟩ => ⟨S128x8192, .f32⟩
  | .hbm, ⟨9, _⟩ => ⟨S128x8192, .f32⟩
  | .hbm, ⟨10, _⟩ => ⟨S2x2x4x128, .f32⟩
  | .local _ .vmem, ⟨0, _⟩ => ⟨S128x1024, .bf16⟩
  | .local _ .vmem, ⟨1, _⟩ => ⟨S128x1024, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x1024, .f32⟩
  | .local _ .vmem, ⟨7, _⟩ => ⟨S128x1024, .f32⟩
  | .local _ .vmem, ⟨8, _⟩ => ⟨S2x2x512x128, .f32⟩
  | .local _ .vmem, ⟨9, _⟩ => ⟨S128x1024, .bf16⟩
  | .local _ .vmem, ⟨10, _⟩ => ⟨S128x1024, .bf16⟩
  | .local _ .vmem, ⟨11, _⟩ => ⟨S128x48, .bf16⟩
  | .local _ .vmem, ⟨12, _⟩ => ⟨S128x48, .bf16⟩
  | .local _ .vmem, ⟨13, _⟩ => ⟨S128x2304, .bf16⟩
  | .local _ .vmem, ⟨14, _⟩ => ⟨S128x2304, .bf16⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S2x2x4x128, .f32⟩
  | .local _ .vmem, ⟨20, _⟩ => ⟨S3x512x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1_i32 : BitVec 32 := 1#32
  let v8 : BitVec 32 := Scalar.subi arg1 c1_i32
  let c0_i32_4 : BitVec 32 := 0#32
  let v9 : BitVec 32 := Scalar.maxsi v8 c0_i32_4
  let c128_i32 : BitVec 32 := 128#32
  let v10 : BitVec 32 := Scalar.muli v9 c128_i32
  v10
def k0_mult2 (i : grid0.Coords) : BitVec 32 :=
  let arg1 : BitVec 32 := BitVec.ofNat 32 (i 1).val
  let c128_i32_5 : BitVec 32 := 128#32
  let v12 : BitVec 32 := Scalar.muli arg1 c128_i32_5
  v12
def k0_off1 (i : grid0.Coords) : Fin 2 → Nat :=
  let arg1 : BitVec 32 := BitVec.ofNat 32 (i 1).val
  let c1_i32 : BitVec 32 := 1#32
  let v8 : BitVec 32 := Scalar.subi arg1 c1_i32
  let c0_i32_4 : BitVec 32 := 0#32
  let v9 : BitVec 32 := Scalar.maxsi v8 c0_i32_4
  let c128_i32 : BitVec 32 := 128#32
  let v10 : BitVec 32 := Scalar.muli v9 c128_i32
  let v11 : BitVec 32 := v10
  let v14 : Index := Scalar.indexCast v11
  let c0 : Index := 0#32
  ![v14.toNat, 0]
def k0_off2 (i : grid0.Coords) : Fin 2 → Nat :=
  let arg1 : BitVec 32 := BitVec.ofNat 32 (i 1).val
  let c128_i32_5 : BitVec 32 := 128#32
  let v12 : BitVec 32 := Scalar.muli arg1 c128_i32_5
  let v13 : BitVec 32 := v12
  let v16 : Index := Scalar.indexCast v13
  let c0_6 : Index := 0#32
  ![v16.toNat, 0]
def k0_off3 (i : grid0.Coords) : Fin 3 → Nat :=
  let arg1 : BitVec 32 := BitVec.ofNat 32 (i 1).val
  let c1_i32_9 : BitVec 32 := 1#32
  let v28 : BitVec 32 := Scalar.minsi arg1 c1_i32_9
  let v29 : Index := Scalar.indexCast v28
  let c0_10 : Index := 0#32
  let c0_11 : Index := 0#32
  ![v29.toNat, 0, 0]
def k0_off4 (i : grid0.Coords) : Fin 2 → Nat :=
  let c0_313 : Index := 0#32
  let arg1 : BitVec 32 := BitVec.ofNat 32 (i 1).val
  let c1_i32 : BitVec 32 := 1#32
  let v8 : BitVec 32 := Scalar.subi arg1 c1_i32
  let c0_i32_4 : BitVec 32 := 0#32
  let v9 : BitVec 32 := Scalar.maxsi v8 c0_i32_4
  let c128_i32 : BitVec 32 := 128#32
  let v10 : BitVec 32 := Scalar.muli v9 c128_i32
  let v11 : BitVec 32 := v10
  let v730 : Index := Scalar.indexCast v11
  ![0, v730.toNat]
def k0_off5 (i : grid0.Coords) : Fin 2 → Nat :=
  let c0_315 : Index := 0#32
  let arg1 : BitVec 32 := BitVec.ofNat 32 (i 1).val
  let c128_i32_5 : BitVec 32 := 128#32
  let v12 : BitVec 32 := Scalar.muli arg1 c128_i32_5
  let v13 : BitVec 32 := v12
  let v737 : Index := Scalar.indexCast v13
  ![0, v737.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x2x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x48 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x2x4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== AttnDx.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x2304, .bf16⟩
  | .hbm, ⟨6, _⟩ => ⟨S8192x1024, .f32⟩
  | .hbm, ⟨7, _⟩ => ⟨S1x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnDxRefIdeal.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2304, .f32⟩
  | .hbm, ⟨27, _⟩ => ⟨S8192x2304, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== RecProj.lean ====
abbrev S8192x1024 : Shape := ⟨2, ![8192, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S8192x1024, .bf16⟩
  | .hbm, ⟨7, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4096, .f32⟩
  | .local _ .vmem, ⟨7, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RecProjRefIdeal.lean ====
abbrev S8192x1024 : Shape := ⟨2, ![8192, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RecDw.lean ====
abbrev S8192x1024 : Shape := ⟨2, ![8192, 1024]⟩
abbrev S1x1024 : Shape := ⟨2, ![1, 1024]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1x4096 : Shape := ⟨2, ![1, 4096]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x4096, .f32⟩
  | .hbm, ⟨22, _⟩ => ⟨S1x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1x4096, .f32⟩
  | .local _ .vmem, ⟨5, _⟩ => ⟨S1024x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RecDwRefIdeal.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S1024x4096 : Shape := ⟨2, ![1024, 4096]⟩
abbrev S1024 : Shape := ⟨1, ![1024]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .bf16⟩
  | .hbm, ⟨3, _⟩ => ⟨S_, .f32⟩
  | .hbm, ⟨4, _⟩ => ⟨S1024x4096, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S4096x1024, .f32⟩
  | .hbm, ⟨25, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutLoss.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S1024x1024, .f32⟩
  | .hbm, ⟨10, _⟩ => ⟨S1x1024, .f32⟩
  | .hbm, ⟨11, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1x1024, .f32⟩
  | .local _ .vmem, ⟨15, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v75 : BitVec 1 := Scalar.cmpi .eq arg0 c7_i32
  let v76 : BitVec 32 := Scalar.extui v75
  let c0_i32_43 : BitVec 32 := 0#32
  let v77 : BitVec 1 := Scalar.cmpi .ne v76 c0_i32_43
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutLossRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S1024x1024, .f32⟩
  | .hbm, ⟨79, _⟩ => ⟨S1024x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .bf16⟩
  | .hbm, ⟨85, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1024x1024, .bf16⟩
  | .hbm, ⟨11, _⟩ => ⟨S8192x1024, .bf16⟩
  | .hbm, ⟨12, _⟩ => ⟨S1024x1024, .f32⟩
  | .hbm, ⟨13, _⟩ => ⟨S1x1024, .f32⟩
  | .hbm, ⟨14, _⟩ => ⟨S1x1024, .f32⟩
  | .hbm, ⟨15, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v55 : BitVec 1 := Scalar.cmpi .eq arg0 c7_i32
  let v56 : BitVec 32 := Scalar.extui v55
  let c0_i32_32 : BitVec 32 := 0#32
  let v57 : BitVec 1 := Scalar.cmpi .ne v56 c0_i32_32
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1024x1024, .f32⟩
  | .hbm, ⟨65, _⟩ => ⟨S1024x1024, .f32⟩
  | .hbm, ⟨66, _⟩ => ⟨S8192x1024, .f32⟩
  | .hbm, ⟨67, _⟩ => ⟨S8192x1024, .bf16⟩
  | .hbm, ⟨68, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S8192x1024, .bf16⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== AttnProj.lean ====
abbrev S8192x1024 : Shape := ⟨2, ![8192, 1024]⟩
abbrev S1x1024 : Shape := ⟨2, ![1, 1024]⟩
abbrev S1024x2304 : Shape := ⟨2, ![1024, 2304]⟩
abbrev S1x2304 : Shape := ⟨2, ![1, 2304]⟩
abbrev S4x2048 : Shape := ⟨2, ![4, 2048]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x16 : Shape := ⟨2, ![8192, 16]⟩
abbrev S8192x48 : Shape := ⟨2, ![8192, 48]⟩
abbrev S8192x128 : Shape := ⟨2, ![8192, 128]⟩
abbrev S1024x1024 : Shape := ⟨2, ![1024, 1024]⟩
abbrev S1024x48 : Shape := ⟨2, ![1024, 48]⟩
abbrev S1024x128 : Shape := ⟨2, ![1024, 128]⟩
abbrev S1024 : Shape := ⟨1, ![1024]⟩
abbrev S1024x1 : Shape := ⟨2, ![1024, 1]⟩
abbrev S48x384 : Shape := ⟨2, ![48, 384]⟩
abbrev S1024x384 : Shape := ⟨2, ![1024, 384]⟩
abbrev S1x128 : Shape := ⟨2, ![1, 128]⟩

abbrev nBuf : Space → Nat
  | .hbm => 39
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S1x2304, .f32⟩
  | .hbm, ⟨4, _⟩ => ⟨S4x2048, .i32⟩
  | .hbm, ⟨5, _⟩ => ⟨S1024x2304, .bf16⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4x2048, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x16, .f32⟩
  | .hbm, ⟨26, _⟩ => ⟨S8192x16, .bf16⟩
  | .hbm, ⟨27, _⟩ => ⟨S8192x16, .f32⟩
  | .hbm, ⟨28, _⟩ => ⟨S8192x16, .f32⟩
  | .hbm, ⟨29, _⟩ => ⟨S8192x16, .bf16⟩
  | .hbm, ⟨30, _⟩ => ⟨S8192x16, .f32⟩
  | .hbm, ⟨31, _⟩ => ⟨S8192x16, .f32⟩
  | .hbm, ⟨32, _⟩ => ⟨S8192x16, .bf16⟩
  | .hbm, ⟨33, _⟩ => ⟨S8192x48, .bf16⟩
  | .hbm, ⟨34, _⟩ => ⟨S8192x1024, .bf16⟩
  | .hbm, ⟨35, _⟩ => ⟨S8192x1024, .bf16⟩
  | .hbm, ⟨36, _⟩ => ⟨S8192x128, .bf16⟩
  | .hbm, ⟨37, _⟩ => ⟨S8192x128, .bf16⟩
  | .hbm, ⟨38, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1x2304, .f32⟩
  | .local _ .vmem, ⟨5, _⟩ => ⟨S1024x48, .bf16⟩
  | .local _ .vmem, ⟨6, _⟩ => ⟨S1024x48, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnProjRefIdeal.lean ====
abbrev S8192x1024 : Shape := ⟨2, ![8192, 1024]⟩
abbrev S1x1024 : Shape := ⟨2, ![1, 1024]⟩
abbrev S1024x2304 : Shape := ⟨2, ![1024, 2304]⟩
abbrev S1x2304 : Shape := ⟨2, ![1, 2304]⟩
abbrev S4x2048 : Shape := ⟨2, ![4, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩
abbrev S2304 : Shape := ⟨1, ![2304]⟩
abbrev S8192x128 : Shape := ⟨2, ![8192, 128]⟩
abbrev S4x2048x16x64 : Shape := ⟨4, ![4, 2048, 16, 64]⟩
abbrev S8 : Shape := ⟨1, ![8]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x16x8 : Shape := ⟨4, ![4, 2048, 16, 8]⟩
abbrev S4x2048x16x48 : Shape := ⟨4, ![4, 2048, 16, 48]⟩
abbrev S4x2048x2x64 : Shape := ⟨4, ![4, 2048, 2, 64]⟩
abbrev S4x2048x2x8 : Shape := ⟨4, ![4, 2048, 2, 8]⟩
abbrev S4x2048x2x48 : Shape := ⟨4, ![4, 2048, 2, 48]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S1x2304, .f32⟩
  | .hbm, ⟨4, _⟩ => ⟨S4x2048, .i32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2304, .f32⟩
  | .hbm, ⟨23, _⟩ => ⟨S2304, .f32⟩
  | .hbm, ⟨24, _⟩ => ⟨S1x2304, .f32⟩
  | .hbm, ⟨25, _⟩ => ⟨S8192x2304, .f32⟩
  | .hbm, ⟨26, _⟩ => ⟨S8192x2304, .f32⟩
  | .hbm, ⟨27, _⟩ => ⟨S8192x1024, .f32⟩
  | .hbm, ⟨28, _⟩ => ⟨S8192x128, .f32⟩
  | .hbm, ⟨29, _⟩ => ⟨S8192x128, .f32⟩
  | .hbm, ⟨30, _⟩ => ⟨S8192x1024, .f32⟩
  | .hbm, ⟨31, _⟩ => ⟨S4x2048x16x64, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S4x2048, .f32⟩
  | .hbm, ⟨44, _⟩ => ⟨S4x2048x1, .f32⟩
  | .hbm, ⟨45, _⟩ => ⟨S1x1x8, .f32⟩
  | .hbm, ⟨46, _⟩ => ⟨S4x2048x8, .f32⟩
  | .hbm, ⟨47, _⟩ => ⟨S4x2048x8, .f32⟩
  | .hbm, ⟨48, _⟩ => ⟨S4x2048x8, .f32⟩
  | .hbm, ⟨49, _⟩ => ⟨S4x2048x8, .f32⟩
  | .hbm, ⟨50, _⟩ => ⟨S4x2048x1x8, .f32⟩
  | .hbm, ⟨51, _⟩ => ⟨S4x2048x8, .f32⟩
  | .hbm, ⟨52, _⟩ => ⟨S4x2048x1x8, .f32⟩
  | .hbm, ⟨53, _⟩ => ⟨S4x2048x16x8, .f32⟩
  | .hbm, ⟨54, _⟩ => ⟨S4x2048x16x8, .f32⟩
  | .hbm, ⟨55, _⟩ => ⟨S4x2048x16x8, .f32⟩
  | .hbm, ⟨56, _⟩ => ⟨S4x2048x16x8, .f32⟩
  | .hbm, ⟨57, _⟩ => ⟨S4x2048x16x8, .f32⟩
  | .hbm, ⟨58, _⟩ => ⟨S4x2048x16x8, .f32⟩
  | .hbm, ⟨59, _⟩ => ⟨S4x2048x16x8, .f32⟩
  | .hbm, ⟨60, _⟩ => ⟨S4x2048x16x8, .f32⟩
  | .hbm, ⟨61, _⟩ => ⟨S4x2048x16x8, .f32⟩
  | .hbm, ⟨62, _⟩ => ⟨S4x2048x16x8, .f32⟩
  | .hbm, ⟨63, _⟩ => ⟨S4x2048x16x8, .f32⟩
  | .hbm, ⟨64, _⟩ => ⟨S4x2048x16x8, .f32⟩
  | .hbm, ⟨65, _⟩ => ⟨S4x2048x16x48, .f32⟩
  | .hbm, ⟨66, _⟩ => ⟨S4x2048x16x64, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S4x2048x2x64, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S4x2048, .f32⟩
  | .hbm, ⟨84, _⟩ => ⟨S4x2048x1, .f32⟩
  | .hbm, ⟨85, _⟩ => ⟨S1x1x8, .f32⟩
  | .hbm, ⟨86, _⟩ => ⟨S4x2048x8, .f32⟩
  | .hbm, ⟨87, _⟩ => ⟨S4x2048x8, .f32⟩
  | .hbm, ⟨88, _⟩ => ⟨S4x2048x8, .f32⟩
  | .hbm, ⟨89, _⟩ => ⟨S4x2048x8, .f32⟩
  | .hbm, ⟨90, _⟩ => ⟨S4x2048x1x8, .f32⟩
  | .hbm, ⟨91, _⟩ => ⟨S4x2048x8, .f32⟩
  | .hbm, ⟨92, _⟩ => ⟨S4x2048x1x8, .f32⟩
  | .hbm, ⟨93, _⟩ => ⟨S4x2048x2x8, .f32⟩
  | .hbm, ⟨94, _⟩ => ⟨S4x2048x2x8, .f32⟩
  | .hbm, ⟨95, _⟩ => ⟨S4x2048x2x8, .f32⟩
  | .hbm, ⟨96, _⟩ => ⟨S4x2048x2x8, .f32⟩
  | .hbm, ⟨97, _⟩ => ⟨S4x2048x2x8, .f32⟩
  | .hbm, ⟨98, _⟩ => ⟨S4x2048x2x8, .f32⟩
  | .hbm, ⟨99, _⟩ => ⟨S4x2048x2x8, .f32⟩
  | .hbm, ⟨100, _⟩ => ⟨S4x2048x2x8, .f32⟩
  | .hbm, ⟨101, _⟩ => ⟨S4x2048x2x8, .f32⟩
  | .hbm, ⟨102, _⟩ => ⟨S4x2048x2x8, .f32⟩
  | .hbm, ⟨103, _⟩ => ⟨S4x2048x2x8, .f32⟩
  | .hbm, ⟨104, _⟩ => ⟨S4x2048x2x8, .f32⟩
  | .hbm, ⟨105, _⟩ => ⟨S4x2048x2x48, .f32⟩
  | .hbm, ⟨106, _⟩ => ⟨S4x2048x2x64, .f32⟩
  | .hbm, ⟨107, _⟩ => ⟨S8192x128, .f32⟩
  | .hbm, ⟨108, _⟩ => ⟨S8192x1024, .bf16⟩
  | .hbm, ⟨109, _⟩ => ⟨S8192x1024, .bf16⟩
  | .hbm, ⟨110, _⟩ => ⟨S8192x128, .bf16⟩
  | .hbm, ⟨111, _⟩ => ⟨S8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩

abbrev nD : Nat := 1
abbrev τ : Topo := Topo.v7x

variable {F : FTy → Type} [FloatOps F]
-- ==== AttnDw.lean ====
abbrev S8192x1024 : Shape := ⟨2, ![8192, 1024]⟩
abbrev S1x1024 : Shape := ⟨2, ![1, 1024]⟩
abbrev S8192x2304 : Shape := ⟨2, ![8192, 2304]⟩
abbrev S128x8192 : Shape := ⟨2, ![128, 8192]⟩
abbrev S4x2048 : Shape := ⟨2, ![4, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8 : Shape := ⟨1, ![8]⟩
abbrev S1x8 : Shape := ⟨2, ![1, 8]⟩
abbrev S8192x8 : Shape := ⟨2, ![8192, 8]⟩
abbrev S8192x16 : Shape := ⟨2, ![8192, 16]⟩
abbrev S8192x48 : Shape := ⟨2, ![8192, 48]⟩
abbrev S1024x2304 : Shape := ⟨2, ![1024, 2304]⟩
abbrev S1x2304 : Shape := ⟨2, ![1, 2304]⟩
abbrev S8192x256 : Shape := ⟨2, ![8192, 256]⟩
abbrev S1024x1024 : Shape := ⟨2, ![1024, 1024]⟩
abbrev S128x1024 : Shape := ⟨2, ![128, 1024]⟩
abbrev S1024x48 : Shape := ⟨2, ![1024, 48]⟩
abbrev S1024x256 : Shape := ⟨2, ![1024, 256]⟩
abbrev S1024x128 : Shape := ⟨2, ![1024, 128]⟩
abbrev S48x384 : Shape := ⟨2, ![48, 384]⟩
abbrev S1024x384 : Shape := ⟨2, ![1024, 384]⟩
abbrev S1x128 : Shape := ⟨2, ![1, 128]⟩
abbrev S1024x768 : Shape := ⟨2, ![1024, 768]⟩
abbrev S1x768 : Shape := ⟨2, ![1, 768]⟩
abbrev S768 : Shape := ⟨1, ![768]⟩

abbrev nBuf : Space → Nat
  | .hbm => 55
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2304, .bf16⟩
  | .hbm, ⟨3, _⟩ => ⟨S128x8192, .f32⟩
  | .hbm, ⟨4, _⟩ => ⟨S128x8192, .f32⟩
  | .hbm, ⟨5, _⟩ => ⟨S4x2048, .i32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S4x2048, .f32⟩
  | .hbm, ⟨36, _⟩ => ⟨S8192x1, .f32⟩
  | .hbm, ⟨37, _⟩ => ⟨S1x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S8192x16, .f32⟩
  | .hbm, ⟨44, _⟩ => ⟨S8192x16, .bf16⟩
  | .hbm, ⟨45, _⟩ => ⟨S8192x16, .f32⟩
  | .hbm, ⟨46, _⟩ => ⟨S8192x16, .f32⟩
  | .hbm, ⟨47, _⟩ => ⟨S8192x16, .bf16⟩
  | .hbm, ⟨48, _⟩ => ⟨S8192x16, .f32⟩
  | .hbm, ⟨49, _⟩ => ⟨S8192x16, .f32⟩
  | .hbm, ⟨50, _⟩ => ⟨S8192x16, .bf16⟩
  | .hbm, ⟨51, _⟩ => ⟨S8192x48, .bf16⟩
  | .hbm, ⟨52, _⟩ => ⟨S1024x2304, .f32⟩
  | .hbm, ⟨53, _⟩ => ⟨S1x2304, .f32⟩
  | .hbm, ⟨54, _⟩ => ⟨S8192x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x48, .bf16⟩
  | .local _ .vmem, ⟨9, _⟩ => ⟨S1024x48, .bf16⟩
  | .local _ .vmem, ⟨10, _⟩ => ⟨S1x2304, .f32⟩
  | .local _ .vmem, ⟨11, _⟩ => ⟨S1024x256, .bf16⟩
  | .local _ .vmem, ⟨12, _⟩ => ⟨S1024x256, .bf16⟩
  | .local _ .vmem, ⟨13, _⟩ => ⟨S1024x2304, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnDwRefIdeal.lean ====
abbrev S8192x1024 : Shape := ⟨2, ![8192, 1024]⟩
abbrev S1x1024 : Shape := ⟨2, ![1, 1024]⟩
abbrev S8192x2304 : Shape := ⟨2, ![8192, 2304]⟩
abbrev S128x8192 : Shape := ⟨2, ![128, 8192]⟩
abbrev S4x2048 : Shape := ⟨2, ![4, 2048]⟩
abbrev S_ : Shape := ⟨0, ![]⟩
abbrev S8192x128 : Shape := ⟨2, ![8192, 128]⟩
abbrev S4x2048x2x64 : Shape := ⟨4, ![4, 2048, 2, 64]⟩
abbrev S8 : Shape := ⟨1, ![8]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x2x8 : Shape := ⟨4, ![4, 2048, 2, 8]⟩
abbrev S4x2048x2x48 : Shape := ⟨4, ![4, 2048, 2, 48]⟩
abbrev S8192x256 : Shape := ⟨2, ![8192, 256]⟩
abbrev S1024x2304 : Shape := ⟨2, ![1024, 2304]⟩
abbrev S1x2304 : Shape := ⟨2, ![1, 2304]⟩
abbrev S1024 : Shape := ⟨1, ![1024]⟩
abbrev S8192 : Shape := ⟨1, ![8192]⟩
abbrev S8192x1 : Shape := ⟨2, ![8192, 1]⟩
abbrev S2304 : Shape := ⟨1, ![2304]⟩
abbrev S2304x1024 : Shape := ⟨2, ![2304, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2304, .bf16⟩
  | .hbm, ⟨3, _⟩ => ⟨S128x8192, .f32⟩
  | .hbm, ⟨4, _⟩ => ⟨S128x8192, .f32⟩
  | .hbm, ⟨5, _⟩ => ⟨S4x2048, .i32⟩
  | .hbm, ⟨6, _⟩ => ⟨S_, .f32⟩
  | .hbm, ⟨7, _⟩ => ⟨S8192x128, .f32⟩
  | .hbm, ⟨8, _⟩ => ⟨S4x2048x2x64, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4x2048, .f32⟩
  | .hbm, ⟨21, _⟩ => ⟨S4x2048x1, .f32⟩
  | .hbm, ⟨22, _⟩ => ⟨S1x1x8, .f32⟩
  | .hbm, ⟨23, _⟩ => ⟨S4x2048x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S4x2048x1x8, .f32⟩
  | .hbm, ⟨28, _⟩ => ⟨S4x2048x8, .f32⟩
  | .hbm, ⟨29, _⟩ => ⟨S4x2048x1x8, .f32⟩
  | .hbm, ⟨30, _⟩ => ⟨S4x2048x2x8, .f32⟩
  | .hbm, ⟨31, _⟩ => ⟨S4x2048x2x8, .f32⟩
  | .hbm, ⟨32, _⟩ => ⟨S4x2048x2x8, .f32⟩
  | .hbm, ⟨33, _⟩ => ⟨S4x2048x2x8, .f32⟩
  | .hbm, ⟨34, _⟩ => ⟨S4x2048x2x8, .f32⟩
  | .hbm, ⟨35, _⟩ => ⟨S4x2048x2x8, .f32⟩
  | .hbm, ⟨36, _⟩ => ⟨S4x2048x2x8, .f32⟩
  | .hbm, ⟨37, _⟩ => ⟨S4x2048x2x8, .f32⟩
  | .hbm, ⟨38, _⟩ => ⟨S4x2048x2x8, .f32⟩
  | .hbm, ⟨39, _⟩ => ⟨S4x2048x2x8, .f32⟩
  | .hbm, ⟨40, _⟩ => ⟨S4x2048x2x8, .f32⟩
  | .hbm, ⟨41, _⟩ => ⟨S4x2048x2x8, .f32⟩
  | .hbm, ⟨42, _⟩ => ⟨S4x2048x2x48, .f32⟩
  | .hbm, ⟨43, _⟩ => ⟨S4x2048x2x64, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S4x2048x2x64, .f32⟩
  | .hbm, ⟨48, _⟩ => ⟨S4x2048x2x8, .f32⟩
  | .hbm, ⟨49, _⟩ => ⟨S4x2048x2x8, .f32⟩
  | .hbm, ⟨50, _⟩ => ⟨S4x2048x2x48, .f32⟩
  | .hbm, ⟨51, _⟩ => ⟨S_, .f32⟩
  | .hbm, ⟨52, _⟩ => ⟨S4x2048x2x64, .f32⟩
  | .hbm, ⟨53, _⟩ => ⟨S4x2048x2x8, .f32⟩
  | .hbm, ⟨54, _⟩ => ⟨S4x2048x2x8, .f32⟩
  | .hbm, ⟨55, _⟩ => ⟨S4x2048x2x8, .f32⟩
  | .hbm, ⟨56, _⟩ => ⟨S4x2048x2x8, .f32⟩
  | .hbm, ⟨57, _⟩ => ⟨S4x2048x2x8, .f32⟩
  | .hbm, ⟨58, _⟩ => ⟨S4x2048x2x8, .f32⟩
  | .hbm, ⟨59, _⟩ => ⟨S4x2048x2x8, .f32⟩
  | .hbm, ⟨60, _⟩ => ⟨S4x2048x2x8, .f32⟩
  | .hbm, ⟨61, _⟩ => ⟨S4x2048x2x8, .f32⟩
  | .hbm, ⟨62, _⟩ => ⟨S4x2048x2x8, .f32⟩
  | .hbm, ⟨63, _⟩ => ⟨S4x2048x2x8, .f32⟩
  | .hbm, ⟨64, _⟩ => ⟨S_, .f32⟩
  | .hbm, ⟨65, _⟩ => ⟨S4x2048x2x64, .f32⟩
  | .hbm, ⟨66, _⟩ => ⟨S4x2048x2x64, .f32⟩
  | .hbm, ⟨67, _⟩ => ⟨S_, .f32⟩
  | .hbm, ⟨68, _⟩ => ⟨S4x2048x2x64, .f32⟩
  | .hbm, ⟨69, _⟩ => ⟨S4x2048x2x64, .f32⟩
  | .hbm, ⟨70, _⟩ => ⟨S8192x128, .f32⟩
  | .hbm, ⟨71, _⟩ => ⟨S8192x256, .f32⟩
  | .hbm, ⟨72, _⟩ => ⟨S8192x256, .bf16⟩
  | .hbm, ⟨73, _⟩ => ⟨S8192x1024, .bf16⟩
  | .hbm, ⟨74, _⟩ => ⟨S8192x1024, .bf16⟩
  | .hbm, ⟨75, _⟩ => ⟨S8192x2304, .bf16⟩
  | .hbm, ⟨76, _⟩ => ⟨S_, .f32⟩
  | .hbm, ⟨77, _⟩ => ⟨S1024x2304, .f32⟩
  | .hbm, ⟨78, _⟩ => ⟨S_, .f32⟩
  | .hbm, ⟨79, _⟩ => ⟨S1x2304, .f32⟩
  | .hbm, ⟨80, _⟩ => ⟨S1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S8192x2304, .f32⟩
  | .hbm, ⟨98, _⟩ => ⟨S8192x2304, .f32⟩
  | .hbm, ⟨99, _⟩ => ⟨S8192x2304, .f32⟩
  | .hbm, ⟨100, _⟩ => ⟨S8192x2304, .f32⟩
  | .hbm, ⟨101, _⟩ => ⟨S_, .f32⟩
  | .hbm, ⟨102, _⟩ => ⟨S2304, .f32⟩
  | .hbm, ⟨103, _⟩ => ⟨S1x2304, .f32⟩
  | .hbm, ⟨104, _⟩ => ⟨S2304x1024, .f32⟩
  | .hbm, ⟨105, _⟩ => ⟨S1024x2304, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== SmallAdamW.lean ====
abbrev S16x1024 : Shape := ⟨2, ![16, 1024]⟩
abbrev S8x16x1024 : Shape := ⟨3, ![8, 16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S8x16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S8x16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallAdamWRefIdeal.lean ====
abbrev S16x1024 : Shape := ⟨2, ![16, 1024]⟩
abbrev S8x16x1024 : Shape := ⟨3, ![8, 16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S8x16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AttnInAdamW.lean ====
abbrev S1024x576 : Shape := ⟨2, ![1024, 576]⟩
abbrev S128x576 : Shape := ⟨2, ![128, 576]⟩

abbrev nBuf : Space → Nat
  | .hbm => 9
  | .vmem => 18
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S1024x576, .f32⟩
  | .hbm, ⟨7, _⟩ => ⟨S1024x576, .f32⟩
  | .hbm, ⟨8, _⟩ => ⟨S1024x576, .f32⟩
  | .local _ .vmem, ⟨0, _⟩ => ⟨S128x576, .f32⟩
  | .local _ .vmem, ⟨1, _⟩ => ⟨S128x576, .f32⟩
  | .local _ .vmem, ⟨2, _⟩ => ⟨S128x576, .f32⟩
  | .local _ .vmem, ⟨3, _⟩ => ⟨S128x576, .f32⟩
  | .local _ .vmem, ⟨4, _⟩ => ⟨S128x576, .f32⟩
  | .local _ .vmem, ⟨5, _⟩ => ⟨S128x576, .f32⟩
  | .local _ .vmem, ⟨6, _⟩ => ⟨S128x576, .f32⟩
  | .local _ .vmem, ⟨7, _⟩ => ⟨S128x576, .f32⟩
  | .local _ .vmem, ⟨8, _⟩ => ⟨S128x576, .f32⟩
  | .local _ .vmem, ⟨9, _⟩ => ⟨S128x576, .f32⟩
  | .local _ .vmem, ⟨10, _⟩ => ⟨S128x576, .f32⟩
  | .local _ .vmem, ⟨11, _⟩ => ⟨S128x576, .f32⟩
  | .local _ .vmem, ⟨12, _⟩ => ⟨S128x576, .f32⟩
  | .local _ .vmem, ⟨13, _⟩ => ⟨S128x576, .f32⟩
  | .local _ .vmem, ⟨14, _⟩ => ⟨S128x576, .f32⟩
  | .local _ .vmem, ⟨15, _⟩ => ⟨S128x576, .f32⟩
  | .local _ .vmem, ⟨16, _⟩ => ⟨S128x576, .f32⟩
  | .local _ .vmem, ⟨17, _⟩ => ⟨S128x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnInAdamWIdeal.lean ====
abbrev S1024x576 : Shape := ⟨2, ![1024, 576]⟩
abbrev S128x576 : Shape := ⟨2, ![128, 576]⟩

abbrev nBuf : Space → Nat
  | .hbm => 9
  | .vmem => 18
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S1024x576, .f32⟩
  | .hbm, ⟨7, _⟩ => ⟨S1024x576, .f32⟩
  | .hbm, ⟨8, _⟩ => ⟨S1024x576, .f32⟩
  | .local _ .vmem, ⟨0, _⟩ => ⟨S128x576, .f32⟩
  | .local _ .vmem, ⟨1, _⟩ => ⟨S128x576, .f32⟩
  | .local _ .vmem, ⟨2, _⟩ => ⟨S128x576, .f32⟩
  | .local _ .vmem, ⟨3, _⟩ => ⟨S128x576, .f32⟩
  | .local _ .vmem, ⟨4, _⟩ => ⟨S128x576, .f32⟩
  | .local _ .vmem, ⟨5, _⟩ => ⟨S128x576, .f32⟩
  | .local _ .vmem, ⟨6, _⟩ => ⟨S128x576, .f32⟩
  | .local _ .vmem, ⟨7, _⟩ => ⟨S128x576, .f32⟩
  | .local _ .vmem, ⟨8, _⟩ => ⟨S128x576, .f32⟩
  | .local _ .vmem, ⟨9, _⟩ => ⟨S128x576, .f32⟩
  | .local _ .vmem, ⟨10, _⟩ => ⟨S128x576, .f32⟩
  | .local _ .vmem, ⟨11, _⟩ => ⟨S128x576, .f32⟩
  | .local _ .vmem, ⟨12, _⟩ => ⟨S128x576, .f32⟩
  | .local _ .vmem, ⟨13, _⟩ => ⟨S128x576, .f32⟩
  | .local _ .vmem, ⟨14, _⟩ => ⟨S128x576, .f32⟩
  | .local _ .vmem, ⟨15, _⟩ => ⟨S128x576, .f32⟩
  | .local _ .vmem, ⟨16, _⟩ => ⟨S128x576, .f32⟩
  | .local _ .vmem, ⟨17, _⟩ => ⟨S128x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnInAdamWRefIdeal.lean ====
abbrev S1024x576 : Shape := ⟨2, ![1024, 576]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S_, .f32⟩
  | .hbm, ⟨7, _⟩ => ⟨S1024x576, .f32⟩
  | .hbm, ⟨8, _⟩ => ⟨S1024x576, .f32⟩
  | .hbm, ⟨9, _⟩ => ⟨S_, .f32⟩
  | .hbm, ⟨10, _⟩ => ⟨S1024x576, .f32⟩
  | .hbm, ⟨11, _⟩ => ⟨S1024x576, .f32⟩
  | .hbm, ⟨12, _⟩ => ⟨S1024x576, .f32⟩
  | .hbm, ⟨13, _⟩ => ⟨S_, .f32⟩
  | .hbm, ⟨14, _⟩ => ⟨S1024x576, .f32⟩
  | .hbm, ⟨15, _⟩ => ⟨S1024x576, .f32⟩
  | .hbm, ⟨16, _⟩ => ⟨S1024x576, .f32⟩
  | .hbm, ⟨17, _⟩ => ⟨S_, .f32⟩
  | .hbm, ⟨18, _⟩ => ⟨S1024x576, .f32⟩
  | .hbm, ⟨19, _⟩ => ⟨S1024x576, .f32⟩
  | .hbm, ⟨20, _⟩ => ⟨S1024x576, .f32⟩
  | .hbm, ⟨21, _⟩ => ⟨S_, .f32⟩
  | .hbm, ⟨22, _⟩ => ⟨S1024x576, .f32⟩
  | .hbm, ⟨23, _⟩ => ⟨S1024x576, .f32⟩
  | .hbm, ⟨24, _⟩ => ⟨S_, .f32⟩
  | .hbm, ⟨25, _⟩ => ⟨S1024x576, .f32⟩
  | .hbm, ⟨26, _⟩ => ⟨S1024x576, .f32⟩
  | .hbm, ⟨27, _⟩ => ⟨S1024x576, .f32⟩
  | .hbm, ⟨28, _⟩ => ⟨S_, .f32⟩
  | .hbm, ⟨29, _⟩ => ⟨S1024x576, .f32⟩
  | .hbm, ⟨30, _⟩ => ⟨S1024x576, .f32⟩
  | .hbm, ⟨31, _⟩ => ⟨S1024x576, .f32⟩
  | .hbm, ⟨32, _⟩ => ⟨S_, .f32⟩
  | .hbm, ⟨33, _⟩ => ⟨S1024x576, .f32⟩
  | .hbm, ⟨34, _⟩ => ⟨S1024x576, .f32⟩
  | .hbm, ⟨35, _⟩ => ⟨S1024x576, .f32⟩
  | .hbm, ⟨36, _⟩ => ⟨S_, .f32⟩
  | .hbm, ⟨37, _⟩ => ⟨S1024x576, .f32⟩
  | .hbm, ⟨38, _⟩ => ⟨S1024x576, .f32⟩
  | _, _ => ⟨S1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RecInAdamW.lean ====
abbrev S1024x1024 : Shape := ⟨2, ![1024, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RecInAdamWIdeal.lean ====
abbrev S1024x1024 : Shape := ⟨2, ![1024, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RecInAdamWRefIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== OutAdamW.lean ====
abbrev S256x1024 : Shape := ⟨2, ![256, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutAdamWRefIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.RowNorm.lean ====
/- The gradient of a root-mean-square norm along one row, over the extended reals, in the two forms the programs have it.
   Nothing is assumed finite: where the mean of the squares is infinite the scale `r` is zero, and everywhere else it is a
   real, so multiplying by it distributes over every sum. -/
module

public import Idealize.ShloMosaic.PureOps.Ideal
public import Idealize.ShloMosaic.Lib.Pointwise
public import Idealize.ShloMosaic.Lib.Pipeline.ValueKit

@[expose] public section

noncomputable section

namespace Cert.RowNorm

open Idealize.ShloMosaic

/-- The 8192 rows in eight blocks of 1024. -/
theorem sum_rows {N : ℕ} (hN : N = 8) (g : Fin 8192 → EReal) (h : ∀ (p : Fin N) (i : Fin 1024), 1024 * p.val + i.val < 8192) :
    (∑ p : Fin N, ∑ i : Fin 1024, g ⟨1024 * p.val + i.val, h p i⟩) = ∑ n, g n :=
  Fin.sum_mul_add_congr (fun t k _ => by congr 2; omega) (by rw [hN])

/-- The constants of the norm: the row's length, minus one half, and the positive number added to the mean of the squares. -/
theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1/2) : ℝ) : EReal) := by
  simp [Ideal.ofBits, Ideal.ieee, -EReal.coe_mul]; norm_num
theorem eps_pos : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

/-- Multiplying by a nonnegative real distributes over a finite sum. -/
theorem sum_mul_coe {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (by exact_mod_cast hr) (EReal.coe_ne_top r) _ _

/-- The scale of a row: of a positive number the inverse root is a real `r ≥ 0`, and `r / D = r³`. -/
theorem scale (D : EReal) (hD : 0 < D) :
    ∃ r : ℝ, 0 ≤ r ∧ Ideal.rsqrt D = (r : EReal) ∧ Ideal.div (r : EReal) D = ((r * r * r : ℝ) : EReal) := by
  induction D using EReal.rec with
  | bot => exact absurd hD (by simp)
  | top => exact ⟨0, le_refl _, rfl, by simp [Ideal.div]⟩
  | coe d =>
    have hd : 0 < d := by exact_mod_cast hD
    refine ⟨(Real.sqrt d)⁻¹, by positivity, ?_, ?_⟩
    · show (if d < 0 then (⊥ : EReal) else if d = 0 then ⊤ else (((Real.sqrt d)⁻¹ : ℝ) : EReal)) = _
      rw [if_neg (not_lt.mpr hd.le), if_neg hd.ne']
    · unfold Ideal.div
      rw [if_neg (by exact_mod_cast hd.ne'), ← EReal.coe_inv, ← EReal.coe_mul]
      congr 1
      have hs : Real.sqrt d * Real.sqrt d = d := Real.mul_self_sqrt hd.le
      have h0 : Real.sqrt d ≠ 0 := (Real.sqrt_pos.mpr hd).ne'
      rw [mul_assoc, ← mul_inv (Real.sqrt d) (Real.sqrt d), hs]

/-- A sum of squares is not negative. -/
theorem sq_nonneg (x : EReal) : 0 ≤ x * x := by
  induction x using EReal.rec with
  | bot => simp
  | top => simp
  | coe a => rw [← EReal.coe_mul]; exact_mod_cast mul_self_nonneg a

/-- Division by a positive real is multiplication by its inverse. -/
theorem div_real (x : EReal) (a : ℝ) (ha : a ≠ 0) : Ideal.div x (a : EReal) = x * ((a⁻¹ : ℝ) : EReal) := by
  unfold Ideal.div
  rw [if_neg (by exact_mod_cast ha), ← EReal.coe_inv]

/-- Mean of the squares plus a positive constant: positive. -/
theorem mean_pos {ι : Type} (s : Finset ι) (x : ι → EReal) (n e : ℝ) (hn : 0 < n) (he : 0 < e) :
    0 < Ideal.div (∑ k ∈ s, x k * x k) (n : EReal) + (e : EReal) := by
  rw [div_real _ _ hn.ne']
  have h : (0 : EReal) ≤ (∑ k ∈ s, x k * x k) * ((n⁻¹ : ℝ) : EReal) :=
    mul_nonneg (Finset.sum_nonneg fun k _ => sq_nonneg (x k)) (by exact_mod_cast (inv_pos.mpr hn).le)
  calc (0 : EReal) < (e : EReal) := by exact_mod_cast he
    _ = 0 + (e : EReal) := (zero_add _).symm
    _ ≤ _ := add_le_add_left h _

/-- The row gradient. On the left the form with one product per row, `r (g − x̂ mean(g x̂))` with `x̂ = x r`; on the
    right the chain rule through the square, the mean and the inverse root, its two equal halves added one after the
    other. `o` is what is added to it, `g` the gradient at the scaled row. -/
theorem row_grad {ι : Type} (s : Finset ι) (x g : ι → EReal) (D o : EReal) (hD : 0 < D) (n : ℝ) (hn : 0 < n) (j : ι) :
    Ideal.rsqrt D * (g j - x j * Ideal.rsqrt D * Ideal.div (∑ k ∈ s, g k * (x k * Ideal.rsqrt D)) (n : EReal)) + o
      = o + g j * Ideal.rsqrt D
          + x j * Ideal.div ((∑ k ∈ s, x k * g k) * (((-(1/2) : ℝ) : EReal) * Ideal.div (Ideal.rsqrt D) D)) (n : EReal)
          + Ideal.div ((∑ k ∈ s, x k * g k) * (((-(1/2) : ℝ) : EReal) * Ideal.div (Ideal.rsqrt D) D)) (n : EReal) * x j := by
  obtain ⟨r, hr, e, e3⟩ := scale D hD
  rw [e, e3, div_real _ _ hn.ne', div_real _ _ hn.ne', ← EReal.coe_mul]
  have hS : (∑ k ∈ s, g k * (x k * (r : EReal))) = (∑ k ∈ s, x k * g k) * (r : EReal) := by
    rw [sum_mul_coe s _ r hr]
    exact Finset.sum_congr rfl fun k _ => by rw [← mul_assoc, mul_comm (g k)]
  rw [hS]
  generalize (∑ k ∈ s, x k * g k) = S
  -- both correction terms are a real times `x j * S`
  have hL : x j * (r : EReal) * (S * (r : EReal) * ((n⁻¹ : ℝ) : EReal)) = ((r * r * n⁻¹ : ℝ) : EReal) * (x j * S) := by
    rw [EReal.coe_mul, EReal.coe_mul]; ac_rfl
  have hq : x j * (S * ((-(1/2) * (r * r * r) : ℝ) : EReal) * ((n⁻¹ : ℝ) : EReal))
      = ((-(1/2) * (r * r * r) * n⁻¹ : ℝ) : EReal) * (x j * S) := by
    rw [EReal.coe_mul (-(1/2) * (r * r * r))]; ac_rfl
  rw [mul_comm (S * _ * _) (x j), hq, hL]
  generalize x j * S = T
  rw [sub_eq_add_neg, EReal.left_distrib_of_nonneg_of_ne_top (by exact_mod_cast hr) (EReal.coe_ne_top r)]
  have h2 : ((-(1/2) * (r * r * r) * n⁻¹ : ℝ) : EReal) * T + ((-(1/2) * (r * r * r) * n⁻¹ : ℝ) : EReal) * T
      = (r : EReal) * -(((r * r * n⁻¹ : ℝ) : EReal) * T) := by
    rw [← EReal.neg_mul, ← mul_assoc (r : EReal), ← EReal.coe_neg, ← EReal.coe_mul r]
    have hc : r * -(r * r * n⁻¹) = -(r * r * r * n⁻¹) := by ring
    have hh : -(1/2) * (r * r * r) * n⁻¹ = -(r * r * r * n⁻¹ / 2) := by ring
    have hp : 0 ≤ r * r * r * n⁻¹ := by positivity
    rw [hc, hh]
    generalize r * r * r * n⁻¹ = b at hp
    rcases hp.eq_or_lt with h | h
    · rw [← h]; simp
    · induction T using EReal.rec with
      | bot =>
        rw [EReal.coe_mul_bot_of_neg (by linarith), EReal.coe_mul_bot_of_neg (by linarith)]; rfl
      | top =>
        rw [EReal.coe_mul_top_of_neg (by linarith), EReal.coe_mul_top_of_neg (by linarith)]; rfl
      | coe t =>
        rw [← EReal.coe_mul, ← EReal.coe_mul, ← EReal.coe_add]; congr 1; ring
  rw [add_assoc (o + _), h2, mul_comm (r : EReal) (g j)]
  abel

end Cert.RowNorm

end
-- ==== Proof.InDxRow.lean ====
module

public import proofs.«01_k».proof.Proof.Gen.InDxIdeal.Value
public import proofs.«01_k».proof.Proof.Gen.InDxRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.InDxIdeal.Row

open Cert.InDxIdeal Cert.InDxIdeal.Gen
open Idealize.ShloMosaic Idealize.ShloMosaic.TcCoe Idealize.SL.Sem

variable (m : (ℓ : Loc nD τ sig) → Buf (Elt Ideal) ℓ)

/-- Where each window's block lies at a point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0])

/-- A sum over 4096 columns as four sums over 1024. -/
theorem sum_blocks (f : Fin 4096 → EReal) :
    (∑ k : Fin 1024, f ⟨k.val, by omega⟩) + (∑ k : Fin 1024, f ⟨1024 + k.val, by omega⟩) + (∑ k : Fin 1024, f ⟨2048 + k.val, by omega⟩)
      + (∑ k : Fin 1024, f ⟨3072 + k.val, by omega⟩) = ∑ k, f k := by
  rw [Fin.sum_univ_two_halves 2048 2048 rfl f, Fin.sum_univ_two_halves 1024 1024 rfl fun k : Fin 2048 => f ⟨k.val, by omega⟩,
    Fin.sum_univ_two_halves 1024 1024 rfl fun k : Fin 2048 => f ⟨2048 + k.val, by omega⟩, ← add_assoc]
  rfl

open Cert.InDxRefIdeal.Read in
/-- The product with the transposed weight, its four column blocks one after the other. -/
theorem product (x0 : (⟨S8192x4096, .bf16⟩ : BufTy).Contents (Elt Ideal)) (x1 : (⟨S1024x4096, .f32⟩ : BufTy).Contents (Elt Ideal))
    (A : S1024x4096.Idx → EReal) (B : S4x1024x1024.Idx → EReal) (i : Fin 1024) (n : Fin 8192) (hA : ∀ k, A (ix2 i k) = x0 (ix2 n k))
    (hB : ∀ (b : Fin 4) (d k : Fin 1024), B (ix3 b d k) = x1 (ix2 d ⟨b.val * 1024 + k.val, by omega⟩)) (d : Fin 1024) :
    (∑ k : Fin 1024, A (ix2 i ⟨k.val, by omega⟩) * B (ix3 0 d k)) + (∑ k : Fin 1024, A (ix2 i ⟨1024 + k.val, by omega⟩) * B (ix3 1 d k))
        + (∑ k : Fin 1024, A (ix2 i ⟨2048 + k.val, by omega⟩) * B (ix3 2 d k)) + (∑ k : Fin 1024, A (ix2 i ⟨3072 + k.val, by omega⟩) * B (ix3 3 d k))
      = val_main_v19 (F := Ideal) x0 x1 (ix2 n d) := by
  pointwise [val_main_v19, val_main_v18]
  rw [← sum_blocks]
  simp only [hA, hB]
  congr! 8
  simp

/-- The token block of the gradient, read from the argument. -/
theorem read0 (c : Dev nD) (t : Fin cfg0.N) (i : Fin 1024) (n : Fin 8192) (hn : n.val = 1024 * t.val + i.val) (k : Fin 4096) :
    iblk m c 0 t (ix2 i k) = m ((c.tc : Thread nD τ).loc main_arg0) (ix2 n k) := by
  obtain ⟨h0, h1, h2, h3, h4, h5⟩ := idx t
  blk_ext [iblk, V, h0]

/-- The weight's four column blocks, read from the argument. -/
theorem read1 (c : Dev nD) (t : Fin cfg0.N) (b : Fin 4) (d k : Fin 1024) :
    iblk m c 1 t (ix3 b d k) = m ((c.tc : Thread nD τ).loc main_arg1) (ix2 d ⟨b.val * 1024 + k.val, by omega⟩) := by
  obtain ⟨h0, h1, h2, h3, h4, h5⟩ := idx t
  have hb : iblk m c 1 t (ix3 b d k) = V m c main_v2 (ix3 b d k) := by blk_ext [iblk, h1]
  rw [hb]
  entry_read
  pointwise
  try rfl

/-- The token block of the activations, read from the argument. -/
theorem read2 (c : Dev nD) (t : Fin cfg0.N) (i : Fin 1024) (n : Fin 8192) (hn : n.val = 1024 * t.val + i.val) (k : Fin 1024) :
    iblk m c 2 t (ix2 i k) = m ((c.tc : Thread nD τ).loc main_arg2) (ix2 n k) := by
  obtain ⟨h0, h1, h2, h3, h4, h5⟩ := idx t
  blk_ext [iblk, V, h2]

/-- The norm's weight, read from the argument. -/
theorem read3 (c : Dev nD) (t : Fin cfg0.N) (k : Fin 1024) :
    iblk m c 3 t (ix2 0 k) = m ((c.tc : Thread nD τ).loc main_arg3) (ix2 0 k) := by
  obtain ⟨h0, h1, h2, h3, h4, h5⟩ := idx t
  blk_ext [iblk, V, h3]

/-- The token block of the gradient that goes past the norm, read from the argument. -/
theorem read4 (c : Dev nD) (t : Fin cfg0.N) (i : Fin 1024) (n : Fin 8192) (hn : n.val = 1024 * t.val + i.val) (k : Fin 1024) :
    iblk m c 4 t (ix2 i k) = m ((c.tc : Thread nD τ).loc main_arg4) (ix2 n k) := by
  obtain ⟨h0, h1, h2, h3, h4, h5⟩ := idx t
  blk_ext [iblk, V, h4]

open Cert.InDxRefIdeal.Read in
/-- The reference's input gradient at an element. -/
theorem reference_row (x0 : (⟨S8192x4096, .bf16⟩ : BufTy).Contents (Elt Ideal)) (x1 : (⟨S1024x4096, .f32⟩ : BufTy).Contents (Elt Ideal))
    (x2 : (⟨S8192x1024, .f32⟩ : BufTy).Contents (Elt Ideal)) (x3 : (⟨S1x1024, .f32⟩ : BufTy).Contents (Elt Ideal))
    (x4 : (⟨S8192x1024, .f32⟩ : BufTy).Contents (Elt Ideal)) (n : Fin 8192) (d : Fin 1024) :
    val_main_v40 (F := Ideal) x0 x1 x2 x3 x4 (ix2 n d)
      = Ideal.rsqrt (Ideal.div (∑ k, x2 (ix2 n k) * x2 (ix2 n k)) (Ideal.ofBits .f32 0x44800000#32) + Ideal.ofBits .f32 0x358637BD#32)
          * (val_main_v19 (F := Ideal) x0 x1 (ix2 n d) * x3 (ix2 0 d) - x2 (ix2 n d)
            * Ideal.rsqrt (Ideal.div (∑ k, x2 (ix2 n k) * x2 (ix2 n k)) (Ideal.ofBits .f32 0x44800000#32) + Ideal.ofBits .f32 0x358637BD#32)
            * Ideal.div (∑ j, val_main_v19 (F := Ideal) x0 x1 (ix2 n j) * x3 (ix2 0 j) * (x2 (ix2 n j)
              * Ideal.rsqrt (Ideal.div (∑ k, x2 (ix2 n k) * x2 (ix2 n k)) (Ideal.ofBits .f32 0x44800000#32) + Ideal.ofBits .f32 0x358637BD#32)))
                (Ideal.ofBits .f32 0x44800000#32))
        + x4 (ix2 n d) := by
  unfold val_main_v40 val_main_v39 val_main_v38 val_main_v37 val_main_v36 val_main_v35 val_main_v34 val_main_v33 val_main_v32 val_main_v31 val_main_v30 val_main_v29 val_main_v28 val_main_v27 val_main_v26 val_main_v24 val_main_v23
  generalize val_main_v19 (F := Ideal) x0 x1 = DH
  unfold val_main_v14 val_main_v11 val_main_v10 val_main_v9 val_main_v8 val_main_v7 val_main_v6 val_main_v5 val_main_v4 val_main_v3 val_main_v2 val_main_v1 val_main_v0 val_main_cst_1 val_main_cst_2 val_main_cst_5 val_main_cst_6 val_main_cst_7 val_main_cst val_main_cst_0
  pointwise
  simp only [Finset.univ_unique, Finset.sum_singleton]
  obtain ⟨e, he, hE⟩ := RowNorm.eps_pos
  rw [RowNorm.ofBits_1024, RowNorm.ofBits_neg_half, hE]
  exact (RowNorm.row_grad Finset.univ (fun k => x2 (ix2 n k)) (fun k => DH (ix2 n k) * x3 (ix2 0 k)) _ (x4 (ix2 n d))
    (RowNorm.mean_pos Finset.univ (fun k => x2 (ix2 n k)) 1024 e (by norm_num) he) 1024 (by norm_num) d).symm

set_option maxHeartbeats 1000000 in
/-- The input gradient the kernel leaves is the reference's. -/
theorem out5 (c : Dev nD) : (dats m 0 c).arrAt 5 (cfgs 0).N
    = Cert.InDxRefIdeal.Read.val_main_v40 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have hN : t.val < 8 := lt_of_lt_of_eq t.isLt (show cfg0.N = 8 from N_0)
  obtain ⟨h0, h1, h2, h3, h4, h5⟩ := idx t
  idx_vars y
  have he : ((cfg0.win 5).blk t).view.emb (ix2 y0 y1) = (ix2 (⟨1024 * t.val + y0.val, by omega⟩ : Fin 8192) y1 : S8192x1024.Idx) := by
    blk_ext [h5]
  have e2 := read2 m c t y0 ⟨1024 * t.val + y0.val, by omega⟩ rfl
  have e3 := read3 m c t
  have e4 := read4 m c t y0 ⟨1024 * t.val + y0.val, by omega⟩ rfl
  have ep := product _ _ (iblk m c 0 t) (iblk m c 1 t) y0 ⟨1024 * t.val + y0.val, by omega⟩
    (read0 m c t y0 _ rfl) (read1 m c t)
  blk_simp
  rw [after0_5, he, reference_row]
  by_cases hA : t.val % 8 = 0
  · rw [outsAt0_A m c t hA]
    frame_out
    pointwise [k0_pay1, k0_pay2, k0_pay4, k0_pay6, k0_pay7]
    simp only [ep, e2, e3, e4]
  · rw [outsAt0_B m c t hA]
    frame_out
    pointwise [k0_pay1, k0_pay2, k0_pay4, k0_pay6, k0_pay7]
    simp only [ep, e2, e3, e4]

end Cert.InDxIdeal.Row

end
-- ==== Proof.InDxCol.lean ====
module

public import proofs.«01_k».proof.Proof.InDxRow

@[expose] public section

set_option maxRecDepth 16384

noncomputable section

namespace Cert.InDxIdeal.Row

open Cert.InDxIdeal Cert.InDxIdeal.Gen
open Idealize.ShloMosaic Idealize.ShloMosaic.TcCoe Idealize.SL.Sem

variable (m : (ℓ : Loc nD τ sig) → Buf (Elt Ideal) ℓ)

open Cert.InDxRefIdeal.Read in
/-- One row's contribution to the gradient of the norm's weight. -/
def rowTerm (c : Dev nD) (n : Fin 8192) (d : Fin 1024) : EReal :=
  val_main_v20 (F := Ideal) (m ((c.tc : Thread nD τ).loc main_arg0)) (m ((c.tc : Thread nD τ).loc main_arg1)) (m ((c.tc : Thread nD τ).loc main_arg2)) (ix2 n d)

theorem last_lt : 7 < cfg0.N := by rw [show cfg0.N = 8 from N_0]; decide

theorem lt8 (t : Fin cfg0.N) : t.val < 8 := lt_of_lt_of_eq t.isLt (show cfg0.N = 8 from N_0)

open Cert.InDxRefIdeal.Read in
/-- What the kernel adds for one row of its block is that row's contribution. -/
theorem row_term (c : Dev nD) (t : Fin cfg0.N) (i d : Fin 1024) (P : EReal) (X : S1024x1024.Idx → EReal)
    (hP : P = val_main_v19 (F := Ideal) (m ((c.tc : Thread nD τ).loc main_arg0)) (m ((c.tc : Thread nD τ).loc main_arg1))
      (ix2 ⟨1024 * t.val + i.val, by have := lt8 t; omega⟩ d))
    (hX : ∀ k, X (ix2 i k) = m ((c.tc : Thread nD τ).loc main_arg2) (ix2 ⟨1024 * t.val + i.val, by have := lt8 t; omega⟩ k)) :
    P * (X (ix2 i d) * Ideal.rsqrt (Ideal.div (∑ k, X (ix2 i k) * X (ix2 i k)) (Ideal.ofBits .f32 0x44800000#32) + Ideal.ofBits .f32 0x358637BD#32))
      = rowTerm m c ⟨1024 * t.val + i.val, by have := lt8 t; omega⟩ d := by
  rw [hP, rowTerm, val_main_v20]
  simp only [hX]
  generalize val_main_v19 (F := Ideal) (m ((c.tc : Thread nD τ).loc main_arg0)) (m ((c.tc : Thread nD τ).loc main_arg1)) = DH
  unfold val_main_v13 val_main_v12 val_main_v8 val_main_v7 val_main_v6 val_main_v5 val_main_v4 val_main_v3 val_main_v2 val_main_v1 val_main_cst_1 val_main_cst val_main_cst_0
  pointwise
  exact mul_comm _ _

set_option maxHeartbeats 1000000 in
/-- A point adds its 1024 rows' contributions to what the point before left. -/
theorem step (c : Dev nD) (t : Fin cfg0.N) (h0 : ¬t.val % 8 = 0) (y : S1x1024.Idx) : (outsAt0 m c t.val t.isLt).2 y
    = (outsAt0 m c (t.val - 1) (by omega)).2 y + ∑ i : Fin 1024, rowTerm m c ⟨1024 * t.val + i.val, by have := lt8 t; omega⟩ (y 1) := by
  have ht := lt8 t
  rw [outsAt0_B m c t h0]
  frame_out
  idx_vars y
  pointwise [k0_pay1, k0_pay2, k0_pay3, k0_pay6, k0_pay7]
  congr 1
  refine Finset.sum_congr rfl fun i _ => row_term m c t i _ _ (iblk m c 2 t) ?_ (read2 m c t i _ rfl)
  exact product _ _ (iblk m c 0 t) (iblk m c 1 t) i _ (read0 m c t i _ rfl) (read1 m c t) _

set_option maxHeartbeats 1000000 in
/-- The first point starts from zero. -/
theorem start (c : Dev nD) (t : Fin cfg0.N) (h0 : t.val % 8 = 0) (y : S1x1024.Idx) : (outsAt0 m c t.val t.isLt).2 y
    = 0 + ∑ i : Fin 1024, rowTerm m c ⟨1024 * t.val + i.val, by have := lt8 t; omega⟩ (y 1) := by
  have ht := lt8 t
  rw [outsAt0_A m c t h0]
  frame_out
  idx_vars y
  pointwise [k0_pay1, k0_pay2, k0_pay3, k0_pay5, k0_pay6, k0_pay7]
  first | rw [zero_add] | skip
  refine Finset.sum_congr rfl fun i _ => row_term m c t i _ _ (iblk m c 2 t) ?_ (read2 m c t i _ rfl)
  exact product _ _ (iblk m c 0 t) (iblk m c 1 t) i _ (read0 m c t i _ rfl) (read1 m c t) _

open Cert.InDxRefIdeal.Read in
/-- The gradient of the norm's weight the kernel leaves is the reference's. -/
theorem out6 (c : Dev nD) : (dats m 0 c).arrAt 6 (cfgs 0).N
    = val_main_v41 (F := Ideal) (m ((c.tc : Thread nD τ).loc main_arg0)) (m ((c.tc : Thread nD τ).loc main_arg1))
        (m ((c.tc : Thread nD τ).loc main_arg2)) := by
  refine (dats m 0 c).arrAt_eq_of_after_last 6 t0_7 (by decide +kernel) _ fun y => ?_
  blk_simp
  rw [after0_6]
  idx_vars y
  have hs := Pipeline.eq_sum_fin_of_reset_step_apply_last (fun n h => (outsAt0 m c n h).2) 8 (fun _ => (0 : EReal))
    (fun t y => ∑ i : Fin 1024, rowTerm m c ⟨1024 * t.val + i.val, by have := lt8 t; omega⟩ (y 1))
    (fun t h0 y => start m c t h0 y) (fun t h0 y => step m c t h0 y) (le_of_eq N_0) t0_7 rfl (ix2 y0 y1)
  rw [zero_add] at hs
  refine hs.trans ?_
  unfold val_main_v41 val_main_v25 val_main_v22 val_main_v21 val_main_cst_3 val_main_cst_4
  have hr : ∀ n d, val_main_v20 (F := Ideal) (m ((c.tc : Thread nD τ).loc main_arg0)) (m ((c.tc : Thread nD τ).loc main_arg1))
      (m ((c.tc : Thread nD τ).loc main_arg2)) (ix2 n d) = rowTerm m c n d := fun _ _ => rfl
  revert hr
  generalize val_main_v20 (F := Ideal) (m ((c.tc : Thread nD τ).loc main_arg0)) (m ((c.tc : Thread nD τ).loc main_arg1))
      (m ((c.tc : Thread nD τ).loc main_arg2)) = T
  intro hr
  pointwise
  simp only [Finset.univ_unique, Finset.sum_singleton, hr]
  exact RowNorm.sum_rows N_0 (fun n => rowTerm m c n y1) _

end Cert.InDxIdeal.Row

end
-- ==== Proof.AttnTile.lean ====
module

public import proofs.«01_k».proof.Proof.Gen.AttnBwdIdeal.Frame
public import proofs.«01_k».proof.Proof.Gen.AttnBwdIdeal.Skeleton

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid: both coordinates are zero. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The first tile of a sequence: the second coordinate is zero. -/
abbrev head (i : grid0.Coords) : Prop :=
  Scalar.cmpi .ne (Scalar.extui (Scalar.cmpi .eq (BitVec.ofNat 32 (i 1).val) 0#32)) 0#32 = 1#1

/-- The rows of the tile before this one, in closed form: the first tile takes its own. -/
instance (i : grid0.Coords) : ClosedOff (k0_off4 i) :=
  ⟨![0, 128 * ((i 1).val - 1)], by
    have h : ∀ a : Fin 16, (Scalar.muli (Scalar.maxsi (Scalar.subi (BitVec.ofNat 32 a.val) 1#32) 0#32) 128#32).toNat = 128 * (a.val - 1) := by decide +kernel
    exact congrArg (fun n => ![0, n]) (h (i 1))⟩

/-- The rows of this tile, in closed form. -/
instance (i : grid0.Coords) : ClosedOff (k0_off5 i) :=
  ⟨![0, 128 * (i 1).val], by
    have h : ∀ a : Fin 16, (Scalar.muli (BitVec.ofNat 32 a.val) 128#32).toNat = 128 * a.val := by decide +kernel
    exact congrArg (fun n => ![0, n]) (h (i 1))⟩

set_option maxHeartbeats 16000000 in
/-- The body at any other tile. It gives every operand back as it was, and each result
    and the scratch at some contents. -/
theorem runC (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (arg13 : Memref sig .tc .vmem S3x512x256 .f32) (harg13 : arg13.IsWhole)
    (hc0 : ¬first i) (hc1 : ¬head i) (hp : 1 ≤ (i 1).val) (x0 : Vec F S128x1024 .bf16) (x1 : Vec F S2048x128 .bf16) (x2 : Vec F S2048x128 .bf16) (x3 : Vec F S128x1024 .f32) (x4 : Vec F S2x2x512x128 .f32) (x5 : Vec F S128x1024 .bf16) (x6 : Vec F S128x48 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.AttnBwdIdeal.Body

end
-- ==== Proof.AttnHead.lean ====
module

public import proofs.«01_k».proof.Proof.Gen.AttnBwdIdeal.Frame
public import proofs.«01_k».proof.Proof.AttnTile

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at the first tile of a later sequence: the key and value accumulators are cleared. It gives every operand back as it was, and each result
    and the scratch at some contents. -/
theorem runB (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (arg13 : Memref sig .tc .vmem S3x512x256 .f32) (harg13 : arg13.IsWhole)
    (hc0 : ¬first i) (hc1 : head i) (hz : (i 1).val = 0) (x0 : Vec F S128x1024 .bf16) (x1 : Vec F S2048x128 .bf16) (x2 : Vec F S2048x128 .bf16) (x3 : Vec F S128x1024 .f32) (x4 : Vec F S2x2x512x128 .f32) (x5 : Vec F S128x1024 .bf16) (x6 : Vec F S128x48 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.AttnBwdIdeal.Body

end
-- ==== Proof.AttnFirst.lean ====
module

public import proofs.«01_k».proof.Proof.Gen.AttnBwdIdeal.Frame
public import proofs.«01_k».proof.Proof.AttnTile

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at the first point of the grid: the additive tables are built and the accumulators cleared. It gives every operand back as it was, and each result
    and the scratch at some contents. -/
theorem runA (c : Dev nD) (i : grid0.Coords) (arg2 : Memref sig .tc .vmem S128x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S128x1024 .f32) (harg5 : arg5.IsWhole) (arg6 : Memref sig .tc .vmem S2x2x512x128 .f32) (harg6 : arg6.IsWhole) (arg7 : Memref sig .tc .vmem S128x1024 .bf16) (harg7 : arg7.IsWhole) (arg8 : Memref sig .tc .vmem S128x48 .bf16) (harg8 : arg8.IsWhole) (arg9 : Memref sig .tc .vmem S128x2304 .bf16) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2x2x4x128 .f32) (harg12 : arg12.IsWhole) (arg13 : Memref sig .tc .vmem S3x512x256 .f32) (harg13 : arg13.IsWhole)
    (hc0 : first i) (hc1 : head i) (hz : (i 1).val = 0) (x0 : Vec F S128x1024 .bf16) (x1 : Vec F S2048x128 .bf16) (x2 : Vec F S2048x128 .bf16) (x3 : Vec F S128x1024 .f32) (x4 : Vec F S2x2x512x128 .f32) (x5 : Vec F S128x1024 .bf16) (x6 : Vec F S128x48 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.AttnBwdIdeal.Body

end
-- ==== Proof.AttnFrame.lean ====
module

public import proofs.«01_k».proof.Proof.Gen.AttnBwdIdeal.Frame
public import proofs.«01_k».proof.Proof.AttnHead
public import proofs.«01_k».proof.Proof.AttnFirst
public import Idealize.ShloMosaic.Lib.Claim

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points at which the branches run, in closed form. -/
theorem first_iff : ∀ t : Fin cfg0.N, first (grid0.coords t) ↔ t.val = 0 :=
  (by decide +kernel : ∀ t : Fin grid0.N, first (grid0.coords t) ↔ t.val = 0)
theorem head_iff : ∀ t : Fin cfg0.N, head (grid0.coords t) ↔ t.val % 16 = 0 :=
  (by decide +kernel : ∀ t : Fin grid0.N, head (grid0.coords t) ↔ t.val % 16 = 0)
theorem tile_val : ∀ t : Fin cfg0.N, (grid0.coords t 1).val = t.val % 16 :=
  (by decide +kernel : ∀ t : Fin grid0.N, (grid0.coords t 1).val = t.val % 16)

/-- The results, of whose contents nothing is said. -/
def free : Fin 11 → Bool := fun w => 7 ≤ w.val

/-- The data of the one pipeline: the inputs stay at their blocks, the results are left unnamed. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem dat_A (c : Dev nD) (w : Fin cfg0.W) : (dat m 0 c).A w = V m c (Pipeline.arrRef spec0 w) := by
  dsimp only [dat]
theorem after_0 (c : Dev nD) (t : Fin cfg0.N) : (dat m 0 c).after 0 t = iblk m c 0 t := by dsimp only [dat]
theorem before_0 (c : Dev nD) (t : Fin cfg0.N) (d) : (dat m 0 c).before 0 t d = iblk m c 0 t :=
  before0_0_of m (dat m 0 c) (dat_A m c 0) (after_0 m c) t d
theorem after_1 (c : Dev nD) (t : Fin cfg0.N) : (dat m 0 c).after 1 t = iblk m c 1 t := by dsimp only [dat]
theorem before_1 (c : Dev nD) (t : Fin cfg0.N) (d) : (dat m 0 c).before 1 t d = iblk m c 1 t :=
  before0_1_of m (dat m 0 c) (dat_A m c 1) (after_1 m c) t d
theorem after_2 (c : Dev nD) (t : Fin cfg0.N) : (dat m 0 c).after 2 t = iblk m c 2 t := by dsimp only [dat]
theorem before_2 (c : Dev nD) (t : Fin cfg0.N) (d) : (dat m 0 c).before 2 t d = iblk m c 2 t :=
  before0_2_of m (dat m 0 c) (dat_A m c 2) (after_2 m c) t d
theorem after_3 (c : Dev nD) (t : Fin cfg0.N) : (dat m 0 c).after 3 t = iblk m c 3 t := by dsimp only [dat]
theorem before_3 (c : Dev nD) (t : Fin cfg0.N) (d) : (dat m 0 c).before 3 t d = iblk m c 3 t :=
  before0_3_of m (dat m 0 c) (dat_A m c 3) (after_3 m c) t d
theorem after_4 (c : Dev nD) (t : Fin cfg0.N) : (dat m 0 c).after 4 t = iblk m c 4 t := by dsimp only [dat]
theorem before_4 (c : Dev nD) (t : Fin cfg0.N) (d) : (dat m 0 c).before 4 t d = iblk m c 4 t :=
  before0_4_of m (dat m 0 c) (dat_A m c 4) (after_4 m c) t d
theorem after_5 (c : Dev nD) (t : Fin cfg0.N) : (dat m 0 c).after 5 t = iblk m c 5 t := by dsimp only [dat]
theorem before_5 (c : Dev nD) (t : Fin cfg0.N) (d) : (dat m 0 c).before 5 t d = iblk m c 5 t :=
  before0_5_of m (dat m 0 c) (dat_A m c 5) (after_5 m c) t d
theorem after_6 (c : Dev nD) (t : Fin cfg0.N) : (dat m 0 c).after 6 t = iblk m c 6 t := by dsimp only [dat]
theorem before_6 (c : Dev nD) (t : Fin cfg0.N) (d) : (dat m 0 c).before 6 t d = iblk m c 6 t :=
  before0_6_of m (dat m 0 c) (dat_A m c 6) (after_6 m c) t d

/-- What the body is called with at a point, and what it returns. -/
def bodyPre (c : Dev nD) (t : Fin cfg0.N) : sProp 𝕄 :=
  iprop((dat m 0 c).Φ t.castSucc ∗ (dat m 0 c).owesAt () t.castSucc
    ∗ (∃ d, owns (c : Thread nD τ) (st0_0 t) fullShare ((dat m 0 c).before 0 t d))
    ∗ (∃ d, owns (c : Thread nD τ) (st0_1 t) fullShare ((dat m 0 c).before 1 t d))
    ∗ (∃ d, owns (c : Thread nD τ) (st0_2 t) fullShare ((dat m 0 c).before 2 t d))
    ∗ (∃ d, owns (c : Thread nD τ) (st0_3 t) fullShare ((dat m 0 c).before 3 t d))
    ∗ (∃ d, owns (c : Thread nD τ) (st0_4 t) fullShare ((dat m 0 c).before 4 t d))
    ∗ (∃ d, owns (c : Thread nD τ) (st0_5 t) fullShare ((dat m 0 c).before 5 t d))
    ∗ (∃ d, owns (c : Thread nD τ) (st0_6 t) fullShare ((dat m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))
def bodyPost (c : Dev nD) (t : Fin cfg0.N) : sProp 𝕄 :=
  iprop((dat m 0 c).Φ t.succ ∗ (dat m 0 c).owesAt () t.succ
    ∗ owns (c : Thread nD τ) (st0_0 t) fullShare ((dat m 0 c).after 0 t)
    ∗ owns (c : Thread nD τ) (st0_1 t) fullShare ((dat m 0 c).after 1 t)
    ∗ owns (c : Thread nD τ) (st0_2 t) fullShare ((dat m 0 c).after 2 t)
    ∗ owns (c : Thread nD τ) (st0_3 t) fullShare ((dat m 0 c).after 3 t)
    ∗ owns (c : Thread nD τ) (st0_4 t) fullShare ((dat m 0 c).after 4 t)
    ∗ owns (c : Thread nD τ) (st0_5 t) fullShare ((dat m 0 c).after 5 t)
    ∗ owns (c : Thread nD τ) (st0_6 t) fullShare ((dat m 0 c).after 6 t)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- The invariant opened: the scratch at some contents, and the generator register. -/
theorem inv_eq (c : Dev nD) :
    (Pipeline.ΦA spec0 c : sProp 𝕄) = iprop((∃ d, owns (c : Thread nD τ) (Memref.whole cc0_scratch0) fullShare d) ∗ ∃ r, prngReg c r) := by
  unfold Pipeline.ΦA
  rw [scopedRest0_eq]
  simp only [owns_whole]

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dat m 0 c).Φ t.succ = Pipeline.ΦA spec0 c from rfl, show (dat m 0 c).Φ t.castSucc = Pipeline.ΦA spec0 c from rfl,
    show (dat m 0 c).owesAt () t.succ = (dat m 0 c).owesAt () t.castSucc from rfl, inv_eq,
    after_0, after_1, after_2, after_3, after_4, after_5, after_6]
  have hv := tile_val t
  by_cases h0 : t.val = 0
  on_goal 2 => by_cases h1 : t.val % 16 = 0
  · iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ ((first_iff t).mpr h0) ((head_iff t).mpr (by rw [h0])) (by rw [hv, h0]) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ (fun h => h0 ((first_iff t).mp h)) ((head_iff t).mpr h1) (by rw [hv, h1]) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) _ _ _ _ _ _ _ _ _ _ _ _ _ _ _ _ _ _ _ _ _ _ _ _ (fun h => h0 ((first_iff t).mp h)) (fun h => h1 ((head_iff t).mp h)) (by rw [hv]; omega) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at a point's buffers is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ free := fun t => by
  rw [bigSep_W0, bigSep_W0, row]
  exact triple_restated (sound_body m c t) rfl .rfl fun _ => .rfl

set_option backward.isDefEq.respectTransparency.types false in
/-- The launch: the inputs' arrays and every other buffer as they were, and every semaphore at zero. -/
theorem launch : θ_run defs (onTc (τ := τ) (main (F := F))) (s₀ m ρ)
    (fun r => (Pipeline.RDat.FramePost (cfgs 0) (fun c => (dat m 0 c).toRForget free) (V m)) r ∧ r.2.sem = fun _ => 0) :=
  Pipeline.θ_run_frame_forget (Q' := _) cfgs (dat m) (0 : Fin 1) launch0 defs₀ Variants.none free m ρ main
    (hbody := fun c => (obligation m c).loose) (hshare := fun c => (dat m 0 c).share_full fun _ => rfl)
    (howed := fun _ _ => rfl) (V := V m) (hmain := hmain m Variants.none) (hA := dat_A m) (hΦ := fun _ _ => rfl)

/-- Every run of the attention's backward call ends with its arguments unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hs⟩ => ⟨fun c => ⟨(Pipeline.RDat.FramePost.arr_in h c 0 rfl).trans ((dat_A m c 0).trans (V_main_arg0 m c)),
      (Pipeline.RDat.FramePost.arr_in h c 1 rfl).trans ((dat_A m c 1).trans (V_main_arg1 m c)),
      (Pipeline.RDat.FramePost.arr_in h c 2 rfl).trans ((dat_A m c 2).trans (V_main_arg2 m c)),
      (Pipeline.RDat.FramePost.arr_in h c 3 rfl).trans ((dat_A m c 3).trans (V_main_arg3 m c)),
      (Pipeline.RDat.FramePost.arr_in h c 4 rfl).trans ((dat_A m c 4).trans (V_main_arg4 m c)),
      (Pipeline.RDat.FramePost.arr_in h c 5 rfl).trans ((dat_A m c 5).trans (V_main_arg5 m c)),
      (Pipeline.RDat.FramePost.arr_in h c 6 rfl).trans ((dat_A m c 6).trans (V_main_arg6 m c))⟩, hs⟩) (launch m ρ)

end Cert.AttnBwdIdeal.Body

end
-- ==== Proof.AttnBits.lean ====
/- The attention's backward call is one text read over two kinds of float, so one run serves both frames. -/
module

public import proofs.«01_k».proof.Proof.AttnFrame
public import proofs.«01_k».proof.Proof.Gen.AttnBwd
public import proofs.«01_k».proof.Defs

@[expose] public section

set_option maxRecDepth 65536

namespace Cert.AttnBwdIdeal.Body

open Idealize.ShloMosaic Idealize.SL.Sem

variable {F : FTy → Type} [FloatOps F]

/-- The two programs' bodies are the same. -/
theorem bodies_eq : Cert.AttnBwd.defs₀ (F := F) = Cert.AttnBwdIdeal.defs₀ (F := F) := by
  unfold Cert.AttnBwd.defs₀ Cert.AttnBwdIdeal.defs₀
  refine congrArg _ (funext fun l => funext fun p => ?_)
  match l, p with
  | ⟨0, _⟩, (t, s) => exact rfl

/-- The two programs' definitions are the same. -/
theorem defs_eq : Cert.AttnBwd.defs (F := F) = Cert.AttnBwdIdeal.defs (F := F) :=
  congrArg (Pipeline.defs (Cert.AttnBwdIdeal.pcfgs (F := F))) bodies_eq

/-- Every run over machine floats ends with its arguments unchanged and every semaphore at zero. -/
theorem quiescent_bits : Cert.quiescent_AttnBwd := fun m ρ _ => by
  rw [defs_eq]
  exact quiescent (F := Bits) m ρ

end Cert.AttnBwdIdeal.Body
-- ==== Proof.AttnDxRow.lean ====
module

public import proofs.«01_k».proof.Proof.Gen.AttnDxIdeal.Value
public import proofs.«01_k».proof.Proof.Gen.AttnDxRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.AttnDxIdeal.Row

open Cert.AttnDxIdeal Cert.AttnDxIdeal.Gen
open Idealize.ShloMosaic Idealize.ShloMosaic.TcCoe Idealize.SL.Sem

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0])

open Cert.AttnDxRefIdeal.Read in
/-- The product with the transposed weight. -/
theorem product (x0 : (⟨S8192x2304, .bf16⟩ : BufTy).Contents (Elt Ideal)) (x1 : (⟨S1024x2304, .f32⟩ : BufTy).Contents (Elt Ideal))
    (A : S1024x2304.Idx → EReal) (B : S1024x2304.Idx → EReal) (i : Fin 1024) (n : Fin 8192) (hA : ∀ k, A (ix2 i k) = x0 (ix2 n k))
    (hB : ∀ d k, B (ix2 d k) = x1 (ix2 d k)) (d : Fin 1024) :
    (∑ k : Fin 2304, A (ix2 i k) * B (ix2 d k)) = val_main_v19 (F := Ideal) x0 x1 (ix2 n d) := by
  pointwise [val_main_v19, val_main_v18]
  simp only [hA, hB]

/-- The token block of the gradient, read from the argument. -/
theorem read0 (c : Dev nD) (t : Fin cfg0.N) (i : Fin 1024) (n : Fin 8192) (hn : n.val = 1024 * t.val + i.val) (k : Fin 2304) :
    iblk m c 0 t (ix2 i k) = m ((c.tc : Thread nD τ).loc main_arg0) (ix2 n k) := by
  obtain ⟨h0, h1, h2, h3, h4, h5⟩ := idx t
  blk_ext [iblk, V, h0]

/-- The weight, read from the argument. -/
theorem read1 (c : Dev nD) (t : Fin cfg0.N) (d : Fin 1024) (k : Fin 2304) :
    iblk m c 1 t (ix2 d k) = m ((c.tc : Thread nD τ).loc main_arg1) (ix2 d k) := by
  obtain ⟨h0, h1, h2, h3, h4, h5⟩ := idx t
  have hb : iblk m c 1 t (ix2 d k) = V m c main_v0 (ix2 d k) := by blk_ext [iblk, h1]
  rw [hb]
  entry_read
  pointwise
  try rfl

/-- The token block of the activations, read from the argument. -/
theorem read2 (c : Dev nD) (t : Fin cfg0.N) (i : Fin 1024) (n : Fin 8192) (hn : n.val = 1024 * t.val + i.val) (k : Fin 1024) :
    iblk m c 2 t (ix2 i k) = m ((c.tc : Thread nD τ).loc main_arg2) (ix2 n k) := by
  obtain ⟨h0, h1, h2, h3, h4, h5⟩ := idx t
  blk_ext [iblk, V, h2]

/-- The norm's weight, read from the argument. -/
theorem read3 (c : Dev nD) (t : Fin cfg0.N) (k : Fin 1024) :
    iblk m c 3 t (ix2 0 k) = m ((c.tc : Thread nD τ).loc main_arg3) (ix2 0 k) := by
  obtain ⟨h0, h1, h2, h3, h4, h5⟩ := idx t
  blk_ext [iblk, V, h3]

/-- The token block of the gradient that goes past the norm, read from the argument. -/
theorem read4 (c : Dev nD) (t : Fin cfg0.N) (i : Fin 1024) (n : Fin 8192) (hn : n.val = 1024 * t.val + i.val) (k : Fin 1024) :
    iblk m c 4 t (ix2 i k) = m ((c.tc : Thread nD τ).loc main_arg4) (ix2 n k) := by
  obtain ⟨h0, h1, h2, h3, h4, h5⟩ := idx t
  blk_ext [iblk, V, h4]

open Cert.AttnDxRefIdeal.Read in
/-- The reference's input gradient at an element. -/
theorem reference_row (x0 : (⟨S8192x2304, .bf16⟩ : BufTy).Contents (Elt Ideal)) (x1 : (⟨S1024x2304, .f32⟩ : BufTy).Contents (Elt Ideal))
    (x2 : (⟨S8192x1024, .f32⟩ : BufTy).Contents (Elt Ideal)) (x3 : (⟨S1x1024, .f32⟩ : BufTy).Contents (Elt Ideal))
    (x4 : (⟨S8192x1024, .f32⟩ : BufTy).Contents (Elt Ideal)) (n : Fin 8192) (d : Fin 1024) :
    val_main_v40 (F := Ideal) x0 x1 x2 x3 x4 (ix2 n d)
      = Ideal.rsqrt (Ideal.div (∑ k, x2 (ix2 n k) * x2 (ix2 n k)) (Ideal.ofBits .f32 0x44800000#32) + Ideal.ofBits .f32 0x358637BD#32)
          * (val_main_v19 (F := Ideal) x0 x1 (ix2 n d) * x3 (ix2 0 d) - x2 (ix2 n d)
            * Ideal.rsqrt (Ideal.div (∑ k, x2 (ix2 n k) * x2 (ix2 n k)) (Ideal.ofBits .f32 0x44800000#32) + Ideal.ofBits .f32 0x358637BD#32)
            * Ideal.div (∑ j, val_main_v19 (F := Ideal) x0 x1 (ix2 n j) * x3 (ix2 0 j) * (x2 (ix2 n j)
              * Ideal.rsqrt (Ideal.div (∑ k, x2 (ix2 n k) * x2 (ix2 n k)) (Ideal.ofBits .f32 0x44800000#32) + Ideal.ofBits .f32 0x358637BD#32)))
                (Ideal.ofBits .f32 0x44800000#32))
        + x4 (ix2 n d) := by
  unfold val_main_v40 val_main_v39 val_main_v38 val_main_v37 val_main_v36 val_main_v35 val_main_v34 val_main_v33 val_main_v32 val_main_v31 val_main_v30 val_main_v29 val_main_v28 val_main_v27 val_main_v26 val_main_v24 val_main_v23
  generalize val_main_v19 (F := Ideal) x0 x1 = DH
  unfold val_main_v14 val_main_v11 val_main_v10 val_main_v9 val_main_v8 val_main_v7 val_main_v6 val_main_v5 val_main_v4 val_main_v3 val_main_v2 val_main_v1 val_main_v0 val_main_cst_1 val_main_cst_2 val_main_cst_5 val_main_cst_6 val_main_cst_7 val_main_cst val_main_cst_0
  pointwise
  simp only [Finset.univ_unique, Finset.sum_singleton]
  obtain ⟨e, he, hE⟩ := RowNorm.eps_pos
  rw [RowNorm.ofBits_1024, RowNorm.ofBits_neg_half, hE]
  exact (RowNorm.row_grad Finset.univ (fun k => x2 (ix2 n k)) (fun k => DH (ix2 n k) * x3 (ix2 0 k)) _ (x4 (ix2 n d))
    (RowNorm.mean_pos Finset.univ (fun k => x2 (ix2 n k)) 1024 e (by norm_num) he) 1024 (by norm_num) d).symm

set_option maxHeartbeats 1000000 in
/-- The input gradient the kernel leaves is the reference's. -/
theorem out5 (c : Dev nD) : (dats m 0 c).arrAt 5 (cfgs 0).N
    = Cert.AttnDxRefIdeal.Read.val_main_v40 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have hN : t.val < 8 := lt_of_lt_of_eq t.isLt (show cfg0.N = 8 from N_0)
  obtain ⟨h0, h1, h2, h3, h4, h5⟩ := idx t
  idx_vars y
  have he : ((cfg0.win 5).blk t).view.emb (ix2 y0 y1) = (ix2 (⟨1024 * t.val + y0.val, by omega⟩ : Fin 8192) y1 : S8192x1024.Idx) := by
    blk_ext [h5]
  have e2 := read2 m c t y0 ⟨1024 * t.val + y0.val, by omega⟩ rfl
  have e3 := read3 m c t
  have e4 := read4 m c t y0 ⟨1024 * t.val + y0.val, by omega⟩ rfl
  have ep := product _ _ (iblk m c 0 t) (iblk m c 1 t) y0 ⟨1024 * t.val + y0.val, by omega⟩
    (read0 m c t y0 _ rfl) (read1 m c t)
  blk_simp
  rw [after0_5, he, reference_row]
  by_cases hA : t.val % 8 = 0
  · rw [outsAt0_A m c t hA]
    frame_out
    pointwise [k0_pay1, k0_pay3, k0_pay4, k0_pay5, k0_pay7]
    simp only [ep, e2, e3, e4]
  · rw [outsAt0_B m c t hA]
    frame_out
    pointwise [k0_pay1, k0_pay3, k0_pay4, k0_pay5, k0_pay7]
    simp only [ep, e2, e3, e4]

end Cert.AttnDxIdeal.Row

end
-- ==== Proof.AttnDxCol.lean ====
module

public import proofs.«01_k».proof.Proof.AttnDxRow

@[expose] public section

set_option maxRecDepth 16384

noncomputable section

namespace Cert.AttnDxIdeal.Row

open Cert.AttnDxIdeal Cert.AttnDxIdeal.Gen
open Idealize.ShloMosaic Idealize.ShloMosaic.TcCoe Idealize.SL.Sem

variable (m : (ℓ : Loc nD τ sig) → Buf (Elt Ideal) ℓ)

open Cert.AttnDxRefIdeal.Read in
/-- One row's contribution to the gradient of the norm's weight. -/
def rowTerm (c : Dev nD) (n : Fin 8192) (d : Fin 1024) : EReal :=
  val_main_v20 (F := Ideal) (m ((c.tc : Thread nD τ).loc main_arg0)) (m ((c.tc : Thread nD τ).loc main_arg1)) (m ((c.tc : Thread nD τ).loc main_arg2)) (ix2 n d)

theorem last_lt : 7 < cfg0.N := by rw [show cfg0.N = 8 from N_0]; decide

theorem lt8 (t : Fin cfg0.N) : t.val < 8 := lt_of_lt_of_eq t.isLt (show cfg0.N = 8 from N_0)

open Cert.AttnDxRefIdeal.Read in
/-- What the kernel adds for one row of its block is that row's contribution. -/
theorem row_term (c : Dev nD) (t : Fin cfg0.N) (i d : Fin 1024) (P : EReal) (X : S1024x1024.Idx → EReal)
    (hP : P = val_main_v19 (F := Ideal) (m ((c.tc : Thread nD τ).loc main_arg0)) (m ((c.tc : Thread nD τ).loc main_arg1))
      (ix2 ⟨1024 * t.val + i.val, by have := lt8 t; omega⟩ d))
    (hX : ∀ k, X (ix2 i k) = m ((c.tc : Thread nD τ).loc main_arg2) (ix2 ⟨1024 * t.val + i.val, by have := lt8 t; omega⟩ k)) :
    P * (X (ix2 i d) * Ideal.rsqrt (Ideal.div (∑ k, X (ix2 i k) * X (ix2 i k)) (Ideal.ofBits .f32 0x44800000#32) + Ideal.ofBits .f32 0x358637BD#32))
      = rowTerm m c ⟨1024 * t.val + i.val, by have := lt8 t; omega⟩ d := by
  rw [hP, rowTerm, val_main_v20]
  simp only [hX]
  generalize val_main_v19 (F := Ideal) (m ((c.tc : Thread nD τ).loc main_arg0)) (m ((c.tc : Thread nD τ).loc main_arg1)) = DH
  unfold val_main_v13 val_main_v12 val_main_v8 val_main_v7 val_main_v6 val_main_v5 val_main_v4 val_main_v3 val_main_v2 val_main_v1 val_main_cst_1 val_main_cst val_main_cst_0
  pointwise
  exact mul_comm _ _

set_option maxHeartbeats 1000000 in
/-- A point adds its 1024 rows' contributions to what the point before left. -/
theorem step (c : Dev nD) (t : Fin cfg0.N) (h0 : ¬t.val % 8 = 0) (y : S1x1024.Idx) : (outsAt0 m c t.val t.isLt).2 y
    = (outsAt0 m c (t.val - 1) (by omega)).2 y + ∑ i : Fin 1024, rowTerm m c ⟨1024 * t.val + i.val, by have := lt8 t; omega⟩ (y 1) := by
  have ht := lt8 t
  rw [outsAt0_B m c t h0]
  frame_out
  idx_vars y
  pointwise [k0_pay3, k0_pay4, k0_pay5, k0_pay6]
  congr 1
  refine Finset.sum_congr rfl fun i _ => row_term m c t i _ _ (iblk m c 2 t) ?_ (read2 m c t i _ rfl)
  exact product _ _ (iblk m c 0 t) (iblk m c 1 t) i _ (read0 m c t i _ rfl) (read1 m c t) _

set_option maxHeartbeats 1000000 in
/-- The first point starts from zero. -/
theorem start (c : Dev nD) (t : Fin cfg0.N) (h0 : t.val % 8 = 0) (y : S1x1024.Idx) : (outsAt0 m c t.val t.isLt).2 y
    = 0 + ∑ i : Fin 1024, rowTerm m c ⟨1024 * t.val + i.val, by have := lt8 t; omega⟩ (y 1) := by
  have ht := lt8 t
  rw [outsAt0_A m c t h0]
  frame_out
  idx_vars y
  pointwise [k0_pay2, k0_pay3, k0_pay4, k0_pay5, k0_pay6]
  first | rw [zero_add] | skip
  refine Finset.sum_congr rfl fun i _ => row_term m c t i _ _ (iblk m c 2 t) ?_ (read2 m c t i _ rfl)
  exact product _ _ (iblk m c 0 t) (iblk m c 1 t) i _ (read0 m c t i _ rfl) (read1 m c t) _

open Cert.AttnDxRefIdeal.Read in
/-- The gradient of the norm's weight the kernel leaves is the reference's. -/
theorem out6 (c : Dev nD) : (dats m 0 c).arrAt 6 (cfgs 0).N
    = val_main_v41 (F := Ideal) (m ((c.tc : Thread nD τ).loc main_arg0)) (m ((c.tc : Thread nD τ).loc main_arg1))
        (m ((c.tc : Thread nD τ).loc main_arg2)) := by
  refine (dats m 0 c).arrAt_eq_of_after_last 6 t0_7 (by decide +kernel) _ fun y => ?_
  blk_simp
  rw [after0_6]
  idx_vars y
  have hs := Pipeline.eq_sum_fin_of_reset_step_apply_last (fun n h => (outsAt0 m c n h).2) 8 (fun _ => (0 : EReal))
    (fun t y => ∑ i : Fin 1024, rowTerm m c ⟨1024 * t.val + i.val, by have := lt8 t; omega⟩ (y 1))
    (fun t h0 y => start m c t h0 y) (fun t h0 y => step m c t h0 y) (le_of_eq N_0) t0_7 rfl (ix2 y0 y1)
  rw [zero_add] at hs
  refine hs.trans ?_
  unfold val_main_v41 val_main_v25 val_main_v22 val_main_v21 val_main_cst_3 val_main_cst_4
  have hr : ∀ n d, val_main_v20 (F := Ideal) (m ((c.tc : Thread nD τ).loc main_arg0)) (m ((c.tc : Thread nD τ).loc main_arg1))
      (m ((c.tc : Thread nD τ).loc main_arg2)) (ix2 n d) = rowTerm m c n d := fun _ _ => rfl
  revert hr
  generalize val_main_v20 (F := Ideal) (m ((c.tc : Thread nD τ).loc main_arg0)) (m ((c.tc : Thread nD τ).loc main_arg1))
      (m ((c.tc : Thread nD τ).loc main_arg2)) = T
  intro hr
  pointwise
  simp only [Finset.univ_unique, Finset.sum_singleton, hr]
  exact RowNorm.sum_rows N_0 (fun n => rowTerm m c n y1) _

end Cert.AttnDxIdeal.Row

end
-- ==== Proof.RecProj.lean ====
module

public import proofs.«01_k».proof.Proof.Gen.RecProjIdeal.Value
public import proofs.«01_k».proof.Proof.Gen.RecProjRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.RecProjIdeal.Row

open Cert.RecProjIdeal Cert.RecProjIdeal.Gen
open Idealize.ShloMosaic Idealize.ShloMosaic.TcCoe Idealize.SL.Sem

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![0, 0, 0] ∧ win0_3.index t = ![t.val, 0]
    ∧ win0_4.index t = ![t.val, 0] :=
  (by decide +kernel : ∀ t : Fin grid0.N, win0_0.index t = ![t.val, 0] ∧ win0_1.index t = ![0, 0] ∧ win0_2.index t = ![0, 0, 0] ∧ win0_3.index t = ![t.val, 0]
    ∧ win0_4.index t = ![t.val, 0])

theorem lt8 (t : Fin cfg0.N) : t.val < 8 := lt_of_lt_of_eq t.isLt (show cfg0.N = 8 from N_0)

theorem last_lt : 7 < cfg0.N := by rw [show cfg0.N = 8 from N_0]; decide

/-- The token block of the activations, read from the argument. -/
theorem read0 (c : Dev nD) (t : Fin cfg0.N) (i : Fin 1024) (n : Fin 8192) (hn : n.val = 1024 * t.val + i.val) (k : Fin 1024) :
    iblk m c 0 t (ix2 i k) = m ((c.tc : Thread nD τ).loc main_arg0) (ix2 n k) := by
  obtain ⟨h0, h1, h2, h3, h4⟩ := idx t
  blk_ext [iblk, V, h0]

/-- The norm's weight, read from the argument. -/
theorem read1 (c : Dev nD) (t : Fin cfg0.N) (k : Fin 1024) :
    iblk m c 1 t (ix2 0 k) = m ((c.tc : Thread nD τ).loc main_arg1) (ix2 0 k) := by
  obtain ⟨h0, h1, h2, h3, h4⟩ := idx t
  blk_ext [iblk, V, h1]

/-- The weight's four column blocks, read from the argument. -/
theorem read2 (c : Dev nD) (t : Fin cfg0.N) (b : Fin 4) (d k : Fin 1024) :
    iblk m c 2 t (ix3 b d k) = m ((c.tc : Thread nD τ).loc main_arg2) (ix2 d ⟨b.val * 1024 + k.val, by omega⟩) := by
  obtain ⟨h0, h1, h2, h3, h4⟩ := idx t
  have hb : iblk m c 2 t (ix3 b d k) = V m c main_v2 (ix3 b d k) := by blk_ext [iblk, h2]
  rw [hb]
  entry_read
  pointwise
  try rfl

open Cert.RecProjRefIdeal.Read in
/-- The norm at an element, over its block. -/
theorem norm (x0 : (⟨S8192x1024, .f32⟩ : BufTy).Contents (Elt Ideal)) (x1 : (⟨S1x1024, .f32⟩ : BufTy).Contents (Elt Ideal))
    (A : Vec Ideal S1024x1024 .f32) (B : Vec Ideal S1x1024 .f32) (i : Fin 1024) (n : Fin 8192) (hA : ∀ k, A (ix2 i k) = x0 (ix2 n k))
    (hB : ∀ k, B (ix2 0 k) = x1 (ix2 0 k)) (d : Fin 1024) : k0_pay2 A B (ix2 i d) = val_main_v13 (F := Ideal) x0 x1 (ix2 n d) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay2]
  simp only [hA, hB]
  try rfl

open Cert.RecProjRefIdeal.Read in
set_option maxHeartbeats 1000000 in
/-- The normed block the kernel leaves is the reference's. -/
theorem out3 (c : Dev nD) : (dats m 0 c).arrAt 3 (cfgs 0).N
    = val_main_v14 (F := Ideal) (m ((c.tc : Thread nD τ).loc main_arg0)) (m ((c.tc : Thread nD τ).loc main_arg1)) := by
  refine (dats m 0 c).arrAt_eq_of_covers 3 _ (by decide +kernel) fun t hf y => ?_
  have hN : t.val < 8 := lt8 t
  obtain ⟨h0, h1, h2, h3, h4⟩ := idx t
  idx_vars y
  have he : ((cfg0.win 3).blk t).view.emb (ix2 y0 y1) = (ix2 (⟨1024 * t.val + y0.val, by omega⟩ : Fin 8192) y1 : S8192x1024.Idx) := by
    blk_ext [h3]
  have e := norm _ _ (iblk m c 0 t) (iblk m c 1 t) y0 ⟨1024 * t.val + y0.val, by omega⟩ (read0 m c t y0 _ rfl) (read1 m c t)
  have e2 := read2 m c t
  blk_simp
  rw [after0_3, he]
  frame_out
  pointwise [out0_3]
  unfold val_main_v14
  pointwise
  try exact e _

open Cert.RecProjRefIdeal.Read in
set_option maxHeartbeats 1000000 in
/-- The projected block the kernel leaves is the reference's. -/
theorem out4 (c : Dev nD) : (dats m 0 c).arrAt 4 (cfgs 0).N
    = val_main_v15 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have hN : t.val < 8 := lt8 t
  obtain ⟨h0, h1, h2, h3, h4⟩ := idx t
  idx_vars y
  have he : ((cfg0.win 4).blk t).view.emb (ix2 y0 y1) = (ix2 (⟨1024 * t.val + y0.val, by omega⟩ : Fin 8192) y1 : S8192x4096.Idx) := by
    blk_ext [h4]
  have e := norm _ _ (iblk m c 0 t) (iblk m c 1 t) y0 ⟨1024 * t.val + y0.val, by omega⟩ (read0 m c t y0 _ rfl) (read1 m c t)
  have e2 := read2 m c t
  blk_simp
  rw [after0_4, he]
  canon_tiles x h
  all_goals
    idx_vars x
    obtain rfl : y0 = x0 := Fin.ext h0
    replace h1 : y1.val = _ := h1
    try open_payloads
    pointwise [val_main_v15]
    refine Finset.sum_congr rfl fun k _ => congrArg₂ (· * ·) (Eq.trans ?_ (e k)) ((e2 _ k x1).trans ?_)
    · pointwise [k0_pay2]
    · congr 2
      exact Fin.ext (by simp [h1])

end Cert.RecProjIdeal.Row

end
-- ==== Proof.Pieces.lean ====
module

public import Idealize.ShloMosaic.Lib.Pipeline.ValueKit
public import Idealize.ShloMosaic.Lib.Pointwise

@[expose] public section

/-! Reading a buffer that is filled once and then stored to in parts. -/

namespace Cert.Pieces

open Idealize.ShloMosaic

variable {S : Shape} {e : EltTy} {Val : EltTy → Type} [∀ e, Nonempty (Val e)]

/-- Where a later store holds the index, the first store is not seen. -/
theorem canon_drop_last (p : View.Piece Val S e) (y : S.Idx) :
    ∀ L : List (View.Piece Val S e), (∃ q ∈ L, y ∈ q.1.set) → View.canon (L ++ [p]) y = View.canon L y
  | [], h => by obtain ⟨_, hq, _⟩ := h; exact absurd hq List.not_mem_nil
  | q :: L, h => by
    by_cases hy : y ∈ q.1.set
    · obtain ⟨r, w⟩ := q
      obtain ⟨x, rfl⟩ := r.exists_idx_of_mem hy
      exact (View.canon_cons_emb r w (L ++ [p]) x).trans (View.canon_cons_emb r w L x).symm
    · rw [List.cons_append, View.canon_cons_of_not_mem _ _ hy, View.canon_cons_of_not_mem _ _ hy]
      refine canon_drop_last p y L ?_
      obtain ⟨q', hq, hyq⟩ := h
      rcases List.mem_cons.mp hq with rfl | hq'
      · exact absurd hyq hy
      · exact ⟨q', hq', hyq⟩

/-- A first store that fills the buffer covers it, whatever follows. -/
theorem cover_last (p : View.Piece Val S e) (hp : ∀ y, y ∈ p.1.set) (L : List (View.Piece Val S e)) (y : S.Idx) :
    ∃ q ∈ L ++ [p], y ∈ q.1.set :=
  ⟨p, List.mem_append_right _ List.mem_cons_self, hp y⟩

/-- A load that no later store meets reads what the first store, filling the buffer with one value, put there. -/
theorem readCov_first {sig : RefSig} {κ : Kind} {sp : Space} (v : View sig κ sp S e) (p : View.Piece Val S e)
    (hp : ∀ y, y ∈ p.1.set) (a : Val e) (ha : ∀ x, p.2 x = a) (B : LoadRect S) (x : B.shape.Idx) (L : List (View.Piece Val S e))
    (hL : ∀ q ∈ L, B.idx x ∉ q.1.set) : v.readCov (L ++ [p]) B x = a := by
  rw [View.readCov_eq_canon v _ B fun j => cover_last p hp L _]
  show View.canon (L ++ [p]) (B.idx x) = a
  induction L with
  | nil =>
    obtain ⟨r, w⟩ := p
    obtain ⟨z, hz⟩ := r.exists_idx_of_mem (hp (B.idx x))
    rw [← hz]
    exact (View.canon_cons_emb r w [] z).trans (ha z)
  | cons q L ih =>
    rw [List.cons_append, View.canon_cons_of_not_mem _ _ (hL q List.mem_cons_self)]
    exact ih fun q' hq' => hL q' (List.mem_cons_of_mem _ hq')

end Cert.Pieces

end
-- ==== Proof.RecDwOut.lean ====
module

public import proofs.«01_k».proof.Proof.Gen.RecDwIdeal.Value
public import proofs.«01_k».proof.Proof.Gen.RecDwRefIdeal.Read
public import proofs.«01_k».proof.Proof.RowNorm
public import proofs.«01_k».proof.Proof.Pieces
public import Idealize.ShloMosaic.Lib.Pipeline.ValueKit
public import Idealize.ShloMosaic.Lib.Pointwise

@[expose] public section

set_option maxRecDepth 16384

noncomputable section

namespace Cert.RecDwIdeal.Row

open Cert.RecDwIdeal Cert.RecDwIdeal.Gen
open Idealize.ShloMosaic Idealize.ShloMosaic.TcCoe Idealize.SL.Sem

variable (m : (ℓ : Loc nD τ sig) → Buf (Elt Ideal) ℓ)

open Cert.RecDwRefIdeal.Read

/-- Where each window's block lies at a point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem lt8 (t : Fin cfg0.N) : t.val < 8 := lt_of_lt_of_eq t.isLt (show cfg0.N = 8 from N_0)

theorem last_lt : 7 < cfg0.N := by rw [show cfg0.N = 8 from N_0]; decide

/-- The token block of the normed input: the reference's own. -/
theorem read0 (c : Dev nD) (t : Fin cfg0.N) (i : Fin 1024) (n : Fin 8192) (hn : n.val = 1024 * t.val + i.val) (k : Fin 1024) :
    iblk m c 0 t (ix2 i k) = val_main_v14 (F := Ideal) (m ((c.tc : Thread nD τ).loc main_arg0)) (m ((c.tc : Thread nD τ).loc main_arg1)) (ix2 n k) := by
  obtain ⟨h0, h1, h2⟩ := idx t
  have hb : iblk m c 0 t (ix2 i k) = V m c main_v14 (ix2 n k) := by blk_ext [iblk, h0]
  rw [hb]
  entry_read
  unfold val_main_v14 val_main_v13 val_main_v12 val_main_v11 val_main_v10 val_main_v9 val_main_v8 val_main_v7 val_main_v6 val_main_v5 val_main_v4 val_main_v3 val_main_v2 val_main_v1 val_main_cst_0 val_main_cst_1 val_main_cst_2
  pointwise
  try rfl

/-- The token block of the projection's gradient, read from the argument. -/
theorem read1 (c : Dev nD) (t : Fin cfg0.N) (i : Fin 1024) (n : Fin 8192) (hn : n.val = 1024 * t.val + i.val) (k : Fin 4096) :
    iblk m c 1 t (ix2 i k) = val_main_v16 (F := Ideal) (m ((c.tc : Thread nD τ).loc main_arg2)) (ix2 n k) := by
  obtain ⟨h0, h1, h2⟩ := idx t
  have hb : iblk m c 1 t (ix2 i k) = m ((c.tc : Thread nD τ).loc main_arg2) (ix2 n k) := by blk_ext [iblk, V, h1]
  rw [hb]
  rfl

/-- The row of the whole array that a block's row is. -/
abbrev row (t : Fin cfg0.N) (i : Fin 1024) : Fin 8192 := ⟨1024 * t.val + i.val, by have := lt8 t; omega⟩

/-- One row's contribution to the gradient of the weight. -/
def term (c : Dev nD) (n : Fin 8192) (a : Fin 1024) (d : Fin 4096) : EReal :=
  val_main_v14 (F := Ideal) (m ((c.tc : Thread nD τ).loc main_arg0)) (m ((c.tc : Thread nD τ).loc main_arg1)) (ix2 n a) * val_main_v16 (F := Ideal) (m ((c.tc : Thread nD τ).loc main_arg2)) (ix2 n d)

/-! Each column block of the accumulator gains the product of the transposed token block and the gradient's columns. -/

theorem pay4_at (X G : Vec Ideal S1024x1024 .bf16) (A : Vec Ideal S1024x1024 .f32) (a b : Fin 1024) :
    k0_pay4 X G A (ix2 a b) = A (ix2 a b) + ∑ i : Fin 1024, X (ix2 i a) * G (ix2 i b) := by
  pointwise [k0_pay4, k0_pay3]

theorem pay6_at (X G : Vec Ideal S1024x1024 .bf16) (A : Vec Ideal S1024x1024 .f32) (a b : Fin 1024) :
    k0_pay6 X G A (ix2 a b) = A (ix2 a b) + ∑ i : Fin 1024, X (ix2 i a) * G (ix2 i b) := by
  pointwise [k0_pay6, k0_pay3]

theorem pay10_at (X G : Vec Ideal S1024x1024 .bf16) (A : Vec Ideal S1024x1024 .f32) (a b : Fin 1024) :
    k0_pay10 (k0_pay3 X) G A (ix2 a b) = A (ix2 a b) + ∑ i : Fin 1024, X (ix2 i a) * G (ix2 i b) := by
  pointwise [k0_pay10, k0_pay3]

theorem pay12_at (X G : Vec Ideal S1024x1024 .bf16) (A : Vec Ideal S1024x1024 .f32) (a b : Fin 1024) :
    k0_pay12 (k0_pay3 X) G A (ix2 a b) = A (ix2 a b) + ∑ i : Fin 1024, X (ix2 i a) * G (ix2 i b) := by
  pointwise [k0_pay12, k0_pay3]

/-- The first point's fill is zero. -/
theorem pay1_at (x : S1024x4096.Idx) : k0_pay1 (F := Ideal) x = 0 := by
  idx_vars x
  pointwise [k0_pay1]

set_option maxHeartbeats 1000000 in
/-- A point adds its 1024 rows' contributions to what the point before left. -/
theorem step (c : Dev nD) (t : Fin cfg0.N) (h0 : ¬t.val % 8 = 0) (y : S1024x4096.Idx) : (outsAt0 m c t.val t.isLt).2.1 y
    = (outsAt0 m c (t.val - 1) (by omega)).2.1 y + ∑ i : Fin 1024, term m c (row t i) (y 0) (y 1) := by
  have ht := lt8 t
  have e0 := fun (i : Fin 1024) (k : Fin 1024) => read0 m c t i (row t i) rfl k
  have e1 := fun (i : Fin 1024) (k : Fin 4096) => read1 m c t i (row t i) rfl k
  by_cases h1 : t.val % 8 = 7
  · rw [outsAt0_C m c t h0 h1]
    frame_out
    idx_vars y
    canon_tiles x ha
    all_goals
      idx_vars x
      obtain rfl : y0 = x0 := Fin.ext ha0
      first | refine (pay4_at _ _ _ _ _).trans ?_ | refine (pay6_at _ _ _ _ _).trans ?_ | refine (pay10_at _ _ _ _ _).trans ?_ | refine (pay12_at _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · unfold term
        refine congrArg₂ (· * ·) (e0 i y0) (Eq.trans ?_ (e1 i y1))
        rw [View.ld_apply]
        exact congrArg _ (funext fun a => by fin_cases a <;> exact Fin.ext (by simp [Rect.idx_unit_val] <;> omega))
  · rw [outsAt0_B m c t h0 h1]
    frame_out
    idx_vars y
    canon_tiles x ha
    all_goals
      idx_vars x
      obtain rfl : y0 = x0 := Fin.ext ha0
      first | refine (pay4_at _ _ _ _ _).trans ?_ | refine (pay6_at _ _ _ _ _).trans ?_ | refine (pay10_at _ _ _ _ _).trans ?_ | refine (pay12_at _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · unfold term
        refine congrArg₂ (· * ·) (e0 i y0) (Eq.trans ?_ (e1 i y1))
        rw [View.ld_apply]
        exact congrArg _ (funext fun a => by fin_cases a <;> exact Fin.ext (by simp [Rect.idx_unit_val] <;> omega))

/-! A column block read before its own store, at the first point: the fill's zero. -/

/-- The fill, as a store. -/
abbrev fill : View.Piece (Elt Ideal) S1024x4096 .f32 := ⟨Rect.unit ![0, 0] ![1024, 4096] inb_S1024x4096_S1024x4096_0_0, k0_pay1 (F := Ideal)⟩

theorem fill_mem (z : S1024x4096.Idx) : z ∈ fill.1.set :=
  View.mem_set_unit_zero (S := S1024x4096) (off := ![0, 0]) (by decide) inb_S1024x4096_S1024x4096_0_0 z

theorem fill_at (x : fill.1.shape.Idx) : fill.2 x = (0 : EReal) := pay1_at x

theorem load0 (v : View sig .tc .vmem S1024x4096 .f32) (a b : Fin 1024) :
    View.readCov (Val := Elt Ideal) v ([fill] : List (View.Piece (Elt Ideal) S1024x4096 .f32))
      (Rect.unit (s := S1024x4096) ![0, 0] ![1024, 1024] inb_S1024x4096_S1024x1024_0_0).toLoadRect (ix2 a b : S1024x1024.Idx) = (0 : EReal) :=
  Pieces.readCov_first v fill fill_mem (0 : EReal) fill_at
    (Rect.unit (s := S1024x4096) ![0, 0] ![1024, 1024] inb_S1024x4096_S1024x1024_0_0).toLoadRect (ix2 a b : S1024x1024.Idx)
    [] <|
  fun _ h => absurd h List.not_mem_nil

theorem load1 (v : View sig .tc .vmem S1024x4096 .f32) (w0 : Vec Ideal S1024x1024 .f32) (a b : Fin 1024) :
    View.readCov (Val := Elt Ideal) v ([⟨Rect.unit ![0, 0] ![1024, 1024] inb_S1024x4096_S1024x1024_0_0, w0⟩, fill] : List (View.Piece (Elt Ideal) S1024x4096 .f32))
      (Rect.unit (s := S1024x4096) ![0, 1024] ![1024, 1024] inb_S1024x4096_S1024x1024_0_1024).toLoadRect (ix2 a b : S1024x1024.Idx) = (0 : EReal) :=
  Pieces.readCov_first v fill fill_mem (0 : EReal) fill_at
    (Rect.unit (s := S1024x4096) ![0, 1024] ![1024, 1024] inb_S1024x4096_S1024x1024_0_1024).toLoadRect (ix2 a b : S1024x1024.Idx)
    [⟨Rect.unit ![0, 0] ![1024, 1024] inb_S1024x4096_S1024x1024_0_0, w0⟩] <|
  List.forall_mem_cons.mpr ⟨Rect.not_mem_set_of_axis _ _ 1 0 1024 rfl rfl rfl (Or.inr (by show 1024 ≤ 1024 + 1 * b.val; omega)),
    fun _ h => absurd h List.not_mem_nil⟩

theorem load2 (v : View sig .tc .vmem S1024x4096 .f32) (w1 w0 : Vec Ideal S1024x1024 .f32) (a b : Fin 1024) :
    View.readCov (Val := Elt Ideal) v ([⟨Rect.unit ![0, 1024] ![1024, 1024] inb_S1024x4096_S1024x1024_0_1024, w1⟩, ⟨Rect.unit ![0, 0] ![1024, 1024] inb_S1024x4096_S1024x1024_0_0, w0⟩, fill] : List (View.Piece (Elt Ideal) S1024x4096 .f32))
      (Rect.unit (s := S1024x4096) ![0, 2048] ![1024, 1024] inb_S1024x4096_S1024x1024_0_2048).toLoadRect (ix2 a b : S1024x1024.Idx) = (0 : EReal) :=
  Pieces.readCov_first v fill fill_mem (0 : EReal) fill_at
    (Rect.unit (s := S1024x4096) ![0, 2048] ![1024, 1024] inb_S1024x4096_S1024x1024_0_2048).toLoadRect (ix2 a b : S1024x1024.Idx)
    [⟨Rect.unit ![0, 1024] ![1024, 1024] inb_S1024x4096_S1024x1024_0_1024, w1⟩, ⟨Rect.unit ![0, 0] ![1024, 1024] inb_S1024x4096_S1024x1024_0_0, w0⟩] <|
  List.forall_mem_cons.mpr ⟨Rect.not_mem_set_of_axis _ _ 1 1024 1024 rfl rfl rfl (Or.inr (by show 2048 ≤ 2048 + 1 * b.val; omega)),
    List.forall_mem_cons.mpr ⟨Rect.not_mem_set_of_axis _ _ 1 0 1024 rfl rfl rfl (Or.inr (by show 1024 ≤ 2048 + 1 * b.val; omega)),
    fun _ h => absurd h List.not_mem_nil⟩⟩

theorem load3 (v : View sig .tc .vmem S1024x4096 .f32) (w2 w1 w0 : Vec Ideal S1024x1024 .f32) (a b : Fin 1024) :
    View.readCov (Val := Elt Ideal) v ([⟨Rect.unit ![0, 2048] ![1024, 1024] inb_S1024x4096_S1024x1024_0_2048, w2⟩, ⟨Rect.unit ![0, 1024] ![1024, 1024] inb_S1024x4096_S1024x1024_0_1024, w1⟩, ⟨Rect.unit ![0, 0] ![1024, 1024] inb_S1024x4096_S1024x1024_0_0, w0⟩, fill] : List (View.Piece (Elt Ideal) S1024x4096 .f32))
      (Rect.unit (s := S1024x4096) ![0, 3072] ![1024, 1024] inb_S1024x4096_S1024x1024_0_3072).toLoadRect (ix2 a b : S1024x1024.Idx) = (0 : EReal) :=
  Pieces.readCov_first v fill fill_mem (0 : EReal) fill_at
    (Rect.unit (s := S1024x4096) ![0, 3072] ![1024, 1024] inb_S1024x4096_S1024x1024_0_3072).toLoadRect (ix2 a b : S1024x1024.Idx)
    [⟨Rect.unit ![0, 2048] ![1024, 1024] inb_S1024x4096_S1024x1024_0_2048, w2⟩, ⟨Rect.unit ![0, 1024] ![1024, 1024] inb_S1024x4096_S1024x1024_0_1024, w1⟩, ⟨Rect.unit ![0, 0] ![1024, 1024] inb_S1024x4096_S1024x1024_0_0, w0⟩] <|
  List.forall_mem_cons.mpr ⟨Rect.not_mem_set_of_axis _ _ 1 2048 1024 rfl rfl rfl (Or.inr (by show 3072 ≤ 3072 + 1 * b.val; omega)),
    List.forall_mem_cons.mpr ⟨Rect.not_mem_set_of_axis _ _ 1 1024 1024 rfl rfl rfl (Or.inr (by show 2048 ≤ 3072 + 1 * b.val; omega)),
    List.forall_mem_cons.mpr ⟨Rect.not_mem_set_of_axis _ _ 1 0 1024 rfl rfl rfl (Or.inr (by show 1024 ≤ 3072 + 1 * b.val; omega)),
    fun _ h => absurd h List.not_mem_nil⟩⟩⟩

set_option maxHeartbeats 1000000 in
/-- The first point starts from zero. -/
theorem start (c : Dev nD) (t : Fin cfg0.N) (h0 : t.val % 8 = 0) (y : S1024x4096.Idx) : (outsAt0 m c t.val t.isLt).2.1 y
    = 0 + ∑ i : Fin 1024, term m c (row t i) (y 0) (y 1) := by
  have ht := lt8 t
  have e0 := fun (i : Fin 1024) (k : Fin 1024) => read0 m c t i (row t i) rfl k
  have e1 := fun (i : Fin 1024) (k : Fin 4096) => read1 m c t i (row t i) rfl k
  rw [outsAt0_A m c t h0 (by omega)]
  frame_out
  idx_vars y
  refine (Pieces.canon_drop_last _ _ [_, _, _, _] ?_).trans ?_
  · exact View.cover_of_tiled_head _ _ _ (by rfl) _
  canon_tiles x ha
  all_goals
    idx_vars x
    obtain rfl : y0 = x0 := Fin.ext ha0
    first | refine (pay4_at _ _ _ _ _).trans ?_ | refine (pay6_at _ _ _ _ _).trans ?_ | refine (pay10_at _ _ _ _ _).trans ?_ | refine (pay12_at _ _ _ _ _).trans ?_
    refine congrArg₂ (· + ·) ?_ (Finset.sum_congr rfl fun i _ => ?_)
    · first | with_reducible exact load3 _ _ _ _ _ _ | with_reducible exact load2 _ _ _ _ _ | with_reducible exact load1 _ _ _ _ | with_reducible exact load0 _ _ _
    · unfold term
      refine congrArg₂ (· * ·) (e0 i y0) (Eq.trans ?_ (e1 i y1))
      rw [View.ld_apply]
      exact congrArg _ (funext fun a => by fin_cases a <;> exact Fin.ext (by simp [Rect.idx_unit_val] <;> omega))

set_option maxHeartbeats 1000000 in
/-- The last point copies out the accumulated gradient. -/
theorem copied (c : Dev nD) (t : Fin cfg0.N) (h1 : t.val % 8 = 7) (y : S1024x4096.Idx) :
    (outsAt0 m c t.val t.isLt).2.2 y = (outsAt0 m c t.val t.isLt).2.1 y := by
  rw [outsAt0_C m c t (by omega) h1]
  unfold hbw0_C_0 kernelRun0_C
  dsimp only
  frame_out
  refine (congrFun (View.write_whole_univ _ _ _) y).trans ?_
  exact congrFun (View.read_writes_eq_canon _ _ _ fun z => View.cover_of_tiled_head _ _ _ (by rfl) z) y

/-- After the last point the accumulator holds the sum over all rows. -/
theorem last (c : Dev nD) (y : S1024x4096.Idx) : (outsAt0 m c t0_7.val t0_7.isLt).2.1 y = ∑ n, term m c n (y 0) (y 1) := by
  have hs := Pipeline.eq_sum_fin_of_reset_step_apply_last (fun n h => (outsAt0 m c n h).2.1) 8 (fun _ => (0 : EReal))
    (fun t y => ∑ i : Fin 1024, term m c (row t i) (y 0) (y 1)) (fun t h0 y => start m c t h0 y) (fun t h0 y => step m c t h0 y)
    (le_of_eq N_0) t0_7 rfl y
  rw [zero_add] at hs
  exact hs.trans (RowNorm.sum_rows N_0 (fun n => term m c n (y 0) (y 1)) _)

/-- The gradient that the kernel copies out is the reference's. -/
theorem out (c : Dev nD) : (outsAt0 m c t0_7.val t0_7.isLt).2.2 = val_main_v18 (F := Ideal) (m ((c.tc : Thread nD τ).loc main_arg0)) (m ((c.tc : Thread nD τ).loc main_arg1)) (m ((c.tc : Thread nD τ).loc main_arg2)) := by
  funext y
  rw [copied m c t0_7 rfl y]
  refine (last m c y).trans ?_
  idx_vars y
  unfold val_main_v18 val_main_v17
  pointwise
  exact Finset.sum_congr rfl fun n _ => mul_comm _ _

end Cert.RecDwIdeal.Row

end
-- ==== Proof.OutLossRow.lean ====
module

public import proofs.«01_k».proof.Proof.Gen.OutLossIdeal.Value
public import proofs.«01_k».proof.Proof.Gen.OutLossRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.OutLossIdeal.Row

open Cert.OutLossIdeal Cert.OutLossIdeal.Gen
open Idealize.ShloMosaic Idealize.ShloMosaic.TcCoe Idealize.SL.Sem

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![0, 0] ∧ win0_9.index t = ![0, 0] ∧ win0_10.index t = ![0, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![0, 0] ∧ win0_9.index t = ![0, 0] ∧ win0_10.index t = ![0, 0])

theorem lt8 (t : Fin cfg0.N) : t.val < 8 := lt_of_lt_of_eq t.isLt (show cfg0.N = 8 from N_0)

theorem last_lt : 7 < cfg0.N := by rw [show cfg0.N = 8 from N_0]; decide

/-- The token block of the gated heads, read from the argument. -/
theorem read0 (c : Dev nD) (t : Fin cfg0.N) (i : Fin 1024) (n : Fin 8192) (hn : n.val = 1024 * t.val + i.val) (k : Fin 1024) :
    iblk m c 0 t (ix2 i k) = m ((c.tc : Thread nD τ).loc main_arg0) (ix2 n k) := by
  obtain ⟨h0, h1, h2, h3, h4, h5, h6, h7, h8, h9, h10⟩ := idx t
  blk_ext [iblk, V, h0]

/-- The weight, read from the argument. -/
theorem read1 (c : Dev nD) (t : Fin cfg0.N) (d : Fin 1024) (k : Fin 1024) :
    iblk m c 1 t (ix2 d k) = m ((c.tc : Thread nD τ).loc main_arg1) (ix2 d k) := by
  obtain ⟨h0, h1, h2, h3, h4, h5, h6, h7, h8, h9, h10⟩ := idx t
  have hb : iblk m c 1 t (ix2 d k) = V m c main_v0 (ix2 d k) := by blk_ext [iblk, h1]
  rw [hb]
  entry_read
  pointwise
  try rfl

/-- The token block of the residual, read from the argument. -/
theorem read2 (c : Dev nD) (t : Fin cfg0.N) (i : Fin 1024) (n : Fin 8192) (hn : n.val = 1024 * t.val + i.val) (k : Fin 1024) :
    iblk m c 2 t (ix2 i k) = m ((c.tc : Thread nD τ).loc main_arg2) (ix2 n k) := by
  obtain ⟨h0, h1, h2, h3, h4, h5, h6, h7, h8, h9, h10⟩ := idx t
  blk_ext [iblk, V, h2]

/-- The norm's weight, read from the argument. -/
theorem read3 (c : Dev nD) (t : Fin cfg0.N) (k : Fin 1024) :
    iblk m c 3 t (ix2 0 k) = m ((c.tc : Thread nD τ).loc main_arg3) (ix2 0 k) := by
  obtain ⟨h0, h1, h2, h3, h4, h5, h6, h7, h8, h9, h10⟩ := idx t
  blk_ext [iblk, V, h3]

/-- The token block of the target, read from the argument. -/
theorem read4 (c : Dev nD) (t : Fin cfg0.N) (i : Fin 1024) (n : Fin 8192) (hn : n.val = 1024 * t.val + i.val) (k : Fin 1024) :
    iblk m c 4 t (ix2 i k) = m ((c.tc : Thread nD τ).loc main_arg4) (ix2 n k) := by
  obtain ⟨h0, h1, h2, h3, h4, h5, h6, h7, h8, h9, h10⟩ := idx t
  blk_ext [iblk, V, h4]

/-- The row of the whole array that a block's row is. -/
abbrev row (t : Fin cfg0.N) (i : Fin 1024) : Fin 8192 := ⟨1024 * t.val + i.val, by have := lt8 t; omega⟩

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num

open Cert.OutLossRefIdeal.Read in
/-- The projection at an element, over its block. -/
theorem projected (x0 : (⟨S8192x1024, .bf16⟩ : BufTy).Contents (Elt Ideal)) (x1 : (⟨S1024x1024, .f32⟩ : BufTy).Contents (Elt Ideal))
    (A : Vec Ideal S1024x1024 .bf16) (B : Vec Ideal S1024x1024 .bf16) (i : Fin 1024) (n : Fin 8192) (hA : ∀ k, A (ix2 i k) = x0 (ix2 n k))
    (hB : ∀ k d, B (ix2 k d) = x1 (ix2 k d)) (d : Fin 1024) : k0_pay6 A B (ix2 i d) = val_main_v1 (F := Ideal) x0 x1 (ix2 n d) := by
  unfold val_main_v1 val_main_v0
  pointwise [k0_pay6]
  simp only [hA, hB]

open Cert.OutLossRefIdeal.Read in
/-- The error at an element, over its block. -/
theorem error (x0 : (⟨S8192x1024, .bf16⟩ : BufTy).Contents (Elt Ideal)) (x1 : (⟨S1024x1024, .f32⟩ : BufTy).Contents (Elt Ideal)) (x2 : (⟨S8192x1024, .f32⟩ : BufTy).Contents (Elt Ideal)) (x3 : (⟨S1x1024, .f32⟩ : BufTy).Contents (Elt Ideal)) (x4 : (⟨S8192x1024, .f32⟩ : BufTy).Contents (Elt Ideal))
    (A : Vec Ideal S1024x1024 .bf16) (B : Vec Ideal S1024x1024 .bf16) (X : Vec Ideal S1024x1024 .f32) (W : Vec Ideal S1x1024 .f32) (T : Vec Ideal S1024x1024 .f32)
    (i : Fin 1024) (n : Fin 8192) (hY : ∀ k, k0_pay6 A B (ix2 i k) = val_main_v1 (F := Ideal) x0 x1 (ix2 n k)) (hX : ∀ k, X (ix2 i k) = x2 (ix2 n k))
    (hW : ∀ k, W (ix2 0 k) = x3 (ix2 0 k)) (hT : ∀ k, T (ix2 i k) = x4 (ix2 n k)) (d : Fin 1024) :
    k0_pay7 A B X W T (ix2 i d) = val_main_v20 (F := Ideal) x0 x1 x2 x3 x4 (ix2 n d) := by
  unfold val_main_v20 val_main_v19 val_main_v18 val_main_v17 val_main_v16 val_main_v15 val_main_v14 val_main_v10 val_main_v9 val_main_v8 val_main_v7 val_main_v6 val_main_v5 val_main_v4 val_main_v3 val_main_v2 val_main_cst val_main_cst_0 val_main_cst_1
  pointwise [k0_pay7]
  simp only [hY, hX, hW, hT]
  try rfl

open Cert.OutLossRefIdeal.Read in
/-- The gradient of the loss at an element: `e / 1024`, from `½ · (2 e) / 1024`. -/
theorem gradient (x0 : (⟨S8192x1024, .bf16⟩ : BufTy).Contents (Elt Ideal)) (x1 : (⟨S1024x1024, .f32⟩ : BufTy).Contents (Elt Ideal)) (x2 : (⟨S8192x1024, .f32⟩ : BufTy).Contents (Elt Ideal)) (x3 : (⟨S1x1024, .f32⟩ : BufTy).Contents (Elt Ideal)) (x4 : (⟨S8192x1024, .f32⟩ : BufTy).Contents (Elt Ideal))
    (A : Vec Ideal S1024x1024 .bf16) (B : Vec Ideal S1024x1024 .bf16) (X : Vec Ideal S1024x1024 .f32) (W : Vec Ideal S1x1024 .f32) (T : Vec Ideal S1024x1024 .f32)
    (i : Fin 1024) (n : Fin 8192) (d : Fin 1024) (hE : k0_pay7 A B X W T (ix2 i d) = val_main_v20 (F := Ideal) x0 x1 x2 x3 x4 (ix2 n d)) :
    k0_pay8 A B X W T (ix2 i d) = val_main_v34 (F := Ideal) x0 x1 x2 x3 x4 (ix2 n d) := by
  unfold val_main_v34 val_main_v33 val_main_v32 val_main_v31 val_main_v30 val_main_v29 val_main_v23 val_main_v22 val_main_cst_3 val_main_cst_8 val_main_cst_9 val_main_cst_10
  generalize val_main_v20 (F := Ideal) x0 x1 x2 x3 x4 = E at hE ⊢
  pointwise [k0_pay8]
  rw [hE, ofBits_half, ofBits_two, ofBits_inv_1024, RowNorm.ofBits_1024, RowNorm.div_real _ _ (by norm_num), ← EReal.coe_mul, ← mul_assoc,
    ← EReal.coe_mul, mul_comm]
  norm_num

open Cert.OutLossRefIdeal.Read in
/-- The gradient at the projection's output, one row of the norm's gradient. -/
theorem through_norm (x0 : (⟨S8192x1024, .bf16⟩ : BufTy).Contents (Elt Ideal)) (x1 : (⟨S1024x1024, .f32⟩ : BufTy).Contents (Elt Ideal)) (x2 : (⟨S8192x1024, .f32⟩ : BufTy).Contents (Elt Ideal)) (x3 : (⟨S1x1024, .f32⟩ : BufTy).Contents (Elt Ideal)) (x4 : (⟨S8192x1024, .f32⟩ : BufTy).Contents (Elt Ideal))
    (Y : Vec Ideal S1024x1024 .f32) (D : Vec Ideal S1024x1024 .f32) (W : Vec Ideal S1x1024 .f32)
    (i : Fin 1024) (n : Fin 8192) (hY : ∀ k, Y (ix2 i k) = val_main_v1 (F := Ideal) x0 x1 (ix2 n k))
    (hD : ∀ k, D (ix2 i k) = val_main_v34 (F := Ideal) x0 x1 x2 x3 x4 (ix2 n k)) (hW : ∀ k, W (ix2 0 k) = x3 (ix2 0 k)) (d : Fin 1024) :
    k0_pay13 Y D W (ix2 i d) = val_main_v54 (F := Ideal) x0 x1 x2 x3 x4 (ix2 n d) := by
  unfold val_main_v54 val_main_v53 val_main_v52 val_main_v51 val_main_v50 val_main_v49 val_main_v48 val_main_v47 val_main_v46 val_main_v45 val_main_v44 val_main_v43 val_main_v42 val_main_v41 val_main_v39 val_main_v38 val_main_cst_13 val_main_cst_14 val_main_cst_15
  generalize val_main_v34 (F := Ideal) x0 x1 x2 x3 x4 = DX at hD ⊢
  unfold val_main_v16 val_main_v13 val_main_v12 val_main_v11 val_main_v10 val_main_v9 val_main_v8 val_main_v7 val_main_v6 val_main_v5 val_main_v4 val_main_v3 val_main_v2 val_main_cst val_main_cst_0 val_main_cst_1 val_main_cst_2
  generalize val_main_v1 (F := Ideal) x0 x1 = P at hY ⊢
  pointwise [k0_pay10, k0_pay11, k0_pay13]
  simp only [hY, hD, hW, Finset.univ_unique, Finset.sum_singleton]
  obtain ⟨e, he, hE⟩ := RowNorm.eps_pos
  rw [RowNorm.ofBits_1024, RowNorm.ofBits_neg_half, hE]
  have h := RowNorm.row_grad Finset.univ (fun k => P (ix2 n k)) (fun k => DX (ix2 n k) * x3 (ix2 0 k)) _ 0
    (RowNorm.mean_pos Finset.univ (fun k => P (ix2 n k)) 1024 e (by norm_num) he) 1024 (by norm_num) d
  rw [add_zero, zero_add] at h
  exact h

open Cert.OutLossRefIdeal.Read in
theorem projected_at (c : Dev nD) (t : Fin cfg0.N) (i d : Fin 1024) : k0_pay6 (iblk m c 0 t) (iblk m c 1 t) (ix2 i d)
    = val_main_v1 (F := Ideal) (m ((c.tc : Thread nD τ).loc main_arg0)) (m ((c.tc : Thread nD τ).loc main_arg1)) (ix2 (row t i) d) :=
  projected _ _ (iblk m c 0 t) (iblk m c 1 t) i _ (read0 m c t i _ rfl) (read1 m c t) d

open Cert.OutLossRefIdeal.Read in
theorem error_at (c : Dev nD) (t : Fin cfg0.N) (i d : Fin 1024) : k0_pay7 (iblk m c 0 t) (iblk m c 1 t) (iblk m c 2 t) (iblk m c 3 t) (iblk m c 4 t) (ix2 i d)
    = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t i) d) :=
  error _ _ _ _ _ (iblk m c 0 t) (iblk m c 1 t) (iblk m c 2 t) (iblk m c 3 t) (iblk m c 4 t) i _ (projected_at m c t i) (read2 m c t i _ rfl) (read3 m c t) (read4 m c t i _ rfl) d

open Cert.OutLossRefIdeal.Read in
theorem gradient_at (c : Dev nD) (t : Fin cfg0.N) (i d : Fin 1024) : k0_pay8 (iblk m c 0 t) (iblk m c 1 t) (iblk m c 2 t) (iblk m c 3 t) (iblk m c 4 t) (ix2 i d)
    = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t i) d) :=
  gradient _ _ _ _ _ (iblk m c 0 t) (iblk m c 1 t) (iblk m c 2 t) (iblk m c 3 t) (iblk m c 4 t) i _ d (error_at m c t i d)

open Cert.OutLossRefIdeal.Read in
theorem through_at (c : Dev nD) (t : Fin cfg0.N) (i d : Fin 1024) : k0_pay13 (k0_pay6 (iblk m c 0 t) (iblk m c 1 t)) (k0_pay8 (iblk m c 0 t) (iblk m c 1 t) (iblk m c 2 t) (iblk m c 3 t) (iblk m c 4 t)) (iblk m c 3 t) (ix2 i d)
    = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t i) d) :=
  through_norm _ _ _ _ _ (k0_pay6 (iblk m c 0 t) (iblk m c 1 t)) (k0_pay8 (iblk m c 0 t) (iblk m c 1 t) (iblk m c 2 t) (iblk m c 3 t) (iblk m c 4 t)) (iblk m c 3 t) i _ (projected_at m c t i) (gradient_at m c t i) (read3 m c t) d

open Cert.OutLossRefIdeal.Read in
set_option maxHeartbeats 1000000 in
/-- The gradient of the loss the kernel leaves is the reference's. -/
theorem out5 (c : Dev nD) : (dats m 0 c).arrAt 5 (cfgs 0).N
    = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have hN : t.val < 8 := lt8 t
  obtain ⟨h0, h1, h2, h3, h4, h5, h6, h7, h8, h9, h10⟩ := idx t
  idx_vars y
  have he : ((cfg0.win 5).blk t).view.emb (ix2 y0 y1) = (ix2 (row t y0) y1 : S8192x1024.Idx) := by
    blk_ext [h5]
  blk_simp
  rw [after0_5, he]
  by_cases hA : t.val % 8 = 0
  · rw [outsAt0_A m c t hA (by omega)]
    frame_out
    exact gradient_at m c t y0 y1
  · by_cases hC : t.val % 8 = 7
    · rw [outsAt0_C m c t hA hC]
      frame_out
      exact gradient_at m c t y0 y1
    · rw [outsAt0_B m c t hA hC]
      frame_out
      exact gradient_at m c t y0 y1

open Cert.OutLossRefIdeal.Read in
set_option maxHeartbeats 1000000 in
/-- The gradient at the gated heads the kernel leaves is the reference's. -/
theorem out7 (c : Dev nD) : (dats m 0 c).arrAt 7 (cfgs 0).N
    = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  have hN : t.val < 8 := lt8 t
  obtain ⟨h0, h1, h2, h3, h4, h5, h6, h7, h8, h9, h10⟩ := idx t
  idx_vars y
  have he : ((cfg0.win 7).blk t).view.emb (ix2 y0 y1) = (ix2 (row t y0) y1 : S8192x1024.Idx) := by
    blk_ext [h7]
  blk_simp
  rw [after0_7, he]
  by_cases hA : t.val % 8 = 0
  · rw [outsAt0_A m c t hA (by omega)]
    frame_out
    pointwise [k0_pay14, val_main_v61, val_main_v58]
    simp only [through_at m c t, read1 m c t]
  · by_cases hC : t.val % 8 = 7
    · rw [outsAt0_C m c t hA hC]
      frame_out
      pointwise [k0_pay14, val_main_v61, val_main_v58]
      simp only [through_at m c t, read1 m c t]
    · rw [outsAt0_B m c t hA hC]
      frame_out
      pointwise [k0_pay14, val_main_v61, val_main_v58]
      simp only [through_at m c t, read1 m c t]

end Cert.OutLossIdeal.Row

end
-- ==== Proof.OutLossSum.lean ====
module

public import proofs.«01_k».proof.Proof.OutLossRow

@[expose] public section

set_option maxRecDepth 16384

noncomputable section

namespace Cert.OutLossIdeal.Row

open Cert.OutLossIdeal Cert.OutLossIdeal.Gen
open Idealize.ShloMosaic Idealize.ShloMosaic.TcCoe Idealize.SL.Sem

variable (m : (ℓ : Loc nD τ sig) → Buf (Elt Ideal) ℓ)

open Cert.OutLossRefIdeal.Read

/-- One row's contribution to the loss. -/
def term6 (c : Dev nD) (n : Fin 8192) (d : Fin 1024) : EReal :=
  val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n d)

set_option maxHeartbeats 1000000 in
/-- A point adds its 1024 rows' contributions to what the point before left. -/
theorem step6 (c : Dev nD) (t : Fin cfg0.N) (h0 : ¬t.val % 8 = 0) (y : S1x1024.Idx) : (outsAt0 m c t.val t.isLt).2.1 y
    = (outsAt0 m c (t.val - 1) (by omega)).2.1 y + ∑ i : Fin 1024, term6 m c (row t i) (y 1) := by
  have ht := lt8 t
  by_cases h1 : t.val % 8 = 7
  · rw [outsAt0_C m c t h0 h1]
    frame_out
    idx_vars y
    pointwise [k0_pay9]
    congr 1
    exact Finset.sum_congr rfl fun i _ => by simp only [error_at m c t, term6, val_main_v21]; rfl
  · rw [outsAt0_B m c t h0 h1]
    frame_out
    idx_vars y
    pointwise [k0_pay9]
    congr 1
    exact Finset.sum_congr rfl fun i _ => by simp only [error_at m c t, term6, val_main_v21]; rfl

set_option maxHeartbeats 1000000 in
/-- The first point starts from zero. -/
theorem start6 (c : Dev nD) (t : Fin cfg0.N) (h0 : t.val % 8 = 0) (y : S1x1024.Idx) : (outsAt0 m c t.val t.isLt).2.1 y
    = 0 + ∑ i : Fin 1024, term6 m c (row t i) (y 1) := by
  have ht := lt8 t
  rw [outsAt0_A m c t h0 (by omega)]
  frame_out
  idx_vars y
  pointwise [k0_pay3, k0_pay9]
  first | rw [zero_add] | skip
  exact Finset.sum_congr rfl fun i _ => by simp only [error_at m c t, term6, val_main_v21]; rfl

/-- After the last point the window holds the sum over all rows. -/
theorem last6 (c : Dev nD) (y : S1x1024.Idx) : (outsAt0 m c t0_7.val t0_7.isLt).2.1 y = ∑ n, term6 m c n (y 1) := by
  have hs := Pipeline.eq_sum_fin_of_reset_step_apply_last (fun n h => (outsAt0 m c n h).2.1) 8 (fun _ => (0 : EReal))
    (fun t y => ∑ i : Fin 1024, term6 m c (row t i) (y 1)) (fun t h0 y => start6 m c t h0 y) (fun t h0 y => step6 m c t h0 y)
    (le_of_eq N_0) t0_7 rfl y
  rw [zero_add] at hs
  exact hs.trans (RowNorm.sum_rows N_0 (fun n => term6 m c n (y 1)) _)

/-- What the kernel leaves of the loss is the reference's. -/
theorem out6 (c : Dev nD) : (dats m 0 c).arrAt 6 (cfgs 0).N = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 6 t0_7 (by decide +kernel) _ fun y => ?_
  blk_simp
  rw [after0_6]
  idx_vars y
  refine (last6 m c (ix2 y0 y1)).trans ?_
  unfold val_main_v60 val_main_v59 val_main_cst_16
  unfold term6
  generalize val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
/-- One row's contribution to the gradient of the norm's weight. -/
def term9 (c : Dev nD) (n : Fin 8192) (d : Fin 1024) : EReal :=
  val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n d)

/-- What the kernel adds for one row of its block is that row's contribution. -/
theorem normed_at (c : Dev nD) (t : Fin cfg0.N) (i d : Fin 1024) :
    k0_pay8 (iblk m c 0 t) (iblk m c 1 t) (iblk m c 2 t) (iblk m c 3 t) (iblk m c 4 t) (ix2 i d) * k0_pay11 (k0_pay6 (iblk m c 0 t) (iblk m c 1 t)) (ix2 i d) = term9 m c (row t i) d := by
  rw [gradient_at, mul_comm]
  unfold term9
  unfold val_main_v35 val_main_v15 val_main_v14 val_main_v10 val_main_v9 val_main_v8 val_main_v7 val_main_v6 val_main_v5 val_main_v4 val_main_v3 val_main_cst val_main_cst_0 val_main_cst_1
  have hY := projected_at m c t i
  generalize val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = DX
  generalize val_main_v1 (F := Ideal) (m ((c.tc : Thread nD τ).loc main_arg0)) (m ((c.tc : Thread nD τ).loc main_arg1)) = P at hY ⊢
  pointwise [k0_pay10, k0_pay11]
  simp only [hY]
  try rfl

set_option maxHeartbeats 1000000 in
/-- A point adds its 1024 rows' contributions to what the point before left. -/
theorem step9 (c : Dev nD) (t : Fin cfg0.N) (h0 : ¬t.val % 8 = 0) (y : S1x1024.Idx) : (outsAt0 m c t.val t.isLt).2.2.2.2.1 y
    = (outsAt0 m c (t.val - 1) (by omega)).2.2.2.2.1 y + ∑ i : Fin 1024, term9 m c (row t i) (y 1) := by
  have ht := lt8 t
  by_cases h1 : t.val % 8 = 7
  · rw [outsAt0_C m c t h0 h1]
    frame_out
    idx_vars y
    pointwise [k0_pay12]
    congr 1
    exact Finset.sum_congr rfl fun i _ => normed_at m c t i y1
  · rw [outsAt0_B m c t h0 h1]
    frame_out
    idx_vars y
    pointwise [k0_pay12]
    congr 1
    exact Finset.sum_congr rfl fun i _ => normed_at m c t i y1

set_option maxHeartbeats 1000000 in
/-- The first point starts from zero. -/
theorem start9 (c : Dev nD) (t : Fin cfg0.N) (h0 : t.val % 8 = 0) (y : S1x1024.Idx) : (outsAt0 m c t.val t.isLt).2.2.2.2.1 y
    = 0 + ∑ i : Fin 1024, term9 m c (row t i) (y 1) := by
  have ht := lt8 t
  rw [outsAt0_A m c t h0 (by omega)]
  frame_out
  idx_vars y
  pointwise [k0_pay5, k0_pay12]
  first | rw [zero_add] | skip
  exact Finset.sum_congr rfl fun i _ => normed_at m c t i y1

/-- After the last point the window holds the sum over all rows. -/
theorem last9 (c : Dev nD) (y : S1x1024.Idx) : (outsAt0 m c t0_7.val t0_7.isLt).2.2.2.2.1 y = ∑ n, term9 m c n (y 1) := by
  have hs := Pipeline.eq_sum_fin_of_reset_step_apply_last (fun n h => (outsAt0 m c n h).2.2.2.2.1) 8 (fun _ => (0 : EReal))
    (fun t y => ∑ i : Fin 1024, term9 m c (row t i) (y 1)) (fun t h0 y => start9 m c t h0 y) (fun t h0 y => step9 m c t h0 y)
    (le_of_eq N_0) t0_7 rfl y
  rw [zero_add] at hs
  exact hs.trans (RowNorm.sum_rows N_0 (fun n => term9 m c n (y 1)) _)

/-- What the kernel leaves of the gradient of the norm's weight is the reference's. -/
theorem out9 (c : Dev nD) : (dats m 0 c).arrAt 9 (cfgs 0).N = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 9 t0_7 (by decide +kernel) _ fun y => ?_
  blk_simp
  rw [after0_9]
  idx_vars y
  refine (last9 m c (ix2 y0 y1)).trans ?_
  unfold val_main_v55 val_main_v40 val_main_v37 val_main_v36 val_main_cst_11 val_main_cst_12
  unfold term9
  generalize val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
  simp only [Finset.univ_unique, Finset.sum_singleton]
/-- One row's contribution to the gradient of the weight. -/
def term8 (c : Dev nD) (n : Fin 8192) (a d : Fin 1024) : EReal :=
  val_main_v0 (F := Ideal) (m ((c.tc : Thread nD τ).loc main_arg0)) (ix2 n a) * val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n d)

set_option maxHeartbeats 1000000 in
/-- A point adds its 1024 rows' contributions to what the point before left. -/
theorem step8 (c : Dev nD) (t : Fin cfg0.N) (h0 : ¬t.val % 8 = 0) (y : S1024x1024.Idx) : (outsAt0 m c t.val t.isLt).2.2.2.1 y
    = (outsAt0 m c (t.val - 1) (by omega)).2.2.2.1 y + ∑ i : Fin 1024, term8 m c (row t i) (y 0) (y 1) := by
  have ht := lt8 t
  by_cases h1 : t.val % 8 = 7
  · rw [outsAt0_C m c t h0 h1]
    frame_out
    idx_vars y
    pointwise [k0_pay1]
    congr 1
    exact Finset.sum_congr rfl fun i _ => by rw [through_at m c t, read0 m c t i (row t i) rfl]; rfl
  · rw [outsAt0_B m c t h0 h1]
    frame_out
    idx_vars y
    pointwise [k0_pay1]
    congr 1
    exact Finset.sum_congr rfl fun i _ => by rw [through_at m c t, read0 m c t i (row t i) rfl]; rfl

set_option maxHeartbeats 1000000 in
/-- The first point starts from zero. -/
theorem start8 (c : Dev nD) (t : Fin cfg0.N) (h0 : t.val % 8 = 0) (y : S1024x1024.Idx) : (outsAt0 m c t.val t.isLt).2.2.2.1 y
    = 0 + ∑ i : Fin 1024, term8 m c (row t i) (y 0) (y 1) := by
  have ht := lt8 t
  rw [outsAt0_A m c t h0 (by omega)]
  frame_out
  idx_vars y
  pointwise [k0_pay4, k0_pay1]
  first | rw [zero_add] | skip
  exact Finset.sum_congr rfl fun i _ => by rw [through_at m c t, read0 m c t i (row t i) rfl]; rfl

/-- After the last point the window holds the sum over all rows. -/
theorem last8 (c : Dev nD) (y : S1024x1024.Idx) : (outsAt0 m c t0_7.val t0_7.isLt).2.2.2.1 y = ∑ n, term8 m c n (y 0) (y 1) := by
  have hs := Pipeline.eq_sum_fin_of_reset_step_apply_last (fun n h => (outsAt0 m c n h).2.2.2.1) 8 (fun _ => (0 : EReal))
    (fun t y => ∑ i : Fin 1024, term8 m c (row t i) (y 0) (y 1)) (fun t h0 y => start8 m c t h0 y) (fun t h0 y => step8 m c t h0 y)
    (le_of_eq N_0) t0_7 rfl y
  rw [zero_add] at hs
  exact hs.trans (RowNorm.sum_rows N_0 (fun n => term8 m c n (y 0) (y 1)) _)

/-- What the kernel leaves of the gradient of the weight is the reference's. -/
theorem out8 (c : Dev nD) : (dats m 0 c).arrAt 8 (cfgs 0).N = val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 8 t0_7 (by decide +kernel) _ fun y => ?_
  blk_simp
  rw [after0_8]
  idx_vars y
  refine (last8 m c (ix2 y0 y1)).trans ?_
  unfold val_main_v57 val_main_v56
  unfold term8
  generalize val_main_v0 (F := Ideal) (m ((c.tc : Thread nD τ).loc main_arg0)) = G
  generalize val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
  exact Finset.sum_congr rfl fun n _ => mul_comm _ _
set_option maxHeartbeats 1000000 in
/-- The last point copies the finished gradient of the weight. -/
theorem out10 (c : Dev nD) : (dats m 0 c).arrAt 10 (cfgs 0).N = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 10 t0_7 (by decide +kernel) _ fun y => ?_
  blk_simp
  rw [after0_10]
  idx_vars y
  have h8 := last8 m c (ix2 y0 y1)
  rw [outsAt0_C m c t0_7 (by decide) (by decide)] at h8 ⊢
  frame_out at h8
  frame_out
  pointwise [k0_pay2]
  refine h8.trans ?_
  unfold val_main_v62 val_main_v57 val_main_v56
  unfold term8
  generalize val_main_v0 (F := Ideal) (m ((c.tc : Thread nD τ).loc main_arg0)) = G
  generalize val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
  exact Finset.sum_congr rfl fun n _ => mul_comm _ _

end Cert.OutLossIdeal.Row

end
-- ==== Proof.OutBwdRow.lean ====
module

public import proofs.«01_k».proof.Proof.Gen.OutBwdIdeal.Value
public import proofs.«01_k».proof.Proof.Gen.OutBwdRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.OutBwdIdeal.Row

open Cert.OutBwdIdeal Cert.OutBwdIdeal.Gen
open Idealize.ShloMosaic Idealize.ShloMosaic.TcCoe Idealize.SL.Sem

variable (m : (ℓ : Loc nD τ sig) → Buf (Elt Ideal) ℓ)

open Cert.OutBwdRefIdeal.Read

/-- Where each window's block lies at a point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![0, 0]
    ∧ win0_8.index t = ![0, 0] ∧ win0_9.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![0, 0]
    ∧ win0_8.index t = ![0, 0] ∧ win0_9.index t = ![0, 0])

theorem lt8 (t : Fin cfg0.N) : t.val < 8 := lt_of_lt_of_eq t.isLt (show cfg0.N = 8 from N_0)

theorem last_lt : 7 < cfg0.N := by rw [show cfg0.N = 8 from N_0]; decide

/-- The token block of the gradient, read from the argument. -/
theorem read0 (c : Dev nD) (t : Fin cfg0.N) (i : Fin 1024) (n : Fin 8192) (hn : n.val = 1024 * t.val + i.val) (k : Fin 1024) :
    iblk m c 0 t (ix2 i k) = m ((c.tc : Thread nD τ).loc main_arg0) (ix2 n k) := by
  obtain ⟨h0, h1, h2, h3, h4, h5, h6, h7, h8, h9⟩ := idx t
  blk_ext [iblk, V, h0]

/-- The token block of the saved projection: the reference's own. -/
theorem read1 (c : Dev nD) (t : Fin cfg0.N) (i : Fin 1024) (n : Fin 8192) (hn : n.val = 1024 * t.val + i.val) (k : Fin 1024) :
    iblk m c 1 t (ix2 i k) = val_main_v5 (F := Ideal) (m ((c.tc : Thread nD τ).loc main_arg1)) (m ((c.tc : Thread nD τ).loc main_arg2)) (m ((c.tc : Thread nD τ).loc main_arg3)) (ix2 n k) := by
  obtain ⟨h0, h1, h2, h3, h4, h5, h6, h7, h8, h9⟩ := idx t
  have hb : iblk m c 1 t (ix2 i k) = V m c main_v4 (ix2 n k) := by blk_ext [iblk, h1]
  rw [hb]
  entry_read
  unfold val_main_v5 val_main_v4 val_main_v3 val_main_v2 val_main_v1 val_main_v0
  pointwise
  try rfl

/-- The token block of the gated heads, read from the argument. -/
theorem read2 (c : Dev nD) (t : Fin cfg0.N) (i : Fin 1024) (n : Fin 8192) (hn : n.val = 1024 * t.val + i.val) (k : Fin 1024) :
    iblk m c 2 t (ix2 i k) = m ((c.tc : Thread nD τ).loc main_arg1) (ix2 n k) := by
  obtain ⟨h0, h1, h2, h3, h4, h5, h6, h7, h8, h9⟩ := idx t
  blk_ext [iblk, V, h2]

/-- The weight, read from the argument. -/
theorem read3 (c : Dev nD) (t : Fin cfg0.N) (d : Fin 1024) (k : Fin 1024) :
    iblk m c 3 t (ix2 d k) = m ((c.tc : Thread nD τ).loc main_arg2) (ix2 d k) := by
  obtain ⟨h0, h1, h2, h3, h4, h5, h6, h7, h8, h9⟩ := idx t
  have hb : iblk m c 3 t (ix2 d k) = V m c main_v5 (ix2 d k) := by blk_ext [iblk, h3]
  rw [hb]
  entry_read
  pointwise
  try rfl

/-- The norm's weight, read from the argument. -/
theorem read4 (c : Dev nD) (t : Fin cfg0.N) (k : Fin 1024) :
    iblk m c 4 t (ix2 0 k) = m ((c.tc : Thread nD τ).loc main_arg4) (ix2 0 k) := by
  obtain ⟨h0, h1, h2, h3, h4, h5, h6, h7, h8, h9⟩ := idx t
  blk_ext [iblk, V, h4]

/-- The row of the whole array that a block's row is. -/
abbrev row (t : Fin cfg0.N) (i : Fin 1024) : Fin 8192 := ⟨1024 * t.val + i.val, by have := lt8 t; omega⟩

/-- The gradient at the projection's output, one row of the norm's gradient. -/
theorem through_norm (x0 : (⟨S8192x1024, .f32⟩ : BufTy).Contents (Elt Ideal)) (x1 : (⟨S8192x1024, .bf16⟩ : BufTy).Contents (Elt Ideal)) (x2 : (⟨S1024x1024, .f32⟩ : BufTy).Contents (Elt Ideal)) (x3 : (⟨S1x1024, .f32⟩ : BufTy).Contents (Elt Ideal)) (x4 : (⟨S1x1024, .f32⟩ : BufTy).Contents (Elt Ideal))
    (D : Vec Ideal S1024x1024 .f32) (Y : Vec Ideal S1024x1024 .bf16) (W : Vec Ideal S1x1024 .f32)
    (i : Fin 1024) (n : Fin 8192) (hY : ∀ k, Y (ix2 i k) = val_main_v5 (F := Ideal) x1 x2 x3 (ix2 n k))
    (hD : ∀ k, D (ix2 i k) = x0 (ix2 n k)) (hW : ∀ k, W (ix2 0 k) = x4 (ix2 0 k)) (d : Fin 1024) :
    k0_pay12 D Y W (ix2 i d) = val_main_v42 (F := Ideal) x0 x1 x2 x3 x4 (ix2 n d) := by
  unfold val_main_v42 val_main_v41 val_main_v40 val_main_v39 val_main_v38 val_main_v37 val_main_v36 val_main_v35 val_main_v34 val_main_v33 val_main_v32 val_main_v31 val_main_v30 val_main_v29 val_main_v27 val_main_v26 val_main_v20 val_main_v17 val_main_v16 val_main_v15 val_main_v14 val_main_v13 val_main_v12 val_main_v11 val_main_v10 val_main_v9 val_main_v8 val_main_v7 val_main_v6 val_main_cst_5 val_main_cst_6 val_main_cst_7 val_main_cst val_main_cst_0 val_main_cst_1 val_main_cst_2
  generalize val_main_v5 (F := Ideal) x1 x2 x3 = P at hY ⊢
  pointwise [k0_pay9, k0_pay10, k0_pay11, k0_pay12]
  simp only [hY, hD, hW, Finset.univ_unique, Finset.sum_singleton]
  obtain ⟨e, he, hE⟩ := RowNorm.eps_pos
  rw [RowNorm.ofBits_1024, RowNorm.ofBits_neg_half, hE]
  have h := RowNorm.row_grad Finset.univ (fun k => P (ix2 n k)) (fun k => x0 (ix2 n k) * x4 (ix2 0 k)) _ 0
    (RowNorm.mean_pos Finset.univ (fun k => P (ix2 n k)) 1024 e (by norm_num) he) 1024 (by norm_num) d
  rw [add_zero, zero_add] at h
  exact h

theorem through_at (c : Dev nD) (t : Fin cfg0.N) (i d : Fin 1024) : k0_pay12 (iblk m c 0 t) (iblk m c 1 t) (iblk m c 4 t) (ix2 i d)
    = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t i) d) :=
  through_norm _ _ _ _ _ (iblk m c 0 t) (iblk m c 1 t) (iblk m c 4 t) i _ (read1 m c t i _ rfl) (read0 m c t i _ rfl) (read4 m c t) d

set_option maxHeartbeats 1000000 in
/-- The gradient at the gated heads the kernel leaves is the reference's. -/
theorem out5 (c : Dev nD) : (dats m 0 c).arrAt 5 (cfgs 0).N
    = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have hN : t.val < 8 := lt8 t
  obtain ⟨h0, h1, h2, h3, h4, h5, h6, h7, h8, h9⟩ := idx t
  idx_vars y
  have he : ((cfg0.win 5).blk t).view.emb (ix2 y0 y1) = (ix2 (row t y0) y1 : S8192x1024.Idx) := by
    blk_ext [h5]
  blk_simp
  rw [after0_5, he]
  by_cases hA : t.val % 8 = 0
  · rw [outsAt0_A m c t hA (by omega)]
    frame_out
    pointwise [k0_pay2, k0_pay3, val_main_v51, val_main_v50]
    simp only [through_at m c t, read3 m c t]
  · by_cases hC : t.val % 8 = 7
    · rw [outsAt0_C m c t hA hC]
      frame_out
      pointwise [k0_pay2, k0_pay3, val_main_v51, val_main_v50]
      simp only [through_at m c t, read3 m c t]
    · rw [outsAt0_B m c t hA hC]
      frame_out
      pointwise [k0_pay2, k0_pay3, val_main_v51, val_main_v50]
      simp only [through_at m c t, read3 m c t]

end Cert.OutBwdIdeal.Row

end
-- ==== Proof.OutBwdSum.lean ====
module

public import proofs.«01_k».proof.Proof.OutBwdRow

@[expose] public section

set_option maxRecDepth 16384

noncomputable section

namespace Cert.OutBwdIdeal.Row

open Cert.OutBwdIdeal Cert.OutBwdIdeal.Gen
open Idealize.ShloMosaic Idealize.ShloMosaic.TcCoe Idealize.SL.Sem

variable (m : (ℓ : Loc nD τ sig) → Buf (Elt Ideal) ℓ)

open Cert.OutBwdRefIdeal.Read

/-- One row's contribution to the gradient of the bias. -/
def term7 (c : Dev nD) (n : Fin 8192) (d : Fin 1024) : EReal :=
  val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n d)

set_option maxHeartbeats 1000000 in
/-- A point adds its 1024 rows' contributions to what the point before left. -/
theorem step7 (c : Dev nD) (t : Fin cfg0.N) (h0 : ¬t.val % 8 = 0) (y : S1x1024.Idx) : (outsAt0 m c t.val t.isLt).2.2.1 y
    = (outsAt0 m c (t.val - 1) (by omega)).2.2.1 y + ∑ i : Fin 1024, term7 m c (row t i) (y 1) := by
  have ht := lt8 t
  by_cases h1 : t.val % 8 = 7
  · rw [outsAt0_C m c t h0 h1]
    frame_out
    idx_vars y
    pointwise [k0_pay1]
    congr 1
    exact Finset.sum_congr rfl fun i _ => through_at m c t i y1
  · rw [outsAt0_B m c t h0 h1]
    frame_out
    idx_vars y
    pointwise [k0_pay1]
    congr 1
    exact Finset.sum_congr rfl fun i _ => through_at m c t i y1

set_option maxHeartbeats 1000000 in
/-- The first point starts from zero. -/
theorem start7 (c : Dev nD) (t : Fin cfg0.N) (h0 : t.val % 8 = 0) (y : S1x1024.Idx) : (outsAt0 m c t.val t.isLt).2.2.1 y
    = 0 + ∑ i : Fin 1024, term7 m c (row t i) (y 1) := by
  have ht := lt8 t
  rw [outsAt0_A m c t h0 (by omega)]
  frame_out
  idx_vars y
  pointwise [k0_pay7, k0_pay1]
  first | rw [zero_add] | skip
  exact Finset.sum_congr rfl fun i _ => through_at m c t i y1

/-- After the last point the window holds the sum over all rows. -/
theorem last7 (c : Dev nD) (y : S1x1024.Idx) : (outsAt0 m c t0_7.val t0_7.isLt).2.2.1 y = ∑ n, term7 m c n (y 1) := by
  have hs := Pipeline.eq_sum_fin_of_reset_step_apply_last (fun n h => (outsAt0 m c n h).2.2.1) 8 (fun _ => (0 : EReal))
    (fun t y => ∑ i : Fin 1024, term7 m c (row t i) (y 1)) (fun t h0 y => start7 m c t h0 y) (fun t h0 y => step7 m c t h0 y)
    (le_of_eq N_0) t0_7 rfl y
  rw [zero_add] at hs
  exact hs.trans (RowNorm.sum_rows N_0 (fun n => term7 m c n (y 1)) _)

/-- What the kernel leaves of the gradient of the bias is the reference's. -/
theorem out7 (c : Dev nD) : (dats m 0 c).arrAt 7 (cfgs 0).N = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 7 t0_7 (by decide +kernel) _ fun y => ?_
  blk_simp
  rw [after0_7]
  idx_vars y
  refine (last7 m c (ix2 y0 y1)).trans ?_
  unfold val_main_v47 val_main_v46 val_main_v45 val_main_v44 val_main_cst_8 val_main_cst_9
  unfold term7
  generalize val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
  simp only [Finset.univ_unique, Finset.sum_singleton]
/-- One row's contribution to the gradient of the norm's weight. -/
def term8 (c : Dev nD) (n : Fin 8192) (d : Fin 1024) : EReal :=
  val_main_v23 (F := Ideal) (m ((c.tc : Thread nD τ).loc main_arg0)) (m ((c.tc : Thread nD τ).loc main_arg1)) (m ((c.tc : Thread nD τ).loc main_arg2)) (m ((c.tc : Thread nD τ).loc main_arg3)) (ix2 n d)

/-- What the kernel adds for one row of its block is that row's contribution. -/
theorem normed_at (c : Dev nD) (t : Fin cfg0.N) (i d : Fin 1024) (D : EReal)
    (hD : D = m ((c.tc : Thread nD τ).loc main_arg0) (ix2 (row t i) d)) : D * k0_pay11 (iblk m c 1 t) (ix2 i d) = term8 m c (row t i) d := by
  have hY := read1 m c t i (row t i) rfl
  rw [hD]
  unfold term8
  unfold val_main_v23 val_main_v19 val_main_v18 val_main_v14 val_main_v13 val_main_v12 val_main_v11 val_main_v10 val_main_v9 val_main_v8 val_main_v7 val_main_cst val_main_cst_0 val_main_cst_1
  generalize val_main_v5 (F := Ideal) (m ((c.tc : Thread nD τ).loc main_arg1)) (m ((c.tc : Thread nD τ).loc main_arg2)) (m ((c.tc : Thread nD τ).loc main_arg3)) = P at hY ⊢
  pointwise [k0_pay9, k0_pay10, k0_pay11]
  simp only [hY]
  exact mul_comm _ _

set_option maxHeartbeats 1000000 in
/-- A point adds its 1024 rows' contributions to what the point before left. -/
theorem step8 (c : Dev nD) (t : Fin cfg0.N) (h0 : ¬t.val % 8 = 0) (y : S1x1024.Idx) : (outsAt0 m c t.val t.isLt).2.2.2.1 y
    = (outsAt0 m c (t.val - 1) (by omega)).2.2.2.1 y + ∑ i : Fin 1024, term8 m c (row t i) (y 1) := by
  have ht := lt8 t
  by_cases h1 : t.val % 8 = 7
  · rw [outsAt0_C m c t h0 h1]
    frame_out
    idx_vars y
    pointwise [k0_pay13]
    congr 1
    exact Finset.sum_congr rfl fun i _ => normed_at m c t i y1 _ (read0 m c t i _ rfl y1)
  · rw [outsAt0_B m c t h0 h1]
    frame_out
    idx_vars y
    pointwise [k0_pay13]
    congr 1
    exact Finset.sum_congr rfl fun i _ => normed_at m c t i y1 _ (read0 m c t i _ rfl y1)

set_option maxHeartbeats 1000000 in
/-- The first point starts from zero. -/
theorem start8 (c : Dev nD) (t : Fin cfg0.N) (h0 : t.val % 8 = 0) (y : S1x1024.Idx) : (outsAt0 m c t.val t.isLt).2.2.2.1 y
    = 0 + ∑ i : Fin 1024, term8 m c (row t i) (y 1) := by
  have ht := lt8 t
  rw [outsAt0_A m c t h0 (by omega)]
  frame_out
  idx_vars y
  pointwise [k0_pay8, k0_pay13]
  first | rw [zero_add] | skip
  exact Finset.sum_congr rfl fun i _ => normed_at m c t i y1 _ (read0 m c t i _ rfl y1)

/-- After the last point the window holds the sum over all rows. -/
theorem last8 (c : Dev nD) (y : S1x1024.Idx) : (outsAt0 m c t0_7.val t0_7.isLt).2.2.2.1 y = ∑ n, term8 m c n (y 1) := by
  have hs := Pipeline.eq_sum_fin_of_reset_step_apply_last (fun n h => (outsAt0 m c n h).2.2.2.1) 8 (fun _ => (0 : EReal))
    (fun t y => ∑ i : Fin 1024, term8 m c (row t i) (y 1)) (fun t h0 y => start8 m c t h0 y) (fun t h0 y => step8 m c t h0 y)
    (le_of_eq N_0) t0_7 rfl y
  rw [zero_add] at hs
  exact hs.trans (RowNorm.sum_rows N_0 (fun n => term8 m c n (y 1)) _)

/-- What the kernel leaves of the gradient of the norm's weight is the reference's. -/
theorem out8 (c : Dev nD) : (dats m 0 c).arrAt 8 (cfgs 0).N = val_main_v43 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_after_last 8 t0_7 (by decide +kernel) _ fun y => ?_
  blk_simp
  rw [after0_8]
  idx_vars y
  refine (last8 m c (ix2 y0 y1)).trans ?_
  unfold val_main_v43 val_main_v28 val_main_v25 val_main_v24 val_main_cst_3 val_main_cst_4
  unfold term8
  generalize val_main_v23 (F := Ideal) (m ((c.tc : Thread nD τ).loc main_arg0)) (m ((c.tc : Thread nD τ).loc main_arg1)) (m ((c.tc : Thread nD τ).loc main_arg2)) (m ((c.tc : Thread nD τ).loc main_arg3)) = T
  pointwise
  simp only [Finset.univ_unique, Finset.sum_singleton]
/-- One row's contribution to the gradient of the weight. -/
def term6 (c : Dev nD) (n : Fin 8192) (a d : Fin 1024) : EReal :=
  val_main_v0 (F := Ideal) (m ((c.tc : Thread nD τ).loc main_arg1)) (ix2 n a) * val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n d)

set_option maxHeartbeats 1000000 in
/-- A point adds its 1024 rows' contributions to what the point before left. -/
theorem step6 (c : Dev nD) (t : Fin cfg0.N) (h0 : ¬t.val % 8 = 0) (y : S1024x1024.Idx) : (outsAt0 m c t.val t.isLt).2.1 y
    = (outsAt0 m c (t.val - 1) (by omega)).2.1 y + ∑ i : Fin 1024, term6 m c (row t i) (y 0) (y 1) := by
  have ht := lt8 t
  by_cases h1 : t.val % 8 = 7
  · rw [outsAt0_C m c t h0 h1]
    frame_out
    idx_vars y
    pointwise [k0_pay2, k0_pay4]
    congr 1
    exact Finset.sum_congr rfl fun i _ => by rw [through_at m c t, read2 m c t i (row t i) rfl]; rfl
  · rw [outsAt0_B m c t h0 h1]
    frame_out
    idx_vars y
    pointwise [k0_pay2, k0_pay4]
    congr 1
    exact Finset.sum_congr rfl fun i _ => by rw [through_at m c t, read2 m c t i (row t i) rfl]; rfl

set_option maxHeartbeats 1000000 in
/-- The first point starts from zero. -/
theorem start6 (c : Dev nD) (t : Fin cfg0.N) (h0 : t.val % 8 = 0) (y : S1024x1024.Idx) : (outsAt0 m c t.val t.isLt).2.1 y
    = 0 + ∑ i : Fin 1024, term6 m c (row t i) (y 0) (y 1) := by
  have ht := lt8 t
  rw [outsAt0_A m c t h0 (by omega)]
  frame_out
  idx_vars y
  pointwise [k0_pay2, k0_pay4, k0_pay6]
  first | rw [zero_add] | skip
  exact Finset.sum_congr rfl fun i _ => by rw [through_at m c t, read2 m c t i (row t i) rfl]; rfl

/-- After the last point the window holds the sum over all rows. -/
theorem last6 (c : Dev nD) (y : S1024x1024.Idx) : (outsAt0 m c t0_7.val t0_7.isLt).2.1 y = ∑ n, term6 m c n (y 0) (y 1) := by
  have hs := Pipeline.eq_sum_fin_of_reset_step_apply_last (fun n h => (outsAt0 m c n h).2.1) 8 (fun _ => (0 : EReal))
    (fun t y => ∑ i : Fin 1024, term6 m c (row t i) (y 0) (y 1)) (fun t h0 y => start6 m c t h0 y) (fun t h0 y => step6 m c t h0 y)
    (le_of_eq N_0) t0_7 rfl y
  rw [zero_add] at hs
  exact hs.trans (RowNorm.sum_rows N_0 (fun n => term6 m c n (y 0) (y 1)) _)

/-- What the kernel leaves of the gradient of the weight is the reference's. -/
theorem out6 (c : Dev nD) : (dats m 0 c).arrAt 6 (cfgs 0).N = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 6 t0_7 (by decide +kernel) _ fun y => ?_
  blk_simp
  rw [after0_6]
  idx_vars y
  refine (last6 m c (ix2 y0 y1)).trans ?_
  unfold val_main_v49 val_main_v48
  unfold term6
  generalize val_main_v0 (F := Ideal) (m ((c.tc : Thread nD τ).loc main_arg1)) = G
  generalize val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
  exact Finset.sum_congr rfl fun n _ => mul_comm _ _
set_option maxHeartbeats 1000000 in
/-- The last point copies the finished gradient of the weight. -/
theorem out9 (c : Dev nD) : (dats m 0 c).arrAt 9 (cfgs 0).N = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 9 t0_7 (by decide +kernel) _ fun y => ?_
  blk_simp
  rw [after0_9]
  idx_vars y
  have h6 := last6 m c (ix2 y0 y1)
  rw [outsAt0_C m c t0_7 (by decide) (by decide)] at h6 ⊢
  frame_out at h6
  frame_out
  pointwise [k0_pay5]
  refine h6.trans ?_
  unfold val_main_v52 val_main_v49 val_main_v48
  unfold term6
  generalize val_main_v0 (F := Ideal) (m ((c.tc : Thread nD τ).loc main_arg1)) = G
  generalize val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = T
  pointwise
  exact Finset.sum_congr rfl fun n _ => mul_comm _ _

end Cert.OutBwdIdeal.Row

end
-- ==== Proof.OutProj.lean ====
module

public import proofs.«01_k».proof.Proof.Gen.OutProjIdeal.Value
public import proofs.«01_k».proof.Proof.Gen.OutProjRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.OutProjIdeal.Row

open Cert.OutProjIdeal Cert.OutProjIdeal.Gen
open Idealize.ShloMosaic Idealize.ShloMosaic.TcCoe Idealize.SL.Sem

variable (m : (ℓ : Loc nD τ sig) → Buf (Elt Ideal) ℓ)

/-- Where each window's block lies at a point. -/
theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0])

theorem lt8 (t : Fin cfg0.N) : t.val < 8 := lt_of_lt_of_eq t.isLt (show cfg0.N = 8 from N_0)

theorem last_lt : 7 < cfg0.N := by rw [show cfg0.N = 8 from N_0]; decide

/-- The token block of the gated heads, read from the argument. -/
theorem read0 (c : Dev nD) (t : Fin cfg0.N) (i : Fin 1024) (n : Fin 8192) (hn : n.val = 1024 * t.val + i.val) (k : Fin 1024) :
    iblk m c 0 t (ix2 i k) = m ((c.tc : Thread nD τ).loc main_arg0) (ix2 n k) := by
  obtain ⟨h0, h1, h2, h3, h4, h5, h6⟩ := idx t
  blk_ext [iblk, V, h0]

/-- The weight, read from the argument. -/
theorem read1 (c : Dev nD) (t : Fin cfg0.N) (d : Fin 1024) (k : Fin 1024) :
    iblk m c 1 t (ix2 d k) = m ((c.tc : Thread nD τ).loc main_arg1) (ix2 d k) := by
  obtain ⟨h0, h1, h2, h3, h4, h5, h6⟩ := idx t
  have hb : iblk m c 1 t (ix2 d k) = V m c main_v0 (ix2 d k) := by blk_ext [iblk, h1]
  rw [hb]
  entry_read
  pointwise
  try rfl

/-- The bias, read from the argument. -/
theorem read2 (c : Dev nD) (t : Fin cfg0.N) (k : Fin 1024) :
    iblk m c 2 t (ix2 0 k) = m ((c.tc : Thread nD τ).loc main_arg2) (ix2 0 k) := by
  obtain ⟨h0, h1, h2, h3, h4, h5, h6⟩ := idx t
  blk_ext [iblk, V, h2]

/-- The token block of the residual, read from the argument. -/
theorem read3 (c : Dev nD) (t : Fin cfg0.N) (i : Fin 1024) (n : Fin 8192) (hn : n.val = 1024 * t.val + i.val) (k : Fin 1024) :
    iblk m c 3 t (ix2 i k) = m ((c.tc : Thread nD τ).loc main_arg3) (ix2 n k) := by
  obtain ⟨h0, h1, h2, h3, h4, h5, h6⟩ := idx t
  blk_ext [iblk, V, h3]

/-- The norm's weight, read from the argument. -/
theorem read4 (c : Dev nD) (t : Fin cfg0.N) (k : Fin 1024) :
    iblk m c 4 t (ix2 0 k) = m ((c.tc : Thread nD τ).loc main_arg4) (ix2 0 k) := by
  obtain ⟨h0, h1, h2, h3, h4, h5, h6⟩ := idx t
  blk_ext [iblk, V, h4]

open Cert.OutProjRefIdeal.Read in
set_option maxHeartbeats 1000000 in
/-- The projected block the kernel leaves is the reference's. -/
theorem out5 (c : Dev nD) : (dats m 0 c).arrAt 5 (cfgs 0).N
    = val_main_v6 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  have hN : t.val < 8 := lt8 t
  obtain ⟨h0, h1, h2, h3, h4, h5, h6⟩ := idx t
  idx_vars y
  have he : ((cfg0.win 5).blk t).view.emb (ix2 y0 y1) = (ix2 (⟨1024 * t.val + y0.val, by omega⟩ : Fin 8192) y1 : S8192x1024.Idx) := by
    blk_ext [h5]
  have e0 := read0 m c t y0 ⟨1024 * t.val + y0.val, by omega⟩ rfl
  have e1 := read1 m c t
  have e2 := read2 m c t
  have e3 := read3 m c t y0 ⟨1024 * t.val + y0.val, by omega⟩ rfl
  have e4 := read4 m c t
  blk_simp
  rw [after0_5, he]
  frame_out
  pointwise [out0_5, k0_pay1, k0_pay2]
  unfold val_main_v6 val_main_v5 val_main_v4 val_main_v3 val_main_v2 val_main_v1 val_main_v0
  pointwise
  simp only [e0, e1, e2]
  try rfl

open Cert.OutProjRefIdeal.Read in
set_option maxHeartbeats 1000000 in
/-- The residual stream the kernel leaves is the reference's. -/
theorem out6 (c : Dev nD) : (dats m 0 c).arrAt 6 (cfgs 0).N
    = val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have hN : t.val < 8 := lt8 t
  obtain ⟨h0, h1, h2, h3, h4, h5, h6⟩ := idx t
  idx_vars y
  have he : ((cfg0.win 6).blk t).view.emb (ix2 y0 y1) = (ix2 (⟨1024 * t.val + y0.val, by omega⟩ : Fin 8192) y1 : S8192x1024.Idx) := by
    blk_ext [h6]
  have e0 := read0 m c t y0 ⟨1024 * t.val + y0.val, by omega⟩ rfl
  have e1 := read1 m c t
  have e2 := read2 m c t
  have e3 := read3 m c t y0 ⟨1024 * t.val + y0.val, by omega⟩ rfl
  have e4 := read4 m c t
  blk_simp
  rw [after0_6, he]
  frame_out
  pointwise [out0_6, k0_pay1, k0_pay3]
  unfold val_main_v21 val_main_v20 val_main_v19 val_main_v18 val_main_v17 val_main_v16 val_main_v15 val_main_v14 val_main_v13 val_main_v12 val_main_v11 val_main_v10 val_main_v9 val_main_v8 val_main_v7 val_main_v5 val_main_v4 val_main_v3 val_main_v2 val_main_v1 val_main_v0 val_main_cst val_main_cst_0 val_main_cst_1
  pointwise
  simp only [e0, e1, e2, e3, e4]
  try rfl

end Cert.OutProjIdeal.Row

end
-- ==== Proof.AttnTurn.lean ====
/- The reference's rotation of the heads, a lane at a time: the first eight lanes of a head and the eight after them are
   turned by the angle of their pair, the others pass. -/
module

public import proofs.«01_k».proof.Proof.Gen.AttnProjRefIdeal.Read
public import proofs.«01_k».proof.Proof.RowNorm
public import Idealize.ShloMosaic.Lib.Pipeline.ValueKit
public import Idealize.ShloMosaic.Lib.Pointwise

@[expose] public section

set_option maxRecDepth 16384

noncomputable section

namespace Cert.AttnProjRefIdeal.Row

open Cert.AttnProjRefIdeal Cert.AttnProjRefIdeal.Read
open Idealize.ShloMosaic Idealize.ShloMosaic.TcCoe Idealize.SL.Sem

variable (x0 : (⟨S8192x1024, .f32⟩ : BufTy).Contents (Elt Ideal)) (x1 : (⟨S1x1024, .f32⟩ : BufTy).Contents (Elt Ideal))
  (x2 : (⟨S1024x2304, .f32⟩ : BufTy).Contents (Elt Ideal)) (x3 : (⟨S1x2304, .f32⟩ : BufTy).Contents (Elt Ideal))
  (x4 : (⟨S4x2048, .i32⟩ : BufTy).Contents (Elt Ideal))

theorem ofBits_16 : Ideal.ofBits .f32 0x41800000#32 = ((16 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem base_real : ∃ a : ℝ, Ideal.ofBits .f32 0x48F42400#32 = (a : EReal) :=
  ⟨_, by simp only [Ideal.ofBits, Ideal.ieee]; simp [-EReal.coe_mul]; rfl⟩

/-- Every angle is a real number. -/
theorem angle_real (b : Fin 4) (s : Fin 2048) (j : Fin 8) : ∃ a : ℝ, val_main_v73 (F := Ideal) x4 (ix3 b s j) = (a : EReal) := by
  obtain ⟨p, hp⟩ := base_real
  unfold val_main_v73 val_main_v72 val_main_v71 val_main_v70 val_main_v69 val_main_v68 val_main_v67 val_main_v66 val_main_v65 val_main_v64 val_main_v63 val_main_v62 val_main_v61 val_main_v60 val_main_cst_6 val_main_cst_7 val_main_cst_8
  pointwise
  rw [ofBits_16, ofBits_2, hp, RowNorm.div_real _ _ (by norm_num)]
  exact ⟨_, (EReal.coe_mul _ _).symm⟩

theorem cos_real (b : Fin 4) (s : Fin 2048) (j : Fin 8) : ∃ a : ℝ, val_main_v74 (F := Ideal) x4 (ix3 b s j) = (a : EReal) := by
  obtain ⟨a, h⟩ := angle_real x4 b s j
  exact ⟨Real.cos a, (val_main_v74_apply x4 _).trans (by rw [h]; rfl)⟩

theorem sin_real (b : Fin 4) (s : Fin 2048) (j : Fin 8) : ∃ a : ℝ, val_main_v76 (F := Ideal) x4 (ix3 b s j) = (a : EReal) := by
  obtain ⟨a, h⟩ := angle_real x4 b s j
  exact ⟨Real.sin a, (val_main_v76_apply x4 _).trans (by rw [h]; rfl)⟩

/-- The keys: the first eight lanes of a head, turned with the eight after them. -/
theorem key_first (n : Fin 8192) (l : Fin 128) (h : l.val % 64 < 8) : val_main_v92 (F := Ideal) x0 x1 x2 x3 x4 (ix2 n l)
    = (val_main_v20 (F := Ideal) x0 x1 x2 x3 (ix2 n l) * val_main_v74 (F := Ideal) x4 (ix3 (⟨n.val / 2048, by omega⟩ : Fin 4) (⟨n.val % 2048, by omega⟩ : Fin 2048) (⟨l.val % 64 % 8, by omega⟩ : Fin 8)) - val_main_v20 (F := Ideal) x0 x1 x2 x3 (ix2 n ⟨l.val + 8, by omega⟩) * val_main_v76 (F := Ideal) x4 (ix3 (⟨n.val / 2048, by omega⟩ : Fin 4) (⟨n.val % 2048, by omega⟩ : Fin 2048) (⟨l.val % 64 % 8, by omega⟩ : Fin 8))) := by
  unfold val_main_v92 val_main_v91
  pointwise
  rw [dif_pos (by omega)]
  unfold val_main_v84 val_main_v81 val_main_v83 val_main_v78 val_main_v79 val_main_v80 val_main_v82 val_main_v75 val_main_v77 val_main_v59
  pointwise
  exact congrArg₂ (· - ·) (congrArg₂ (· * ·) (congrArg _ (funext fun a => by fin_cases a <;> exact Fin.ext (by simp <;> omega))) (congrArg _ (funext fun a => by fin_cases a <;> exact Fin.ext (by simp <;> omega))))
    (congrArg₂ (· * ·) (congrArg _ (funext fun a => by fin_cases a <;> exact Fin.ext (by simp <;> omega))) (congrArg _ (funext fun a => by fin_cases a <;> exact Fin.ext (by simp <;> omega))))

/-- The eight lanes after them. -/
theorem key_second (n : Fin 8192) (l : Fin 128) (h : 8 ≤ l.val % 64) (h2 : l.val % 64 < 16) : val_main_v92 (F := Ideal) x0 x1 x2 x3 x4 (ix2 n l)
    = (val_main_v20 (F := Ideal) x0 x1 x2 x3 (ix2 n l) * val_main_v74 (F := Ideal) x4 (ix3 (⟨n.val / 2048, by omega⟩ : Fin 4) (⟨n.val % 2048, by omega⟩ : Fin 2048) (⟨l.val % 64 % 8, by omega⟩ : Fin 8)) + val_main_v20 (F := Ideal) x0 x1 x2 x3 (ix2 n ⟨l.val - 8, by omega⟩) * val_main_v76 (F := Ideal) x4 (ix3 (⟨n.val / 2048, by omega⟩ : Fin 4) (⟨n.val % 2048, by omega⟩ : Fin 2048) (⟨l.val % 64 % 8, by omega⟩ : Fin 8))) := by
  unfold val_main_v92 val_main_v91
  pointwise
  rw [dif_neg (by omega), dif_pos (by omega)]
  unfold val_main_v89 val_main_v86 val_main_v88 val_main_v78 val_main_v79 val_main_v85 val_main_v87 val_main_v75 val_main_v77 val_main_v59
  pointwise
  exact congrArg₂ (· + ·) (congrArg₂ (· * ·) (congrArg _ (funext fun a => by fin_cases a <;> exact Fin.ext (by simp <;> omega))) (congrArg _ (funext fun a => by fin_cases a <;> exact Fin.ext (by simp <;> omega))))
    (congrArg₂ (· * ·) (congrArg _ (funext fun a => by fin_cases a <;> exact Fin.ext (by simp <;> omega))) (congrArg _ (funext fun a => by fin_cases a <;> exact Fin.ext (by simp <;> omega))))

/-- The lanes that pass. -/
theorem key_rest (n : Fin 8192) (l : Fin 128) (h : 16 ≤ l.val % 64) : val_main_v92 (F := Ideal) x0 x1 x2 x3 x4 (ix2 n l)
    = val_main_v20 (F := Ideal) x0 x1 x2 x3 (ix2 n l) := by
  unfold val_main_v92 val_main_v91
  pointwise
  rw [dif_neg (by omega), dif_neg (by omega)]
  unfold val_main_v90 val_main_v59
  pointwise
  exact congrArg _ (funext fun a => by fin_cases a <;> exact Fin.ext (by simp <;> omega))

/-- The queries: the first eight lanes of a head, turned with the eight after them. -/
theorem query_first (n : Fin 8192) (l : Fin 1024) (h : l.val % 64 < 8) : val_main_v58 (F := Ideal) x0 x1 x2 x3 x4 (ix2 n l)
    = (val_main_v19 (F := Ideal) x0 x1 x2 x3 (ix2 n l) * val_main_v74 (F := Ideal) x4 (ix3 (⟨n.val / 2048, by omega⟩ : Fin 4) (⟨n.val % 2048, by omega⟩ : Fin 2048) (⟨l.val % 64 % 8, by omega⟩ : Fin 8)) - val_main_v19 (F := Ideal) x0 x1 x2 x3 (ix2 n ⟨l.val + 8, by omega⟩) * val_main_v76 (F := Ideal) x4 (ix3 (⟨n.val / 2048, by omega⟩ : Fin 4) (⟨n.val % 2048, by omega⟩ : Fin 2048) (⟨l.val % 64 % 8, by omega⟩ : Fin 8))) * Ideal.ofBits .f32 0x3E000000#32 := by
  unfold val_main_v58 val_main_v57 val_main_v56 val_main_v55 val_main_cst_5
  pointwise
  rw [dif_pos (by omega)]
  unfold val_main_v48 val_main_v45 val_main_v47 val_main_v42 val_main_v43 val_main_v44 val_main_v46 val_main_v39 val_main_v41 val_main_v23
  pointwise
  exact congrArg (· * _) (congrArg₂ (· - ·) (congrArg₂ (· * ·) (congrArg _ (funext fun a => by fin_cases a <;> exact Fin.ext (by simp <;> omega))) (congrArg _ (funext fun a => by fin_cases a <;> exact Fin.ext (by simp <;> omega))))
    (congrArg₂ (· * ·) (congrArg _ (funext fun a => by fin_cases a <;> exact Fin.ext (by simp <;> omega))) (congrArg _ (funext fun a => by fin_cases a <;> exact Fin.ext (by simp <;> omega)))))

/-- The eight lanes after them. -/
theorem query_second (n : Fin 8192) (l : Fin 1024) (h : 8 ≤ l.val % 64) (h2 : l.val % 64 < 16) : val_main_v58 (F := Ideal) x0 x1 x2 x3 x4 (ix2 n l)
    = (val_main_v19 (F := Ideal) x0 x1 x2 x3 (ix2 n l) * val_main_v74 (F := Ideal) x4 (ix3 (⟨n.val / 2048, by omega⟩ : Fin 4) (⟨n.val % 2048, by omega⟩ : Fin 2048) (⟨l.val % 64 % 8, by omega⟩ : Fin 8)) + val_main_v19 (F := Ideal) x0 x1 x2 x3 (ix2 n ⟨l.val - 8, by omega⟩) * val_main_v76 (F := Ideal) x4 (ix3 (⟨n.val / 2048, by omega⟩ : Fin 4) (⟨n.val % 2048, by omega⟩ : Fin 2048) (⟨l.val % 64 % 8, by omega⟩ : Fin 8))) * Ideal.ofBits .f32 0x3E000000#32 := by
  unfold val_main_v58 val_main_v57 val_main_v56 val_main_v55 val_main_cst_5
  pointwise
  rw [dif_neg (by omega), dif_pos (by omega)]
  unfold val_main_v53 val_main_v50 val_main_v52 val_main_v42 val_main_v43 val_main_v49 val_main_v51 val_main_v39 val_main_v41 val_main_v23
  pointwise
  exact congrArg (· * _) (congrArg₂ (· + ·) (congrArg₂ (· * ·) (congrArg _ (funext fun a => by fin_cases a <;> exact Fin.ext (by simp <;> omega))) (congrArg _ (funext fun a => by fin_cases a <;> exact Fin.ext (by simp <;> omega))))
    (congrArg₂ (· * ·) (congrArg _ (funext fun a => by fin_cases a <;> exact Fin.ext (by simp <;> omega))) (congrArg _ (funext fun a => by fin_cases a <;> exact Fin.ext (by simp <;> omega)))))

/-- The lanes that pass. -/
theorem query_rest (n : Fin 8192) (l : Fin 1024) (h : 16 ≤ l.val % 64) : val_main_v58 (F := Ideal) x0 x1 x2 x3 x4 (ix2 n l)
    = val_main_v19 (F := Ideal) x0 x1 x2 x3 (ix2 n l) * Ideal.ofBits .f32 0x3E000000#32 := by
  unfold val_main_v58 val_main_v57 val_main_v56 val_main_v55 val_main_cst_5
  pointwise
  rw [dif_neg (by omega), dif_neg (by omega)]
  unfold val_main_v54 val_main_v23
  pointwise
  exact congrArg (· * _) (congrArg _ (funext fun a => by fin_cases a <;> exact Fin.ext (by simp <;> omega)))

end Cert.AttnProjRefIdeal.Row

end
-- ==== Proof.AttnPieces.lean ====
/- The angle pieces the attention's projection reads, as its host code makes them: each row's eight cosines and eight sines
   rounded, what the rounding leaves, and what the second rounding leaves. Every angle is a real number, so the last two
   are zero. -/
module

public import proofs.«01_k».proof.Proof.Gen.AttnProjIdeal.Value
public import proofs.«01_k».proof.Proof.AttnTurn
public import Idealize.ShloMosaic.Lib.Pipeline.ValueKit
public import Idealize.ShloMosaic.Lib.Pointwise

@[expose] public section

set_option maxRecDepth 16384

noncomputable section

namespace Cert.AttnProjIdeal.Row

open Cert.AttnProjIdeal Cert.AttnProjIdeal.Gen
open Idealize.ShloMosaic Idealize.ShloMosaic.TcCoe Idealize.SL.Sem
open Cert.AttnProjRefIdeal.Read Cert.AttnProjRefIdeal.Row

variable (m : (ℓ : Loc nD τ sig) → Buf (Elt Ideal) ℓ)

/-- The cosines and the sines of a row's angles. -/
def turns (c : Dev nD) : Vec Ideal S8192x16 .f32 := StableHlo.after (hostOps0.take 21) (fun b => m (c, b)) main_v17

/-- The last of the host's lines: the three pieces, side by side. -/
theorem last_line (σ : Valuation τ sig (Elt Ideal)) (n : Fin 8192) (k : Fin 48) :
    (StableHlo.after (hostOps0.drop 28) σ (Proc.tc.devRef main_v25) : Vec Ideal S8192x48 .bf16) (ix2 n k)
      = if h : k.val < 16 then (σ (Proc.tc.devRef main_v18) : Vec Ideal S8192x16 .bf16) (ix2 n ⟨k.val, h⟩)
        else if h : k.val - 16 < 16 then (σ (Proc.tc.devRef main_v21) : Vec Ideal S8192x16 .bf16) (ix2 n ⟨k.val - 16, h⟩)
        else (σ (Proc.tc.devRef main_v24) : Vec Ideal S8192x16 .bf16) (ix2 n ⟨k.val - 16 - 16, by omega⟩) := by
  simp only [hostOps0, List.drop_succ_cons, List.drop_zero]
  rw [StableHlo.after_cons, StableHlo.after_nil, StableHlo.nary_result]
  pointwise

/-- The lines before it: the angles' cosines and sines, what their rounding leaves, and what that rounding leaves. -/
theorem lines_18 (σ : Valuation τ sig (Elt Ideal)) (i : S8192x16.Idx) :
    (StableHlo.after ((hostOps0.drop 21).take 7) σ (Proc.tc.devRef main_v18) : Vec Ideal S8192x16 .bf16) i
      = (σ (Proc.tc.devRef main_v17) : Vec Ideal S8192x16 .f32) i := by
  simp only [hostOps0, List.drop_succ_cons, List.drop_zero, List.take_succ_cons, List.take_zero]
  entry_read
  pointwise

theorem lines_21 (σ : Valuation τ sig (Elt Ideal)) (i : S8192x16.Idx) (x : EReal) (hx : (σ (Proc.tc.devRef main_v17) : Vec Ideal S8192x16 .f32) i = x) :
    (StableHlo.after ((hostOps0.drop 21).take 7) σ (Proc.tc.devRef main_v21) : Vec Ideal S8192x16 .bf16) i
      = x - x := by
  simp only [hostOps0, List.drop_succ_cons, List.drop_zero, List.take_succ_cons, List.take_zero]
  entry_read
  pointwise
  rw [hx]

theorem lines_24 (σ : Valuation τ sig (Elt Ideal)) (i : S8192x16.Idx) (x : EReal) (hx : (σ (Proc.tc.devRef main_v17) : Vec Ideal S8192x16 .f32) i = x) :
    (StableHlo.after ((hostOps0.drop 21).take 7) σ (Proc.tc.devRef main_v24) : Vec Ideal S8192x16 .bf16) i
      = x - x - (x - x) := by
  simp only [hostOps0, List.drop_succ_cons, List.drop_zero, List.take_succ_cons, List.take_zero]
  entry_read
  pointwise
  rw [hx]

theorem split (c : Dev nD) : V m c main_v25 = StableHlo.after (hostOps0.drop 28) (StableHlo.after ((hostOps0.drop 21).take 7)
    (StableHlo.after (hostOps0.take 21) (fun b => m (c, b)))) (Proc.tc.devRef main_v25) := by
  rw [← StableHlo.after_append, ← StableHlo.after_append]
  rfl

theorem turns_cos (c : Dev nD) (n : Fin 8192) (k : Fin 16) (h : k.val < 8) :
    turns m c (ix2 n k) = val_main_v74 (F := Ideal) (m ((c.tc : Thread nD τ).loc main_arg4))
      (ix3 (⟨n.val / 2048, by omega⟩ : Fin 4) (⟨n.val % 2048, by omega⟩ : Fin 2048) (⟨k.val, by omega⟩ : Fin 8)) := by
  unfold turns
  simp only [hostOps0, List.take_succ_cons, List.take_zero]
  entry_read
  unfold val_main_v74 val_main_v73 val_main_v72 val_main_v71 val_main_v70 val_main_v69 val_main_v68 val_main_v67 val_main_v66 val_main_v65 val_main_v64 val_main_v63 val_main_v62 val_main_v61 val_main_v60 val_main_cst_6 val_main_cst_7 val_main_cst_8
  pointwise
  rw [dif_pos h]

theorem turns_sin (c : Dev nD) (n : Fin 8192) (k : Fin 16) (h : 8 ≤ k.val) :
    turns m c (ix2 n k) = val_main_v76 (F := Ideal) (m ((c.tc : Thread nD τ).loc main_arg4))
      (ix3 (⟨n.val / 2048, by omega⟩ : Fin 4) (⟨n.val % 2048, by omega⟩ : Fin 2048) (⟨k.val - 8, by omega⟩ : Fin 8)) := by
  unfold turns
  simp only [hostOps0, List.take_succ_cons, List.take_zero]
  entry_read
  unfold val_main_v76 val_main_v73 val_main_v72 val_main_v71 val_main_v70 val_main_v69 val_main_v68 val_main_v67 val_main_v66 val_main_v65 val_main_v64 val_main_v63 val_main_v62 val_main_v61 val_main_v60 val_main_cst_6 val_main_cst_7 val_main_cst_8
  pointwise
  rw [dif_neg (by omega)]

/-- A real number less itself is zero. -/
theorem sub_self_real {x : EReal} (h : ∃ a : ℝ, x = (a : EReal)) : x - x = 0 := by
  obtain ⟨a, rfl⟩ := h
  rw [← EReal.coe_sub, sub_self, EReal.coe_zero]

theorem turns_real (c : Dev nD) (n : Fin 8192) (k : Fin 16) : ∃ a : ℝ, turns m c (ix2 n k) = (a : EReal) := by
  by_cases h : k.val < 8
  · rw [turns_cos m c n k h]; exact cos_real _ _ _ _
  · rw [turns_sin m c n k (by omega)]; exact sin_real _ _ _ _

/-- The pieces of a row: its cosines and sines, then nothing. -/
theorem pieces_at (c : Dev nD) (n : Fin 8192) (k : Fin 48) :
    (V m c main_v25 : Vec Ideal S8192x48 .bf16) (ix2 n k) = if h : k.val < 16 then turns m c (ix2 n ⟨k.val, h⟩) else 0 := by
  rw [split m c, last_line]
  have h0 := turns_real m c n
  unfold turns at h0 ⊢
  generalize StableHlo.after (hostOps0.take 21) (fun b => m (c, b)) = σ at h0 ⊢
  split_ifs with h1 h2
  · exact lines_18 σ _
  · obtain ⟨a, ha⟩ := h0 ⟨k.val - 16, h2⟩
    rw [lines_21 σ _ _ ha]; exact sub_self_real ⟨a, rfl⟩
  · obtain ⟨a, ha⟩ := h0 ⟨k.val - 16 - 16, by omega⟩
    rw [lines_24 σ _ _ ha, sub_self_real ⟨a, rfl⟩, sub_zero]

end Cert.AttnProjIdeal.Row

end
-- ==== Proof.AttnTable.lean ====
/- The three rotation tables the attention's projection builds, a column at a time: its product of the angle pieces with a
   matrix of zeros, ones and minus ones picks one cosine or one sine for each lane, and nothing for the lanes past the
   sixteen that are rotated. -/
module

public import proofs.«01_k».proof.Proof.Gen.AttnProjIdeal.Value
public import Idealize.ShloMosaic.Lib.Pipeline.ValueKit
public import Idealize.ShloMosaic.Lib.Pointwise

@[expose] public section

set_option maxRecDepth 16384

noncomputable section

namespace Cert.AttnProjIdeal.Row

open Cert.AttnProjIdeal Cert.AttnProjIdeal.Gen
open Idealize.ShloMosaic Idealize.ShloMosaic.TcCoe Idealize.SL.Sem

/-- The sixteen angles of a row: which one a piece's column is. -/
def piece : IVec S48x384 32 :=
  k0_pay12 (Scalar.select (Scalar.cmpi .eq 16#32 0#32) 1#32 16#32) k0_pay8 k0_pay9 k0_pay10 k0_pay11

theorem piece_at (k : Fin 48) (c : Fin 384) : piece (ix2 k c) = BitVec.ofNat 32 (k.val % 16) :=
  (show piece (ix2 k c) = piece (ix2 k 0) from rfl).trans
    ((by decide +kernel : ∀ k : Fin 48, piece (ix2 k 0) = BitVec.ofNat 32 (k.val % 16)) k)

theorem table_at (k : Fin 48) (c : Fin 384) : k0_pay13 (ix2 k c) = BitVec.ofNat 32 (c.val / 128) :=
  (show k0_pay13 (ix2 k c) = k0_pay13 (ix2 0 c) from rfl).trans
    ((by decide +kernel : ∀ c : Fin 384, k0_pay13 (ix2 0 c) = BitVec.ofNat 32 (c.val / 128)) c)

theorem lane_at (k : Fin 48) (c : Fin 384) : k0_pay14 (ix2 k c) = BitVec.ofNat 32 (c.val % 64) :=
  (show k0_pay14 (ix2 k c) = k0_pay14 (ix2 0 c) from rfl).trans
    ((by decide +kernel : ∀ c : Fin 384, k0_pay14 (ix2 0 c) = BitVec.ofNat 32 (c.val % 64)) c)

theorem pair_at (k : Fin 48) (c : Fin 384) : k0_pay15 k0_pay14 8#32 (ix2 k c) = BitVec.ofNat 32 (c.val % 64 % 8) :=
  (show k0_pay15 k0_pay14 8#32 (ix2 k c) = k0_pay15 k0_pay14 8#32 (ix2 0 c) from rfl).trans
    ((by decide +kernel : ∀ c : Fin 384, k0_pay15 k0_pay14 8#32 (ix2 0 c) = BitVec.ofNat 32 (c.val % 64 % 8)) c)

/-- The two conditions, on the numbers of the angle, the table and the lane. -/
theorem plus_word : ∀ (r : Fin 16) (t : Fin 3) (l : Fin 64),
    IntOp.ori
        (IntOp.andi
          (IntOp.andi (IntOp.cmpi CmpIPredicate.eq (BitVec.ofNat 32 t.val) 0#32)
            (IntOp.cmpi CmpIPredicate.slt (BitVec.ofNat 32 l.val) 16#32))
          (IntOp.cmpi CmpIPredicate.eq (BitVec.ofNat 32 r.val) (BitVec.ofNat 32 (l.val % 8))))
        (IntOp.andi
          (IntOp.andi
            (IntOp.andi (IntOp.cmpi CmpIPredicate.eq (BitVec.ofNat 32 t.val) 1#32)
              (IntOp.cmpi CmpIPredicate.sge (BitVec.ofNat 32 l.val) 8#32))
            (IntOp.cmpi CmpIPredicate.slt (BitVec.ofNat 32 l.val) 16#32))
          (IntOp.cmpi CmpIPredicate.eq (BitVec.ofNat 32 r.val)
            (IntOp.addi (8#32) (BitVec.ofNat 32 (l.val % 8)))))
      = if (t.val = 0 ∧ l.val < 16 ∧ r.val = l.val % 8)
        ∨ (t.val = 1 ∧ 8 ≤ l.val ∧ l.val < 16 ∧ r.val = 8 + l.val % 8) then 1#1 else 0#1 := by decide +kernel

theorem minus_word : ∀ (r : Fin 16) (t : Fin 3) (l : Fin 64),
    IntOp.andi
        (IntOp.andi (IntOp.cmpi CmpIPredicate.eq (BitVec.ofNat 32 t.val) 2#32)
          (IntOp.cmpi CmpIPredicate.slt (BitVec.ofNat 32 l.val) 8#32))
        (IntOp.cmpi CmpIPredicate.eq (BitVec.ofNat 32 r.val)
          (IntOp.addi (8#32) (BitVec.ofNat 32 (l.val % 8))))
      = if t.val = 2 ∧ l.val < 8 ∧ r.val = 8 + l.val % 8 then 1#1 else 0#1 := by decide +kernel

/-- Where the matrix is one. -/
theorem plus_at (k : Fin 48) (c : Fin 384) : k0_pay16 piece k0_pay13 k0_pay14 8#32 (ix2 k c)
    = if (c.val / 128 = 0 ∧ c.val % 64 < 16 ∧ k.val % 16 = c.val % 64 % 8)
        ∨ (c.val / 128 = 1 ∧ 8 ≤ c.val % 64 ∧ c.val % 64 < 16 ∧ k.val % 16 = 8 + c.val % 64 % 8) then 1#1 else 0#1 := by
  have h1 := piece_at k c
  have h2 := table_at k c
  have h3 := lane_at k c
  have h4 := pair_at k c
  pointwise [k0_pay16]
  rw [h1, h2, h3, h4]
  exact plus_word ⟨k.val % 16, by omega⟩ ⟨c.val / 128, by omega⟩ ⟨c.val % 64, by omega⟩

/-- Where the matrix is minus one. -/
theorem minus_at (k : Fin 48) (c : Fin 384) : k0_pay17 piece k0_pay13 k0_pay14 8#32 (ix2 k c)
    = if c.val / 128 = 2 ∧ c.val % 64 < 8 ∧ k.val % 16 = 8 + c.val % 64 % 8 then 1#1 else 0#1 := by
  have h1 := piece_at k c
  have h2 := table_at k c
  have h3 := lane_at k c
  have h4 := pair_at k c
  pointwise [k0_pay17]
  rw [h1, h2, h3, h4]
  exact minus_word ⟨k.val % 16, by omega⟩ ⟨c.val / 128, by omega⟩ ⟨c.val % 64, by omega⟩

theorem ofBits_neg_one : Ideal.ofBits .f32 0xBF800000#32 = -1 :=
  Eq.trans (b := ((-1 : ℝ) : EReal)) (by simp [Ideal.ofBits, Ideal.ieee, -EReal.coe_mul]; norm_num) (by rw [EReal.coe_neg, EReal.coe_one])

/-- Which of the 128 lanes are rotated. -/
theorem lane_word : ∀ l : Fin 128, IntOp.cmpi CmpIPredicate.slt
          (Scalar.select
            (IntOp.andi
              (IntOp.xori
                (IntOp.cmpi CmpIPredicate.slt
                  (IntOp.remsi ArithUnit.vector (BitVec.ofNat 32 l.val)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (IntOp.cmpi CmpIPredicate.ne
                (IntOp.remsi ArithUnit.vector (BitVec.ofNat 32 l.val)
                  (Scalar.select (Scalar.cmpi CmpIPredicate.eq 64#32 0#32) 1#32 64#32))
                0#32))
            (IntOp.addi
              (IntOp.remsi ArithUnit.vector (BitVec.ofNat 32 l.val)
                (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 l.val)
              (Scalar.select (Scalar.cmpi CmpIPredicate.eq 64#32 0#32) 1#32 64#32)))
          16#32 = if l.val % 64 < 16 then 1#1 else 0#1 := by decide +kernel

variable (X : FVec Ideal S1024x48 .bf16) (i : Fin 1024)

/-- The product's column, a sum over the 48 pieces. -/
theorem prod_at (c : Fin 384) :
    k0_pay18 X (k0_pay16 piece k0_pay13 k0_pay14 8#32) (k0_pay17 piece k0_pay13 k0_pay14 8#32) (Scalar.ofBits .f32 0xBF800000#32) (ix2 i c)
    = ∑ k : Fin 48, X (ix2 i k) * (if (c.val / 128 = 0 ∧ c.val % 64 < 16 ∧ k.val % 16 = c.val % 64 % 8)
        ∨ (c.val / 128 = 1 ∧ 8 ≤ c.val % 64 ∧ c.val % 64 < 16 ∧ k.val % 16 = 8 + c.val % 64 % 8) then 1
        else if c.val / 128 = 2 ∧ c.val % 64 < 8 ∧ k.val % 16 = 8 + c.val % 64 % 8 then -1 else 0 : EReal) := by
  have hp := fun k => plus_at k c
  have hm := fun k => minus_at k c
  generalize k0_pay16 piece k0_pay13 k0_pay14 8#32 = p at hp ⊢
  generalize k0_pay17 piece k0_pay13 k0_pay14 8#32 = q at hm ⊢
  pointwise [k0_pay18]
  refine Finset.sum_congr rfl fun k _ => ?_
  rw [hp k, hm k, ofBits_neg_one]
  split_ifs <;> rfl

/-- Of the 48 pieces only the first sixteen are not zero, and one of them is picked. -/
theorem pick {f g : Fin 48 → EReal} (hf : ∀ k, 16 ≤ k.val → f k = 0) (r : Fin 48) (s : EReal) (hr : g r = s)
    (h : ∀ k, k.val < 16 → k ≠ r → g k = 0) : ∑ k, f k * g k = f r * s := by
  rw [Finset.sum_eq_single r, hr]
  · intro k _ hk
    by_cases h16 : 16 ≤ k.val
    · rw [hf k h16, zero_mul]
    · rw [h k (by omega) hk, mul_zero]
  · intro h; exact absurd (Finset.mem_univ _) h

theorem pick_none {f g : Fin 48 → EReal} (h : ∀ k, g k = 0) : ∑ k, f k * g k = 0 :=
  Finset.sum_eq_zero fun k _ => by rw [h k, mul_zero]

variable (hX : ∀ k : Fin 48, 16 ≤ k.val → X (ix2 i k) = 0)
include hX

/-- The first table: the cosine of the lane's pair. -/
theorem prod_cos (c : Fin 384) (h0 : c.val / 128 = 0) (h : c.val % 64 < 16) :
    k0_pay18 X (k0_pay16 piece k0_pay13 k0_pay14 8#32) (k0_pay17 piece k0_pay13 k0_pay14 8#32) (Scalar.ofBits .f32 0xBF800000#32) (ix2 i c)
    = X (ix2 i ⟨c.val % 64 % 8, by omega⟩) := by
  rw [prod_at, pick hX ⟨c.val % 64 % 8, by omega⟩ 1, mul_one]
  · exact if_pos (Or.inl ⟨h0, h, by show c.val % 64 % 8 % 16 = _; omega⟩)
  · intro k hk hne
    have : k.val ≠ c.val % 64 % 8 := fun h => hne (Fin.ext h)
    rw [if_neg (by omega), if_neg (by omega)]

theorem prod_cos_none (c : Fin 384) (h0 : c.val / 128 = 0) (h : ¬ c.val % 64 < 16) :
    k0_pay18 X (k0_pay16 piece k0_pay13 k0_pay14 8#32) (k0_pay17 piece k0_pay13 k0_pay14 8#32) (Scalar.ofBits .f32 0xBF800000#32) (ix2 i c) = 0 := by
  rw [prod_at, pick_none fun k => by rw [if_neg (by omega), if_neg (by omega)]]

/-- The second table: the sine of the second of a pair. -/
theorem prod_sin (c : Fin 384) (h0 : c.val / 128 = 1) (h8 : 8 ≤ c.val % 64) (h : c.val % 64 < 16) :
    k0_pay18 X (k0_pay16 piece k0_pay13 k0_pay14 8#32) (k0_pay17 piece k0_pay13 k0_pay14 8#32) (Scalar.ofBits .f32 0xBF800000#32) (ix2 i c)
    = X (ix2 i ⟨8 + c.val % 64 % 8, by omega⟩) := by
  rw [prod_at, pick hX ⟨8 + c.val % 64 % 8, by omega⟩ 1, mul_one]
  · exact if_pos (Or.inr ⟨h0, h8, h, by show (8 + c.val % 64 % 8) % 16 = _; omega⟩)
  · intro k hk hne
    have : k.val ≠ 8 + c.val % 64 % 8 := fun h => hne (Fin.ext h)
    rw [if_neg (by omega), if_neg (by omega)]

theorem prod_sin_none (c : Fin 384) (h0 : c.val / 128 = 1) (h : ¬ (8 ≤ c.val % 64 ∧ c.val % 64 < 16)) :
    k0_pay18 X (k0_pay16 piece k0_pay13 k0_pay14 8#32) (k0_pay17 piece k0_pay13 k0_pay14 8#32) (Scalar.ofBits .f32 0xBF800000#32) (ix2 i c) = 0 := by
  rw [prod_at, pick_none fun k => by rw [if_neg (by omega), if_neg (by omega)]]

/-- The third table: minus the sine, of the first of a pair. -/
theorem prod_neg (c : Fin 384) (h0 : c.val / 128 = 2) (h : c.val % 64 < 8) :
    k0_pay18 X (k0_pay16 piece k0_pay13 k0_pay14 8#32) (k0_pay17 piece k0_pay13 k0_pay14 8#32) (Scalar.ofBits .f32 0xBF800000#32) (ix2 i c)
    = -X (ix2 i ⟨8 + c.val % 64 % 8, by omega⟩) := by
  rw [prod_at, pick hX ⟨8 + c.val % 64 % 8, by omega⟩ (-1), mul_neg, mul_one]
  · rw [if_neg (by omega)]
    exact if_pos ⟨h0, h, by show (8 + c.val % 64 % 8) % 16 = _; omega⟩
  · intro k hk hne
    have : k.val ≠ 8 + c.val % 64 % 8 := fun h => hne (Fin.ext h)
    rw [if_neg (by omega), if_neg (by omega)]

theorem prod_neg_none (c : Fin 384) (h0 : c.val / 128 = 2) (h : ¬ c.val % 64 < 8) :
    k0_pay18 X (k0_pay16 piece k0_pay13 k0_pay14 8#32) (k0_pay17 piece k0_pay13 k0_pay14 8#32) (Scalar.ofBits .f32 0xBF800000#32) (ix2 i c) = 0 := by
  rw [prod_at, pick_none fun k => by rw [if_neg (by omega), if_neg (by omega)]]

/-- The three tables at a lane: the cosine of its pair, or one; the sine where it is the second of a pair; minus the sine
    where it is the first. -/
theorem cos_at (l : Fin 128) : k0_pay19 X (k0_pay16 piece k0_pay13 k0_pay14 8#32) (k0_pay17 piece k0_pay13 k0_pay14 8#32) (Scalar.ofBits .f32 0xBF800000#32) (ix2 i l)
    = if l.val % 64 < 16 then X (ix2 i ⟨l.val % 64 % 8, by omega⟩) else 1 := by
  have h1 := prod_cos X i hX ⟨l.val, by omega⟩ (by show l.val / 128 = 0; omega)
  have h2 := prod_cos_none X i hX ⟨l.val, by omega⟩ (by show l.val / 128 = 0; omega)
  generalize k0_pay16 piece k0_pay13 k0_pay14 8#32 = p at h1 h2 ⊢
  generalize k0_pay17 piece k0_pay13 k0_pay14 8#32 = q at h1 h2 ⊢
  pointwise [k0_pay19]
  refine (congrArg₂ (· + ·) rfl (congrArg (fun b => Scalar.select b (0 : EReal) 1) (lane_word l))).trans ?_
  by_cases h : l.val % 64 < 16
  · rw [if_pos h, if_pos h]
    exact (congrArg (· + (0 : EReal)) (h1 h)).trans (add_zero _)
  · rw [if_neg h, if_neg h]
    exact (congrArg (· + (1 : EReal)) (h2 h)).trans (zero_add _)

theorem sin_at (l : Fin 128) : k0_pay20 X (k0_pay16 piece k0_pay13 k0_pay14 8#32) (k0_pay17 piece k0_pay13 k0_pay14 8#32) (Scalar.ofBits .f32 0xBF800000#32) (ix2 i l)
    = if 8 ≤ l.val % 64 ∧ l.val % 64 < 16 then X (ix2 i ⟨8 + l.val % 64 % 8, by omega⟩) else 0 := by
  have h1 := prod_sin X i hX ⟨128 + l.val, by omega⟩ (by show (128 + l.val) / 128 = 1; omega)
  have h2 := prod_sin_none X i hX ⟨128 + l.val, by omega⟩ (by show (128 + l.val) / 128 = 1; omega)
  generalize k0_pay16 piece k0_pay13 k0_pay14 8#32 = p at h1 h2 ⊢
  generalize k0_pay17 piece k0_pay13 k0_pay14 8#32 = q at h1 h2 ⊢
  have e : (128 + l.val) % 64 = l.val % 64 := by omega
  simp only [e] at h1 h2
  pointwise [k0_pay20]
  by_cases h : 8 ≤ l.val % 64 ∧ l.val % 64 < 16
  · rw [if_pos h]
    exact h1 h.1 h.2
  · rw [if_neg h]
    exact h2 h

theorem neg_at (l : Fin 128) : k0_pay21 X (k0_pay16 piece k0_pay13 k0_pay14 8#32) (k0_pay17 piece k0_pay13 k0_pay14 8#32) (Scalar.ofBits .f32 0xBF800000#32) (ix2 i l)
    = if l.val % 64 < 8 then -X (ix2 i ⟨8 + l.val % 64 % 8, by omega⟩) else 0 := by
  have h1 := prod_neg X i hX ⟨256 + l.val, by omega⟩ (by show (256 + l.val) / 128 = 2; omega)
  have h2 := prod_neg_none X i hX ⟨256 + l.val, by omega⟩ (by show (256 + l.val) / 128 = 2; omega)
  generalize k0_pay16 piece k0_pay13 k0_pay14 8#32 = p at h1 h2 ⊢
  generalize k0_pay17 piece k0_pay13 k0_pay14 8#32 = q at h1 h2 ⊢
  have e : (256 + l.val) % 64 = l.val % 64 := by omega
  simp only [e] at h1 h2
  pointwise [k0_pay21]
  by_cases h : l.val % 64 < 8
  · rw [if_pos h]
    exact h1 h
  · rw [if_neg h]
    exact h2 h

omit hX in
/-- A turn of the 128 lanes by `s`. -/
theorem turn_at (s : BitVec 32) (V : FVec Ideal S1024x128 .f32) (l l' : Fin 128) (hl : l'.val = (l.val + 128 - s.toNat % 128) % 128) :
    dynamicRotate 1 s none V rotates_S1024x128_d1 (ix2 i l) = V (ix2 i l') := by
  unfold dynamicRotate
  refine congrArg V (funext fun b => ?_)
  fin_cases b
  · rfl
  · exact Fin.ext (by simp [hl])

end Cert.AttnProjIdeal.Row

end
-- ==== Proof.AttnRope.lean ====
/- The kernel's way of turning a block of a hundred and twenty-eight lanes: the block times the table of cosines, plus the
   block moved eight lanes up times one table of sines, plus the block moved eight lanes down times the other. A lane of it
   is the reference's turned query, or the turned key. -/
module

public import proofs.«01_k».proof.Proof.AttnTable
public import proofs.«01_k».proof.Proof.AttnTurn

@[expose] public section

set_option maxRecDepth 16384

noncomputable section

namespace Cert.AttnProjIdeal.Row

open Cert.AttnProjIdeal Cert.AttnProjIdeal.Gen
open Idealize.ShloMosaic Idealize.ShloMosaic.TcCoe Idealize.SL.Sem
open Cert.AttnProjRefIdeal.Read Cert.AttnProjRefIdeal.Row

/-- One eighth, the queries' factor. -/
theorem ofBits_eighth : Ideal.ofBits .f32 0x3E000000#32 = ((1/8 : ℝ) : EReal) := by
  simp [Ideal.ofBits, Ideal.ieee, -EReal.coe_mul]; norm_num

/-- The three sums of a lane, by which of the lane's sixteen it is, with the factor taken out. -/
theorem first_lane (x y z c s : EReal) (q : ℝ) (hq : 0 ≤ q) :
    x * (q : EReal) * c + z * 0 + y * (q : EReal) * -s = (x * c - y * s) * (q : EReal) := by
  rw [mul_zero, add_zero, sub_eq_add_neg, EReal.right_distrib_of_nonneg_of_ne_top (by exact_mod_cast hq) (EReal.coe_ne_top q), mul_right_comm x,
    mul_neg, EReal.neg_mul, mul_right_comm y]

theorem second_lane (x y z c s : EReal) (q : ℝ) (hq : 0 ≤ q) :
    x * (q : EReal) * c + y * (q : EReal) * s + z * 0 = (x * c + y * s) * (q : EReal) := by
  rw [mul_zero, add_zero, EReal.right_distrib_of_nonneg_of_ne_top (by exact_mod_cast hq) (EReal.coe_ne_top q), mul_right_comm x,
    mul_right_comm y]

theorem other_lane (x y z : EReal) : x * 1 + y * 0 + z * 0 = x := by simp

/-- A block turned. -/
def turned (W C A B : FVec Ideal S1024x128 .f32) : FVec Ideal S1024x128 .f32 :=
  addf (addf (mulf W C) (mulf (dynamicRotate 1 8#32 none W rotates_S1024x128_d1) A)) (mulf (dynamicRotate 1 120#32 none W rotates_S1024x128_d1) B)

theorem turned_at (W C A B : FVec Ideal S1024x128 .f32) (i : Fin 1024) (l : Fin 128) : turned W C A B (ix2 i l)
    = W (ix2 i l) * C (ix2 i l) + W (ix2 i ⟨(l.val + 120) % 128, by omega⟩) * A (ix2 i l) + W (ix2 i ⟨(l.val + 8) % 128, by omega⟩) * B (ix2 i l) :=
  congrArg₂ (· + ·) (congrArg₂ (· + ·) rfl (congrArg (· * _) (turn_at i 8#32 W l ⟨(l.val + 120) % 128, by omega⟩ (by show (l.val + 120) % 128 = (l.val + 128 - 8) % 128; omega))))
    (congrArg (· * _) (turn_at i 120#32 W l ⟨(l.val + 8) % 128, by omega⟩ (by show (l.val + 8) % 128 = (l.val + 128 - 120) % 128; omega)))

/-- The cosine and the sine a lane is turned by, and the place of a lane among the queries' columns. -/
def cosOf (x4 : (⟨Cert.AttnProjRefIdeal.S4x2048, .i32⟩ : BufTy).Contents (Elt Ideal)) (n : Fin 8192) (l : Fin 128) : EReal :=
  val_main_v74 (F := Ideal) x4 (ix3 (⟨n.val / 2048, by omega⟩ : Fin 4) (⟨n.val % 2048, by omega⟩ : Fin 2048) (⟨l.val % 64 % 8, by omega⟩ : Fin 8))
def sinOf (x4 : (⟨Cert.AttnProjRefIdeal.S4x2048, .i32⟩ : BufTy).Contents (Elt Ideal)) (n : Fin 8192) (l : Fin 128) : EReal :=
  val_main_v76 (F := Ideal) x4 (ix3 (⟨n.val / 2048, by omega⟩ : Fin 4) (⟨n.val % 2048, by omega⟩ : Fin 2048) (⟨l.val % 64 % 8, by omega⟩ : Fin 8))
def colOf (b : Fin 8) (l : Fin 128) : Fin 1024 := ⟨128 * b.val + l.val, by omega⟩

variable (x0 : (⟨S8192x1024, .f32⟩ : BufTy).Contents (Elt Ideal)) (x1 : (⟨S1x1024, .f32⟩ : BufTy).Contents (Elt Ideal))
  (x2 : (⟨S1024x2304, .f32⟩ : BufTy).Contents (Elt Ideal)) (x3 : (⟨S1x2304, .f32⟩ : BufTy).Contents (Elt Ideal))
  (x4 : (⟨Cert.AttnProjRefIdeal.S4x2048, .i32⟩ : BufTy).Contents (Elt Ideal))
  (W C A B : FVec Ideal S1024x128 .f32) (i : Fin 1024) (n : Fin 8192)
  (hC : ∀ l : Fin 128, C (ix2 i l) = if l.val % 64 < 16 then cosOf x4 n l else 1)
  (hA : ∀ l : Fin 128, A (ix2 i l) = if 8 ≤ l.val % 64 ∧ l.val % 64 < 16 then sinOf x4 n l else 0)
  (hB : ∀ l : Fin 128, B (ix2 i l) = if l.val % 64 < 8 then -sinOf x4 n l else 0)
include hC hA hB

/-- A lane of the turned keys. -/
theorem key (hW : ∀ l : Fin 128, W (ix2 i l) = val_main_v20 (F := Ideal) x0 x1 x2 x3 (ix2 n l)) (l : Fin 128) :
    turned W C A B (ix2 i l) = val_main_v92 (F := Ideal) x0 x1 x2 x3 x4 (ix2 n l) := by
  rw [turned_at, hC, hA, hB, hW, hW, hW]
  unfold cosOf sinOf
  by_cases h1 : l.val % 64 < 8
  · rw [if_pos (by omega), if_neg (by omega), if_pos h1, key_first x0 x1 x2 x3 x4 n l h1]
    have e : (⟨(l.val + 8) % 128, by omega⟩ : Fin 128) = ⟨l.val + 8, by omega⟩ := Fin.ext (by show (l.val + 8) % 128 = l.val + 8; omega)
    rw [e, mul_zero, add_zero, mul_neg, sub_eq_add_neg]
  · by_cases h2 : l.val % 64 < 16
    · rw [if_pos h2, if_pos ⟨by omega, h2⟩, if_neg h1, key_second x0 x1 x2 x3 x4 n l (by omega) h2]
      have e : (⟨(l.val + 120) % 128, by omega⟩ : Fin 128) = ⟨l.val - 8, by omega⟩ := Fin.ext (by show (l.val + 120) % 128 = l.val - 8; omega)
      rw [e, mul_zero, add_zero]
    · rw [if_neg h2, if_neg (by omega), if_neg h1, key_rest x0 x1 x2 x3 x4 n l (by omega), other_lane]

/-- A lane of the turned queries, in the block of two heads `b`. -/
theorem query (b : Fin 8) (hW : ∀ l : Fin 128, W (ix2 i l) = val_main_v19 (F := Ideal) x0 x1 x2 x3 (ix2 n (colOf b l))
      * Ideal.ofBits .f32 0x3E000000#32) (l : Fin 128) :
    turned W C A B (ix2 i l) = val_main_v58 (F := Ideal) x0 x1 x2 x3 x4 (ix2 n (colOf b l)) := by
  have e64 : (128 * b.val + l.val) % 64 = l.val % 64 := by omega
  rw [turned_at, hC, hA, hB, hW, hW, hW, ofBits_eighth]
  unfold cosOf sinOf colOf
  by_cases h1 : l.val % 64 < 8
  · rw [if_pos (by omega), if_neg (by omega), if_pos h1, query_first x0 x1 x2 x3 x4 n ⟨128 * b.val + l.val, by omega⟩ (by show (128 * b.val + l.val) % 64 < 8; omega),
      first_lane _ _ _ _ _ _ (by norm_num), ofBits_eighth]
    simp only [e64, show (l.val + 8) % 128 = l.val + 8 by omega, ← add_assoc]
  · by_cases h2 : l.val % 64 < 16
    · rw [if_pos h2, if_pos ⟨by omega, h2⟩, if_neg h1, query_second x0 x1 x2 x3 x4 n ⟨128 * b.val + l.val, by omega⟩ (by show 8 ≤ (128 * b.val + l.val) % 64; omega)
          (by show (128 * b.val + l.val) % 64 < 16; omega), second_lane _ _ _ _ _ _ (by norm_num), ofBits_eighth]
      simp only [e64, show 128 * b.val + (l.val + 120) % 128 = 128 * b.val + l.val - 8 by omega]
    · rw [if_neg h2, if_neg (by omega), if_neg h1, query_rest x0 x1 x2 x3 x4 n ⟨128 * b.val + l.val, by omega⟩ (by show 16 ≤ (128 * b.val + l.val) % 64; omega),
        other_lane, ofBits_eighth]

end Cert.AttnProjIdeal.Row
-- ==== Proof.AttnProj.lean ====
/- What the attention's projection leaves: the normed block, the queries and keys with their first lanes turned by the
   position's angles, the values and the gate. The turn is made of two rotations of the lanes and the three tables; the
   angles' cosines and sines are real numbers, so the pieces that carry their rounding are zero. -/
module

public import proofs.«01_k».proof.Proof.Gen.AttnProjIdeal.Value
public import proofs.«01_k».proof.Proof.Gen.AttnProjRefIdeal.Read
public import proofs.«01_k».proof.Proof.RowNorm
public import Idealize.ShloMosaic.Lib.Pipeline.ValueKit
public import Idealize.ShloMosaic.Lib.Pointwise
public import proofs.«01_k».proof.Proof.AttnPieces
public import proofs.«01_k».proof.Proof.AttnRope

@[expose] public section

set_option maxRecDepth 16384

noncomputable section

namespace Cert.AttnProjIdeal.Row

open Cert.AttnProjIdeal Cert.AttnProjIdeal.Gen
open Idealize.ShloMosaic Idealize.ShloMosaic.TcCoe Idealize.SL.Sem

variable (m : (ℓ : Loc nD τ sig) → Buf (Elt Ideal) ℓ)

open Cert.AttnProjRefIdeal.Read Cert.AttnProjRefIdeal.Row

/-- Where each window's block lies at a point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0])

theorem lt8 (t : Fin cfg0.N) : t.val < 8 := lt_of_lt_of_eq t.isLt (show cfg0.N = 8 from N_0)

theorem last_lt : 7 < cfg0.N := by rw [show cfg0.N = 8 from N_0]; decide

/-- The token block of the activations, read from the argument. -/
theorem read0 (c : Dev nD) (t : Fin cfg0.N) (i : Fin 1024) (n : Fin 8192) (hn : n.val = 1024 * t.val + i.val) (k : Fin 1024) :
    iblk m c 0 t (ix2 i k) = m ((c.tc : Thread nD τ).loc main_arg0) (ix2 n k) := by
  obtain ⟨h0, h1, h2, h3, h4, h5, h6, h7, h8, h9⟩ := idx t
  blk_ext [iblk, V, h0]

/-- The norm's weight, read from the argument. -/
theorem read1 (c : Dev nD) (t : Fin cfg0.N) (k : Fin 1024) :
    iblk m c 1 t (ix2 0 k) = m ((c.tc : Thread nD τ).loc main_arg1) (ix2 0 k) := by
  obtain ⟨h0, h1, h2, h3, h4, h5, h6, h7, h8, h9⟩ := idx t
  blk_ext [iblk, V, h1]

/-- The weight, read from the argument. -/
theorem read2 (c : Dev nD) (t : Fin cfg0.N) (d : Fin 1024) (k : Fin 2304) :
    iblk m c 2 t (ix2 d k) = m ((c.tc : Thread nD τ).loc main_arg2) (ix2 d k) := by
  obtain ⟨h0, h1, h2, h3, h4, h5, h6, h7, h8, h9⟩ := idx t
  have hb : iblk m c 2 t (ix2 d k) = V m c main_v0 (ix2 d k) := by blk_ext [iblk, h2]
  rw [hb]
  entry_read
  pointwise
  try rfl

/-- The bias, read from the argument. -/
theorem read3 (c : Dev nD) (t : Fin cfg0.N) (k : Fin 2304) :
    iblk m c 3 t (ix2 0 k) = m ((c.tc : Thread nD τ).loc main_arg3) (ix2 0 k) := by
  obtain ⟨h0, h1, h2, h3, h4, h5, h6, h7, h8, h9⟩ := idx t
  blk_ext [iblk, V, h3]

/-- The angle pieces of a row, as the host code makes them. -/
theorem read4 (c : Dev nD) (t : Fin cfg0.N) (i : Fin 1024) (n : Fin 8192) (hn : n.val = 1024 * t.val + i.val) (k : Fin 48) :
    iblk m c 4 t (ix2 i k) = V m c main_v25 (ix2 n k) := by
  obtain ⟨h0, h1, h2, h3, h4, h5, h6, h7, h8, h9⟩ := idx t
  blk_ext [iblk, h4]

/-- The norm at an element, over its block. -/
theorem norm (x0 : (⟨S8192x1024, .f32⟩ : BufTy).Contents (Elt Ideal)) (x1 : (⟨S1x1024, .f32⟩ : BufTy).Contents (Elt Ideal))
    (A : Vec Ideal S1024x1024 .f32) (B : Vec Ideal S1x1024 .f32) (i : Fin 1024) (n : Fin 8192) (hA : ∀ k, A (ix2 i k) = x0 (ix2 n k))
    (hB : ∀ k, B (ix2 0 k) = x1 (ix2 0 k)) (d : Fin 1024) : k0_pay5 A B (ix2 i d) = val_main_v13 (F := Ideal) x0 x1 (ix2 n d) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay5]
  simp only [hA, hB]
  try rfl

/-- The projection at an element: the normed row times the weight's column, plus the bias. -/
theorem proj (x0 : (⟨S8192x1024, .f32⟩ : BufTy).Contents (Elt Ideal)) (x1 : (⟨S1x1024, .f32⟩ : BufTy).Contents (Elt Ideal))
    (x2 : (⟨S1024x2304, .f32⟩ : BufTy).Contents (Elt Ideal)) (x3 : (⟨S1x2304, .f32⟩ : BufTy).Contents (Elt Ideal))
    (A : Vec Ideal S1024x1024 .f32) (B : Vec Ideal S1x1024 .f32) (C : Vec Ideal S1024x2304 .bf16) (D : Vec Ideal S1x2304 .f32)
    (i : Fin 1024) (n : Fin 8192) (hA : ∀ k, A (ix2 i k) = x0 (ix2 n k)) (hB : ∀ k, B (ix2 0 k) = x1 (ix2 0 k))
    (hC : ∀ k d, C (ix2 k d) = x2 (ix2 k d)) (hD : ∀ k, D (ix2 0 k) = x3 (ix2 0 k)) (d : Fin 2304) :
    k0_pay6 A B C D (ix2 i d) = val_main_v18 (F := Ideal) x0 x1 x2 x3 (ix2 n d) := by
  have e := norm x0 x1 A B i n hA hB
  unfold val_main_v18 val_main_v17 val_main_v16 val_main_v15 val_main_v14
  generalize hP : k0_pay5 A B = P at e
  generalize val_main_v13 (F := Ideal) x0 x1 = Q at e ⊢
  pointwise [k0_pay6, hP]
  simp only [e, hC, hD]
  try rfl

/-- The angle pieces a point reads. -/
def angles (c : Dev nD) (t : Fin cfg0.N) : FVec Ideal S1024x48 .bf16 := k0_pay7 (View.ld (iblk m c 4 t) r0_4)

theorem angles_at (c : Dev nD) (t : Fin cfg0.N) (i : Fin 1024) (n : Fin 8192) (hn : n.val = 1024 * t.val + i.val) (k : Fin 48) :
    angles m c t (ix2 i k) = if h : k.val < 16 then turns m c (ix2 n ⟨k.val, h⟩) else 0 := by
  refine Eq.trans ?_ ((read4 m c t i n hn k).trans (pieces_at m c n k))
  unfold angles
  pointwise [k0_pay7]
  try rfl

theorem angles_none (c : Dev nD) (t : Fin cfg0.N) (i : Fin 1024) (n : Fin 8192) (hn : n.val = 1024 * t.val + i.val) (k : Fin 48) (hk : 16 ≤ k.val) :
    angles m c t (ix2 i k) = 0 := by rw [angles_at m c t i n hn, dif_neg (by omega)]

/-- The three tables at a row and a lane. -/
theorem table_cos (c : Dev nD) (t : Fin cfg0.N) (i : Fin 1024) (n : Fin 8192) (hn : n.val = 1024 * t.val + i.val) (l : Fin 128) :
    k0_pay40 (iblk m c 0 t) (iblk m c 1 t) (iblk m c 2 t) (iblk m c 3 t) (iblk m c 4 t) (ix2 i l) = if l.val % 64 < 16 then cosOf (m ((c.tc : Thread nD τ).loc main_arg4)) n l else 1 := by
  refine (cos_at (angles m c t) i (angles_none m c t i n hn) l).trans ?_
  by_cases h : l.val % 64 < 16
  · rw [if_pos h, if_pos h, angles_at m c t i n hn, dif_pos (by show l.val % 64 % 8 < 16; omega)]
    exact turns_cos m c n _ (by show l.val % 64 % 8 < 8; omega)
  · rw [if_neg h, if_neg h]

theorem table_sin (c : Dev nD) (t : Fin cfg0.N) (i : Fin 1024) (n : Fin 8192) (hn : n.val = 1024 * t.val + i.val) (l : Fin 128) :
    k0_pay41 (iblk m c 0 t) (iblk m c 1 t) (iblk m c 2 t) (iblk m c 3 t) (iblk m c 4 t) (ix2 i l) = if 8 ≤ l.val % 64 ∧ l.val % 64 < 16 then sinOf (m ((c.tc : Thread nD τ).loc main_arg4)) n l else 0 := by
  refine (sin_at (angles m c t) i (angles_none m c t i n hn) l).trans ?_
  by_cases h : 8 ≤ l.val % 64 ∧ l.val % 64 < 16
  · rw [if_pos h, if_pos h, angles_at m c t i n hn, dif_pos (by show 8 + l.val % 64 % 8 < 16; omega), turns_sin m c n _ (by show 8 ≤ 8 + l.val % 64 % 8; omega)]
    simp only [Nat.add_sub_cancel_left]
    rfl
  · rw [if_neg h, if_neg h]

theorem table_neg (c : Dev nD) (t : Fin cfg0.N) (i : Fin 1024) (n : Fin 8192) (hn : n.val = 1024 * t.val + i.val) (l : Fin 128) :
    k0_pay42 (iblk m c 0 t) (iblk m c 1 t) (iblk m c 2 t) (iblk m c 3 t) (iblk m c 4 t) (ix2 i l) = if l.val % 64 < 8 then -sinOf (m ((c.tc : Thread nD τ).loc main_arg4)) n l else 0 := by
  refine (neg_at (angles m c t) i (angles_none m c t i n hn) l).trans ?_
  by_cases h : l.val % 64 < 8
  · rw [if_pos h, if_pos h, angles_at m c t i n hn, dif_pos (by show 8 + l.val % 64 % 8 < 16; omega), turns_sin m c n _ (by show 8 ≤ 8 + l.val % 64 % 8; omega)]
    simp only [Nat.add_sub_cancel_left]
    rfl
  · rw [if_neg h, if_neg h]

/-- The projection of a block, an element. -/
theorem block_proj (c : Dev nD) (t : Fin cfg0.N) (i : Fin 1024) (n : Fin 8192) (hn : n.val = 1024 * t.val + i.val) (d : Fin 2304) :
    k0_pay33 (iblk m c 0 t) (iblk m c 1 t) (iblk m c 2 t) (iblk m c 3 t) (iblk m c 4 t) (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d) := by
  have e := proj _ _ _ _ (iblk m c 0 t) (iblk m c 1 t) (iblk m c 2 t) (iblk m c 3 t) i n (read0 m c t i n hn) (read1 m c t) (read2 m c t) (read3 m c t) d
  refine Eq.trans ?_ e
  unfold k0_pay33
  frame_out
  try rfl

set_option maxHeartbeats 1000000 in
/-- The normed block the kernel leaves is the reference's. -/
theorem out5 (c : Dev nD) : (dats m 0 c).arrAt 5 (cfgs 0).N
    = val_main_v93 (F := Ideal) (m ((c.tc : Thread nD τ).loc main_arg0)) (m ((c.tc : Thread nD τ).loc main_arg1)) := by
  refine (dats m 0 c).arrAt_eq_of_covers 5 _ (by decide +kernel) fun t hf y => ?_
  have hN : t.val < 8 := lt8 t
  obtain ⟨h0, h1, h2, h3, h4, h5, h6, h7, h8, h9⟩ := idx t
  idx_vars y
  have he : ((cfg0.win 5).blk t).view.emb (ix2 y0 y1) = (ix2 (⟨1024 * t.val + y0.val, by omega⟩ : Fin 8192) y1 : S8192x1024.Idx) := by
    blk_ext [h5]
  have e := norm _ _ (iblk m c 0 t) (iblk m c 1 t) y0 ⟨1024 * t.val + y0.val, by omega⟩ (read0 m c t y0 _ rfl) (read1 m c t)
  blk_simp
  rw [after0_5, he]
  frame_out
  pointwise [out0_5]
  unfold val_main_v93
  pointwise
  try exact e _

set_option maxHeartbeats 1000000 in
/-- The values the kernel leaves are the reference's. -/
theorem out8 (c : Dev nD) : (dats m 0 c).arrAt 8 (cfgs 0).N
    = val_main_v96 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  have hN : t.val < 8 := lt8 t
  obtain ⟨h0, h1, h2, h3, h4, h5, h6, h7, h8, h9⟩ := idx t
  idx_vars y
  have he : ((cfg0.win 8).blk t).view.emb (ix2 y0 y1) = (ix2 (⟨1024 * t.val + y0.val, by omega⟩ : Fin 8192) y1 : S8192x128.Idx) := by
    blk_ext [h8]
  have e := block_proj m c t y0 ⟨1024 * t.val + y0.val, by omega⟩ rfl
  blk_simp
  rw [after0_8, he]
  generalize iblk m c 0 t = b0 at e ⊢
  generalize iblk m c 1 t = b1 at e ⊢
  generalize iblk m c 2 t = b2 at e ⊢
  generalize iblk m c 3 t = b3 at e ⊢
  generalize iblk m c 4 t = b4 at e ⊢
  unfold out0_8
  generalize k0_pay33 b0 b1 b2 b3 b4 = P at e ⊢
  frame_out
  unfold val_main_v96 val_main_v21
  pointwise [k0_pay3]
  refine (congrArg P ?_).trans ((e ⟨1152 + y1.val, by omega⟩).trans (congrArg _ ?_))
  · exact funext fun a => by fin_cases a <;> exact Fin.ext (by simp <;> omega)
  · exact funext fun a => by fin_cases a <;> exact Fin.ext (by simp <;> omega)

set_option maxHeartbeats 1000000 in
/-- The gate the kernel leaves is the reference's. -/
theorem out9 (c : Dev nD) : (dats m 0 c).arrAt 9 (cfgs 0).N
    = val_main_v22 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  have hN : t.val < 8 := lt8 t
  obtain ⟨h0, h1, h2, h3, h4, h5, h6, h7, h8, h9⟩ := idx t
  idx_vars y
  have he : ((cfg0.win 9).blk t).view.emb (ix2 y0 y1) = (ix2 (⟨1024 * t.val + y0.val, by omega⟩ : Fin 8192) y1 : S8192x1024.Idx) := by
    blk_ext [h9]
  have e := block_proj m c t y0 ⟨1024 * t.val + y0.val, by omega⟩ rfl
  blk_simp
  rw [after0_9, he]
  generalize iblk m c 0 t = b0 at e ⊢
  generalize iblk m c 1 t = b1 at e ⊢
  generalize iblk m c 2 t = b2 at e ⊢
  generalize iblk m c 3 t = b3 at e ⊢
  generalize iblk m c 4 t = b4 at e ⊢
  unfold out0_9
  generalize k0_pay33 b0 b1 b2 b3 b4 = P at e ⊢
  frame_out
  unfold val_main_v22
  pointwise [k0_pay4]
  refine (congrArg P ?_).trans ((e ⟨1280 + y1.val, by omega⟩).trans (congrArg _ ?_))
  · exact funext fun a => by fin_cases a <;> exact Fin.ext (by simp <;> omega)
  · exact funext fun a => by fin_cases a <;> exact Fin.ext (by simp <;> omega)

/-- A slice of the projection at a lane. -/
theorem slice_at (P : FVec Ideal S1024x2304 .f32) (i : Fin 1024) (l : Fin 128) (o : ℕ) (h : S1024x2304.Slices ![0, o] S1024x128) (d : Fin 2304) (hd : d.val = o + l.val) :
    extractStridedSlice S1024x128 ![0, o] P h (ix2 i l) = P (ix2 i d) :=
  congrArg P (funext fun a => by fin_cases a <;> exact Fin.ext (by simp [hd]))

set_option maxHeartbeats 1000000 in
/-- The keys the kernel leaves are the reference's. -/
theorem out7 (c : Dev nD) : (dats m 0 c).arrAt 7 (cfgs 0).N
    = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  have hN : t.val < 8 := lt8 t
  obtain ⟨h0, h1, h2, h3, h4, h5, h6, h7, h8, h9⟩ := idx t
  idx_vars y
  have he : ((cfg0.win 7).blk t).view.emb (ix2 y0 y1) = (ix2 (⟨1024 * t.val + y0.val, by omega⟩ : Fin 8192) y1 : S8192x128.Idx) := by
    blk_ext [h7]
  have e := block_proj m c t y0 ⟨1024 * t.val + y0.val, by omega⟩ rfl
  have hC := table_cos m c t y0 ⟨1024 * t.val + y0.val, by omega⟩ rfl
  have hA := table_sin m c t y0 ⟨1024 * t.val + y0.val, by omega⟩ rfl
  have hB := table_neg m c t y0 ⟨1024 * t.val + y0.val, by omega⟩ rfl
  blk_simp
  rw [after0_7, he]
  unfold out0_7
  generalize k0_pay33 (iblk m c 0 t) (iblk m c 1 t) (iblk m c 2 t) (iblk m c 3 t) (iblk m c 4 t) = P at e ⊢
  generalize k0_pay40 (iblk m c 0 t) (iblk m c 1 t) (iblk m c 2 t) (iblk m c 3 t) (iblk m c 4 t) = C at hC ⊢
  generalize k0_pay41 (iblk m c 0 t) (iblk m c 1 t) (iblk m c 2 t) (iblk m c 3 t) (iblk m c 4 t) = A at hA ⊢
  generalize k0_pay42 (iblk m c 0 t) (iblk m c 1 t) (iblk m c 2 t) (iblk m c 3 t) (iblk m c 4 t) = B at hB ⊢
  frame_out
  refine (key (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (extractStridedSlice S1024x128 ![0, 1024] P slices_S1024x2304_o0_1024_S1024x128) C A B y0 _ hC hA hB (fun l => ?_) y1).trans rfl
  rw [slice_at P y0 l 1024 _ ⟨1024 + l.val, by omega⟩ rfl, e]
  unfold val_main_v20
  pointwise
  try exact congrArg _ (funext fun a => by fin_cases a <;> exact Fin.ext (by simp <;> omega))

/-- A lane of the kernel's scaled queries, over the projection. -/
theorem query_lane (c : Dev nD) (P : FVec Ideal S1024x2304 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (b : Fin 8) (o : ℕ) (ho : o = 128 * b.val) (h : S1024x2304.Slices ![0, o] S1024x128) (l : Fin 128) :
    mulf (extractStridedSlice S1024x128 ![0, o] P h) (broadcast S1024x128 (Scalar.ofBits .f32 0x3E000000#32)) (ix2 i l)
      = val_main_v19 (F := Ideal) (m ((c.tc : Thread nD τ).loc main_arg0)) (m ((c.tc : Thread nD τ).loc main_arg1)) (m ((c.tc : Thread nD τ).loc main_arg2)) (m ((c.tc : Thread nD τ).loc main_arg3)) (ix2 n (colOf b l)) * Ideal.ofBits .f32 0x3E000000#32 := by
  have e1 := slice_at P i l o h ⟨o + l.val, by omega⟩ rfl
  rw [e] at e1
  refine congrArg (· * Ideal.ofBits .f32 0x3E000000#32) (e1.trans ?_)
  unfold val_main_v19 colOf
  pointwise
  try exact congrArg _ (funext fun a => by fin_cases a <;> exact Fin.ext (by simp <;> omega))

/-- The kernel's blocks of queries are its scaled slices, turned. -/
theorem lane0 (P : FVec Ideal S1024x2304 .f32) (X : FVec Ideal S1024x48 .bf16) (p q : IVec S48x384 1) (w : Ideal .f32) (i : Fin 1024) (l : Fin 128) :
    k0_pay22 P X p q w (ix2 i l) = turned (mulf (extractStridedSlice S1024x128 ![0, 0] P slices_S1024x2304_o0_0_S1024x128) (broadcast S1024x128 (Scalar.ofBits .f32 0x3E000000#32))) (k0_pay19 X p q w) (k0_pay20 X p q w) (k0_pay21 X p q w) (ix2 i l) := rfl
theorem lane1 (P : FVec Ideal S1024x2304 .f32) (C A B : FVec Ideal S1024x128 .f32) (i : Fin 1024) (l : Fin 128) :
    k0_pay23 P C A B (ix2 i l) = turned (mulf (extractStridedSlice S1024x128 ![0, 128] P slices_S1024x2304_o0_128_S1024x128) (broadcast S1024x128 (Scalar.ofBits .f32 0x3E000000#32))) C A B (ix2 i l) := rfl
theorem lane2 (P : FVec Ideal S1024x2304 .f32) (C A B : FVec Ideal S1024x128 .f32) (i : Fin 1024) (l : Fin 128) :
    k0_pay24 P C A B (ix2 i l) = turned (mulf (extractStridedSlice S1024x128 ![0, 256] P slices_S1024x2304_o0_256_S1024x128) (broadcast S1024x128 (Scalar.ofBits .f32 0x3E000000#32))) C A B (ix2 i l) := rfl
theorem lane3 (P : FVec Ideal S1024x2304 .f32) (C A B : FVec Ideal S1024x128 .f32) (i : Fin 1024) (l : Fin 128) :
    k0_pay25 P C A B (ix2 i l) = turned (mulf (extractStridedSlice S1024x128 ![0, 384] P slices_S1024x2304_o0_384_S1024x128) (broadcast S1024x128 (Scalar.ofBits .f32 0x3E000000#32))) C A B (ix2 i l) := rfl
theorem lane4 (P : FVec Ideal S1024x2304 .f32) (C A B : FVec Ideal S1024x128 .f32) (i : Fin 1024) (l : Fin 128) :
    k0_pay27 C A B (k0_pay26 P) (Scalar.ofBits .f32 0x3E000000#32) (ix2 i l) = turned (mulf (extractStridedSlice S1024x128 ![0, 512] P slices_S1024x2304_o0_512_S1024x128) (broadcast S1024x128 (Scalar.ofBits .f32 0x3E000000#32))) C A B (ix2 i l) := rfl
theorem lane5 (P : FVec Ideal S1024x2304 .f32) (C A B : FVec Ideal S1024x128 .f32) (i : Fin 1024) (l : Fin 128) :
    k0_pay28 P C A B (ix2 i l) = turned (mulf (extractStridedSlice S1024x128 ![0, 640] P slices_S1024x2304_o0_640_S1024x128) (broadcast S1024x128 (Scalar.ofBits .f32 0x3E000000#32))) C A B (ix2 i l) := rfl
theorem lane6 (P : FVec Ideal S1024x2304 .f32) (C A B : FVec Ideal S1024x128 .f32) (i : Fin 1024) (l : Fin 128) :
    k0_pay29 P C A B (ix2 i l) = turned (mulf (extractStridedSlice S1024x128 ![0, 768] P slices_S1024x2304_o0_768_S1024x128) (broadcast S1024x128 (Scalar.ofBits .f32 0x3E000000#32))) C A B (ix2 i l) := rfl
theorem lane7 (P : FVec Ideal S1024x2304 .f32) (C A B : FVec Ideal S1024x128 .f32) (i : Fin 1024) (l : Fin 128) :
    k0_pay1 B (k0_pay30 P) (k0_pay31 P C) (k0_pay32 P A) (ix2 i l) = turned (mulf (extractStridedSlice S1024x128 ![0, 896] P slices_S1024x2304_o0_896_S1024x128) (broadcast S1024x128 (Scalar.ofBits .f32 0x3E000000#32))) C A B (ix2 i l) := rfl

/-- The kernel's blocks of queries are the reference's, block by block. -/
theorem block0 (c : Dev nD) (P : FVec Ideal S1024x2304 .f32) (X : FVec Ideal S1024x48 .bf16) (p q : IVec S48x384 1) (w : Ideal .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, (k0_pay19 X p q w) (ix2 i l) = if l.val % 64 < 16 then cosOf (m ((c.tc : Thread nD τ).loc main_arg4)) n l else 1)
    (hA : ∀ l : Fin 128, (k0_pay20 X p q w) (ix2 i l) = if 8 ≤ l.val % 64 ∧ l.val % 64 < 16 then sinOf (m ((c.tc : Thread nD τ).loc main_arg4)) n l else 0)
    (hB : ∀ l : Fin 128, (k0_pay21 X p q w) (ix2 i l) = if l.val % 64 < 8 then -sinOf (m ((c.tc : Thread nD τ).loc main_arg4)) n l else 0) (l : Fin 128) :
    k0_pay22 P X p q w (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 0 l)) :=
  (lane0 P X p q w i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ (k0_pay19 X p q w) (k0_pay20 X p q w) (k0_pay21 X p q w) i n hC hA hB 0
    (query_lane m c P i n e 0 0 (by decide) slices_S1024x2304_o0_0_S1024x128) l)

theorem block1 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay23 P C A B (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 1 l)) :=
  (lane1 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 1
    (query_lane m c P i n e 1 128 (by decide) slices_S1024x2304_o0_128_S1024x128) l)

theorem block2 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay24 P C A B (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 2 l)) :=
  (lane2 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 2
    (query_lane m c P i n e 2 256 (by decide) slices_S1024x2304_o0_256_S1024x128) l)

theorem block3 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay25 P C A B (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 3 l)) :=
  (lane3 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 3
    (query_lane m c P i n e 3 384 (by decide) slices_S1024x2304_o0_384_S1024x128) l)

theorem block4 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay27 C A B (k0_pay26 P) (Scalar.ofBits .f32 0x3E000000#32) (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 4 l)) :=
  (lane4 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 4
    (query_lane m c P i n e 4 512 (by decide) slices_S1024x2304_o0_512_S1024x128) l)

theorem block5 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay28 P C A B (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 5 l)) :=
  (lane5 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 5
    (query_lane m c P i n e 5 640 (by decide) slices_S1024x2304_o0_640_S1024x128) l)

theorem block6 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay29 P C A B (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 6 l)) :=
  (lane6 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 6
    (query_lane m c P i n e 6 768 (by decide) slices_S1024x2304_o0_768_S1024x128) l)

theorem block7 (c : Dev nD) (P : FVec Ideal S1024x2304 .f32) (C A B : FVec Ideal S1024x128 .f32) (i : Fin 1024) (n : Fin 8192)
    (e : ∀ d : Fin 2304, P (ix2 i d) = val_main_v18 (F := Ideal) (m ((c.tc : Thread nD τ).loc main_arg0)) (m ((c.tc : Thread nD τ).loc main_arg1)) (m ((c.tc : Thread nD τ).loc main_arg2)) (m ((c.tc : Thread nD τ).loc main_arg3)) (ix2 n d))
    (hC : ∀ l : Fin 128, C (ix2 i l) = if l.val % 64 < 16 then cosOf (m ((c.tc : Thread nD τ).loc main_arg4)) n l else 1)
    (hA : ∀ l : Fin 128, A (ix2 i l) = if 8 ≤ l.val % 64 ∧ l.val % 64 < 16 then sinOf (m ((c.tc : Thread nD τ).loc main_arg4)) n l else 0)
    (hB : ∀ l : Fin 128, B (ix2 i l) = if l.val % 64 < 8 then -sinOf (m ((c.tc : Thread nD τ).loc main_arg4)) n l else 0) (l : Fin 128) :
    k0_pay1 B (k0_pay30 P) (k0_pay31 P C) (k0_pay32 P A) (ix2 i l) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 n (colOf 7 l)) :=
  (lane7 P C A B i l).trans (query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ C A B i n hC hA hB 7
    (query_lane m c P i n e 7 896 (by decide) slices_S1024x2304_o0_896_S1024x128) l)

set_option maxHeartbeats 1000000 in
/-- The queries the kernel leaves are the reference's. -/
theorem out6 (c : Dev nD) : (dats m 0 c).arrAt 6 (cfgs 0).N
    = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have hN : t.val < 8 := lt8 t
  obtain ⟨h0, h1, h2, h3, h4, h5, h6, h7, h8, h9⟩ := idx t
  idx_vars y
  have he : ((cfg0.win 6).blk t).view.emb (ix2 y0 y1) = (ix2 (⟨1024 * t.val + y0.val, by omega⟩ : Fin 8192) y1 : S8192x1024.Idx) := by
    blk_ext [h6]
  have e := block_proj m c t y0 ⟨1024 * t.val + y0.val, by omega⟩ rfl
  have hC := table_cos m c t y0 ⟨1024 * t.val + y0.val, by omega⟩ rfl
  have hA := table_sin m c t y0 ⟨1024 * t.val + y0.val, by omega⟩ rfl
  have hB := table_neg m c t y0 ⟨1024 * t.val + y0.val, by omega⟩ rfl
  blk_simp
  rw [after0_6, he]
  generalize hv : val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = v
  have hv' : ∀ d : Fin 1024, v (ix2 (⟨1024 * t.val + y0.val, by omega⟩ : Fin 8192) d) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (⟨1024 * t.val + y0.val, by omega⟩ : Fin 8192) d) :=
    fun d => by rw [← hv]; rfl
  canon_tiles x h
  all_goals
    idx_vars x
    obtain rfl : y0 = x0 := Fin.ext h0
    replace h1 : y1.val = _ := h1
    rw [hv']
  case piece0 =>
    rw [show y1 = colOf 7 x1 from Fin.ext (by show y1.val = 128 * 7 + x1.val; omega)]
    exact block7 m c _ _ _ _ y0 _ e hC hA hB x1
  case piece1 =>
    rw [show y1 = colOf 6 x1 from Fin.ext (by show y1.val = 128 * 6 + x1.val; omega)]
    exact block6 m c _ _ _ _ y0 _ e hC hA hB x1
  case piece2 =>
    rw [show y1 = colOf 5 x1 from Fin.ext (by show y1.val = 128 * 5 + x1.val; omega)]
    exact block5 m c _ _ _ _ y0 _ e hC hA hB x1
  case piece3 =>
    rw [show y1 = colOf 4 x1 from Fin.ext (by show y1.val = 128 * 4 + x1.val; omega)]
    exact block4 m c _ _ _ _ y0 _ e hC hA hB x1
  case piece4 =>
    rw [show y1 = colOf 3 x1 from Fin.ext (by show y1.val = 128 * 3 + x1.val; omega)]
    exact block3 m c _ _ _ _ y0 _ e hC hA hB x1
  case piece5 =>
    rw [show y1 = colOf 2 x1 from Fin.ext (by show y1.val = 128 * 2 + x1.val; omega)]
    exact block2 m c _ _ _ _ y0 _ e hC hA hB x1
  case piece6 =>
    rw [show y1 = colOf 1 x1 from Fin.ext (by show y1.val = 128 * 1 + x1.val; omega)]
    exact block1 m c _ _ _ _ y0 _ e hC hA hB x1
  case piece7 =>
    rw [show y1 = colOf 0 x1 from Fin.ext (by show y1.val = 128 * 0 + x1.val; omega)]
    exact block0 m c _ _ _ _ _ y0 _ e hC hA hB x1

end Cert.AttnProjIdeal.Row

end
-- ==== Proof.AttnDwTable.lean ====
/- The three rotation tables the gradient of the attention's projection builds, a column at a time, and the gradients of the
   keys turned back with them. -/
module

public import proofs.«01_k».proof.Proof.Gen.AttnDwIdeal.Value
public import proofs.«01_k».proof.Proof.AttnTable
public import Idealize.ShloMosaic.Lib.Pipeline.ValueKit
public import Idealize.ShloMosaic.Lib.Pointwise

@[expose] public section

set_option maxRecDepth 16384

noncomputable section

namespace Cert.AttnDwIdeal.Row

open Cert.AttnDwIdeal Cert.AttnDwIdeal.Gen
open Idealize.ShloMosaic Idealize.ShloMosaic.TcCoe Idealize.SL.Sem

open Cert.AttnProjIdeal.Row (plus_word minus_word ofBits_neg_one lane_word pick pick_none)

/-- The lanes of the three tables, by their number. -/
def lanes : IVec S48x384 32 := iota .tc S48x384 32 [1] iota_S48x384_d1_w32

theorem piece_at (k : Fin 48) (c : Fin 384) : k0_pay6 (ix2 k c) = BitVec.ofNat 32 (k.val % 16) :=
  (show k0_pay6 (ix2 k c) = k0_pay6 (ix2 k 0) from rfl).trans
    ((by decide +kernel : ∀ k : Fin 48, k0_pay6 (ix2 k 0) = BitVec.ofNat 32 (k.val % 16)) k)

theorem table_at (k : Fin 48) (c : Fin 384) : k0_pay9 lanes 128#32 k0_pay7 k0_pay8 (ix2 k c) = BitVec.ofNat 32 (c.val / 128) :=
  (show k0_pay9 lanes 128#32 k0_pay7 k0_pay8 (ix2 k c) = k0_pay9 lanes 128#32 k0_pay7 k0_pay8 (ix2 0 c) from rfl).trans
    ((by decide +kernel : ∀ c : Fin 384, k0_pay9 lanes 128#32 k0_pay7 k0_pay8 (ix2 0 c) = BitVec.ofNat 32 (c.val / 128)) c)

theorem lane_at (k : Fin 48) (c : Fin 384) : k0_pay10 lanes (ix2 k c) = BitVec.ofNat 32 (c.val % 64) :=
  (show k0_pay10 lanes (ix2 k c) = k0_pay10 lanes (ix2 0 c) from rfl).trans
    ((by decide +kernel : ∀ c : Fin 384, k0_pay10 lanes (ix2 0 c) = BitVec.ofNat 32 (c.val % 64)) c)

theorem pair_at (k : Fin 48) (c : Fin 384) : k0_pay11 lanes (ix2 k c) = BitVec.ofNat 32 (c.val % 64 % 8) :=
  (show k0_pay11 lanes (ix2 k c) = k0_pay11 lanes (ix2 0 c) from rfl).trans
    ((by decide +kernel : ∀ c : Fin 384, k0_pay11 lanes (ix2 0 c) = BitVec.ofNat 32 (c.val % 64 % 8)) c)

variable (X : FVec Ideal S1024x48 .bf16) (i : Fin 1024)

/-- The three tables, side by side: the product of the angle pieces with the matrix of zeros, ones and minus ones. -/
def tables : FVec Ideal S1024x384 .f32 :=
  k0_pay14 X k0_pay6 (k0_pay9 lanes 128#32 k0_pay7 k0_pay8) (k0_pay10 lanes) (k0_pay11 lanes) (k0_pay12 lanes) (k0_pay13 lanes 128#32 k0_pay7 k0_pay8)

/-- The product's column, a sum over the 48 pieces. -/
theorem prod_at (c : Fin 384) : tables X (ix2 i c)
    = ∑ k : Fin 48, X (ix2 i k) * (if (c.val / 128 = 0 ∧ c.val % 64 < 16 ∧ k.val % 16 = c.val % 64 % 8)
        ∨ (c.val / 128 = 1 ∧ 8 ≤ c.val % 64 ∧ c.val % 64 < 16 ∧ k.val % 16 = 8 + c.val % 64 % 8) then 1
        else if c.val / 128 = 2 ∧ c.val % 64 < 8 ∧ k.val % 16 = 8 + c.val % 64 % 8 then -1 else 0 : EReal) := by
  have h1 := fun k => piece_at k c
  have h2 := fun k => table_at k c
  have h3 := fun k => lane_at k c
  have h4 := fun k => pair_at k c
  unfold tables k0_pay12 k0_pay13
  generalize k0_pay6 = p at h1 ⊢
  generalize k0_pay9 lanes 128#32 k0_pay7 k0_pay8 = q at h2 ⊢
  generalize k0_pay10 lanes = r at h3 ⊢
  generalize k0_pay11 lanes = s at h4 ⊢
  pointwise [k0_pay14]
  refine Finset.sum_congr rfl fun k _ => ?_
  have e1 := plus_word ⟨k.val % 16, by omega⟩ ⟨c.val / 128, by omega⟩ ⟨c.val % 64, by omega⟩
  have e2 := minus_word ⟨k.val % 16, by omega⟩ ⟨c.val / 128, by omega⟩ ⟨c.val % 64, by omega⟩
  dsimp only at e1 e2
  rw [h1 k, h2 k, h3 k, h4 k, e1, e2, ofBits_neg_one]
  split_ifs <;> rfl

variable (hX : ∀ k : Fin 48, 16 ≤ k.val → X (ix2 i k) = 0)
include hX

/-- The first table: the cosine of the lane's pair. -/
theorem prod_cos (c : Fin 384) (h0 : c.val / 128 = 0) (h : c.val % 64 < 16) :
    tables X (ix2 i c)
    = X (ix2 i ⟨c.val % 64 % 8, by omega⟩) := by
  rw [prod_at, pick hX ⟨c.val % 64 % 8, by omega⟩ 1, mul_one]
  · exact if_pos (Or.inl ⟨h0, h, by show c.val % 64 % 8 % 16 = _; omega⟩)
  · intro k hk hne
    have : k.val ≠ c.val % 64 % 8 := fun h => hne (Fin.ext h)
    rw [if_neg (by omega), if_neg (by omega)]

theorem prod_cos_none (c : Fin 384) (h0 : c.val / 128 = 0) (h : ¬ c.val % 64 < 16) :
    tables X (ix2 i c) = 0 := by
  rw [prod_at, pick_none fun k => by rw [if_neg (by omega), if_neg (by omega)]]

/-- The second table: the sine of the second of a pair. -/
theorem prod_sin (c : Fin 384) (h0 : c.val / 128 = 1) (h8 : 8 ≤ c.val % 64) (h : c.val % 64 < 16) :
    tables X (ix2 i c)
    = X (ix2 i ⟨8 + c.val % 64 % 8, by omega⟩) := by
  rw [prod_at, pick hX ⟨8 + c.val % 64 % 8, by omega⟩ 1, mul_one]
  · exact if_pos (Or.inr ⟨h0, h8, h, by show (8 + c.val % 64 % 8) % 16 = _; omega⟩)
  · intro k hk hne
    have : k.val ≠ 8 + c.val % 64 % 8 := fun h => hne (Fin.ext h)
    rw [if_neg (by omega), if_neg (by omega)]

theorem prod_sin_none (c : Fin 384) (h0 : c.val / 128 = 1) (h : ¬ (8 ≤ c.val % 64 ∧ c.val % 64 < 16)) :
    tables X (ix2 i c) = 0 := by
  rw [prod_at, pick_none fun k => by rw [if_neg (by omega), if_neg (by omega)]]

/-- The third table: minus the sine, of the first of a pair. -/
theorem prod_neg (c : Fin 384) (h0 : c.val / 128 = 2) (h : c.val % 64 < 8) :
    tables X (ix2 i c)
    = -X (ix2 i ⟨8 + c.val % 64 % 8, by omega⟩) := by
  rw [prod_at, pick hX ⟨8 + c.val % 64 % 8, by omega⟩ (-1), mul_neg, mul_one]
  · rw [if_neg (by omega)]
    exact if_pos ⟨h0, h, by show (8 + c.val % 64 % 8) % 16 = _; omega⟩
  · intro k hk hne
    have : k.val ≠ 8 + c.val % 64 % 8 := fun h => hne (Fin.ext h)
    rw [if_neg (by omega), if_neg (by omega)]

theorem prod_neg_none (c : Fin 384) (h0 : c.val / 128 = 2) (h : ¬ c.val % 64 < 8) :
    tables X (ix2 i c) = 0 := by
  rw [prod_at, pick_none fun k => by rw [if_neg (by omega), if_neg (by omega)]]

/-- The table of cosines the kernel makes of the first product: one on the lanes that pass. -/
def cosT (P : FVec Ideal S1024x384 .f32) : FVec Ideal S1024x128 .f32 :=
  addf (extractStridedSlice S1024x128 ![0, 0] P slices_S1024x384_o0_0_S1024x128)
    (broadcastTo S1024x128 (select (cmpi .slt (select (andi (xori k0_pay17 (broadcastTo S1x128 k0_pay18 broadcasts_S1x128_S1x128)) k0_pay16)
        (addi k0_pay15 (broadcast S1x128 (Scalar.select (Scalar.cmpi .eq 64#32 0#32) 1#32 64#32))) k0_pay15) (broadcast S1x128 16#32))
      (broadcast S1x128 (Scalar.ofBits .f32 0x00000000#32 : Ideal .f32)) (broadcast S1x128 (Scalar.ofBits .f32 0x3F800000#32 : Ideal .f32))) broadcasts_S1x128_S1024x128)
def sinT (P : FVec Ideal S1024x384 .f32) : FVec Ideal S1024x128 .f32 := extractStridedSlice S1024x128 ![0, 128] P slices_S1024x384_o0_128_S1024x128
def negT (P : FVec Ideal S1024x384 .f32) : FVec Ideal S1024x128 .f32 := extractStridedSlice S1024x128 ![0, 256] P slices_S1024x384_o0_256_S1024x128

/-- The three tables at a lane: the cosine of its pair, or one; the sine where it is the second of a pair; minus the sine
    where it is the first. -/
theorem cos_at (l : Fin 128) : cosT (tables X) (ix2 i l)
    = if l.val % 64 < 16 then X (ix2 i ⟨l.val % 64 % 8, by omega⟩) else 1 := by
  have h1 := prod_cos X i hX ⟨l.val, by omega⟩ (by show l.val / 128 = 0; omega)
  have h2 := prod_cos_none X i hX ⟨l.val, by omega⟩ (by show l.val / 128 = 0; omega)
  generalize tables X = P at h1 h2 ⊢
  pointwise [cosT, k0_pay15, k0_pay16, k0_pay17, k0_pay18]
  refine (congrArg₂ (· + ·) rfl (congrArg (fun b => Scalar.select b (0 : EReal) 1) (lane_word l))).trans ?_
  by_cases h : l.val % 64 < 16
  · rw [if_pos h, if_pos h]
    exact (congrArg (· + (0 : EReal)) (h1 h)).trans (add_zero _)
  · rw [if_neg h, if_neg h]
    exact (congrArg (· + (1 : EReal)) (h2 h)).trans (zero_add _)

theorem sin_at (l : Fin 128) : sinT (tables X) (ix2 i l)
    = if 8 ≤ l.val % 64 ∧ l.val % 64 < 16 then X (ix2 i ⟨8 + l.val % 64 % 8, by omega⟩) else 0 := by
  have h1 := prod_sin X i hX ⟨128 + l.val, by omega⟩ (by show (128 + l.val) / 128 = 1; omega)
  have h2 := prod_sin_none X i hX ⟨128 + l.val, by omega⟩ (by show (128 + l.val) / 128 = 1; omega)
  generalize tables X = P at h1 h2 ⊢
  have e : (128 + l.val) % 64 = l.val % 64 := by omega
  simp only [e] at h1 h2
  pointwise [sinT]
  by_cases h : 8 ≤ l.val % 64 ∧ l.val % 64 < 16
  · rw [if_pos h]
    exact h1 h.1 h.2
  · rw [if_neg h]
    exact h2 h

theorem neg_at (l : Fin 128) : negT (tables X) (ix2 i l)
    = if l.val % 64 < 8 then -X (ix2 i ⟨8 + l.val % 64 % 8, by omega⟩) else 0 := by
  have h1 := prod_neg X i hX ⟨256 + l.val, by omega⟩ (by show (256 + l.val) / 128 = 2; omega)
  have h2 := prod_neg_none X i hX ⟨256 + l.val, by omega⟩ (by show (256 + l.val) / 128 = 2; omega)
  generalize tables X = P at h1 h2 ⊢
  have e : (256 + l.val) % 64 = l.val % 64 := by omega
  simp only [e] at h1 h2
  pointwise [negT]
  by_cases h : l.val % 64 < 8
  · rw [if_pos h]
    exact h1 h
  · rw [if_neg h]
    exact h2 h

omit hX in
/-- A turn of the 128 lanes by `s`. -/
theorem turn_at (s : BitVec 32) (V : FVec Ideal S1024x128 .f32) (l l' : Fin 128) (hl : l'.val = (l.val + 128 - s.toNat % 128) % 128) :
    dynamicRotate 1 s none V rotates_S1024x128_d1 (ix2 i l) = V (ix2 i l') := by
  unfold dynamicRotate
  refine congrArg V (funext fun b => ?_)
  fin_cases b
  · rfl
  · exact Fin.ext (by simp [hl])

omit X hX i in
/-- A block turned back: each lane times its cosine, and the lanes eight above and eight below times theirs of the sines. -/
def back (D C A B : FVec Ideal S1024x128 .f32) : FVec Ideal S1024x128 .f32 :=
  addf (addf (mulf D C) (dynamicRotate 1 120#32 none (mulf D A) rotates_S1024x128_d1)) (dynamicRotate 1 8#32 none (mulf D B) rotates_S1024x128_d1)

omit hX X in
theorem back_at (D C A B : FVec Ideal S1024x128 .f32) (l : Fin 128) : back D C A B (ix2 i l)
    = D (ix2 i l) * C (ix2 i l) + D (ix2 i ⟨(l.val + 8) % 128, by omega⟩) * A (ix2 i ⟨(l.val + 8) % 128, by omega⟩)
      + D (ix2 i ⟨(l.val + 120) % 128, by omega⟩) * B (ix2 i ⟨(l.val + 120) % 128, by omega⟩) :=
  congrArg₂ (· + ·) (congrArg₂ (· + ·) rfl (turn_at i 120#32 (mulf D A) l ⟨(l.val + 8) % 128, by omega⟩ (by show (l.val + 8) % 128 = (l.val + 128 - 120) % 128; omega)))
    (turn_at i 8#32 (mulf D B) l ⟨(l.val + 120) % 128, by omega⟩ (by show (l.val + 120) % 128 = (l.val + 128 - 8) % 128; omega))

omit hX i in
/-- The block of the keys' and the values' gradients that a point makes. -/
def made (DK DV : Vec Ideal S128x1024 .f32) : FVec Ideal S1024x256 .bf16 :=
  k0_pay19 (k0_pay4 DK) (tables X) 64#32 k0_pay15 k0_pay16 k0_pay17 k0_pay18 DV

omit hX in
theorem made_at (DK DV : Vec Ideal S128x1024 .f32) (l : Fin 256) : made X DK DV (ix2 i l)
    = if h : l.val < 128 then back (k0_pay4 DK) (cosT (tables X)) (sinT (tables X)) (negT (tables X)) (ix2 i ⟨l.val, h⟩)
      else DV (ix2 ⟨l.val - 128, by omega⟩ i) := by
  have e : made X DK DV = truncf .bf16 (concatenate S1024x256 1 [⟨S1024x128, back (k0_pay4 DK) (cosT (tables X)) (sinT (tables X)) (negT (tables X))⟩,
      ⟨S1024x128, transpose S1024x128 [1, 0] DV transposes_S128x1024_p1_0_S1024x128⟩] concatenates_S1024x128_S1024x128_S1024x256_d1) bitsLt_bf16_f32 := rfl
  rw [e]
  generalize back (k0_pay4 DK) (cosT (tables X)) (sinT (tables X)) (negT (tables X)) = P
  pointwise

end Cert.AttnDwIdeal.Row

end
-- ==== Proof.AttnDwTurn.lean ====
/- The reference's rotation of the keys' gradients, a lane at a time: the first eight lanes of a head and the eight after
   them are turned back by the angle of their pair, the others pass. -/
module

public import proofs.«01_k».proof.Proof.Gen.AttnDwRefIdeal.Read
public import proofs.«01_k».proof.Proof.AttnTurn
public import Idealize.ShloMosaic.Lib.KernelVsHost
public import Idealize.ShloMosaic.Lib.Pipeline.ValueKit
public import Idealize.ShloMosaic.Lib.Pointwise

@[expose] public section

set_option maxRecDepth 16384

noncomputable section

namespace Cert.AttnDwRefIdeal.Row

open Cert.AttnDwRefIdeal Cert.AttnDwRefIdeal.Read
open Idealize.ShloMosaic Idealize.ShloMosaic.TcCoe Idealize.SL.Sem

open Cert.AttnProjRefIdeal.Row (ofBits_16 ofBits_2 base_real)

variable (x0 : (⟨S8192x1024, .f32⟩ : BufTy).Contents (Elt Ideal)) (x1 : (⟨S1x1024, .f32⟩ : BufTy).Contents (Elt Ideal))
  (x2 : (⟨S8192x2304, .bf16⟩ : BufTy).Contents (Elt Ideal)) (x3 x4 : (⟨S128x8192, .f32⟩ : BufTy).Contents (Elt Ideal))
  (x5 : (⟨S4x2048, .i32⟩ : BufTy).Contents (Elt Ideal))

/-- Every angle is a real number. -/
theorem angle_real (b : Fin 4) (s : Fin 2048) (j : Fin 8) : ∃ a : ℝ, val_main_v15 (F := Ideal) x5 (ix3 b s j) = (a : EReal) := by
  obtain ⟨p, hp⟩ := base_real
  unfold val_main_v15 val_main_v14 val_main_v13 val_main_v12 val_main_v11 val_main_v10 val_main_v9 val_main_v8 val_main_v7 val_main_v6 val_main_v5 val_main_v4 val_main_v3 val_main_v2 val_main_cst_0 val_main_cst_1 val_main_cst_2
  pointwise
  rw [ofBits_16, ofBits_2, hp, RowNorm.div_real _ _ (by norm_num)]
  exact ⟨_, (EReal.coe_mul _ _).symm⟩

theorem cos_real (b : Fin 4) (s : Fin 2048) (j : Fin 8) : ∃ a : ℝ, val_main_v16 (F := Ideal) x5 (ix3 b s j) = (a : EReal) := by
  obtain ⟨a, h⟩ := angle_real x5 b s j
  exact ⟨Real.cos a, (val_main_v16_apply x5 _).trans (by rw [h]; rfl)⟩

theorem sin_real (b : Fin 4) (s : Fin 2048) (j : Fin 8) : ∃ a : ℝ, val_main_v18 (F := Ideal) x5 (ix3 b s j) = (a : EReal) := by
  obtain ⟨a, h⟩ := angle_real x5 b s j
  exact ⟨Real.sin a, (val_main_v18_apply x5 _).trans (by rw [h]; rfl)⟩

/-! The three parts the gradient is the sum of, each padded with zeros to the head's sixty-four lanes. -/

theorem part41_none (b : Fin 4) (s : Fin 2048) (h : Fin 2) (e : Fin 64) (he : e.val < 16) : val_main_v41 (F := Ideal) x3 (ix4 b s h e) = 0 := by
  unfold val_main_v41
  refine (pad_apply_of_not_inside _ _ _ _ _ _ _ (ix4 b s h e) 3 (fun hc => ?_)).trans ?_
  · have h1 : 16 ≤ e.val := hc.1
    omega
  · unfold val_main_cst_3
    pointwise

theorem part41 (b : Fin 4) (s : Fin 2048) (h : Fin 2) (e : Fin 64) (he : 16 ≤ e.val) : val_main_v41 (F := Ideal) x3 (ix4 b s h e)
    = x3 (ix2 (⟨64 * h.val + e.val, by omega⟩ : Fin 128) (⟨2048 * b.val + s.val, by omega⟩ : Fin 8192)) := by
  unfold val_main_v41
  refine (pad_apply_of_inside _ _ _ _ _ _ _ (ix4 b s h e) (ix4 b s h (⟨e.val - 16, by omega⟩ : Fin 48)) (fun a => ?_)).trans ?_
  · fin_cases a
    · show b.val = 0 + b.val * 1; omega
    · show s.val = 0 + s.val * 1; omega
    · show h.val = 0 + h.val * 1; omega
    · show e.val = 16 + (e.val - 16) * 1; omega
  · unfold val_main_v40 val_main_v37 val_main_v35
    pointwise
    exact congrArg _ (funext fun a => by fin_cases a <;> exact Fin.ext (by simp <;> omega))

theorem part53_none (b : Fin 4) (s : Fin 2048) (h : Fin 2) (e : Fin 64) (he : e.val < 8 ∨ 16 ≤ e.val) : val_main_v53 (F := Ideal) x3 x5 (ix4 b s h e) = 0 := by
  unfold val_main_v53
  refine (pad_apply_of_not_inside _ _ _ _ _ _ _ (ix4 b s h e) 3 (fun hc => ?_)).trans ?_
  · have h1 : 8 ≤ e.val := hc.1
    have h2 : (e.val - 8) / 1 < 8 := hc.2.2
    omega
  · unfold val_main_cst_4
    pointwise

theorem part53 (b : Fin 4) (s : Fin 2048) (h : Fin 2) (e : Fin 64) (h8 : 8 ≤ e.val) (he : e.val < 16) : val_main_v53 (F := Ideal) x3 x5 (ix4 b s h e)
    = x3 (ix2 (⟨64 * h.val + e.val, by omega⟩ : Fin 128) (⟨2048 * b.val + s.val, by omega⟩ : Fin 8192)) * val_main_v16 (F := Ideal) x5 (ix3 b s (⟨e.val - 8, by omega⟩ : Fin 8))
      + -x3 (ix2 (⟨64 * h.val + e.val - 8, by omega⟩ : Fin 128) (⟨2048 * b.val + s.val, by omega⟩ : Fin 8192)) * val_main_v18 (F := Ideal) x5 (ix3 b s (⟨e.val - 8, by omega⟩ : Fin 8)) := by
  unfold val_main_v53
  refine (pad_apply_of_inside _ _ _ _ _ _ _ (ix4 b s h e) (ix4 b s h (⟨e.val - 8, by omega⟩ : Fin 8)) (fun a => ?_)).trans ?_
  · fin_cases a
    · show b.val = 0 + b.val * 1; omega
    · show s.val = 0 + s.val * 1; omega
    · show h.val = 0 + h.val * 1; omega
    · show e.val = 8 + (e.val - 8) * 1; omega
  · unfold val_main_v49 val_main_v45 val_main_v48 val_main_v46 val_main_v44 val_main_v47 val_main_v39 val_main_v38 val_main_v37 val_main_v35 val_main_v17 val_main_v19
    pointwise
    exact congrArg₂ (· + ·) (congrArg₂ (· * ·) (congrArg _ (funext fun a => by fin_cases a <;> exact Fin.ext (by simp <;> omega))) (congrArg _ (funext fun a => by fin_cases a <;> exact Fin.ext (by simp <;> omega))))
      (congrArg₂ (· * ·) (congrArg (- x3 ·) (funext fun a => by fin_cases a <;> exact Fin.ext (by simp <;> omega))) (congrArg _ (funext fun a => by fin_cases a <;> exact Fin.ext (by simp <;> omega))))

theorem part55_none (b : Fin 4) (s : Fin 2048) (h : Fin 2) (e : Fin 64) (he : 8 ≤ e.val) : val_main_v55 (F := Ideal) x3 x5 (ix4 b s h e) = 0 := by
  unfold val_main_v55
  refine (pad_apply_of_not_inside _ _ _ _ _ _ _ (ix4 b s h e) 3 (fun hc => ?_)).trans ?_
  · have h2 : (e.val - 0) / 1 < 8 := hc.2.2
    omega
  · unfold val_main_cst_5
    pointwise

theorem part55 (b : Fin 4) (s : Fin 2048) (h : Fin 2) (e : Fin 64) (he : e.val < 8) : val_main_v55 (F := Ideal) x3 x5 (ix4 b s h e)
    = x3 (ix2 (⟨64 * h.val + e.val + 8, by omega⟩ : Fin 128) (⟨2048 * b.val + s.val, by omega⟩ : Fin 8192)) * val_main_v18 (F := Ideal) x5 (ix3 b s (⟨e.val, by omega⟩ : Fin 8))
      + x3 (ix2 (⟨64 * h.val + e.val, by omega⟩ : Fin 128) (⟨2048 * b.val + s.val, by omega⟩ : Fin 8192)) * val_main_v16 (F := Ideal) x5 (ix3 b s (⟨e.val, by omega⟩ : Fin 8)) := by
  unfold val_main_v55
  refine (pad_apply_of_inside _ _ _ _ _ _ _ (ix4 b s h e) (ix4 b s h (⟨e.val, by omega⟩ : Fin 8)) (fun a => ?_)).trans ?_
  · fin_cases a
    · show b.val = 0 + b.val * 1; omega
    · show s.val = 0 + s.val * 1; omega
    · show h.val = 0 + h.val * 1; omega
    · show e.val = 0 + e.val * 1; omega
  · unfold val_main_v52 val_main_v43 val_main_v51 val_main_v42 val_main_v50 val_main_v39 val_main_v38 val_main_v37 val_main_v35 val_main_v17 val_main_v19
    pointwise
    exact congrArg₂ (· + ·) (congrArg₂ (· * ·) (congrArg _ (funext fun a => by fin_cases a <;> exact Fin.ext (by simp <;> omega))) (congrArg _ (funext fun a => by fin_cases a <;> exact Fin.ext (by simp <;> omega))))
      (congrArg₂ (· * ·) (congrArg _ (funext fun a => by fin_cases a <;> exact Fin.ext (by simp <;> omega))) (congrArg _ (funext fun a => by fin_cases a <;> exact Fin.ext (by simp <;> omega))))

/-- The cosine and the sine a lane is turned by. -/
def cosOf (n : Fin 8192) (l : Fin 128) : EReal :=
  val_main_v16 (F := Ideal) x5 (ix3 (⟨n.val / 2048, by omega⟩ : Fin 4) (⟨n.val % 2048, by omega⟩ : Fin 2048) (⟨l.val % 64 % 8, by omega⟩ : Fin 8))
def sinOf (n : Fin 8192) (l : Fin 128) : EReal :=
  val_main_v18 (F := Ideal) x5 (ix3 (⟨n.val / 2048, by omega⟩ : Fin 4) (⟨n.val % 2048, by omega⟩ : Fin 2048) (⟨l.val % 64 % 8, by omega⟩ : Fin 8))

/-- The gradient at a row and a lane is that of the row's position and the lane's head. -/
theorem lane (n : Fin 8192) (l : Fin 128) : val_main_v57 (F := Ideal) x3 x5 (ix2 n l)
    = val_main_v41 (F := Ideal) x3 (ix4 (⟨n.val / 2048, by omega⟩ : Fin 4) (⟨n.val % 2048, by omega⟩ : Fin 2048) (⟨l.val / 64, by omega⟩ : Fin 2) (⟨l.val % 64, by omega⟩ : Fin 64))
      + val_main_v53 (F := Ideal) x3 x5 (ix4 (⟨n.val / 2048, by omega⟩ : Fin 4) (⟨n.val % 2048, by omega⟩ : Fin 2048) (⟨l.val / 64, by omega⟩ : Fin 2) (⟨l.val % 64, by omega⟩ : Fin 64))
      + val_main_v55 (F := Ideal) x3 x5 (ix4 (⟨n.val / 2048, by omega⟩ : Fin 4) (⟨n.val % 2048, by omega⟩ : Fin 2048) (⟨l.val / 64, by omega⟩ : Fin 2) (⟨l.val % 64, by omega⟩ : Fin 64)) := by
  have e : idx_main_v57 (ix2 n l) = ix4 (⟨n.val / 2048, by omega⟩ : Fin 4) (⟨n.val % 2048, by omega⟩ : Fin 2048) (⟨l.val / 64, by omega⟩ : Fin 2) (⟨l.val % 64, by omega⟩ : Fin 64) := by
    funext a
    fin_cases a <;> exact Fin.ext (by simp [idx_main_v57] <;> omega)
  rw [val_main_v57_apply, e]
  rfl

/-- The first eight lanes of a head. -/
theorem back_first (n : Fin 8192) (l : Fin 128) (h : l.val % 64 < 8) : val_main_v57 (F := Ideal) x3 x5 (ix2 n l)
    = x3 (ix2 (⟨(l.val + 8) % 128, by omega⟩ : Fin 128) n) * sinOf x5 n l + x3 (ix2 l n) * cosOf x5 n l := by
  rw [lane, part41_none _ _ _ _ _ (by show l.val % 64 < 16; omega), part53_none _ _ _ _ _ _ (Or.inl h), part55 _ _ _ _ _ _ h, zero_add, zero_add]
  unfold cosOf sinOf
  exact congrArg₂ (· + ·) (congrArg₂ (· * ·) (congrArg _ (funext fun a => by fin_cases a <;> exact Fin.ext (by simp <;> omega))) (congrArg _ (funext fun a => by fin_cases a <;> exact Fin.ext (by simp <;> omega))))
    (congrArg₂ (· * ·) (congrArg _ (funext fun a => by fin_cases a <;> exact Fin.ext (by simp <;> omega))) (congrArg _ (funext fun a => by fin_cases a <;> exact Fin.ext (by simp <;> omega))))

/-- The eight lanes after them. -/
theorem back_second (n : Fin 8192) (l : Fin 128) (h8 : 8 ≤ l.val % 64) (h : l.val % 64 < 16) : val_main_v57 (F := Ideal) x3 x5 (ix2 n l)
    = x3 (ix2 l n) * cosOf x5 n l + -x3 (ix2 (⟨(l.val + 120) % 128, by omega⟩ : Fin 128) n) * sinOf x5 n l := by
  rw [lane, part41_none _ _ _ _ _ h, part53 _ _ _ _ _ _ h8 h, part55_none _ _ _ _ _ _ h8, zero_add, add_zero]
  unfold cosOf sinOf
  exact congrArg₂ (· + ·) (congrArg₂ (· * ·) (congrArg _ (funext fun a => by fin_cases a <;> exact Fin.ext (by simp <;> omega))) (congrArg _ (funext fun a => by fin_cases a <;> exact Fin.ext (by simp <;> omega))))
    (congrArg₂ (· * ·) (congrArg (- x3 ·) (funext fun a => by fin_cases a <;> exact Fin.ext (by simp <;> omega))) (congrArg _ (funext fun a => by fin_cases a <;> exact Fin.ext (by simp <;> omega))))

/-- The lanes that pass. -/
theorem back_rest (n : Fin 8192) (l : Fin 128) (h : 16 ≤ l.val % 64) : val_main_v57 (F := Ideal) x3 x5 (ix2 n l) = x3 (ix2 l n) := by
  rw [lane, part41 _ _ _ _ _ h, part53_none _ _ _ _ _ _ (Or.inr h), part55_none _ _ _ _ _ _ (by show 8 ≤ l.val % 64; omega), add_zero, add_zero]
  exact congrArg _ (funext fun a => by fin_cases a <;> exact Fin.ext (by simp <;> omega))

end Cert.AttnDwRefIdeal.Row

end
-- ==== Proof.AttnDwPieces.lean ====
/- The angle pieces the gradient of the attention's projection reads, as its host code makes them: each row's eight cosines and eight sines
   rounded, what the rounding leaves, and what the second rounding leaves. Every angle is a real number, so the last two
   are zero. -/
module

public import proofs.«01_k».proof.Proof.Gen.AttnDwIdeal.Value
public import proofs.«01_k».proof.Proof.AttnDwTurn
public import Idealize.ShloMosaic.Lib.Pipeline.ValueKit
public import Idealize.ShloMosaic.Lib.Pointwise

@[expose] public section

set_option maxRecDepth 16384

noncomputable section

namespace Cert.AttnDwIdeal.Row

open Cert.AttnDwIdeal Cert.AttnDwIdeal.Gen
open Idealize.ShloMosaic Idealize.ShloMosaic.TcCoe Idealize.SL.Sem
open Cert.AttnDwRefIdeal.Read Cert.AttnDwRefIdeal.Row

variable (m : (ℓ : Loc nD τ sig) → Buf (Elt Ideal) ℓ)

/-- The cosines and the sines of a row's angles. -/
def turns (c : Dev nD) : Vec Ideal S8192x16 .f32 := StableHlo.after (hostOps0.take 38) (fun b => m (c, b)) main_v31

/-- The last of the host's lines: the three pieces, side by side. -/
theorem last_line (σ : Valuation τ sig (Elt Ideal)) (n : Fin 8192) (k : Fin 48) :
    (StableHlo.after (hostOps0.drop 45) σ (Proc.tc.devRef main_v39) : Vec Ideal S8192x48 .bf16) (ix2 n k)
      = if h : k.val < 16 then (σ (Proc.tc.devRef main_v32) : Vec Ideal S8192x16 .bf16) (ix2 n ⟨k.val, h⟩)
        else if h : k.val - 16 < 16 then (σ (Proc.tc.devRef main_v35) : Vec Ideal S8192x16 .bf16) (ix2 n ⟨k.val - 16, h⟩)
        else (σ (Proc.tc.devRef main_v38) : Vec Ideal S8192x16 .bf16) (ix2 n ⟨k.val - 16 - 16, by omega⟩) := by
  simp only [hostOps0, List.drop_succ_cons, List.drop_zero]
  rw [StableHlo.after_cons, StableHlo.after_nil, StableHlo.nary_result]
  pointwise

/-- The lines before it: the angles' cosines and sines, what their rounding leaves, and what that rounding leaves. -/
theorem lines_32 (σ : Valuation τ sig (Elt Ideal)) (i : S8192x16.Idx) :
    (StableHlo.after ((hostOps0.drop 38).take 7) σ (Proc.tc.devRef main_v32) : Vec Ideal S8192x16 .bf16) i
      = (σ (Proc.tc.devRef main_v31) : Vec Ideal S8192x16 .f32) i := by
  simp only [hostOps0, List.drop_succ_cons, List.drop_zero, List.take_succ_cons, List.take_zero]
  entry_read
  pointwise

theorem lines_35 (σ : Valuation τ sig (Elt Ideal)) (i : S8192x16.Idx) (x : EReal) (hx : (σ (Proc.tc.devRef main_v31) : Vec Ideal S8192x16 .f32) i = x) :
    (StableHlo.after ((hostOps0.drop 38).take 7) σ (Proc.tc.devRef main_v35) : Vec Ideal S8192x16 .bf16) i
      = x - x := by
  simp only [hostOps0, List.drop_succ_cons, List.drop_zero, List.take_succ_cons, List.take_zero]
  entry_read
  pointwise
  rw [hx]

theorem lines_38 (σ : Valuation τ sig (Elt Ideal)) (i : S8192x16.Idx) (x : EReal) (hx : (σ (Proc.tc.devRef main_v31) : Vec Ideal S8192x16 .f32) i = x) :
    (StableHlo.after ((hostOps0.drop 38).take 7) σ (Proc.tc.devRef main_v38) : Vec Ideal S8192x16 .bf16) i
      = x - x - (x - x) := by
  simp only [hostOps0, List.drop_succ_cons, List.drop_zero, List.take_succ_cons, List.take_zero]
  entry_read
  pointwise
  rw [hx]

theorem split (c : Dev nD) : V m c main_v39 = StableHlo.after (hostOps0.drop 45) (StableHlo.after ((hostOps0.drop 38).take 7)
    (StableHlo.after (hostOps0.take 38) (fun b => m (c, b)))) (Proc.tc.devRef main_v39) := by
  rw [← StableHlo.after_append, ← StableHlo.after_append]
  rfl

theorem turns_cos (c : Dev nD) (n : Fin 8192) (k : Fin 16) (h : k.val < 8) :
    turns m c (ix2 n k) = val_main_v16 (F := Ideal) (m ((c.tc : Thread nD τ).loc main_arg5))
      (ix3 (⟨n.val / 2048, by omega⟩ : Fin 4) (⟨n.val % 2048, by omega⟩ : Fin 2048) (⟨k.val, by omega⟩ : Fin 8)) := by
  unfold turns
  simp only [hostOps0, List.take_succ_cons, List.take_zero]
  entry_read
  unfold val_main_v16 val_main_v15 val_main_v14 val_main_v13 val_main_v12 val_main_v11 val_main_v10 val_main_v9 val_main_v8 val_main_v7 val_main_v6 val_main_v5 val_main_v4 val_main_v3 val_main_v2 val_main_cst_0 val_main_cst_1 val_main_cst_2
  pointwise
  rw [dif_pos h]

theorem turns_sin (c : Dev nD) (n : Fin 8192) (k : Fin 16) (h : 8 ≤ k.val) :
    turns m c (ix2 n k) = val_main_v18 (F := Ideal) (m ((c.tc : Thread nD τ).loc main_arg5))
      (ix3 (⟨n.val / 2048, by omega⟩ : Fin 4) (⟨n.val % 2048, by omega⟩ : Fin 2048) (⟨k.val - 8, by omega⟩ : Fin 8)) := by
  unfold turns
  simp only [hostOps0, List.take_succ_cons, List.take_zero]
  entry_read
  unfold val_main_v18 val_main_v15 val_main_v14 val_main_v13 val_main_v12 val_main_v11 val_main_v10 val_main_v9 val_main_v8 val_main_v7 val_main_v6 val_main_v5 val_main_v4 val_main_v3 val_main_v2 val_main_cst_0 val_main_cst_1 val_main_cst_2
  pointwise
  rw [dif_neg (by omega)]

/-- A real number less itself is zero. -/
theorem sub_self_real {x : EReal} (h : ∃ a : ℝ, x = (a : EReal)) : x - x = 0 := by
  obtain ⟨a, rfl⟩ := h
  rw [← EReal.coe_sub, sub_self, EReal.coe_zero]

theorem turns_real (c : Dev nD) (n : Fin 8192) (k : Fin 16) : ∃ a : ℝ, turns m c (ix2 n k) = (a : EReal) := by
  by_cases h : k.val < 8
  · rw [turns_cos m c n k h]; exact cos_real _ _ _ _
  · rw [turns_sin m c n k (by omega)]; exact sin_real _ _ _ _

/-- The pieces of a row: its cosines and sines, then nothing. -/
theorem pieces_at (c : Dev nD) (n : Fin 8192) (k : Fin 48) :
    (V m c main_v39 : Vec Ideal S8192x48 .bf16) (ix2 n k) = if h : k.val < 16 then turns m c (ix2 n ⟨k.val, h⟩) else 0 := by
  rw [split m c, last_line]
  have h0 := turns_real m c n
  unfold turns at h0 ⊢
  generalize StableHlo.after (hostOps0.take 38) (fun b => m (c, b)) = σ at h0 ⊢
  split_ifs with h1 h2
  · exact lines_32 σ _
  · obtain ⟨a, ha⟩ := h0 ⟨k.val - 16, h2⟩
    rw [lines_35 σ _ _ ha]; exact sub_self_real ⟨a, rfl⟩
  · obtain ⟨a, ha⟩ := h0 ⟨k.val - 16 - 16, by omega⟩
    rw [lines_38 σ _ _ ha, sub_self_real ⟨a, rfl⟩, sub_zero]

end Cert.AttnDwIdeal.Row

end
-- ==== Proof.AttnDwOut.lean ====
/- What the gradient of the attention's projection leaves: the gradients of the weight and of the bias, summed over all rows, and
   the block of the keys' and the values' gradients, the keys' turned back by the position's angles. -/
module

public import proofs.«01_k».proof.Proof.AttnDwTable
public import proofs.«01_k».proof.Proof.AttnDwPieces
public import proofs.«01_k».proof.Proof.Pieces
public import proofs.«01_k».proof.Proof.RowNorm
public import Idealize.ShloMosaic.Lib.Pipeline.ValueKit
public import Idealize.ShloMosaic.Lib.Pointwise

@[expose] public section

set_option maxRecDepth 16384

noncomputable section

namespace Cert.AttnDwIdeal.Row

open Cert.AttnDwIdeal Cert.AttnDwIdeal.Gen
open Idealize.ShloMosaic Idealize.ShloMosaic.TcCoe Idealize.SL.Sem
open Cert.AttnDwRefIdeal.Read Cert.AttnDwRefIdeal.Row

/-- Where each window's block lies at a point. -/
theorem idx : ∀ t : Fin cfg0.N, win0_0.index t = ![t.val, 0] ∧ win0_1.index t = ![t.val, 0] ∧ win0_2.index t = ![0, t.val] ∧ win0_3.index t = ![0, t.val]
    ∧ win0_4.index t = ![t.val, 0] ∧ win0_5.index t = ![0, 0] ∧ win0_6.index t = ![t.val, 0] :=
  (by decide +kernel : ∀ t : Fin grid0.N, win0_0.index t = ![t.val, 0] ∧ win0_1.index t = ![t.val, 0] ∧ win0_2.index t = ![0, t.val] ∧ win0_3.index t = ![0, t.val]
    ∧ win0_4.index t = ![t.val, 0] ∧ win0_5.index t = ![0, 0] ∧ win0_6.index t = ![t.val, 0])

theorem lt8 (t : Fin cfg0.N) : t.val < 8 := lt_of_lt_of_eq t.isLt (show cfg0.N = 8 from N_0)

/-! The reference's arrays at an element. -/

section Reference

variable (x2 : (⟨S8192x2304, .bf16⟩ : BufTy).Contents (Elt Ideal)) (x3 x4 : (⟨S128x8192, .f32⟩ : BufTy).Contents (Elt Ideal))
  (x5 : (⟨S4x2048, .i32⟩ : BufTy).Contents (Elt Ideal)) (n : Fin 8192)

theorem pair_at' (l : Fin 256) : val_main_v59 (F := Ideal) x3 x4 x5 (ix2 n l)
    = if h : l.val < 128 then val_main_v57 (F := Ideal) x3 x5 (ix2 n ⟨l.val, h⟩) else x4 (ix2 ⟨l.val - 128, by omega⟩ n) := by
  unfold val_main_v59 val_main_v58 val_main_v36
  generalize val_main_v57 (F := Ideal) x3 x5 = P
  pointwise

theorem joined (d : Fin 2304) : val_main_v62 (F := Ideal) x2 x3 x4 x5 (ix2 n d)
    = if h : d.val < 1024 then x2 (ix2 n d)
      else if h : d.val - 1024 < 256 then val_main_v59 (F := Ideal) x3 x4 x5 (ix2 n ⟨d.val - 1024, h⟩) else x2 (ix2 n d) := by
  unfold val_main_v62 val_main_v60 val_main_v61
  generalize val_main_v59 (F := Ideal) x3 x4 x5 = P
  pointwise
  split_ifs <;> first | rfl | exact congrArg _ (funext fun a => by fin_cases a <;> exact Fin.ext (by simp <;> omega))

theorem joined_mid (M G1 G2 : FVec Ideal S1024x256 .bf16) (i : Fin 1024) (hG1 : ∀ b : Fin 256, G1 (ix2 i b) = x2 (ix2 n ⟨768 + b.val, by omega⟩))
    (hG2 : ∀ b : Fin 256, G2 (ix2 i b) = x2 (ix2 n ⟨1280 + b.val, by omega⟩)) (hM : ∀ l : Fin 256, M (ix2 i l) = val_main_v59 (F := Ideal) x3 x4 x5 (ix2 n l))
    (b : Fin 768) : k0_pay23 M G1 G2 (ix2 i b) = val_main_v62 (F := Ideal) x2 x3 x4 x5 (ix2 n ⟨768 + b.val, by omega⟩) := by
  rw [joined]
  pointwise [k0_pay23]
  by_cases h1 : b.val < 256
  · rw [dif_pos h1, dif_pos (by show 768 + b.val < 1024; omega)]
    exact hG1 ⟨b.val, h1⟩
  · rw [dif_neg h1]
    by_cases h2 : b.val - 256 < 256
    · rw [dif_pos h2, dif_neg (by show ¬ 768 + b.val < 1024; omega), dif_pos (by show 768 + b.val - 1024 < 256; omega)]
      refine (hM ⟨b.val - 256, h2⟩).trans ?_
      exact congrArg _ (funext fun a => by fin_cases a <;> exact Fin.ext (by simp <;> omega))
    · rw [dif_neg h2, dif_neg (by show ¬ 768 + b.val < 1024; omega), dif_neg (by show ¬ 768 + b.val - 1024 < 256; omega)]
      refine (hG2 ⟨b.val - 256 - 256, by omega⟩).trans ?_
      exact congrArg _ (funext fun a => by fin_cases a <;> exact Fin.ext (by simp <;> omega))

theorem sinOf_same (l k : Fin 128) (h : k.val % 64 % 8 = l.val % 64 % 8) : sinOf x5 n k = sinOf x5 n l := by
  unfold sinOf
  exact congrArg _ (funext fun a => by fin_cases a <;> exact Fin.ext (by simp <;> omega))

/-- A lane of the keys' gradients turned back. -/
theorem back_eq (D C A B : FVec Ideal S1024x128 .f32) (i : Fin 1024)
    (hC : ∀ l : Fin 128, C (ix2 i l) = if l.val % 64 < 16 then cosOf x5 n l else 1)
    (hA : ∀ l : Fin 128, A (ix2 i l) = if 8 ≤ l.val % 64 ∧ l.val % 64 < 16 then sinOf x5 n l else 0)
    (hB : ∀ l : Fin 128, B (ix2 i l) = if l.val % 64 < 8 then -sinOf x5 n l else 0)
    (hD : ∀ l : Fin 128, D (ix2 i l) = x3 (ix2 l n)) (l : Fin 128) :
    back D C A B (ix2 i l) = val_main_v57 (F := Ideal) x3 x5 (ix2 n l) := by
  rw [back_at, hC, hA, hB, hD, hD, hD]
  by_cases h1 : l.val % 64 < 8
  · rw [if_pos (by omega), if_pos (by show 8 ≤ (l.val + 8) % 128 % 64 ∧ (l.val + 8) % 128 % 64 < 16; omega), if_neg (by show ¬ (l.val + 120) % 128 % 64 < 8; omega),
      back_first x3 x5 n l h1, sinOf_same x5 n l _ (by show (l.val + 8) % 128 % 64 % 8 = _; omega), mul_zero, add_zero, add_comm]
  · by_cases h2 : l.val % 64 < 16
    · rw [if_pos h2, if_neg (by show ¬ (8 ≤ (l.val + 8) % 128 % 64 ∧ (l.val + 8) % 128 % 64 < 16); omega), if_pos (by show (l.val + 120) % 128 % 64 < 8; omega),
        back_second x3 x5 n l (by omega) h2, sinOf_same x5 n l _ (by show (l.val + 120) % 128 % 64 % 8 = _; omega), mul_zero, add_zero, mul_neg, EReal.neg_mul]
    · rw [if_neg h2, if_neg (by show ¬ (8 ≤ (l.val + 8) % 128 % 64 ∧ (l.val + 8) % 128 % 64 < 16); omega), if_neg (by show ¬ (l.val + 120) % 128 % 64 < 8; omega),
        back_rest x3 x5 n l (by omega), mul_one, mul_zero, mul_zero, add_zero, add_zero]

end Reference

variable (m : (ℓ : Loc nD τ sig) → Buf (Elt Ideal) ℓ)

/-- The token block of the normed input: the reference's own. -/
theorem read0 (c : Dev nD) (t : Fin cfg0.N) (i : Fin 1024) (n : Fin 8192) (hn : n.val = 1024 * t.val + i.val) (k : Fin 1024) :
    iblk m c 0 t (ix2 i k) = val_main_v78 (F := Ideal) (m ((c.tc : Thread nD τ).loc main_arg0)) (m ((c.tc : Thread nD τ).loc main_arg1)) (ix2 n k) := by
  obtain ⟨h0, h1, h2, h3, h4, h5, h6⟩ := idx t
  have hb : iblk m c 0 t (ix2 i k) = V m c main_v14 (ix2 n k) := by blk_ext [iblk, h0]
  rw [hb]
  entry_read
  unfold val_main_v78 val_main_v77 val_main_v76 val_main_v75 val_main_v74 val_main_v73 val_main_v72 val_main_v71 val_main_v70 val_main_v69 val_main_v68 val_main_v67 val_main_v66 val_main_v65 val_main_cst_8 val_main_cst_9 val_main_cst_10
  pointwise
  try rfl

/-- The token block of the projection's gradient, read from the argument. -/
theorem read1 (c : Dev nD) (t : Fin cfg0.N) (i : Fin 1024) (n : Fin 8192) (hn : n.val = 1024 * t.val + i.val) (k : Fin 2304) :
    iblk m c 1 t (ix2 i k) = (m ((c.tc : Thread nD τ).loc main_arg2)) (ix2 n k) := by
  obtain ⟨h0, h1, h2, h3, h4, h5, h6⟩ := idx t
  blk_ext [iblk, V, h1]

/-- The keys' and the values' gradients, a column for each token, read from the arguments. -/
theorem read2 (c : Dev nD) (t : Fin cfg0.N) (i : Fin 1024) (n : Fin 8192) (hn : n.val = 1024 * t.val + i.val) (l : Fin 128) :
    iblk m c 2 t (ix2 l i) = (m ((c.tc : Thread nD τ).loc main_arg3)) (ix2 l n) := by
  obtain ⟨h0, h1, h2, h3, h4, h5, h6⟩ := idx t
  blk_ext [iblk, V, h2]

theorem read3 (c : Dev nD) (t : Fin cfg0.N) (i : Fin 1024) (n : Fin 8192) (hn : n.val = 1024 * t.val + i.val) (l : Fin 128) :
    iblk m c 3 t (ix2 l i) = (m ((c.tc : Thread nD τ).loc main_arg4)) (ix2 l n) := by
  obtain ⟨h0, h1, h2, h3, h4, h5, h6⟩ := idx t
  blk_ext [iblk, V, h3]

/-- The angle pieces of a row, as the host code makes them. -/
theorem read4 (c : Dev nD) (t : Fin cfg0.N) (i : Fin 1024) (n : Fin 8192) (hn : n.val = 1024 * t.val + i.val) (k : Fin 48) :
    iblk m c 4 t (ix2 i k) = V m c main_v39 (ix2 n k) := by
  obtain ⟨h0, h1, h2, h3, h4, h5, h6⟩ := idx t
  blk_ext [iblk, h4]

/-- The block a point makes of the keys' and the values' gradients is the reference's. -/
theorem block_kv (c : Dev nD) (t : Fin cfg0.N) (T : Vec Ideal S1024x48 .bf16) (DK DV : Vec Ideal S128x1024 .f32) (i : Fin 1024) (n : Fin 8192)
    (hn : n.val = 1024 * t.val + i.val) (hT : ∀ k, T (ix2 i k) = iblk m c 4 t (ix2 i k)) (hK : ∀ l, DK (ix2 l i) = iblk m c 2 t (ix2 l i))
    (hV : ∀ l, DV (ix2 l i) = iblk m c 3 t (ix2 l i)) (l : Fin 256) :
    made (k0_pay5 T) DK DV (ix2 i l) = val_main_v59 (F := Ideal) (m ((c.tc : Thread nD τ).loc main_arg3)) (m ((c.tc : Thread nD τ).loc main_arg4)) (m ((c.tc : Thread nD τ).loc main_arg5)) (ix2 n l) := by
  have hX : ∀ k : Fin 48, k0_pay5 T (ix2 i k) = if h : k.val < 16 then turns m c (ix2 n ⟨k.val, h⟩) else 0 := fun k => by
    refine Eq.trans ?_ ((hT k).trans ((read4 m c t i n hn k).trans (pieces_at m c n k)))
    pointwise [k0_pay5]
  have h0 : ∀ k : Fin 48, 16 ≤ k.val → k0_pay5 T (ix2 i k) = 0 := fun k hk => by rw [hX, dif_neg (by omega)]
  have hD : ∀ l : Fin 128, k0_pay4 DK (ix2 i l) = (m ((c.tc : Thread nD τ).loc main_arg3)) (ix2 l n) := fun l => by
    refine Eq.trans ?_ ((hK l).trans (read2 m c t i n hn l))
    pointwise [k0_pay4]
  generalize k0_pay5 T = X at hX h0 ⊢
  generalize hDe : k0_pay4 DK = D at hD
  rw [made_at, pair_at', hDe]
  split_ifs with h
  · refine back_eq _ _ n D _ _ _ i (fun l => ?_) (fun l => ?_) (fun l => ?_) hD ⟨l.val, h⟩
    · refine (cos_at X i h0 l).trans ?_
      by_cases h : l.val % 64 < 16
      · rw [if_pos h, if_pos h, hX, dif_pos (by show l.val % 64 % 8 < 16; omega)]
        exact turns_cos m c n _ (by show l.val % 64 % 8 < 8; omega)
      · rw [if_neg h, if_neg h]
    · refine (sin_at X i h0 l).trans ?_
      by_cases h : 8 ≤ l.val % 64 ∧ l.val % 64 < 16
      · rw [if_pos h, if_pos h, hX, dif_pos (by show 8 + l.val % 64 % 8 < 16; omega), turns_sin m c n _ (by show 8 ≤ 8 + l.val % 64 % 8; omega)]
        simp only [Nat.add_sub_cancel_left]
        rfl
      · rw [if_neg h, if_neg h]
    · refine (neg_at X i h0 l).trans ?_
      by_cases h : l.val % 64 < 8
      · rw [if_pos h, if_pos h, hX, dif_pos (by show 8 + l.val % 64 % 8 < 16; omega), turns_sin m c n _ (by show 8 ≤ 8 + l.val % 64 % 8; omega)]
        simp only [Nat.add_sub_cancel_left]
        rfl
      · rw [if_neg h, if_neg h]
  · exact (hV _).trans (read3 m c t i n hn _)

/-! Each column block of the two accumulators gains its part of the products and of the sums. -/

theorem pay21_at (X : Vec Ideal S1024x1024 .bf16) (G : Vec Ideal S1024x768 .bf16) (A : Vec Ideal S1024x768 .f32) (a : Fin 1024) (b : Fin 768) :
    k0_pay21 X G A (ix2 a b) = A (ix2 a b) + ∑ i : Fin 1024, X (ix2 i a) * G (ix2 i b) := by
  pointwise [k0_pay21, k0_pay20]

theorem pay24_at (X : Vec Ideal S1024x1024 .bf16) (M G1 G2 : FVec Ideal S1024x256 .bf16) (A : Vec Ideal S1024x768 .f32) (a : Fin 1024) (b : Fin 768) :
    k0_pay24 M (k0_pay20 X) G1 G2 A (ix2 a b) = A (ix2 a b) + ∑ i : Fin 1024, X (ix2 i a) * k0_pay23 M G1 G2 (ix2 i b) := by
  unfold k0_pay24
  generalize k0_pay23 M G1 G2 = G
  pointwise [k0_pay20]

theorem pay26_at (X : Vec Ideal S1024x1024 .bf16) (G : Vec Ideal S1024x768 .bf16) (A : Vec Ideal S1024x768 .f32) (a : Fin 1024) (b : Fin 768) :
    k0_pay26 (k0_pay20 X) G A (ix2 a b) = A (ix2 a b) + ∑ i : Fin 1024, X (ix2 i a) * G (ix2 i b) := by
  pointwise [k0_pay26, k0_pay20]

theorem pay22_at (G : Vec Ideal S1024x768 .bf16) (A : Vec Ideal S1x768 .f32) (a : Fin 1) (b : Fin 768) :
    k0_pay22 G A (ix2 a b) = A (ix2 a b) + ∑ i : Fin 1024, G (ix2 i b) := by
  obtain rfl : a = 0 := Subsingleton.elim _ _
  pointwise [k0_pay22]

theorem pay25_at (M G1 G2 : FVec Ideal S1024x256 .bf16) (A : Vec Ideal S1x768 .f32) (a : Fin 1) (b : Fin 768) :
    k0_pay25 M G1 G2 A (ix2 a b) = A (ix2 a b) + ∑ i : Fin 1024, k0_pay23 M G1 G2 (ix2 i b) := by
  obtain rfl : a = 0 := Subsingleton.elim _ _
  unfold k0_pay25
  generalize k0_pay23 M G1 G2 = G
  pointwise

theorem pay1_at (G : Vec Ideal S1024x768 .bf16) (A : Vec Ideal S1x768 .f32) (a : Fin 1) (b : Fin 768) :
    k0_pay1 G A (ix2 a b) = A (ix2 a b) + ∑ i : Fin 1024, G (ix2 i b) := by
  obtain rfl : a = 0 := Subsingleton.elim _ _
  pointwise [k0_pay1]

/-- The first point's fills are zero. -/
theorem pay2_at (x : S1024x2304.Idx) : k0_pay2 (F := Ideal) x = 0 := by
  idx_vars x
  pointwise [k0_pay2]

theorem pay3_at (x : S1x2304.Idx) : k0_pay3 (F := Ideal) x = 0 := by
  idx_vars x
  pointwise [k0_pay3]

/-- The row of the whole array that a block's row is. -/
abbrev row (t : Fin cfg0.N) (i : Fin 1024) : Fin 8192 := ⟨1024 * t.val + i.val, by have := lt8 t; omega⟩

/-- One row's contribution to the gradient of the bias, and to the gradient of the weight. -/
def bterm (c : Dev nD) (n : Fin 8192) (d : Fin 2304) : EReal := val_main_v62 (F := Ideal) (m ((c.tc : Thread nD τ).loc main_arg2)) (m ((c.tc : Thread nD τ).loc main_arg3)) (m ((c.tc : Thread nD τ).loc main_arg4)) (m ((c.tc : Thread nD τ).loc main_arg5)) (ix2 n d)
def wterm (c : Dev nD) (n : Fin 8192) (a : Fin 1024) (d : Fin 2304) : EReal := val_main_v78 (F := Ideal) (m ((c.tc : Thread nD τ).loc main_arg0)) (m ((c.tc : Thread nD τ).loc main_arg1)) (ix2 n a) * bterm m c n d

/-! The three parts of the projection's gradient that a point reads, by columns. -/

theorem left_eq (c : Dev nD) (t : Fin cfg0.N) (i : Fin 1024) (b : Fin 768) :
    View.ld (iblk m c 1 t) (Rect.unit ![0, 0] ![1024, 768] inb_S1024x2304_S1024x768_0_0) (ix2 i b) = bterm m c (row t i) ⟨b.val, by omega⟩ := by
  unfold bterm
  rw [joined, dif_pos (by show b.val < 1024; omega), ← read1 m c t i (row t i) rfl, View.ld_apply]
  exact congrArg _ (funext fun a => by fin_cases a <;> exact Fin.ext (by simp [Rect.idx_unit_val] <;> omega))

theorem right_eq (c : Dev nD) (t : Fin cfg0.N) (i : Fin 1024) (b : Fin 768) :
    View.ld (iblk m c 1 t) (Rect.unit ![0, 1536] ![1024, 768] inb_S1024x2304_S1024x768_0_1536) (ix2 i b) = bterm m c (row t i) ⟨1536 + b.val, by omega⟩ := by
  unfold bterm
  rw [joined, dif_neg (by show ¬ 1536 + b.val < 1024; omega), dif_neg (by show ¬ 1536 + b.val - 1024 < 256; omega), ← read1 m c t i (row t i) rfl, View.ld_apply]
  exact congrArg _ (funext fun a => by fin_cases a <;> exact Fin.ext (by simp [Rect.idx_unit_val] <;> omega))

theorem mid_eq (c : Dev nD) (t : Fin cfg0.N) (i : Fin 1024) (b : Fin 768) :
    k0_pay23 (made (k0_pay5 (iblk m c 4 t)) (iblk m c 2 t) (iblk m c 3 t))
      (View.ld (iblk m c 1 t) (Rect.unit ![0, 768] ![1024, 256] inb_S1024x2304_S1024x256_0_768))
      (View.ld (iblk m c 1 t) (Rect.unit ![0, 1280] ![1024, 256] inb_S1024x2304_S1024x256_0_1280)) (ix2 i b) = bterm m c (row t i) ⟨768 + b.val, by omega⟩ := by
  unfold bterm
  refine joined_mid _ _ _ _ (row t i) _ _ _ i (fun b => ?_) (fun b => ?_) (fun l => ?_) b
  · rw [← read1 m c t i (row t i) rfl, View.ld_apply]
    exact congrArg _ (funext fun a => by fin_cases a <;> exact Fin.ext (by simp [Rect.idx_unit_val] <;> omega))
  · rw [← read1 m c t i (row t i) rfl, View.ld_apply]
    exact congrArg _ (funext fun a => by fin_cases a <;> exact Fin.ext (by simp [Rect.idx_unit_val] <;> omega))
  · exact block_kv m c t _ _ _ i (row t i) rfl (fun _ => rfl) (fun _ => rfl) (fun _ => rfl) l

/-- The first point's fill, as a store. -/
abbrev wfill : View.Piece (Elt Ideal) S1024x2304 .f32 := ⟨Rect.unit ![0, 0] ![1024, 2304] inb_S1024x2304_S1024x2304_0_0, k0_pay2 (F := Ideal)⟩

theorem wfill_mem (z : S1024x2304.Idx) : z ∈ wfill.1.set :=
  View.mem_set_unit_zero (S := S1024x2304) (off := ![0, 0]) (by decide) inb_S1024x2304_S1024x2304_0_0 z

theorem wfill_at (x : wfill.1.shape.Idx) : wfill.2 x = (0 : EReal) := pay2_at x

theorem wload0 (v : View sig .tc .vmem S1024x2304 .f32) (a : Fin 1024) (b : Fin 768) :
    View.readCov (Val := Elt Ideal) v ([wfill] : List (View.Piece (Elt Ideal) S1024x2304 .f32))
      (Rect.unit (s := S1024x2304) ![0, 0] ![1024, 768] inb_S1024x2304_S1024x768_0_0).toLoadRect (ix2 a b : S1024x768.Idx) = (0 : EReal) :=
  Pieces.readCov_first v wfill wfill_mem (0 : EReal) wfill_at
    (Rect.unit (s := S1024x2304) ![0, 0] ![1024, 768] inb_S1024x2304_S1024x768_0_0).toLoadRect (ix2 a b : S1024x768.Idx)
    [] <|
  fun _ h => absurd h List.not_mem_nil

theorem wload1 (v : View sig .tc .vmem S1024x2304 .f32) (w0 : Vec Ideal S1024x768 .f32) (a : Fin 1024) (b : Fin 768) :
    View.readCov (Val := Elt Ideal) v ([⟨Rect.unit ![0, 0] ![1024, 768] inb_S1024x2304_S1024x768_0_0, w0⟩, wfill] : List (View.Piece (Elt Ideal) S1024x2304 .f32))
      (Rect.unit (s := S1024x2304) ![0, 768] ![1024, 768] inb_S1024x2304_S1024x768_0_768).toLoadRect (ix2 a b : S1024x768.Idx) = (0 : EReal) :=
  Pieces.readCov_first v wfill wfill_mem (0 : EReal) wfill_at
    (Rect.unit (s := S1024x2304) ![0, 768] ![1024, 768] inb_S1024x2304_S1024x768_0_768).toLoadRect (ix2 a b : S1024x768.Idx)
    [⟨Rect.unit ![0, 0] ![1024, 768] inb_S1024x2304_S1024x768_0_0, w0⟩] <|
  List.forall_mem_cons.mpr ⟨Rect.not_mem_set_of_axis _ _ 1 0 768 rfl rfl rfl (Or.inr (by show 768 ≤ 768 + 1 * b.val; omega)),
    fun _ h => absurd h List.not_mem_nil⟩

theorem wload2 (v : View sig .tc .vmem S1024x2304 .f32) (w1 w0 : Vec Ideal S1024x768 .f32) (a : Fin 1024) (b : Fin 768) :
    View.readCov (Val := Elt Ideal) v ([⟨Rect.unit ![0, 768] ![1024, 768] inb_S1024x2304_S1024x768_0_768, w1⟩, ⟨Rect.unit ![0, 0] ![1024, 768] inb_S1024x2304_S1024x768_0_0, w0⟩, wfill] : List (View.Piece (Elt Ideal) S1024x2304 .f32))
      (Rect.unit (s := S1024x2304) ![0, 1536] ![1024, 768] inb_S1024x2304_S1024x768_0_1536).toLoadRect (ix2 a b : S1024x768.Idx) = (0 : EReal) :=
  Pieces.readCov_first v wfill wfill_mem (0 : EReal) wfill_at
    (Rect.unit (s := S1024x2304) ![0, 1536] ![1024, 768] inb_S1024x2304_S1024x768_0_1536).toLoadRect (ix2 a b : S1024x768.Idx)
    [⟨Rect.unit ![0, 768] ![1024, 768] inb_S1024x2304_S1024x768_0_768, w1⟩, ⟨Rect.unit ![0, 0] ![1024, 768] inb_S1024x2304_S1024x768_0_0, w0⟩] <|
  List.forall_mem_cons.mpr ⟨Rect.not_mem_set_of_axis _ _ 1 768 768 rfl rfl rfl (Or.inr (by show 1536 ≤ 1536 + 1 * b.val; omega)),
    List.forall_mem_cons.mpr ⟨Rect.not_mem_set_of_axis _ _ 1 0 768 rfl rfl rfl (Or.inr (by show 768 ≤ 1536 + 1 * b.val; omega)),
    fun _ h => absurd h List.not_mem_nil⟩⟩

set_option maxHeartbeats 1000000 in
/-- A point adds its 1024 rows' contributions to the weight's gradient that the point before left. -/
theorem wstep (c : Dev nD) (t : Fin cfg0.N) (h0 : ¬t.val % 8 = 0) (y : S1024x2304.Idx) : (outsAt0 m c t.val t.isLt).2.2.1 y
    = (outsAt0 m c (t.val - 1) (by omega)).2.2.1 y + ∑ i : Fin 1024, wterm m c (row t i) (y 0) (y 1) := by
  have ht := lt8 t
  by_cases h1 : t.val % 8 = 7
  · rw [outsAt0_C m c t h0 h1]
    frame_out
    idx_vars y
    canon_tiles x ha
    case piece0 =>
      idx_vars x
      obtain rfl : y0 = x0 := Fin.ext ha0
      rw [show y1 = ⟨1536 + x1.val, by omega⟩ from Fin.ext ha1]
      refine (pay26_at _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · exact congrArg₂ (· * ·) (read0 m c t i (row t i) rfl y0) (right_eq m c t i x1)
    case piece1 =>
      idx_vars x
      obtain rfl : y0 = x0 := Fin.ext ha0
      rw [show y1 = ⟨768 + x1.val, by omega⟩ from Fin.ext ha1]
      refine (pay24_at _ _ _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · exact congrArg₂ (· * ·) (read0 m c t i (row t i) rfl y0) (mid_eq m c t i x1)
    case piece2 =>
      idx_vars x
      obtain rfl : y0 = x0 := Fin.ext ha0
      rw [show y1 = ⟨x1.val, by omega⟩ from Fin.ext (by omega)]
      refine (pay21_at _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · exact congrArg₂ (· * ·) (read0 m c t i (row t i) rfl y0) (left_eq m c t i x1)
  · rw [outsAt0_B m c t h0 h1]
    frame_out
    idx_vars y
    canon_tiles x ha
    case piece0 =>
      idx_vars x
      obtain rfl : y0 = x0 := Fin.ext ha0
      rw [show y1 = ⟨1536 + x1.val, by omega⟩ from Fin.ext ha1]
      refine (pay26_at _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · exact congrArg₂ (· * ·) (read0 m c t i (row t i) rfl y0) (right_eq m c t i x1)
    case piece1 =>
      idx_vars x
      obtain rfl : y0 = x0 := Fin.ext ha0
      rw [show y1 = ⟨768 + x1.val, by omega⟩ from Fin.ext ha1]
      refine (pay24_at _ _ _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · exact congrArg₂ (· * ·) (read0 m c t i (row t i) rfl y0) (mid_eq m c t i x1)
    case piece2 =>
      idx_vars x
      obtain rfl : y0 = x0 := Fin.ext ha0
      rw [show y1 = ⟨x1.val, by omega⟩ from Fin.ext (by omega)]
      refine (pay21_at _ _ _ _ _).trans ?_
      refine congrArg₂ (· + ·) ?_ (Finset.sum_congr rfl fun i _ => ?_)
      · refine (congrFun ((Memref.isWhole_whole cc0_scratch0).read_unread _) _).trans ?_
        exact congrArg _ (funext fun a => by fin_cases a <;> exact Fin.ext (by simp [Rect.idx_unit_val] <;> omega))
      · exact congrArg₂ (· * ·) (read0 m c t i (row t i) rfl y0) (left_eq m c t i x1)

set_option maxHeartbeats 1000000 in
/-- The first point starts from zero. -/
theorem wstart (c : Dev nD) (t : Fin cfg0.N) (h0 : t.val % 8 = 0) (y : S1024x2304.Idx) : (outsAt0 m c t.val t.isLt).2.2.1 y
    = 0 + ∑ i : Fin 1024, wterm m c (row t i) (y 0) (y 1) := by
  have ht := lt8 t
  rw [outsAt0_A m c t h0 (by omega)]
  frame_out
  idx_vars y
  refine (Pieces.canon_drop_last _ _ [_, _, _] ?_).trans ?_
  · exact View.cover_of_tiled_head _ _ _ (by rfl) _
  canon_tiles x ha
  case piece0 =>
    idx_vars x
    obtain rfl : y0 = x0 := Fin.ext ha0
    rw [show y1 = ⟨1536 + x1.val, by omega⟩ from Fin.ext ha1]
    refine (pay26_at _ _ _ _ _).trans ?_
    refine congrArg₂ (· + ·) ?_ (Finset.sum_congr rfl fun i _ => ?_)
    · with_reducible exact wload2 _ _ _ _ _
    · exact congrArg₂ (· * ·) (read0 m c t i (row t i) rfl y0) (right_eq m c t i x1)
  case piece1 =>
    idx_vars x
    obtain rfl : y0 = x0 := Fin.ext ha0
    rw [show y1 = ⟨768 + x1.val, by omega⟩ from Fin.ext ha1]
    refine (pay24_at _ _ _ _ _ _ _).trans ?_
    refine congrArg₂ (· + ·) ?_ (Finset.sum_congr rfl fun i _ => ?_)
    · with_reducible exact wload1 _ _ _ _
    · exact congrArg₂ (· * ·) (read0 m c t i (row t i) rfl y0) (mid_eq m c t i x1)
  case piece2 =>
    idx_vars x
    obtain rfl : y0 = x0 := Fin.ext ha0
    rw [show y1 = ⟨x1.val, by omega⟩ from Fin.ext (by omega)]
    refine (pay21_at _ _ _ _ _).trans ?_
    refine congrArg₂ (· + ·) ?_ (Finset.sum_congr rfl fun i _ => ?_)
    · with_reducible exact wload0 _ _ _
    · exact congrArg₂ (· * ·) (read0 m c t i (row t i) rfl y0) (left_eq m c t i x1)

/-- After the last point the weight's gradient is summed over all rows. -/
theorem wlast (c : Dev nD) (y : S1024x2304.Idx) : (outsAt0 m c t0_7.val t0_7.isLt).2.2.1 y = ∑ n, wterm m c n (y 0) (y 1) := by
  have hs := Pipeline.eq_sum_fin_of_reset_step_apply_last (fun n h => (outsAt0 m c n h).2.2.1) 8 (fun _ => (0 : EReal))
    (fun t y => ∑ i : Fin 1024, wterm m c (row t i) (y 0) (y 1)) (fun t h0 y => wstart m c t h0 y) (fun t h0 y => wstep m c t h0 y)
    (le_of_eq N_0) t0_7 rfl y
  rw [zero_add] at hs
  exact hs.trans (RowNorm.sum_rows N_0 (fun n => wterm m c n (y 0) (y 1)) _)

/-- The first point's fill, as a store. -/
abbrev bfill : View.Piece (Elt Ideal) S1x2304 .f32 := ⟨Rect.unit ![0, 0] ![1, 2304] inb_S1x2304_S1x2304_0_0, k0_pay3 (F := Ideal)⟩

theorem bfill_mem (z : S1x2304.Idx) : z ∈ bfill.1.set :=
  View.mem_set_unit_zero (S := S1x2304) (off := ![0, 0]) (by decide) inb_S1x2304_S1x2304_0_0 z

theorem bfill_at (x : bfill.1.shape.Idx) : bfill.2 x = (0 : EReal) := pay3_at x

theorem bload0 (v : View sig .tc .vmem S1x2304 .f32) (a : Fin 1) (b : Fin 768) :
    View.readCov (Val := Elt Ideal) v ([bfill] : List (View.Piece (Elt Ideal) S1x2304 .f32))
      (Rect.unit (s := S1x2304) ![0, 0] ![1, 768] inb_S1x2304_S1x768_0_0).toLoadRect (ix2 a b : S1x768.Idx) = (0 : EReal) :=
  Pieces.readCov_first v bfill bfill_mem (0 : EReal) bfill_at
    (Rect.unit (s := S1x2304) ![0, 0] ![1, 768] inb_S1x2304_S1x768_0_0).toLoadRect (ix2 a b : S1x768.Idx)
    [] <|
  fun _ h => absurd h List.not_mem_nil

theorem bload1 (v : View sig .tc .vmem S1x2304 .f32) (w0 : Vec Ideal S1x768 .f32) (a : Fin 1) (b : Fin 768) :
    View.readCov (Val := Elt Ideal) v ([⟨Rect.unit ![0, 0] ![1, 768] inb_S1x2304_S1x768_0_0, w0⟩, bfill] : List (View.Piece (Elt Ideal) S1x2304 .f32))
      (Rect.unit (s := S1x2304) ![0, 768] ![1, 768] inb_S1x2304_S1x768_0_768).toLoadRect (ix2 a b : S1x768.Idx) = (0 : EReal) :=
  Pieces.readCov_first v bfill bfill_mem (0 : EReal) bfill_at
    (Rect.unit (s := S1x2304) ![0, 768] ![1, 768] inb_S1x2304_S1x768_0_768).toLoadRect (ix2 a b : S1x768.Idx)
    [⟨Rect.unit ![0, 0] ![1, 768] inb_S1x2304_S1x768_0_0, w0⟩] <|
  List.forall_mem_cons.mpr ⟨Rect.not_mem_set_of_axis _ _ 1 0 768 rfl rfl rfl (Or.inr (by show 768 ≤ 768 + 1 * b.val; omega)),
    fun _ h => absurd h List.not_mem_nil⟩

theorem bload2 (v : View sig .tc .vmem S1x2304 .f32) (w1 w0 : Vec Ideal S1x768 .f32) (a : Fin 1) (b : Fin 768) :
    View.readCov (Val := Elt Ideal) v ([⟨Rect.unit ![0, 768] ![1, 768] inb_S1x2304_S1x768_0_768, w1⟩, ⟨Rect.unit ![0, 0] ![1, 768] inb_S1x2304_S1x768_0_0, w0⟩, bfill] : List (View.Piece (Elt Ideal) S1x2304 .f32))
      (Rect.unit (s := S1x2304) ![0, 1536] ![1, 768] inb_S1x2304_S1x768_0_1536).toLoadRect (ix2 a b : S1x768.Idx) = (0 : EReal) :=
  Pieces.readCov_first v bfill bfill_mem (0 : EReal) bfill_at
    (Rect.unit (s := S1x2304) ![0, 1536] ![1, 768] inb_S1x2304_S1x768_0_1536).toLoadRect (ix2 a b : S1x768.Idx)
    [⟨Rect.unit ![0, 768] ![1, 768] inb_S1x2304_S1x768_0_768, w1⟩, ⟨Rect.unit ![0, 0] ![1, 768] inb_S1x2304_S1x768_0_0, w0⟩] <|
  List.forall_mem_cons.mpr ⟨Rect.not_mem_set_of_axis _ _ 1 768 768 rfl rfl rfl (Or.inr (by show 1536 ≤ 1536 + 1 * b.val; omega)),
    List.forall_mem_cons.mpr ⟨Rect.not_mem_set_of_axis _ _ 1 0 768 rfl rfl rfl (Or.inr (by show 768 ≤ 1536 + 1 * b.val; omega)),
    fun _ h => absurd h List.not_mem_nil⟩⟩

set_option maxHeartbeats 1000000 in
/-- A point adds its 1024 rows' contributions to the bias's gradient that the point before left. -/
theorem bstep (c : Dev nD) (t : Fin cfg0.N) (h0 : ¬t.val % 8 = 0) (y : S1x2304.Idx) : (outsAt0 m c t.val t.isLt).1 y
    = (outsAt0 m c (t.val - 1) (by omega)).1 y + ∑ i : Fin 1024, bterm m c (row t i) (y 1) := by
  have ht := lt8 t
  by_cases h1 : t.val % 8 = 7
  · rw [outsAt0_C m c t h0 h1]
    frame_out
    idx_vars y
    canon_tiles x ha
    case piece0 =>
      idx_vars x
      obtain rfl : y0 = x0 := Fin.ext ha0
      rw [show y1 = ⟨1536 + x1.val, by omega⟩ from Fin.ext ha1]
      refine (pay1_at _ _ _ _).trans ?_
      refine congrArg₂ (· + ·) ?_ (Finset.sum_congr rfl fun i _ => ?_)
      · rw [View.ld_apply]
        exact congrArg _ (funext fun a => by fin_cases a <;> exact Fin.ext (by simp [Rect.idx_unit_val] <;> omega))
      · exact right_eq m c t i x1
    case piece1 =>
      idx_vars x
      obtain rfl : y0 = x0 := Fin.ext ha0
      rw [show y1 = ⟨768 + x1.val, by omega⟩ from Fin.ext ha1]
      refine (pay25_at _ _ _ _ _ _).trans ?_
      refine congrArg₂ (· + ·) ?_ (Finset.sum_congr rfl fun i _ => ?_)
      · rw [View.ld_apply]
        exact congrArg _ (funext fun a => by fin_cases a <;> exact Fin.ext (by simp [Rect.idx_unit_val] <;> omega))
      · exact mid_eq m c t i x1
    case piece2 =>
      idx_vars x
      obtain rfl : y0 = x0 := Fin.ext ha0
      rw [show y1 = ⟨x1.val, by omega⟩ from Fin.ext (by omega)]
      refine (pay22_at _ _ _ _).trans ?_
      refine congrArg₂ (· + ·) ?_ (Finset.sum_congr rfl fun i _ => ?_)
      · rw [View.ld_apply]
        exact congrArg _ (funext fun a => by fin_cases a <;> exact Fin.ext (by simp [Rect.idx_unit_val] <;> omega))
      · exact left_eq m c t i x1
  · rw [outsAt0_B m c t h0 h1]
    frame_out
    idx_vars y
    canon_tiles x ha
    case piece0 =>
      idx_vars x
      obtain rfl : y0 = x0 := Fin.ext ha0
      rw [show y1 = ⟨1536 + x1.val, by omega⟩ from Fin.ext ha1]
      refine (pay1_at _ _ _ _).trans ?_
      refine congrArg₂ (· + ·) ?_ (Finset.sum_congr rfl fun i _ => ?_)
      · rw [View.ld_apply]
        exact congrArg _ (funext fun a => by fin_cases a <;> exact Fin.ext (by simp [Rect.idx_unit_val] <;> omega))
      · exact right_eq m c t i x1
    case piece1 =>
      idx_vars x
      obtain rfl : y0 = x0 := Fin.ext ha0
      rw [show y1 = ⟨768 + x1.val, by omega⟩ from Fin.ext ha1]
      refine (pay25_at _ _ _ _ _ _).trans ?_
      refine congrArg₂ (· + ·) ?_ (Finset.sum_congr rfl fun i _ => ?_)
      · rw [View.ld_apply]
        exact congrArg _ (funext fun a => by fin_cases a <;> exact Fin.ext (by simp [Rect.idx_unit_val] <;> omega))
      · exact mid_eq m c t i x1
    case piece2 =>
      idx_vars x
      obtain rfl : y0 = x0 := Fin.ext ha0
      rw [show y1 = ⟨x1.val, by omega⟩ from Fin.ext (by omega)]
      refine (pay22_at _ _ _ _).trans ?_
      refine congrArg₂ (· + ·) ?_ (Finset.sum_congr rfl fun i _ => ?_)
      · rw [View.ld_apply]
        exact congrArg _ (funext fun a => by fin_cases a <;> exact Fin.ext (by simp [Rect.idx_unit_val] <;> omega))
      · exact left_eq m c t i x1

set_option maxHeartbeats 1000000 in
/-- The first point starts from zero. -/
theorem bstart (c : Dev nD) (t : Fin cfg0.N) (h0 : t.val % 8 = 0) (y : S1x2304.Idx) : (outsAt0 m c t.val t.isLt).1 y
    = 0 + ∑ i : Fin 1024, bterm m c (row t i) (y 1) := by
  have ht := lt8 t
  rw [outsAt0_A m c t h0 (by omega)]
  frame_out
  idx_vars y
  refine (Pieces.canon_drop_last _ _ [_, _, _] ?_).trans ?_
  · exact View.cover_of_tiled_head _ _ _ (by rfl) _
  canon_tiles x ha
  case piece0 =>
    idx_vars x
    obtain rfl : y0 = x0 := Fin.ext ha0
    rw [show y1 = ⟨1536 + x1.val, by omega⟩ from Fin.ext ha1]
    refine (pay1_at _ _ _ _).trans ?_
    refine congrArg₂ (· + ·) ?_ (Finset.sum_congr rfl fun i _ => ?_)
    · with_reducible exact bload2 _ _ _ _ _
    · exact right_eq m c t i x1
  case piece1 =>
    idx_vars x
    obtain rfl : y0 = x0 := Fin.ext ha0
    rw [show y1 = ⟨768 + x1.val, by omega⟩ from Fin.ext ha1]
    refine (pay25_at _ _ _ _ _ _).trans ?_
    refine congrArg₂ (· + ·) ?_ (Finset.sum_congr rfl fun i _ => ?_)
    · with_reducible exact bload1 _ _ _ _
    · exact mid_eq m c t i x1
  case piece2 =>
    idx_vars x
    obtain rfl : y0 = x0 := Fin.ext ha0
    rw [show y1 = ⟨x1.val, by omega⟩ from Fin.ext (by omega)]
    refine (pay22_at _ _ _ _).trans ?_
    refine congrArg₂ (· + ·) ?_ (Finset.sum_congr rfl fun i _ => ?_)
    · with_reducible exact bload0 _ _ _
    · exact left_eq m c t i x1

/-- After the last point the bias's gradient is summed over all rows. -/
theorem blast (c : Dev nD) (y : S1x2304.Idx) : (outsAt0 m c t0_7.val t0_7.isLt).1 y = ∑ n, bterm m c n (y 1) := by
  have hs := Pipeline.eq_sum_fin_of_reset_step_apply_last (fun n h => (outsAt0 m c n h).1) 8 (fun _ => (0 : EReal))
    (fun t y => ∑ i : Fin 1024, bterm m c (row t i) (y 1)) (fun t h0 y => bstart m c t h0 y) (fun t h0 y => bstep m c t h0 y)
    (le_of_eq N_0) t0_7 rfl y
  rw [zero_add] at hs
  exact hs.trans (RowNorm.sum_rows N_0 (fun n => bterm m c n (y 1)) _)

set_option maxHeartbeats 1000000 in
/-- The last point copies out the weight's gradient. -/
theorem copied (c : Dev nD) (t : Fin cfg0.N) (h1 : t.val % 8 = 7) (y : S1024x2304.Idx) :
    (outsAt0 m c t.val t.isLt).2.2.2 y = (outsAt0 m c t.val t.isLt).2.2.1 y := by
  rw [outsAt0_C m c t (by omega) h1]
  unfold hbw0_C_0 kernelRun0_C
  dsimp only
  frame_out
  refine (congrFun (View.write_whole_univ _ _ _) y).trans ?_
  exact congrFun (View.read_writes_eq_canon _ _ _ fun z => View.cover_of_tiled_head _ _ _ (by rfl) z) y

/-- The weight's gradient that the kernel copies out is the reference's. -/
theorem out (c : Dev nD) : (outsAt0 m c t0_7.val t0_7.isLt).2.2.2 = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext y
  rw [copied m c t0_7 rfl y]
  refine (wlast m c y).trans ?_
  idx_vars y
  unfold wterm bterm val_main_v86 val_main_v85 val_main_v82
  generalize val_main_v62 (F := Ideal) (m ((c.tc : Thread nD τ).loc main_arg2)) (m ((c.tc : Thread nD τ).loc main_arg3)) (m ((c.tc : Thread nD τ).loc main_arg4)) (m ((c.tc : Thread nD τ).loc main_arg5)) = P
  generalize val_main_v78 (F := Ideal) (m ((c.tc : Thread nD τ).loc main_arg0)) (m ((c.tc : Thread nD τ).loc main_arg1)) = Q
  pointwise
  exact Finset.sum_congr rfl fun n _ => mul_comm _ _

/-- The bias's gradient that the kernel leaves is the reference's. -/
theorem out5 (c : Dev nD) : (dats m 0 c).arrAt 5 (cfgs 0).N = val_main_v84 (F := Ideal) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_after_last 5 t0_7 (by decide +kernel) _ fun y => ?_
  blk_simp
  rw [after0_5]
  idx_vars y
  refine (blast m c (ix2 y0 y1)).trans ?_
  unfold bterm val_main_v84 val_main_v83 val_main_v82 val_main_cst_11
  generalize val_main_v62 (F := Ideal) (m ((c.tc : Thread nD τ).loc main_arg2)) (m ((c.tc : Thread nD τ).loc main_arg3)) (m ((c.tc : Thread nD τ).loc main_arg4)) (m ((c.tc : Thread nD τ).loc main_arg5)) = P
  pointwise

set_option maxHeartbeats 1000000 in
/-- The keys' and the values' gradients the kernel leaves are the reference's. -/
theorem out6 (c : Dev nD) : (dats m 0 c).arrAt 6 (cfgs 0).N = val_main_v59 (F := Ideal) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have hN : t.val < 8 := lt8 t
  obtain ⟨h0, h1, h2, h3, h4, h5, h6⟩ := idx t
  idx_vars y
  have he : ((cfg0.win 6).blk t).view.emb (ix2 y0 y1) = (ix2 (⟨1024 * t.val + y0.val, by omega⟩ : Fin 8192) y1 : S8192x256.Idx) := by
    blk_ext [h6]
  have e := block_kv m c t (iblk m c 4 t) (iblk m c 2 t) (iblk m c 3 t) y0 ⟨1024 * t.val + y0.val, by omega⟩ rfl (fun _ => rfl) (fun _ => rfl) (fun _ => rfl) y1
  blk_simp
  rw [after0_6, he]
  refine Eq.trans ?_ e
  by_cases ha : t.val % 8 = 0
  · rw [outsAt0_A m c t ha (by omega)]
    frame_out
    rfl
  · by_cases hb : t.val % 8 = 7
    · rw [outsAt0_C m c t ha hb]
      frame_out
      rfl
    · rw [outsAt0_B m c t ha hb]
      frame_out
      rfl

end Cert.AttnDwIdeal.Row

end
-- ==== Proof.SmallAdamW.lean ====
/- The optimiser's step of the small weights: the rows of each output are the reference's, element by element. -/
module

public import proofs.«01_k».proof.Proof.Gen.SmallAdamWIdeal.Value
public import proofs.«01_k».proof.Proof.Gen.SmallAdamWRefIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.SmallAdamWIdeal.Row

open Cert.SmallAdamWIdeal Cert.SmallAdamWIdeal.Gen
open Idealize.ShloMosaic Idealize.ShloMosaic.TcCoe Idealize.SL.Sem
open Cert.SmallAdamWRefIdeal.Read

variable (m : (ℓ : Loc nD τ sig) → Buf (Elt Ideal) ℓ)

/-- Each window is its whole array. -/
theorem idx : ∀ t : Fin cfg0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0])

/-- The weights, read from the argument. -/
theorem read0 (c : Dev nD) (t : Fin cfg0.N) (i : Fin 16) (k : Fin 1024) :
    iblk m c 0 t (ix2 i k) = (m ((c.tc : Thread nD τ).loc main_arg0)) (ix2 i k) := by
  obtain ⟨h0, h1, h2, h3, h4, h5, h6, h7⟩ := idx t
  blk_ext [iblk, V, h0]

/-- The first moments, read from the argument. -/
theorem read1 (c : Dev nD) (t : Fin cfg0.N) (i : Fin 16) (k : Fin 1024) :
    iblk m c 1 t (ix2 i k) = (m ((c.tc : Thread nD τ).loc main_arg1)) (ix2 i k) := by
  obtain ⟨h0, h1, h2, h3, h4, h5, h6, h7⟩ := idx t
  blk_ext [iblk, V, h1]

/-- The second moments, read from the argument. -/
theorem read2 (c : Dev nD) (t : Fin cfg0.N) (i : Fin 16) (k : Fin 1024) :
    iblk m c 2 t (ix2 i k) = (m ((c.tc : Thread nD τ).loc main_arg2)) (ix2 i k) := by
  obtain ⟨h0, h1, h2, h3, h4, h5, h6, h7⟩ := idx t
  blk_ext [iblk, V, h2]

/-- The devices' gradients, read from the argument. -/
theorem read3 (c : Dev nD) (t : Fin cfg0.N) (s : Fin 8) (i : Fin 16) (k : Fin 1024) :
    iblk m c 3 t (ix3 s i k) = (m ((c.tc : Thread nD τ).loc main_arg3)) (ix3 s i k) := by
  obtain ⟨h0, h1, h2, h3, h4, h5, h6, h7⟩ := idx t
  blk_ext [iblk, V, h3]

/-- A gradient added up over the devices, in any order. -/
theorem sum_eq (x3 : (⟨S8x16x1024, .f32⟩ : BufTy).Contents (Elt Ideal)) (i : Fin 16) (k : Fin 1024) :
    val_main_v0 (F := Ideal) x3 (ix2 i k) = x3 (ix3 0 i k) + x3 (ix3 1 i k) + x3 (ix3 2 i k) + x3 (ix3 3 i k) + x3 (ix3 4 i k) + x3 (ix3 5 i k)
      + x3 (ix3 6 i k) + x3 (ix3 7 i k) := by
  unfold val_main_v0 val_main_cst
  pointwise
  exact Fin.sum_univ_eight _

/-- The kernel's sum over the devices is the reference's. -/
theorem grad (c : Dev nD) (t : Fin cfg0.N) (i : Fin 16) (k : Fin 1024) :
    k0_pay5 (iblk m c 0 t) (iblk m c 1 t) (iblk m c 2 t) (iblk m c 3 t) (ix2 i k) = val_main_v0 (F := Ideal) (m ((c.tc : Thread nD τ).loc main_arg3)) (ix2 i k) := by
  rw [sum_eq]
  simp only [← read3 m c t]
  pointwise [k0_pay5, k0_pay3]

/-- The kernel's first moments are the reference's. -/
theorem first (c : Dev nD) (t : Fin cfg0.N) (i : Fin 16) (k : Fin 1024) :
    k0_pay6 (iblk m c 0 t) (iblk m c 1 t) (iblk m c 2 t) (iblk m c 3 t) (ix2 i k) = val_main_v5 (F := Ideal) (m ((c.tc : Thread nD τ).loc main_arg1)) (m ((c.tc : Thread nD τ).loc main_arg3)) (ix2 i k) := by
  unfold val_main_v5 val_main_v4 val_main_v3 val_main_v2 val_main_v1 val_main_cst_0 val_main_cst_1
  have e := grad m c t i k
  have e1 := read1 m c t i k
  generalize val_main_v0 (F := Ideal) (m ((c.tc : Thread nD τ).loc main_arg3)) = G at e ⊢
  pointwise [k0_pay6, k0_pay4]
  rw [← e1, ← e]
  rfl

/-- The kernel's second moments are the reference's. -/
theorem second (c : Dev nD) (t : Fin cfg0.N) (i : Fin 16) (k : Fin 1024) :
    k0_pay1 (k0_pay5 (iblk m c 0 t) (iblk m c 1 t) (iblk m c 2 t) (iblk m c 3 t)) (iblk m c 2 t) (ix2 i k)
      = val_main_v11 (F := Ideal) (m ((c.tc : Thread nD τ).loc main_arg2)) (m ((c.tc : Thread nD τ).loc main_arg3)) (ix2 i k) := by
  unfold val_main_v11 val_main_v10 val_main_v9 val_main_v8 val_main_v7 val_main_v6 val_main_cst_2 val_main_cst_3
  have e := grad m c t i k
  have e2 := read2 m c t i k
  generalize val_main_v0 (F := Ideal) (m ((c.tc : Thread nD τ).loc main_arg3)) = G at e ⊢
  generalize k0_pay5 (iblk m c 0 t) (iblk m c 1 t) (iblk m c 2 t) (iblk m c 3 t) = H at e ⊢
  pointwise [k0_pay1]
  rw [e, e2]

/-- The kernel's change of the weights is the reference's. -/
theorem delta (c : Dev nD) (t : Fin cfg0.N) (i : Fin 16) (k : Fin 1024) :
    k0_pay2 (k0_pay5 (iblk m c 0 t) (iblk m c 1 t) (iblk m c 2 t) (iblk m c 3 t)) (k0_pay6 (iblk m c 0 t) (iblk m c 1 t) (iblk m c 2 t) (iblk m c 3 t))
      (iblk m c 2 t) (iblk m c 0 t) (ix2 i k) = val_main_v24 (F := Ideal) (m ((c.tc : Thread nD τ).loc main_arg0)) (m ((c.tc : Thread nD τ).loc main_arg1)) (m ((c.tc : Thread nD τ).loc main_arg2)) (m ((c.tc : Thread nD τ).loc main_arg3)) (ix2 i k) := by
  unfold val_main_v24 val_main_v23 val_main_v22 val_main_v21 val_main_v20 val_main_v19 val_main_v18 val_main_v17 val_main_v16 val_main_v15 val_main_v14 val_main_v13 val_main_v12
    val_main_cst_4 val_main_cst_5 val_main_cst_6 val_main_cst_7 val_main_cst_8
  have e := first m c t i k
  have e1 := second m c t i k
  have e0 := read0 m c t i k
  generalize val_main_v5 (F := Ideal) (m ((c.tc : Thread nD τ).loc main_arg1)) (m ((c.tc : Thread nD τ).loc main_arg3)) = G at e ⊢
  generalize val_main_v11 (F := Ideal) (m ((c.tc : Thread nD τ).loc main_arg2)) (m ((c.tc : Thread nD τ).loc main_arg3)) = H at e1 ⊢
  unfold k0_pay2
  generalize k0_pay1 (k0_pay5 (iblk m c 0 t) (iblk m c 1 t) (iblk m c 2 t) (iblk m c 3 t)) (iblk m c 2 t) = K at e1 ⊢
  generalize k0_pay6 (iblk m c 0 t) (iblk m c 1 t) (iblk m c 2 t) (iblk m c 3 t) = L at e ⊢
  pointwise
  rw [e, e1, e0]

/-- The summed gradient that the kernel leaves: the reference's. -/
theorem out4 (c : Dev nD) : (dats m 0 c).arrAt 4 (cfgs 0).N = val_main_v0 (F := Ideal) (m ((c.tc : Thread nD τ).loc main_arg3)) := by
  refine (dats m 0 c).arrAt_eq_of_covers 4 _ (by decide +kernel) fun t hf y => ?_
  obtain ⟨h0, h1, h2, h3, h4, h5, h6, h7⟩ := idx t
  idx_vars y
  have he : ((cfg0.win 4).blk t).view.emb (ix2 y0 y1) = (ix2 y0 y1 : S16x1024.Idx) := by
    blk_ext [h4]
  have e := grad m c t y0 y1
  blk_simp
  rw [after0_4, he]
  frame_out
  pointwise [out0_4]
  try exact e

set_option maxHeartbeats 1000000 in
/-- The change of the weights that the kernel leaves: the reference's. -/
theorem out5 (c : Dev nD) : (dats m 0 c).arrAt 5 (cfgs 0).N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  obtain ⟨h0, h1, h2, h3, h4, h5, h6, h7⟩ := idx t
  idx_vars y
  have he : ((cfg0.win 5).blk t).view.emb (ix2 y0 y1) = (ix2 y0 y1 : S16x1024.Idx) := by
    blk_ext [h5]
  have e := delta m c t y0 y1
  blk_simp
  rw [after0_5, he]
  frame_out
  pointwise [out0_5]
  exact e

/-- The first moments that the kernel leaves: the reference's. -/
theorem out6 (c : Dev nD) : (dats m 0 c).arrAt 6 (cfgs 0).N = val_main_v5 (F := Ideal) (m ((c.tc : Thread nD τ).loc main_arg1)) (m ((c.tc : Thread nD τ).loc main_arg3)) := by
  refine (dats m 0 c).arrAt_eq_of_covers 6 _ (by decide +kernel) fun t hf y => ?_
  obtain ⟨h0, h1, h2, h3, h4, h5, h6, h7⟩ := idx t
  idx_vars y
  have he : ((cfg0.win 6).blk t).view.emb (ix2 y0 y1) = (ix2 y0 y1 : S16x1024.Idx) := by
    blk_ext [h6]
  have e := first m c t y0 y1
  blk_simp
  rw [after0_6, he]
  frame_out
  pointwise [out0_6]
  try exact e

/-- The second moments that the kernel leaves: the reference's. -/
theorem out7 (c : Dev nD) : (dats m 0 c).arrAt 7 (cfgs 0).N = val_main_v11 (F := Ideal) (m ((c.tc : Thread nD τ).loc main_arg2)) (m ((c.tc : Thread nD τ).loc main_arg3)) := by
  refine (dats m 0 c).arrAt_eq_of_covers 7 _ (by decide +kernel) fun t hf y => ?_
  obtain ⟨h0, h1, h2, h3, h4, h5, h6, h7⟩ := idx t
  idx_vars y
  have he : ((cfg0.win 7).blk t).view.emb (ix2 y0 y1) = (ix2 y0 y1 : S16x1024.Idx) := by
    blk_ext [h7]
  have e := second m c t y0 y1
  blk_simp
  rw [after0_7, he]
  frame_out
  pointwise [out0_7]
  exact e

end Cert.SmallAdamWIdeal.Row

end
-- ==== Proof.AttnInAdamW.lean ====
/- The optimiser's step of the attention's input weight: the rows of each output are the reference's, element by element. -/
module

public import proofs.«01_k».proof.Proof.Gen.AttnInAdamWIdeal.Value
public import proofs.«01_k».proof.Proof.Gen.AttnInAdamWRefIdeal.Read
public import Idealize.ShloMosaic.Lib.Pipeline.ValueKit
public import Idealize.ShloMosaic.Lib.Pointwise

@[expose] public section

set_option maxRecDepth 16384

noncomputable section

namespace Cert.AttnInAdamWIdeal.Row

open Cert.AttnInAdamWIdeal Cert.AttnInAdamWIdeal.Gen
open Idealize.ShloMosaic Idealize.ShloMosaic.TcCoe Idealize.SL.Sem
open Cert.AttnInAdamWRefIdeal.Read

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

theorem lt8 (t : Fin cfg0.N) : t.val < 8 := lt_of_lt_of_eq t.isLt (show cfg0.N = 8 from N_0)

/-- The block of the weights, read from the argument. -/
theorem read0 (c : Dev nD) (t : Fin cfg0.N) (i : Fin 128) (n : Fin 1024) (hn : n.val = 128 * t.val + i.val) (k : Fin 576) :
    iblk m c 0 t (ix2 i k) = (m ((c.tc : Thread nD τ).loc main_arg0)) (ix2 n k) := by
  obtain ⟨h0, h1, h2, h3, h4, h5, h6, h7, h8⟩ := idx t
  blk_ext [iblk, V, h0]

/-- The block of the first moments, read from the argument. -/
theorem read1 (c : Dev nD) (t : Fin cfg0.N) (i : Fin 128) (n : Fin 1024) (hn : n.val = 128 * t.val + i.val) (k : Fin 576) :
    iblk m c 1 t (ix2 i k) = (m ((c.tc : Thread nD τ).loc main_arg1)) (ix2 n k) := by
  obtain ⟨h0, h1, h2, h3, h4, h5, h6, h7, h8⟩ := idx t
  blk_ext [iblk, V, h1]

/-- The block of the second moments, read from the argument. -/
theorem read2 (c : Dev nD) (t : Fin cfg0.N) (i : Fin 128) (n : Fin 1024) (hn : n.val = 128 * t.val + i.val) (k : Fin 576) :
    iblk m c 2 t (ix2 i k) = (m ((c.tc : Thread nD τ).loc main_arg2)) (ix2 n k) := by
  obtain ⟨h0, h1, h2, h3, h4, h5, h6, h7, h8⟩ := idx t
  blk_ext [iblk, V, h2]

/-- The block of the device's own gradients, read from the argument. -/
theorem read3 (c : Dev nD) (t : Fin cfg0.N) (i : Fin 128) (n : Fin 1024) (hn : n.val = 128 * t.val + i.val) (k : Fin 576) :
    iblk m c 3 t (ix2 i k) = (m ((c.tc : Thread nD τ).loc main_arg3)) (ix2 n k) := by
  obtain ⟨h0, h1, h2, h3, h4, h5, h6, h7, h8⟩ := idx t
  blk_ext [iblk, V, h3]

/-- The block of the sibling's gradients, read from the argument. -/
theorem read4 (c : Dev nD) (t : Fin cfg0.N) (i : Fin 128) (n : Fin 1024) (hn : n.val = 128 * t.val + i.val) (k : Fin 576) :
    iblk m c 4 t (ix2 i k) = (m ((c.tc : Thread nD τ).loc main_arg4)) (ix2 n k) := by
  obtain ⟨h0, h1, h2, h3, h4, h5, h6, h7, h8⟩ := idx t
  blk_ext [iblk, V, h4]

set_option maxHeartbeats 1000000 in
/-- The summed gradient that the kernel leaves: the reference's. -/
theorem out5 (c : Dev nD) : (dats m 0 c).arrAt 5 (cfgs 0).N = val_main_v0 (F := Ideal) (m ((c.tc : Thread nD τ).loc main_arg3)) (m ((c.tc : Thread nD τ).loc main_arg4)) := by
  refine (dats m 0 c).arrAt_eq_of_covers 5 _ (by decide +kernel) fun t hf y => ?_
  have hN : t.val < 8 := lt8 t
  obtain ⟨h0, h1, h2, h3, h4, h5, h6, h7, h8⟩ := idx t
  idx_vars y
  have he : ((cfg0.win 5).blk t).view.emb (ix2 y0 y1) = (ix2 (⟨128 * t.val + y0.val, by omega⟩ : Fin 1024) y1 : S1024x576.Idx) := by
    blk_ext [h5]
  have e3 := read3 m c t y0 ⟨128 * t.val + y0.val, by omega⟩ rfl y1
  have e4 := read4 m c t y0 ⟨128 * t.val + y0.val, by omega⟩ rfl y1
  blk_simp
  rw [after0_5, he]
  frame_out
  unfold val_main_v0
  pointwise [out0_5, k0_pay1]
  rw [e3, e4]

set_option maxHeartbeats 1000000 in
/-- The change of the weights that the kernel leaves: the reference's. -/
theorem out6 (c : Dev nD) : (dats m 0 c).arrAt 6 (cfgs 0).N = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have hN : t.val < 8 := lt8 t
  obtain ⟨h0, h1, h2, h3, h4, h5, h6, h7, h8⟩ := idx t
  idx_vars y
  have he : ((cfg0.win 6).blk t).view.emb (ix2 y0 y1) = (ix2 (⟨128 * t.val + y0.val, by omega⟩ : Fin 1024) y1 : S1024x576.Idx) := by
    blk_ext [h6]
  have e0 := read0 m c t y0 ⟨128 * t.val + y0.val, by omega⟩ rfl y1
  have e1 := read1 m c t y0 ⟨128 * t.val + y0.val, by omega⟩ rfl y1
  have e2 := read2 m c t y0 ⟨128 * t.val + y0.val, by omega⟩ rfl y1
  have e3 := read3 m c t y0 ⟨128 * t.val + y0.val, by omega⟩ rfl y1
  have e4 := read4 m c t y0 ⟨128 * t.val + y0.val, by omega⟩ rfl y1
  blk_simp
  rw [after0_6, he]
  frame_out
  unfold val_main_v24 val_main_v23 val_main_v22 val_main_v21 val_main_v20 val_main_v19 val_main_v18 val_main_v17 val_main_v16 val_main_v15 val_main_v14 val_main_v13 val_main_v12 val_main_cst_3 val_main_cst_4 val_main_cst_5 val_main_cst_6 val_main_cst_7 val_main_v5 val_main_v4 val_main_v3 val_main_v2 val_main_v1 val_main_cst val_main_cst_0 val_main_v11 val_main_v10 val_main_v9 val_main_v8 val_main_v7 val_main_v6 val_main_cst_1 val_main_cst_2 val_main_v0
  pointwise [out0_6, k0_pay4, k0_pay3, k0_pay2, k0_pay1]
  rw [e0, e1, e2, e3, e4]

set_option maxHeartbeats 1000000 in
/-- The first moments that the kernel leaves: the reference's. -/
theorem out7 (c : Dev nD) : (dats m 0 c).arrAt 7 (cfgs 0).N = val_main_v5 (F := Ideal) (m ((c.tc : Thread nD τ).loc main_arg1)) (m ((c.tc : Thread nD τ).loc main_arg3)) (m ((c.tc : Thread nD τ).loc main_arg4)) := by
  refine (dats m 0 c).arrAt_eq_of_covers 7 _ (by decide +kernel) fun t hf y => ?_
  have hN : t.val < 8 := lt8 t
  obtain ⟨h0, h1, h2, h3, h4, h5, h6, h7, h8⟩ := idx t
  idx_vars y
  have he : ((cfg0.win 7).blk t).view.emb (ix2 y0 y1) = (ix2 (⟨128 * t.val + y0.val, by omega⟩ : Fin 1024) y1 : S1024x576.Idx) := by
    blk_ext [h7]
  have e1 := read1 m c t y0 ⟨128 * t.val + y0.val, by omega⟩ rfl y1
  have e3 := read3 m c t y0 ⟨128 * t.val + y0.val, by omega⟩ rfl y1
  have e4 := read4 m c t y0 ⟨128 * t.val + y0.val, by omega⟩ rfl y1
  blk_simp
  rw [after0_7, he]
  frame_out
  unfold val_main_v5 val_main_v4 val_main_v3 val_main_v2 val_main_v1 val_main_v0 val_main_cst val_main_cst_0
  pointwise [out0_7, k0_pay2, k0_pay1]
  rw [e1, e3, e4]

set_option maxHeartbeats 1000000 in
/-- The second moments that the kernel leaves: the reference's. -/
theorem out8 (c : Dev nD) : (dats m 0 c).arrAt 8 (cfgs 0).N = val_main_v11 (F := Ideal) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  have hN : t.val < 8 := lt8 t
  obtain ⟨h0, h1, h2, h3, h4, h5, h6, h7, h8⟩ := idx t
  idx_vars y
  have he : ((cfg0.win 8).blk t).view.emb (ix2 y0 y1) = (ix2 (⟨128 * t.val + y0.val, by omega⟩ : Fin 1024) y1 : S1024x576.Idx) := by
    blk_ext [h8]
  have e2 := read2 m c t y0 ⟨128 * t.val + y0.val, by omega⟩ rfl y1
  have e3 := read3 m c t y0 ⟨128 * t.val + y0.val, by omega⟩ rfl y1
  have e4 := read4 m c t y0 ⟨128 * t.val + y0.val, by omega⟩ rfl y1
  blk_simp
  rw [after0_8, he]
  frame_out
  unfold val_main_v11 val_main_v10 val_main_v9 val_main_v8 val_main_v7 val_main_v6 val_main_v0 val_main_cst_1 val_main_cst_2
  pointwise [out0_8, k0_pay3, k0_pay1]
  rw [e2, e3, e4]

end Cert.AttnInAdamWIdeal.Row

end
-- ==== Proof.RecInAdamW.lean ====
/- The optimiser's step of the recurrent layer's input weight: the rows of each output are the reference's, element by element. -/
module

public import proofs.«01_k».proof.Proof.Gen.RecInAdamWIdeal.Value
public import proofs.«01_k».proof.Proof.Gen.RecInAdamWRefIdeal.Read
public import Idealize.ShloMosaic.Lib.Pipeline.ValueKit
public import Idealize.ShloMosaic.Lib.Pointwise

@[expose] public section

set_option maxRecDepth 16384

noncomputable section

namespace Cert.RecInAdamWIdeal.Row

open Cert.RecInAdamWIdeal Cert.RecInAdamWIdeal.Gen
open Idealize.ShloMosaic Idealize.ShloMosaic.TcCoe Idealize.SL.Sem
open Cert.RecInAdamWRefIdeal.Read

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

theorem lt8 (t : Fin cfg0.N) : t.val < 8 := lt_of_lt_of_eq t.isLt (show cfg0.N = 8 from N_0)

/-- The block of the weights, read from the argument. -/
theorem read0 (c : Dev nD) (t : Fin cfg0.N) (i : Fin 128) (n : Fin 1024) (hn : n.val = 128 * t.val + i.val) (k : Fin 1024) :
    iblk m c 0 t (ix2 i k) = (m ((c.tc : Thread nD τ).loc main_arg0)) (ix2 n k) := by
  obtain ⟨h0, h1, h2, h3, h4, h5, h6, h7, h8⟩ := idx t
  blk_ext [iblk, V, h0]

/-- The block of the first moments, read from the argument. -/
theorem read1 (c : Dev nD) (t : Fin cfg0.N) (i : Fin 128) (n : Fin 1024) (hn : n.val = 128 * t.val + i.val) (k : Fin 1024) :
    iblk m c 1 t (ix2 i k) = (m ((c.tc : Thread nD τ).loc main_arg1)) (ix2 n k) := by
  obtain ⟨h0, h1, h2, h3, h4, h5, h6, h7, h8⟩ := idx t
  blk_ext [iblk, V, h1]

/-- The block of the second moments, read from the argument. -/
theorem read2 (c : Dev nD) (t : Fin cfg0.N) (i : Fin 128) (n : Fin 1024) (hn : n.val = 128 * t.val + i.val) (k : Fin 1024) :
    iblk m c 2 t (ix2 i k) = (m ((c.tc : Thread nD τ).loc main_arg2)) (ix2 n k) := by
  obtain ⟨h0, h1, h2, h3, h4, h5, h6, h7, h8⟩ := idx t
  blk_ext [iblk, V, h2]

/-- The block of the device's own gradients, read from the argument. -/
theorem read3 (c : Dev nD) (t : Fin cfg0.N) (i : Fin 128) (n : Fin 1024) (hn : n.val = 128 * t.val + i.val) (k : Fin 1024) :
    iblk m c 3 t (ix2 i k) = (m ((c.tc : Thread nD τ).loc main_arg3)) (ix2 n k) := by
  obtain ⟨h0, h1, h2, h3, h4, h5, h6, h7, h8⟩ := idx t
  blk_ext [iblk, V, h3]

/-- The block of the sibling's gradients, read from the argument. -/
theorem read4 (c : Dev nD) (t : Fin cfg0.N) (i : Fin 128) (n : Fin 1024) (hn : n.val = 128 * t.val + i.val) (k : Fin 1024) :
    iblk m c 4 t (ix2 i k) = (m ((c.tc : Thread nD τ).loc main_arg4)) (ix2 n k) := by
  obtain ⟨h0, h1, h2, h3, h4, h5, h6, h7, h8⟩ := idx t
  blk_ext [iblk, V, h4]

set_option maxHeartbeats 1000000 in
/-- The summed gradient that the kernel leaves: the reference's. -/
theorem out5 (c : Dev nD) : (dats m 0 c).arrAt 5 (cfgs 0).N = val_main_v0 (F := Ideal) (m ((c.tc : Thread nD τ).loc main_arg3)) (m ((c.tc : Thread nD τ).loc main_arg4)) := by
  refine (dats m 0 c).arrAt_eq_of_covers 5 _ (by decide +kernel) fun t hf y => ?_
  have hN : t.val < 8 := lt8 t
  obtain ⟨h0, h1, h2, h3, h4, h5, h6, h7, h8⟩ := idx t
  idx_vars y
  have he : ((cfg0.win 5).blk t).view.emb (ix2 y0 y1) = (ix2 (⟨128 * t.val + y0.val, by omega⟩ : Fin 1024) y1 : S1024x1024.Idx) := by
    blk_ext [h5]
  have e3 := read3 m c t y0 ⟨128 * t.val + y0.val, by omega⟩ rfl y1
  have e4 := read4 m c t y0 ⟨128 * t.val + y0.val, by omega⟩ rfl y1
  blk_simp
  rw [after0_5, he]
  frame_out
  unfold val_main_v0
  pointwise [out0_5, k0_pay1]
  rw [e3, e4]

set_option maxHeartbeats 1000000 in
/-- The change of the weights that the kernel leaves: the reference's. -/
theorem out6 (c : Dev nD) : (dats m 0 c).arrAt 6 (cfgs 0).N = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have hN : t.val < 8 := lt8 t
  obtain ⟨h0, h1, h2, h3, h4, h5, h6, h7, h8⟩ := idx t
  idx_vars y
  have he : ((cfg0.win 6).blk t).view.emb (ix2 y0 y1) = (ix2 (⟨128 * t.val + y0.val, by omega⟩ : Fin 1024) y1 : S1024x1024.Idx) := by
    blk_ext [h6]
  have e0 := read0 m c t y0 ⟨128 * t.val + y0.val, by omega⟩ rfl y1
  have e1 := read1 m c t y0 ⟨128 * t.val + y0.val, by omega⟩ rfl y1
  have e2 := read2 m c t y0 ⟨128 * t.val + y0.val, by omega⟩ rfl y1
  have e3 := read3 m c t y0 ⟨128 * t.val + y0.val, by omega⟩ rfl y1
  have e4 := read4 m c t y0 ⟨128 * t.val + y0.val, by omega⟩ rfl y1
  blk_simp
  rw [after0_6, he]
  frame_out
  unfold val_main_v24 val_main_v23 val_main_v22 val_main_v21 val_main_v20 val_main_v19 val_main_v18 val_main_v17 val_main_v16 val_main_v15 val_main_v14 val_main_v13 val_main_v12 val_main_cst_3 val_main_cst_4 val_main_cst_5 val_main_cst_6 val_main_cst_7 val_main_v5 val_main_v4 val_main_v3 val_main_v2 val_main_v1 val_main_cst val_main_cst_0 val_main_v11 val_main_v10 val_main_v9 val_main_v8 val_main_v7 val_main_v6 val_main_cst_1 val_main_cst_2 val_main_v0
  pointwise [out0_6, k0_pay4, k0_pay3, k0_pay2, k0_pay1]
  rw [e0, e1, e2, e3, e4]

set_option maxHeartbeats 1000000 in
/-- The first moments that the kernel leaves: the reference's. -/
theorem out7 (c : Dev nD) : (dats m 0 c).arrAt 7 (cfgs 0).N = val_main_v5 (F := Ideal) (m ((c.tc : Thread nD τ).loc main_arg1)) (m ((c.tc : Thread nD τ).loc main_arg3)) (m ((c.tc : Thread nD τ).loc main_arg4)) := by
  refine (dats m 0 c).arrAt_eq_of_covers 7 _ (by decide +kernel) fun t hf y => ?_
  have hN : t.val < 8 := lt8 t
  obtain ⟨h0, h1, h2, h3, h4, h5, h6, h7, h8⟩ := idx t
  idx_vars y
  have he : ((cfg0.win 7).blk t).view.emb (ix2 y0 y1) = (ix2 (⟨128 * t.val + y0.val, by omega⟩ : Fin 1024) y1 : S1024x1024.Idx) := by
    blk_ext [h7]
  have e1 := read1 m c t y0 ⟨128 * t.val + y0.val, by omega⟩ rfl y1
  have e3 := read3 m c t y0 ⟨128 * t.val + y0.val, by omega⟩ rfl y1
  have e4 := read4 m c t y0 ⟨128 * t.val + y0.val, by omega⟩ rfl y1
  blk_simp
  rw [after0_7, he]
  frame_out
  unfold val_main_v5 val_main_v4 val_main_v3 val_main_v2 val_main_v1 val_main_v0 val_main_cst val_main_cst_0
  pointwise [out0_7, k0_pay2, k0_pay1]
  rw [e1, e3, e4]

set_option maxHeartbeats 1000000 in
/-- The second moments that the kernel leaves: the reference's. -/
theorem out8 (c : Dev nD) : (dats m 0 c).arrAt 8 (cfgs 0).N = val_main_v11 (F := Ideal) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  have hN : t.val < 8 := lt8 t
  obtain ⟨h0, h1, h2, h3, h4, h5, h6, h7, h8⟩ := idx t
  idx_vars y
  have he : ((cfg0.win 8).blk t).view.emb (ix2 y0 y1) = (ix2 (⟨128 * t.val + y0.val, by omega⟩ : Fin 1024) y1 : S1024x1024.Idx) := by
    blk_ext [h8]
  have e2 := read2 m c t y0 ⟨128 * t.val + y0.val, by omega⟩ rfl y1
  have e3 := read3 m c t y0 ⟨128 * t.val + y0.val, by omega⟩ rfl y1
  have e4 := read4 m c t y0 ⟨128 * t.val + y0.val, by omega⟩ rfl y1
  blk_simp
  rw [after0_8, he]
  frame_out
  unfold val_main_v11 val_main_v10 val_main_v9 val_main_v8 val_main_v7 val_main_v6 val_main_v0 val_main_cst_1 val_main_cst_2
  pointwise [out0_8, k0_pay3, k0_pay1]
  rw [e2, e3, e4]

end Cert.RecInAdamWIdeal.Row

end
-- ==== Proof.OutAdamW.lean ====
/- The optimiser's step of the output weights: the rows of each output are the reference's, element by element. -/
module

public import proofs.«01_k».proof.Proof.Gen.OutAdamWIdeal.Value
public import proofs.«01_k».proof.Proof.Gen.OutAdamWRefIdeal.Read
public import Idealize.ShloMosaic.Lib.Pipeline.ValueKit
public import Idealize.ShloMosaic.Lib.Pointwise

@[expose] public section

set_option maxRecDepth 16384

noncomputable section

namespace Cert.OutAdamWIdeal.Row

open Cert.OutAdamWIdeal Cert.OutAdamWIdeal.Gen
open Idealize.ShloMosaic Idealize.ShloMosaic.TcCoe Idealize.SL.Sem
open Cert.OutAdamWRefIdeal.Read

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

theorem lt8 (t : Fin cfg0.N) : t.val < 8 := lt_of_lt_of_eq t.isLt (show cfg0.N = 8 from N_0)

/-- The block of the weights, read from the argument. -/
theorem read0 (c : Dev nD) (t : Fin cfg0.N) (i : Fin 32) (n : Fin 256) (hn : n.val = 32 * t.val + i.val) (k : Fin 1024) :
    iblk m c 0 t (ix2 i k) = (m ((c.tc : Thread nD τ).loc main_arg0)) (ix2 n k) := by
  obtain ⟨h0, h1, h2, h3, h4, h5, h6, h7, h8⟩ := idx t
  blk_ext [iblk, V, h0]

/-- The block of the first moments, read from the argument. -/
theorem read1 (c : Dev nD) (t : Fin cfg0.N) (i : Fin 32) (n : Fin 256) (hn : n.val = 32 * t.val + i.val) (k : Fin 1024) :
    iblk m c 1 t (ix2 i k) = (m ((c.tc : Thread nD τ).loc main_arg1)) (ix2 n k) := by
  obtain ⟨h0, h1, h2, h3, h4, h5, h6, h7, h8⟩ := idx t
  blk_ext [iblk, V, h1]

/-- The block of the second moments, read from the argument. -/
theorem read2 (c : Dev nD) (t : Fin cfg0.N) (i : Fin 32) (n : Fin 256) (hn : n.val = 32 * t.val + i.val) (k : Fin 1024) :
    iblk m c 2 t (ix2 i k) = (m ((c.tc : Thread nD τ).loc main_arg2)) (ix2 n k) := by
  obtain ⟨h0, h1, h2, h3, h4, h5, h6, h7, h8⟩ := idx t
  blk_ext [iblk, V, h2]

/-- The block of the device's own gradients, read from the argument. -/
theorem read3 (c : Dev nD) (t : Fin cfg0.N) (i : Fin 32) (n : Fin 256) (hn : n.val = 32 * t.val + i.val) (k : Fin 1024) :
    iblk m c 3 t (ix2 i k) = (m ((c.tc : Thread nD τ).loc main_arg3)) (ix2 n k) := by
  obtain ⟨h0, h1, h2, h3, h4, h5, h6, h7, h8⟩ := idx t
  blk_ext [iblk, V, h3]

/-- The block of the sibling's gradients, read from the argument. -/
theorem read4 (c : Dev nD) (t : Fin cfg0.N) (i : Fin 32) (n : Fin 256) (hn : n.val = 32 * t.val + i.val) (k : Fin 1024) :
    iblk m c 4 t (ix2 i k) = (m ((c.tc : Thread nD τ).loc main_arg4)) (ix2 n k) := by
  obtain ⟨h0, h1, h2, h3, h4, h5, h6, h7, h8⟩ := idx t
  blk_ext [iblk, V, h4]

set_option maxHeartbeats 1000000 in
/-- The summed gradient that the kernel leaves: the reference's. -/
theorem out5 (c : Dev nD) : (dats m 0 c).arrAt 5 (cfgs 0).N = val_main_v0 (F := Ideal) (m ((c.tc : Thread nD τ).loc main_arg3)) (m ((c.tc : Thread nD τ).loc main_arg4)) := by
  refine (dats m 0 c).arrAt_eq_of_covers 5 _ (by decide +kernel) fun t hf y => ?_
  have hN : t.val < 8 := lt8 t
  obtain ⟨h0, h1, h2, h3, h4, h5, h6, h7, h8⟩ := idx t
  idx_vars y
  have he : ((cfg0.win 5).blk t).view.emb (ix2 y0 y1) = (ix2 (⟨32 * t.val + y0.val, by omega⟩ : Fin 256) y1 : S256x1024.Idx) := by
    blk_ext [h5]
  have e3 := read3 m c t y0 ⟨32 * t.val + y0.val, by omega⟩ rfl y1
  have e4 := read4 m c t y0 ⟨32 * t.val + y0.val, by omega⟩ rfl y1
  blk_simp
  rw [after0_5, he]
  frame_out
  unfold val_main_v0
  pointwise [out0_5, k0_pay1]
  rw [e3, e4]

set_option maxHeartbeats 1000000 in
/-- The change of the weights that the kernel leaves: the reference's. -/
theorem out6 (c : Dev nD) : (dats m 0 c).arrAt 6 (cfgs 0).N = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have hN : t.val < 8 := lt8 t
  obtain ⟨h0, h1, h2, h3, h4, h5, h6, h7, h8⟩ := idx t
  idx_vars y
  have he : ((cfg0.win 6).blk t).view.emb (ix2 y0 y1) = (ix2 (⟨32 * t.val + y0.val, by omega⟩ : Fin 256) y1 : S256x1024.Idx) := by
    blk_ext [h6]
  have e0 := read0 m c t y0 ⟨32 * t.val + y0.val, by omega⟩ rfl y1
  have e1 := read1 m c t y0 ⟨32 * t.val + y0.val, by omega⟩ rfl y1
  have e2 := read2 m c t y0 ⟨32 * t.val + y0.val, by omega⟩ rfl y1
  have e3 := read3 m c t y0 ⟨32 * t.val + y0.val, by omega⟩ rfl y1
  have e4 := read4 m c t y0 ⟨32 * t.val + y0.val, by omega⟩ rfl y1
  blk_simp
  rw [after0_6, he]
  frame_out
  unfold val_main_v24 val_main_v23 val_main_v22 val_main_v21 val_main_v20 val_main_v19 val_main_v18 val_main_v17 val_main_v16 val_main_v15 val_main_v14 val_main_v13 val_main_v12 val_main_cst_3 val_main_cst_4 val_main_cst_5 val_main_cst_6 val_main_cst_7 val_main_v5 val_main_v4 val_main_v3 val_main_v2 val_main_v1 val_main_cst val_main_cst_0 val_main_v11 val_main_v10 val_main_v9 val_main_v8 val_main_v7 val_main_v6 val_main_cst_1 val_main_cst_2 val_main_v0
  pointwise [out0_6, k0_pay4, k0_pay3, k0_pay2, k0_pay1]
  rw [e0, e1, e2, e3, e4]

set_option maxHeartbeats 1000000 in
/-- The first moments that the kernel leaves: the reference's. -/
theorem out7 (c : Dev nD) : (dats m 0 c).arrAt 7 (cfgs 0).N = val_main_v5 (F := Ideal) (m ((c.tc : Thread nD τ).loc main_arg1)) (m ((c.tc : Thread nD τ).loc main_arg3)) (m ((c.tc : Thread nD τ).loc main_arg4)) := by
  refine (dats m 0 c).arrAt_eq_of_covers 7 _ (by decide +kernel) fun t hf y => ?_
  have hN : t.val < 8 := lt8 t
  obtain ⟨h0, h1, h2, h3, h4, h5, h6, h7, h8⟩ := idx t
  idx_vars y
  have he : ((cfg0.win 7).blk t).view.emb (ix2 y0 y1) = (ix2 (⟨32 * t.val + y0.val, by omega⟩ : Fin 256) y1 : S256x1024.Idx) := by
    blk_ext [h7]
  have e1 := read1 m c t y0 ⟨32 * t.val + y0.val, by omega⟩ rfl y1
  have e3 := read3 m c t y0 ⟨32 * t.val + y0.val, by omega⟩ rfl y1
  have e4 := read4 m c t y0 ⟨32 * t.val + y0.val, by omega⟩ rfl y1
  blk_simp
  rw [after0_7, he]
  frame_out
  unfold val_main_v5 val_main_v4 val_main_v3 val_main_v2 val_main_v1 val_main_v0 val_main_cst val_main_cst_0
  pointwise [out0_7, k0_pay2, k0_pay1]
  rw [e1, e3, e4]

set_option maxHeartbeats 1000000 in
/-- The second moments that the kernel leaves: the reference's. -/
theorem out8 (c : Dev nD) : (dats m 0 c).arrAt 8 (cfgs 0).N = val_main_v11 (F := Ideal) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  have hN : t.val < 8 := lt8 t
  obtain ⟨h0, h1, h2, h3, h4, h5, h6, h7, h8⟩ := idx t
  idx_vars y
  have he : ((cfg0.win 8).blk t).view.emb (ix2 y0 y1) = (ix2 (⟨32 * t.val + y0.val, by omega⟩ : Fin 256) y1 : S256x1024.Idx) := by
    blk_ext [h8]
  have e2 := read2 m c t y0 ⟨32 * t.val + y0.val, by omega⟩ rfl y1
  have e3 := read3 m c t y0 ⟨32 * t.val + y0.val, by omega⟩ rfl y1
  have e4 := read4 m c t y0 ⟨32 * t.val + y0.val, by omega⟩ rfl y1
  blk_simp
  rw [after0_8, he]
  frame_out
  unfold val_main_v11 val_main_v10 val_main_v9 val_main_v8 val_main_v7 val_main_v6 val_main_v0 val_main_cst_1 val_main_cst_2
  pointwise [out0_8, k0_pay3, k0_pay1]
  rw [e2, e3, e4]

end Cert.OutAdamWIdeal.Row

end
-- ==== Proof.lean ====
module

public import proofs.«01_k».proof.Defs
public import proofs.«01_k».proof.Proof.InDxCol
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDxIdeal.Value
public import proofs.«01_k».proof.Proof.Gen.InDxRefIdeal.Run
public import proofs.«01_k».proof.Proof.Gen.InDxRefIdeal.Read
public import proofs.«01_k».proof.Proof.AttnBits
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.AttnDxCol
public import proofs.«01_k».proof.Proof.Gen.AttnDx
public import proofs.«01_k».proof.Proof.Gen.AttnDx.Skeleton
public import proofs.«01_k».proof.Proof.Gen.AttnDx.Launch
public import proofs.«01_k».proof.Proof.Gen.AttnDx.Points
public import proofs.«01_k».proof.Proof.Gen.AttnDx.Frame
public import proofs.«01_k».proof.Proof.Gen.AttnDxIdeal
public import proofs.«01_k».proof.Proof.Gen.AttnDxIdeal.Skeleton
public import proofs.«01_k».proof.Proof.Gen.AttnDxIdeal.Launch
public import proofs.«01_k».proof.Proof.Gen.AttnDxIdeal.Points
public import proofs.«01_k».proof.Proof.Gen.AttnDxIdeal.Frame
public import proofs.«01_k».proof.Proof.Gen.AttnDxRefIdeal
public import proofs.«01_k».proof.Proof.Gen.AttnDxIdeal.Value
public import proofs.«01_k».proof.Proof.Gen.AttnDxRefIdeal.Run
public import proofs.«01_k».proof.Proof.Gen.AttnDxRefIdeal.Read
public import proofs.«01_k».proof.Proof.RecProj
public import proofs.«01_k».proof.Proof.Gen.RecProj
public import proofs.«01_k».proof.Proof.Gen.RecProj.Skeleton
public import proofs.«01_k».proof.Proof.Gen.RecProj.Launch
public import proofs.«01_k».proof.Proof.Gen.RecProj.Points
public import proofs.«01_k».proof.Proof.Gen.RecProj.Frame
public import proofs.«01_k».proof.Proof.Gen.RecProjIdeal
public import proofs.«01_k».proof.Proof.Gen.RecProjIdeal.Skeleton
public import proofs.«01_k».proof.Proof.Gen.RecProjIdeal.Launch
public import proofs.«01_k».proof.Proof.Gen.RecProjIdeal.Points
public import proofs.«01_k».proof.Proof.Gen.RecProjIdeal.Frame
public import proofs.«01_k».proof.Proof.Gen.RecProjRefIdeal
public import proofs.«01_k».proof.Proof.Gen.RecProjIdeal.Value
public import proofs.«01_k».proof.Proof.Gen.RecProjRefIdeal.Run
public import proofs.«01_k».proof.Proof.Gen.RecProjRefIdeal.Read
public import proofs.«01_k».proof.Proof.RecDwOut
public import proofs.«01_k».proof.Proof.Gen.RecDw
public import proofs.«01_k».proof.Proof.Gen.RecDw.Skeleton
public import proofs.«01_k».proof.Proof.Gen.RecDw.Launch
public import proofs.«01_k».proof.Proof.Gen.RecDw.Points
public import proofs.«01_k».proof.Proof.Gen.RecDw.Frame
public import proofs.«01_k».proof.Proof.Gen.RecDwIdeal
public import proofs.«01_k».proof.Proof.Gen.RecDwIdeal.Skeleton
public import proofs.«01_k».proof.Proof.Gen.RecDwIdeal.Launch
public import proofs.«01_k».proof.Proof.Gen.RecDwIdeal.Points
public import proofs.«01_k».proof.Proof.Gen.RecDwIdeal.Frame
public import proofs.«01_k».proof.Proof.Gen.RecDwRefIdeal
public import proofs.«01_k».proof.Proof.Gen.RecDwIdeal.Value
public import proofs.«01_k».proof.Proof.Gen.RecDwRefIdeal.Run
public import proofs.«01_k».proof.Proof.Gen.RecDwRefIdeal.Read
public import proofs.«01_k».proof.Proof.OutLossSum
public import proofs.«01_k».proof.Proof.Gen.OutLoss
public import proofs.«01_k».proof.Proof.Gen.OutLoss.Skeleton
public import proofs.«01_k».proof.Proof.Gen.OutLoss.Launch
public import proofs.«01_k».proof.Proof.Gen.OutLoss.Points
public import proofs.«01_k».proof.Proof.Gen.OutLoss.Frame
public import proofs.«01_k».proof.Proof.Gen.OutLossIdeal
public import proofs.«01_k».proof.Proof.Gen.OutLossIdeal.Skeleton
public import proofs.«01_k».proof.Proof.Gen.OutLossIdeal.Launch
public import proofs.«01_k».proof.Proof.Gen.OutLossIdeal.Points
public import proofs.«01_k».proof.Proof.Gen.OutLossIdeal.Frame
public import proofs.«01_k».proof.Proof.Gen.OutLossRefIdeal
public import proofs.«01_k».proof.Proof.Gen.OutLossIdeal.Value
public import proofs.«01_k».proof.Proof.Gen.OutLossRefIdeal.Run
public import proofs.«01_k».proof.Proof.Gen.OutLossRefIdeal.Read
public import proofs.«01_k».proof.Proof.OutBwdSum
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.OutProj
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.AttnProj
public import proofs.«01_k».proof.Proof.Gen.AttnProj
public import proofs.«01_k».proof.Proof.Gen.AttnProj.Skeleton
public import proofs.«01_k».proof.Proof.Gen.AttnProj.Launch
public import proofs.«01_k».proof.Proof.Gen.AttnProj.Points
public import proofs.«01_k».proof.Proof.Gen.AttnProj.Frame
public import proofs.«01_k».proof.Proof.Gen.AttnProjIdeal
public import proofs.«01_k».proof.Proof.Gen.AttnProjIdeal.Skeleton
public import proofs.«01_k».proof.Proof.Gen.AttnProjIdeal.Launch
public import proofs.«01_k».proof.Proof.Gen.AttnProjIdeal.Points
public import proofs.«01_k».proof.Proof.Gen.AttnProjIdeal.Frame
public import proofs.«01_k».proof.Proof.Gen.AttnProjRefIdeal
public import proofs.«01_k».proof.Proof.Gen.AttnProjIdeal.Value
public import proofs.«01_k».proof.Proof.Gen.AttnProjRefIdeal.Run
public import proofs.«01_k».proof.Proof.Gen.AttnProjRefIdeal.Read
public import proofs.«01_k».proof.Proof.AttnDwOut
public import proofs.«01_k».proof.Proof.Gen.AttnDw
public import proofs.«01_k».proof.Proof.Gen.AttnDw.Skeleton
public import proofs.«01_k».proof.Proof.Gen.AttnDw.Launch
public import proofs.«01_k».proof.Proof.Gen.AttnDw.Points
public import proofs.«01_k».proof.Proof.Gen.AttnDw.Frame
public import proofs.«01_k».proof.Proof.Gen.AttnDwIdeal
public import proofs.«01_k».proof.Proof.Gen.AttnDwIdeal.Skeleton
public import proofs.«01_k».proof.Proof.Gen.AttnDwIdeal.Launch
public import proofs.«01_k».proof.Proof.Gen.AttnDwIdeal.Points
public import proofs.«01_k».proof.Proof.Gen.AttnDwIdeal.Frame
public import proofs.«01_k».proof.Proof.Gen.AttnDwRefIdeal
public import proofs.«01_k».proof.Proof.Gen.AttnDwIdeal.Value
public import proofs.«01_k».proof.Proof.Gen.AttnDwRefIdeal.Run
public import proofs.«01_k».proof.Proof.Gen.AttnDwRefIdeal.Read
public import proofs.«01_k».proof.Proof.SmallAdamW
public import proofs.«01_k».proof.Proof.Gen.SmallAdamW
public import proofs.«01_k».proof.Proof.Gen.SmallAdamW.Skeleton
public import proofs.«01_k».proof.Proof.Gen.SmallAdamW.Launch
public import proofs.«01_k».proof.Proof.Gen.SmallAdamW.Points
public import proofs.«01_k».proof.Proof.Gen.SmallAdamW.Frame
public import proofs.«01_k».proof.Proof.Gen.SmallAdamWIdeal
public import proofs.«01_k».proof.Proof.Gen.SmallAdamWIdeal.Skeleton
public import proofs.«01_k».proof.Proof.Gen.SmallAdamWIdeal.Launch
public import proofs.«01_k».proof.Proof.Gen.SmallAdamWIdeal.Points
public import proofs.«01_k».proof.Proof.Gen.SmallAdamWIdeal.Frame
public import proofs.«01_k».proof.Proof.Gen.SmallAdamWRefIdeal
public import proofs.«01_k».proof.Proof.Gen.SmallAdamWIdeal.Value
public import proofs.«01_k».proof.Proof.Gen.SmallAdamWRefIdeal.Run
public import proofs.«01_k».proof.Proof.Gen.SmallAdamWRefIdeal.Read
public import proofs.«01_k».proof.Proof.AttnInAdamW
public import proofs.«01_k».proof.Proof.Gen.AttnInAdamW
public import proofs.«01_k».proof.Proof.Gen.AttnInAdamW.Skeleton
public import proofs.«01_k».proof.Proof.Gen.AttnInAdamW.Launch
public import proofs.«01_k».proof.Proof.Gen.AttnInAdamW.Points
public import proofs.«01_k».proof.Proof.Gen.AttnInAdamW.Frame
public import proofs.«01_k».proof.Proof.Gen.AttnInAdamWIdeal
public import proofs.«01_k».proof.Proof.Gen.AttnInAdamWIdeal.Skeleton
public import proofs.«01_k».proof.Proof.Gen.AttnInAdamWIdeal.Launch
public import proofs.«01_k».proof.Proof.Gen.AttnInAdamWIdeal.Points
public import proofs.«01_k».proof.Proof.Gen.AttnInAdamWIdeal.Frame
public import proofs.«01_k».proof.Proof.Gen.AttnInAdamWRefIdeal
public import proofs.«01_k».proof.Proof.Gen.AttnInAdamWIdeal.Value
public import proofs.«01_k».proof.Proof.Gen.AttnInAdamWRefIdeal.Run
public import proofs.«01_k».proof.Proof.Gen.AttnInAdamWRefIdeal.Read
public import proofs.«01_k».proof.Proof.RecInAdamW
public import proofs.«01_k».proof.Proof.Gen.RecInAdamW
public import proofs.«01_k».proof.Proof.Gen.RecInAdamW.Skeleton
public import proofs.«01_k».proof.Proof.Gen.RecInAdamW.Launch
public import proofs.«01_k».proof.Proof.Gen.RecInAdamW.Points
public import proofs.«01_k».proof.Proof.Gen.RecInAdamW.Frame
public import proofs.«01_k».proof.Proof.Gen.RecInAdamWIdeal
public import proofs.«01_k».proof.Proof.Gen.RecInAdamWIdeal.Skeleton
public import proofs.«01_k».proof.Proof.Gen.RecInAdamWIdeal.Launch
public import proofs.«01_k».proof.Proof.Gen.RecInAdamWIdeal.Points
public import proofs.«01_k».proof.Proof.Gen.RecInAdamWIdeal.Frame
public import proofs.«01_k».proof.Proof.Gen.RecInAdamWRefIdeal
public import proofs.«01_k».proof.Proof.Gen.RecInAdamWIdeal.Value
public import proofs.«01_k».proof.Proof.Gen.RecInAdamWRefIdeal.Run
public import proofs.«01_k».proof.Proof.Gen.RecInAdamWRefIdeal.Read
public import proofs.«01_k».proof.Proof.OutAdamW
public import proofs.«01_k».proof.Proof.Gen.OutAdamW
public import proofs.«01_k».proof.Proof.Gen.OutAdamW.Skeleton
public import proofs.«01_k».proof.Proof.Gen.OutAdamW.Launch
public import proofs.«01_k».proof.Proof.Gen.OutAdamW.Points
public import proofs.«01_k».proof.Proof.Gen.OutAdamW.Frame
public import proofs.«01_k».proof.Proof.Gen.OutAdamWIdeal
public import proofs.«01_k».proof.Proof.Gen.OutAdamWIdeal.Skeleton
public import proofs.«01_k».proof.Proof.Gen.OutAdamWIdeal.Launch
public import proofs.«01_k».proof.Proof.Gen.OutAdamWIdeal.Points
public import proofs.«01_k».proof.Proof.Gen.OutAdamWIdeal.Frame
public import proofs.«01_k».proof.Proof.Gen.OutAdamWRefIdeal
public import proofs.«01_k».proof.Proof.Gen.OutAdamWIdeal.Value
public import proofs.«01_k».proof.Proof.Gen.OutAdamWRefIdeal.Run
public import proofs.«01_k».proof.Proof.Gen.OutAdamWRefIdeal.Read
public import Idealize.ShloMosaic.Adequacy
public import Idealize.ShloMosaic.Init

@[expose] public section

noncomputable section

namespace Cert.Proof

open Idealize.ShloMosaic Idealize.SL.Sem Cert.InDx

/-- The recurrent layer's input gradients: the reference's run keeps its arguments; it has no semaphore. -/
theorem in_dx_ref : Cert.quiescent_InDxRefIdeal := fun m ρ _ =>
  (θ_run Cert.InDxRefIdeal.defs _ _).mono (fun _ h => ⟨fun c => (h c).2.2, sem_eq_zero_of_no_sems (by decide) _⟩)
    (Cert.InDxRefIdeal.Value.run (F := Ideal) m ρ)

/-- The recurrent layer's input gradients: what the kernel leaves is what the reference leaves. -/
theorem in_dx : Cert.algebraic_InDxIdeal_InDxRefIdeal := fun m ρ m' ρ' _ hE => by
  refine ⟨fun c => (Cert.InDxIdeal.Gen.dats m 0 c).arrAt 5 Cert.InDxIdeal.cfg0.N, fun c => (Cert.InDxIdeal.Gen.dats m 0 c).arrAt 6 Cert.InDxIdeal.cfg0.N,
    Cert.InDxIdeal.Value.run_blocks m ρ, ?_⟩
  refine (θ_run Cert.InDxRefIdeal.defs _ _).mono (fun r h c => ?_) (Cert.InDxRefIdeal.Value.run (F := Ideal) m' ρ')
  obtain ⟨e0, e1, e2, e3, e4⟩ := hE c
  refine ⟨(h c).1.trans ?_, (h c).2.1.trans ?_, (h c).2.2⟩
  · rw [Cert.InDxRefIdeal.Read.val_main_v40_eq, e0, e1, e2, e3, e4]
    exact (Cert.InDxIdeal.Row.out5 m c).symm
  · rw [Cert.InDxRefIdeal.Read.val_main_v41_eq, e0, e1, e2]
    exact (Cert.InDxIdeal.Row.out6 m c).symm

/-- The attention layer's input gradients: the reference's run keeps its arguments; it has no semaphore. -/
theorem attn_dx_ref : Cert.quiescent_AttnDxRefIdeal := fun m ρ _ =>
  (θ_run Cert.AttnDxRefIdeal.defs _ _).mono (fun _ h => ⟨fun c => (h c).2.2, sem_eq_zero_of_no_sems (by decide) _⟩)
    (Cert.AttnDxRefIdeal.Value.run (F := Ideal) m ρ)

/-- The attention layer's input gradients: what the kernel leaves is what the reference leaves. -/
theorem attn_dx : Cert.algebraic_AttnDxIdeal_AttnDxRefIdeal := fun m ρ m' ρ' _ hE => by
  refine ⟨fun c => (Cert.AttnDxIdeal.Gen.dats m 0 c).arrAt 5 Cert.AttnDxIdeal.cfg0.N, fun c => (Cert.AttnDxIdeal.Gen.dats m 0 c).arrAt 6 Cert.AttnDxIdeal.cfg0.N,
    Cert.AttnDxIdeal.Value.run_blocks m ρ, ?_⟩
  refine (θ_run Cert.AttnDxRefIdeal.defs _ _).mono (fun r h c => ?_) (Cert.AttnDxRefIdeal.Value.run (F := Ideal) m' ρ')
  obtain ⟨e0, e1, e2, e3, e4⟩ := hE c
  refine ⟨(h c).1.trans ?_, (h c).2.1.trans ?_, (h c).2.2⟩
  · rw [Cert.AttnDxRefIdeal.Read.val_main_v40_eq, e0, e1, e2, e3, e4]
    exact (Cert.AttnDxIdeal.Row.out5 m c).symm
  · rw [Cert.AttnDxRefIdeal.Read.val_main_v41_eq, e0, e1, e2]
    exact (Cert.AttnDxIdeal.Row.out6 m c).symm

/-- The recurrent layer's norm and projection: the reference's run keeps its arguments; it has no semaphore. -/
theorem rec_proj_ref : Cert.quiescent_RecProjRefIdeal := fun m ρ _ =>
  (θ_run Cert.RecProjRefIdeal.defs _ _).mono (fun _ h => ⟨fun c => (h c).2.2, sem_eq_zero_of_no_sems (by decide) _⟩)
    (Cert.RecProjRefIdeal.Value.run (F := Ideal) m ρ)

/-- The recurrent layer's norm and projection: what the kernel leaves is what the reference leaves. -/
theorem rec_proj : Cert.algebraic_RecProjIdeal_RecProjRefIdeal := fun m ρ m' ρ' _ hE => by
  refine ⟨fun c => (Cert.RecProjIdeal.Gen.dats m 0 c).arrAt 3 Cert.RecProjIdeal.cfg0.N, fun c => (Cert.RecProjIdeal.Gen.dats m 0 c).arrAt 4 Cert.RecProjIdeal.cfg0.N,
    Cert.RecProjIdeal.Value.run_blocks m ρ, ?_⟩
  refine (θ_run Cert.RecProjRefIdeal.defs _ _).mono (fun r h c => ?_) (Cert.RecProjRefIdeal.Value.run (F := Ideal) m' ρ')
  obtain ⟨e0, e1, e2⟩ := hE c
  refine ⟨(h c).1.trans ?_, (h c).2.1.trans ?_, (h c).2.2⟩
  · rw [Cert.RecProjRefIdeal.Read.val_main_v14_eq, e0, e1]
    exact (Cert.RecProjIdeal.Row.out3 m c).symm
  · rw [Cert.RecProjRefIdeal.Read.val_main_v15_eq, e0, e1, e2]
    exact (Cert.RecProjIdeal.Row.out4 m c).symm

/-- The gradient of the recurrent layer's projection weight: the reference's run keeps its arguments; it has no semaphore. -/
theorem rec_dw_ref : Cert.quiescent_RecDwRefIdeal := fun m ρ _ =>
  (θ_run Cert.RecDwRefIdeal.defs _ _).mono (fun _ h => ⟨fun c => (h c).2, sem_eq_zero_of_no_sems (by decide) _⟩)
    (Cert.RecDwRefIdeal.Value.run (F := Ideal) m ρ)

/-- The gradient of the recurrent layer's projection weight: what the kernel copies out is what the reference leaves. -/
theorem rec_dw : Cert.algebraic_RecDwIdeal_RecDwRefIdeal := fun m ρ m' ρ' _ hE => by
  refine ⟨fun c => (Cert.RecDwIdeal.Gen.outsAt0 m c Cert.RecDwIdeal.Gen.t0_7.val Cert.RecDwIdeal.Gen.t0_7.isLt).2.2,
    (θ_run Cert.RecDwIdeal.defs _ _).mono (fun r h c => ⟨(h c).2.2.2.2, (h c).2.1, (h c).2.2.1, (h c).2.2.2.1⟩) (Cert.RecDwIdeal.Value.run_blocks m ρ), ?_⟩
  refine (θ_run Cert.RecDwRefIdeal.defs _ _).mono (fun r h c => ?_) (Cert.RecDwRefIdeal.Value.run (F := Ideal) m' ρ')
  obtain ⟨e0, e1, e2⟩ := hE c
  refine ⟨(h c).1.trans ?_, (h c).2⟩
  rw [Cert.RecDwRefIdeal.Read.val_main_v18_eq, e0, e1, e2]
  exact (Cert.RecDwIdeal.Row.out m c).symm

/-- The loss and its gradients: the reference's run keeps its arguments; it has no semaphore. -/
theorem out_loss_ref : Cert.quiescent_OutLossRefIdeal := fun m ρ _ =>
  (θ_run Cert.OutLossRefIdeal.defs _ _).mono (fun _ h => ⟨fun c => (h c).2.2.2.2.2.2, sem_eq_zero_of_no_sems (by decide) _⟩)
    (Cert.OutLossRefIdeal.Value.run (F := Ideal) m ρ)

/-- The loss and its gradients: what the kernel leaves is what the reference leaves. -/
theorem out_loss : Cert.algebraic_OutLossIdeal_OutLossRefIdeal := fun m ρ m' ρ' _ hE => by
  refine ⟨fun c => (Cert.OutLossIdeal.Gen.dats m 0 c).arrAt 5 Cert.OutLossIdeal.cfg0.N, fun c => (Cert.OutLossIdeal.Gen.dats m 0 c).arrAt 6 Cert.OutLossIdeal.cfg0.N, fun c => (Cert.OutLossIdeal.Gen.dats m 0 c).arrAt 7 Cert.OutLossIdeal.cfg0.N, fun c => (Cert.OutLossIdeal.Gen.dats m 0 c).arrAt 8 Cert.OutLossIdeal.cfg0.N, fun c => (Cert.OutLossIdeal.Gen.dats m 0 c).arrAt 9 Cert.OutLossIdeal.cfg0.N, fun c => (Cert.OutLossIdeal.Gen.dats m 0 c).arrAt 10 Cert.OutLossIdeal.cfg0.N,
    Cert.OutLossIdeal.Value.run_blocks m ρ, ?_⟩
  refine (θ_run Cert.OutLossRefIdeal.defs _ _).mono (fun r h c => ?_) (Cert.OutLossRefIdeal.Value.run (F := Ideal) m' ρ')
  obtain ⟨e0, e1, e2, e3, e4⟩ := hE c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.OutLossRefIdeal.Read.val_main_v34_eq, e0, e1, e2, e3, e4]
    exact (Cert.OutLossIdeal.Row.out5 m c).symm
  · rw [Cert.OutLossRefIdeal.Read.val_main_v60_eq, e0, e1, e2, e3, e4]
    exact (Cert.OutLossIdeal.Row.out6 m c).symm
  · rw [Cert.OutLossRefIdeal.Read.val_main_v61_eq, e0, e1, e2, e3, e4]
    exact (Cert.OutLossIdeal.Row.out7 m c).symm
  · rw [Cert.OutLossRefIdeal.Read.val_main_v57_eq, e0, e1, e2, e3, e4]
    exact (Cert.OutLossIdeal.Row.out8 m c).symm
  · rw [Cert.OutLossRefIdeal.Read.val_main_v55_eq, e0, e1, e2, e3, e4]
    exact (Cert.OutLossIdeal.Row.out9 m c).symm
  · rw [Cert.OutLossRefIdeal.Read.val_main_v62_eq, e0, e1, e2, e3, e4]
    exact (Cert.OutLossIdeal.Row.out10 m c).symm

/-- The output projection's gradients: the reference's run keeps its arguments; it has no semaphore. -/
theorem out_bwd_ref : Cert.quiescent_OutBwdRefIdeal := fun m ρ _ =>
  (θ_run Cert.OutBwdRefIdeal.defs _ _).mono (fun _ h => ⟨fun c => (h c).2.2.2.2.2, sem_eq_zero_of_no_sems (by decide) _⟩)
    (Cert.OutBwdRefIdeal.Value.run (F := Ideal) m ρ)

/-- The output projection's gradients: what the kernel leaves is what the reference leaves. -/
theorem out_bwd : Cert.algebraic_OutBwdIdeal_OutBwdRefIdeal := fun m ρ m' ρ' _ hE => by
  refine ⟨fun c => (Cert.OutBwdIdeal.Gen.dats m 0 c).arrAt 5 Cert.OutBwdIdeal.cfg0.N, fun c => (Cert.OutBwdIdeal.Gen.dats m 0 c).arrAt 6 Cert.OutBwdIdeal.cfg0.N, fun c => (Cert.OutBwdIdeal.Gen.dats m 0 c).arrAt 7 Cert.OutBwdIdeal.cfg0.N, fun c => (Cert.OutBwdIdeal.Gen.dats m 0 c).arrAt 8 Cert.OutBwdIdeal.cfg0.N, fun c => (Cert.OutBwdIdeal.Gen.dats m 0 c).arrAt 9 Cert.OutBwdIdeal.cfg0.N,
    Cert.OutBwdIdeal.Value.run_blocks m ρ, ?_⟩
  refine (θ_run Cert.OutBwdRefIdeal.defs _ _).mono (fun r h c => ?_) (Cert.OutBwdRefIdeal.Value.run (F := Ideal) m' ρ')
  obtain ⟨e0, e1, e2, e3, e4⟩ := hE c
  refine ⟨(h c).1.trans ?_, (h c).2.1.trans ?_, (h c).2.2.1.trans ?_, (h c).2.2.2.1.trans ?_, (h c).2.2.2.2.1.trans ?_, (h c).2.2.2.2.2⟩
  · rw [Cert.OutBwdRefIdeal.Read.val_main_v51_eq, e0, e1, e2, e3, e4]
    exact (Cert.OutBwdIdeal.Row.out5 m c).symm
  · rw [Cert.OutBwdRefIdeal.Read.val_main_v49_eq, e0, e1, e2, e3, e4]
    exact (Cert.OutBwdIdeal.Row.out6 m c).symm
  · rw [Cert.OutBwdRefIdeal.Read.val_main_v47_eq, e0, e1, e2, e3, e4]
    exact (Cert.OutBwdIdeal.Row.out7 m c).symm
  · rw [Cert.OutBwdRefIdeal.Read.val_main_v43_eq, e0, e1, e2, e3]
    exact (Cert.OutBwdIdeal.Row.out8 m c).symm
  · rw [Cert.OutBwdRefIdeal.Read.val_main_v52_eq, e0, e1, e2, e3, e4]
    exact (Cert.OutBwdIdeal.Row.out9 m c).symm

/-- The output projection and the residual: the reference's run keeps its arguments; it has no semaphore. -/
theorem out_proj_ref : Cert.quiescent_OutProjRefIdeal := fun m ρ _ =>
  (θ_run Cert.OutProjRefIdeal.defs _ _).mono (fun _ h => ⟨fun c => (h c).2.2, sem_eq_zero_of_no_sems (by decide) _⟩)
    (Cert.OutProjRefIdeal.Value.run (F := Ideal) m ρ)

/-- The output projection and the residual: what the kernel leaves is what the reference leaves. -/
theorem out_proj : Cert.algebraic_OutProjIdeal_OutProjRefIdeal := fun m ρ m' ρ' _ hE => by
  refine ⟨fun c => (Cert.OutProjIdeal.Gen.dats m 0 c).arrAt 5 Cert.OutProjIdeal.cfg0.N, fun c => (Cert.OutProjIdeal.Gen.dats m 0 c).arrAt 6 Cert.OutProjIdeal.cfg0.N,
    Cert.OutProjIdeal.Value.run_blocks m ρ, ?_⟩
  refine (θ_run Cert.OutProjRefIdeal.defs _ _).mono (fun r h c => ?_) (Cert.OutProjRefIdeal.Value.run (F := Ideal) m' ρ')
  obtain ⟨e0, e1, e2, e3, e4⟩ := hE c
  refine ⟨(h c).1.trans ?_, (h c).2.1.trans ?_, (h c).2.2⟩
  · rw [Cert.OutProjRefIdeal.Read.val_main_v6_eq, e0, e1, e2]
    exact (Cert.OutProjIdeal.Row.out5 m c).symm
  · rw [Cert.OutProjRefIdeal.Read.val_main_v21_eq, e0, e1, e2, e3, e4]
    exact (Cert.OutProjIdeal.Row.out6 m c).symm

/-- The attention layer's norm, projection and rotations: the reference's run keeps its arguments; it has no semaphore. -/
theorem attn_proj_ref : Cert.quiescent_AttnProjRefIdeal := fun m ρ _ =>
  (θ_run Cert.AttnProjRefIdeal.defs _ _).mono (fun _ h => ⟨fun c => (h c).2.2.2.2.2, sem_eq_zero_of_no_sems (by decide) _⟩)
    (Cert.AttnProjRefIdeal.Value.run (F := Ideal) m ρ)

/-- The attention layer's norm, projection and rotations: what the kernel leaves is what the reference leaves. -/
theorem attn_proj : Cert.algebraic_AttnProjIdeal_AttnProjRefIdeal := fun m ρ m' ρ' _ hE => by
  refine ⟨fun c => (Cert.AttnProjIdeal.Gen.dats m 0 c).arrAt 5 Cert.AttnProjIdeal.cfg0.N, fun c => (Cert.AttnProjIdeal.Gen.dats m 0 c).arrAt 6 Cert.AttnProjIdeal.cfg0.N, fun c => (Cert.AttnProjIdeal.Gen.dats m 0 c).arrAt 7 Cert.AttnProjIdeal.cfg0.N, fun c => (Cert.AttnProjIdeal.Gen.dats m 0 c).arrAt 8 Cert.AttnProjIdeal.cfg0.N, fun c => (Cert.AttnProjIdeal.Gen.dats m 0 c).arrAt 9 Cert.AttnProjIdeal.cfg0.N,
    Cert.AttnProjIdeal.Value.run_blocks m ρ, ?_⟩
  refine (θ_run Cert.AttnProjRefIdeal.defs _ _).mono (fun r h c => ?_) (Cert.AttnProjRefIdeal.Value.run (F := Ideal) m' ρ')
  obtain ⟨e0, e1, e2, e3, e4⟩ := hE c
  refine ⟨(h c).1.trans ?_, (h c).2.1.trans ?_, (h c).2.2.1.trans ?_, (h c).2.2.2.1.trans ?_, (h c).2.2.2.2.1.trans ?_, (h c).2.2.2.2.2⟩
  · rw [Cert.AttnProjRefIdeal.Read.val_main_v93_eq, e0, e1]
    exact (Cert.AttnProjIdeal.Row.out5 m c).symm
  · rw [Cert.AttnProjRefIdeal.Read.val_main_v94_eq, e0, e1, e2, e3, e4]
    exact (Cert.AttnProjIdeal.Row.out6 m c).symm
  · rw [Cert.AttnProjRefIdeal.Read.val_main_v95_eq, e0, e1, e2, e3, e4]
    exact (Cert.AttnProjIdeal.Row.out7 m c).symm
  · rw [Cert.AttnProjRefIdeal.Read.val_main_v96_eq, e0, e1, e2, e3]
    exact (Cert.AttnProjIdeal.Row.out8 m c).symm
  · rw [Cert.AttnProjRefIdeal.Read.val_main_v22_eq, e0, e1, e2, e3]
    exact (Cert.AttnProjIdeal.Row.out9 m c).symm

/-- The gradients of the attention layer's projection: the reference's run keeps its arguments; it has no semaphore. -/
theorem attn_dw_ref : Cert.quiescent_AttnDwRefIdeal := fun m ρ _ =>
  (θ_run Cert.AttnDwRefIdeal.defs _ _).mono (fun _ h => ⟨fun c => (h c).2.2.2, sem_eq_zero_of_no_sems (by decide) _⟩)
    (Cert.AttnDwRefIdeal.Value.run (F := Ideal) m ρ)

/-- The gradients of the attention layer's projection: what the kernel leaves and copies out is what the reference leaves. -/
theorem attn_dw : Cert.algebraic_AttnDwIdeal_AttnDwRefIdeal := fun m ρ m' ρ' _ hE => by
  refine ⟨fun c => (Cert.AttnDwIdeal.Gen.outsAt0 m c Cert.AttnDwIdeal.Gen.t0_7.val Cert.AttnDwIdeal.Gen.t0_7.isLt).2.2.2,
    fun c => (Cert.AttnDwIdeal.Gen.dats m 0 c).arrAt 5 Cert.AttnDwIdeal.cfg0.N, fun c => (Cert.AttnDwIdeal.Gen.dats m 0 c).arrAt 6 Cert.AttnDwIdeal.cfg0.N,
    (θ_run Cert.AttnDwIdeal.defs _ _).mono (fun r h c => ⟨(h c).2.2.2.2.2.2.2.2, (h c).1, (h c).2.1, (h c).2.2.1, (h c).2.2.2.1, (h c).2.2.2.2.1, (h c).2.2.2.2.2.1, (h c).2.2.2.2.2.2.1, (h c).2.2.2.2.2.2.2.1⟩) (Cert.AttnDwIdeal.Value.run_blocks m ρ), ?_⟩
  refine (θ_run Cert.AttnDwRefIdeal.defs _ _).mono (fun r h c => ?_) (Cert.AttnDwRefIdeal.Value.run (F := Ideal) m' ρ')
  obtain ⟨e0, e1, e2, e3, e4, e5⟩ := hE c
  refine ⟨(h c).1.trans ?_, (h c).2.1.trans ?_, (h c).2.2.1.trans ?_, (h c).2.2.2⟩
  · rw [Cert.AttnDwRefIdeal.Read.val_main_v86_eq, e0, e1, e2, e3, e4, e5]
    exact (Cert.AttnDwIdeal.Row.out m c).symm
  · rw [Cert.AttnDwRefIdeal.Read.val_main_v84_eq, e2, e3, e4, e5]
    exact (Cert.AttnDwIdeal.Row.out5 m c).symm
  · rw [Cert.AttnDwRefIdeal.Read.val_main_v59_eq, e3, e4, e5]
    exact (Cert.AttnDwIdeal.Row.out6 m c).symm

/-- The optimiser's step of the small weights: the reference's run keeps its arguments; it has no semaphore. -/
theorem small_adam_w_ref : Cert.quiescent_SmallAdamWRefIdeal := fun m ρ _ =>
  (θ_run Cert.SmallAdamWRefIdeal.defs _ _).mono (fun _ h => ⟨fun c => (h c).2.2.2.2, sem_eq_zero_of_no_sems (by decide) _⟩)
    (Cert.SmallAdamWRefIdeal.Value.run (F := Ideal) m ρ)

/-- The optimiser's step of the small weights: what the kernel leaves is what the reference leaves. -/
theorem small_adam_w : Cert.algebraic_SmallAdamWIdeal_SmallAdamWRefIdeal := fun m ρ m' ρ' _ hE => by
  refine ⟨fun c => (Cert.SmallAdamWIdeal.Gen.dats m 0 c).arrAt 4 Cert.SmallAdamWIdeal.cfg0.N, fun c => (Cert.SmallAdamWIdeal.Gen.dats m 0 c).arrAt 5 Cert.SmallAdamWIdeal.cfg0.N, fun c => (Cert.SmallAdamWIdeal.Gen.dats m 0 c).arrAt 6 Cert.SmallAdamWIdeal.cfg0.N, fun c => (Cert.SmallAdamWIdeal.Gen.dats m 0 c).arrAt 7 Cert.SmallAdamWIdeal.cfg0.N,
    Cert.SmallAdamWIdeal.Value.run_blocks m ρ, ?_⟩
  refine (θ_run Cert.SmallAdamWRefIdeal.defs _ _).mono (fun r h c => ?_) (Cert.SmallAdamWRefIdeal.Value.run (F := Ideal) m' ρ')
  obtain ⟨e0, e1, e2, e3⟩ := hE c
  refine ⟨(h c).1.trans ?_, (h c).2.1.trans ?_, (h c).2.2.1.trans ?_, (h c).2.2.2.1.trans ?_, (h c).2.2.2.2⟩
  · rw [Cert.SmallAdamWRefIdeal.Read.val_main_v0_eq, e3]
    exact (Cert.SmallAdamWIdeal.Row.out4 m c).symm
  · rw [Cert.SmallAdamWRefIdeal.Read.val_main_v24_eq, e0, e1, e2, e3]
    exact (Cert.SmallAdamWIdeal.Row.out5 m c).symm
  · rw [Cert.SmallAdamWRefIdeal.Read.val_main_v5_eq, e1, e3]
    exact (Cert.SmallAdamWIdeal.Row.out6 m c).symm
  · rw [Cert.SmallAdamWRefIdeal.Read.val_main_v11_eq, e2, e3]
    exact (Cert.SmallAdamWIdeal.Row.out7 m c).symm

/-- The optimiser's step of the attention's input weight: the reference's run keeps its arguments; it has no semaphore. -/
theorem attn_in_adam_w_ref : Cert.quiescent_AttnInAdamWRefIdeal := fun m ρ _ =>
  (θ_run Cert.AttnInAdamWRefIdeal.defs _ _).mono (fun _ h => ⟨fun c => (h c).2.2.2.2, sem_eq_zero_of_no_sems (by decide) _⟩)
    (Cert.AttnInAdamWRefIdeal.Value.run (F := Ideal) m ρ)

/-- The optimiser's step of the attention's input weight: what the kernel leaves is what the reference leaves. -/
theorem attn_in_adam_w : Cert.algebraic_AttnInAdamWIdeal_AttnInAdamWRefIdeal := fun m ρ m' ρ' _ hE => by
  refine ⟨fun c => (Cert.AttnInAdamWIdeal.Gen.dats m 0 c).arrAt 5 Cert.AttnInAdamWIdeal.cfg0.N, fun c => (Cert.AttnInAdamWIdeal.Gen.dats m 0 c).arrAt 6 Cert.AttnInAdamWIdeal.cfg0.N, fun c => (Cert.AttnInAdamWIdeal.Gen.dats m 0 c).arrAt 7 Cert.AttnInAdamWIdeal.cfg0.N, fun c => (Cert.AttnInAdamWIdeal.Gen.dats m 0 c).arrAt 8 Cert.AttnInAdamWIdeal.cfg0.N,
    Cert.AttnInAdamWIdeal.Value.run_blocks m ρ, ?_⟩
  refine (θ_run Cert.AttnInAdamWRefIdeal.defs _ _).mono (fun r h c => ?_) (Cert.AttnInAdamWRefIdeal.Value.run (F := Ideal) m' ρ')
  obtain ⟨e0, e1, e2, e3, e4⟩ := hE c
  refine ⟨(h c).1.trans ?_, (h c).2.1.trans ?_, (h c).2.2.1.trans ?_, (h c).2.2.2.1.trans ?_, (h c).2.2.2.2⟩
  · rw [Cert.AttnInAdamWRefIdeal.Read.val_main_v0_eq, e3, e4]
    exact (Cert.AttnInAdamWIdeal.Row.out5 m c).symm
  · rw [Cert.AttnInAdamWRefIdeal.Read.val_main_v24_eq, e0, e1, e2, e3, e4]
    exact (Cert.AttnInAdamWIdeal.Row.out6 m c).symm
  · rw [Cert.AttnInAdamWRefIdeal.Read.val_main_v5_eq, e1, e3, e4]
    exact (Cert.AttnInAdamWIdeal.Row.out7 m c).symm
  · rw [Cert.AttnInAdamWRefIdeal.Read.val_main_v11_eq, e2, e3, e4]
    exact (Cert.AttnInAdamWIdeal.Row.out8 m c).symm

/-- The optimiser's step of the recurrent layer's input weight: the reference's run keeps its arguments; it has no semaphore. -/
theorem rec_in_adam_w_ref : Cert.quiescent_RecInAdamWRefIdeal := fun m ρ _ =>
  (θ_run Cert.RecInAdamWRefIdeal.defs _ _).mono (fun _ h => ⟨fun c => (h c).2.2.2.2, sem_eq_zero_of_no_sems (by decide) _⟩)
    (Cert.RecInAdamWRefIdeal.Value.run (F := Ideal) m ρ)

/-- The optimiser's step of the recurrent layer's input weight: what the kernel leaves is what the reference leaves. -/
theorem rec_in_adam_w : Cert.algebraic_RecInAdamWIdeal_RecInAdamWRefIdeal := fun m ρ m' ρ' _ hE => by
  refine ⟨fun c => (Cert.RecInAdamWIdeal.Gen.dats m 0 c).arrAt 5 Cert.RecInAdamWIdeal.cfg0.N, fun c => (Cert.RecInAdamWIdeal.Gen.dats m 0 c).arrAt 6 Cert.RecInAdamWIdeal.cfg0.N, fun c => (Cert.RecInAdamWIdeal.Gen.dats m 0 c).arrAt 7 Cert.RecInAdamWIdeal.cfg0.N, fun c => (Cert.RecInAdamWIdeal.Gen.dats m 0 c).arrAt 8 Cert.RecInAdamWIdeal.cfg0.N,
    Cert.RecInAdamWIdeal.Value.run_blocks m ρ, ?_⟩
  refine (θ_run Cert.RecInAdamWRefIdeal.defs _ _).mono (fun r h c => ?_) (Cert.RecInAdamWRefIdeal.Value.run (F := Ideal) m' ρ')
  obtain ⟨e0, e1, e2, e3, e4⟩ := hE c
  refine ⟨(h c).1.trans ?_, (h c).2.1.trans ?_, (h c).2.2.1.trans ?_, (h c).2.2.2.1.trans ?_, (h c).2.2.2.2⟩
  · rw [Cert.RecInAdamWRefIdeal.Read.val_main_v0_eq, e3, e4]
    exact (Cert.RecInAdamWIdeal.Row.out5 m c).symm
  · rw [Cert.RecInAdamWRefIdeal.Read.val_main_v24_eq, e0, e1, e2, e3, e4]
    exact (Cert.RecInAdamWIdeal.Row.out6 m c).symm
  · rw [Cert.RecInAdamWRefIdeal.Read.val_main_v5_eq, e1, e3, e4]
    exact (Cert.RecInAdamWIdeal.Row.out7 m c).symm
  · rw [Cert.RecInAdamWRefIdeal.Read.val_main_v11_eq, e2, e3, e4]
    exact (Cert.RecInAdamWIdeal.Row.out8 m c).symm

/-- The optimiser's step of the output weights: the reference's run keeps its arguments; it has no semaphore. -/
theorem out_adam_w_ref : Cert.quiescent_OutAdamWRefIdeal := fun m ρ _ =>
  (θ_run Cert.OutAdamWRefIdeal.defs _ _).mono (fun _ h => ⟨fun c => (h c).2.2.2.2, sem_eq_zero_of_no_sems (by decide) _⟩)
    (Cert.OutAdamWRefIdeal.Value.run (F := Ideal) m ρ)

/-- The optimiser's step of the output weights: what the kernel leaves is what the reference leaves. -/
theorem out_adam_w : Cert.algebraic_OutAdamWIdeal_OutAdamWRefIdeal := fun m ρ m' ρ' _ hE => by
  refine ⟨fun c => (Cert.OutAdamWIdeal.Gen.dats m 0 c).arrAt 5 Cert.OutAdamWIdeal.cfg0.N, fun c => (Cert.OutAdamWIdeal.Gen.dats m 0 c).arrAt 6 Cert.OutAdamWIdeal.cfg0.N, fun c => (Cert.OutAdamWIdeal.Gen.dats m 0 c).arrAt 7 Cert.OutAdamWIdeal.cfg0.N, fun c => (Cert.OutAdamWIdeal.Gen.dats m 0 c).arrAt 8 Cert.OutAdamWIdeal.cfg0.N,
    Cert.OutAdamWIdeal.Value.run_blocks m ρ, ?_⟩
  refine (θ_run Cert.OutAdamWRefIdeal.defs _ _).mono (fun r h c => ?_) (Cert.OutAdamWRefIdeal.Value.run (F := Ideal) m' ρ')
  obtain ⟨e0, e1, e2, e3, e4⟩ := hE c
  refine ⟨(h c).1.trans ?_, (h c).2.1.trans ?_, (h c).2.2.1.trans ?_, (h c).2.2.2.1.trans ?_, (h c).2.2.2.2⟩
  · rw [Cert.OutAdamWRefIdeal.Read.val_main_v0_eq, e3, e4]
    exact (Cert.OutAdamWIdeal.Row.out5 m c).symm
  · rw [Cert.OutAdamWRefIdeal.Read.val_main_v24_eq, e0, e1, e2, e3, e4]
    exact (Cert.OutAdamWIdeal.Row.out6 m c).symm
  · rw [Cert.OutAdamWRefIdeal.Read.val_main_v5_eq, e1, e3, e4]
    exact (Cert.OutAdamWIdeal.Row.out7 m c).symm
  · rw [Cert.OutAdamWRefIdeal.Read.val_main_v11_eq, e2, e3, e4]
    exact (Cert.OutAdamWIdeal.Row.out8 m c).symm

theorem claim : Cert.Claim := ⟨Cert.InDx.Gen.facts,
  Cert.InDxIdeal.Gen.facts,
  Cert.InDxRefIdeal.Gen.facts,
  Cert.AttnBwd.Gen.facts,
  Cert.AttnBwdIdeal.Gen.facts,
  Cert.AttnDx.Gen.facts,
  Cert.AttnDxIdeal.Gen.facts,
  Cert.AttnDxRefIdeal.Gen.facts,
  Cert.RecProj.Gen.facts,
  Cert.RecProjIdeal.Gen.facts,
  Cert.RecProjRefIdeal.Gen.facts,
  Cert.RecDw.Gen.facts,
  Cert.RecDwIdeal.Gen.facts,
  Cert.RecDwRefIdeal.Gen.facts,
  Cert.OutLoss.Gen.facts,
  Cert.OutLossIdeal.Gen.facts,
  Cert.OutLossRefIdeal.Gen.facts,
  Cert.OutBwd.Gen.facts,
  Cert.OutBwdIdeal.Gen.facts,
  Cert.OutBwdRefIdeal.Gen.facts,
  Cert.OutProj.Gen.facts,
  Cert.OutProjIdeal.Gen.facts,
  Cert.OutProjRefIdeal.Gen.facts,
  Cert.AttnProj.Gen.facts,
  Cert.AttnProjIdeal.Gen.facts,
  Cert.AttnProjRefIdeal.Gen.facts,
  Cert.AttnDw.Gen.facts,
  Cert.AttnDwIdeal.Gen.facts,
  Cert.AttnDwRefIdeal.Gen.facts,
  Cert.SmallAdamW.Gen.facts,
  Cert.SmallAdamWIdeal.Gen.facts,
  Cert.SmallAdamWRefIdeal.Gen.facts,
  Cert.AttnInAdamW.Gen.facts,
  Cert.AttnInAdamWIdeal.Gen.facts,
  Cert.AttnInAdamWRefIdeal.Gen.facts,
  Cert.RecInAdamW.Gen.facts,
  Cert.RecInAdamWIdeal.Gen.facts,
  Cert.RecInAdamWRefIdeal.Gen.facts,
  Cert.OutAdamW.Gen.facts,
  Cert.OutAdamWIdeal.Gen.facts,
  Cert.OutAdamWRefIdeal.Gen.facts,
  fun m ρ _ => Cert.InDx.Gen.frame m ρ,
  fun m ρ _ => Cert.InDxIdeal.Gen.frame m ρ,
  in_dx_ref,
  Cert.AttnBwdIdeal.Body.quiescent_bits,
  fun m ρ _ => Cert.AttnBwdIdeal.Body.quiescent m ρ,
  fun m ρ _ => Cert.AttnDx.Gen.frame m ρ,
  fun m ρ _ => Cert.AttnDxIdeal.Gen.frame m ρ,
  attn_dx_ref,
  fun m ρ _ => Cert.RecProj.Gen.frame m ρ,
  fun m ρ _ => Cert.RecProjIdeal.Gen.frame m ρ,
  rec_proj_ref,
  fun m ρ _ => Cert.RecDw.Gen.frame m ρ,
  fun m ρ _ => Cert.RecDwIdeal.Gen.frame m ρ,
  rec_dw_ref,
  fun m ρ _ => Cert.OutLoss.Gen.frame m ρ,
  fun m ρ _ => Cert.OutLossIdeal.Gen.frame m ρ,
  out_loss_ref,
  fun m ρ _ => Cert.OutBwd.Gen.frame m ρ,
  fun m ρ _ => Cert.OutBwdIdeal.Gen.frame m ρ,
  out_bwd_ref,
  fun m ρ _ => Cert.OutProj.Gen.frame m ρ,
  fun m ρ _ => Cert.OutProjIdeal.Gen.frame m ρ,
  out_proj_ref,
  fun m ρ _ => Cert.AttnProj.Gen.frame m ρ,
  fun m ρ _ => Cert.AttnProjIdeal.Gen.frame m ρ,
  attn_proj_ref,
  fun m ρ _ => Cert.AttnDw.Gen.frame m ρ,
  fun m ρ _ => Cert.AttnDwIdeal.Gen.frame m ρ,
  attn_dw_ref,
  fun m ρ _ => Cert.SmallAdamW.Gen.frame m ρ,
  fun m ρ _ => Cert.SmallAdamWIdeal.Gen.frame m ρ,
  small_adam_w_ref,
  fun m ρ _ => Cert.AttnInAdamW.Gen.frame m ρ,
  fun m ρ _ => Cert.AttnInAdamWIdeal.Gen.frame m ρ,
  attn_in_adam_w_ref,
  fun m ρ _ => Cert.RecInAdamW.Gen.frame m ρ,
  fun m ρ _ => Cert.RecInAdamWIdeal.Gen.frame m ρ,
  rec_in_adam_w_ref,
  fun m ρ _ => Cert.OutAdamW.Gen.frame m ρ,
  fun m ρ _ => Cert.OutAdamWIdeal.Gen.frame m ρ,
  out_adam_w_ref,
  trivial,
  in_dx,
  trivial,
  trivial,
  attn_dx,
  trivial,
  rec_proj,
  trivial,
  rec_dw,
  trivial,
  out_loss,
  trivial,
  out_bwd,
  trivial,
  out_proj,
  trivial,
  attn_proj,
  trivial,
  attn_dw,
  trivial,
  small_adam_w,
  trivial,
  attn_in_adam_w,
  trivial,
  rec_in_adam_w,
  trivial,
  out_adam_w⟩

end Cert.Proof

end
